-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v411) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x64 : Shape := ⟨3, ![32, 2048, 64]⟩
abbrev S64x512 : Shape := ⟨2, ![64, 512]⟩
abbrev S512 : Shape := ⟨1, ![512]⟩
abbrev S4x512 : Shape := ⟨2, ![4, 512]⟩
abbrev S4x512x64 : Shape := ⟨3, ![4, 512, 64]⟩
abbrev S4x64 : Shape := ⟨2, ![4, 64]⟩
abbrev S4x64x64 : Shape := ⟨3, ![4, 64, 64]⟩
abbrev S4x512x512 : Shape := ⟨3, ![4, 512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2048x32x64 : Shape := ⟨3, ![2048, 32, 64]⟩
abbrev S65536x64 : Shape := ⟨2, ![65536, 64]⟩
abbrev S1x512 : Shape := ⟨2, ![1, 512]⟩
abbrev S65536x512 : Shape := ⟨2, ![65536, 512]⟩
abbrev S4096x64 : Shape := ⟨2, ![4096, 64]⟩
abbrev S4096x512 : Shape := ⟨2, ![4096, 512]⟩
abbrev S1x512x64 : Shape := ⟨3, ![1, 512, 64]⟩
abbrev S512x64 : Shape := ⟨2, ![512, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x512x512 : Shape := ⟨3, ![1, 512, 512]⟩
abbrev S512x512 : Shape := ⟨2, ![512, 512]⟩
abbrev S2048x512 : Shape := ⟨2, ![2048, 512]⟩
abbrev S2x2048x512 : Shape := ⟨3, ![2, 2048, 512]⟩
abbrev S32x64 : Shape := ⟨2, ![32, 64]⟩
abbrev S256x512 : Shape := ⟨2, ![256, 512]⟩
abbrev S1x256x512 : Shape := ⟨3, ![1, 256, 512]⟩
abbrev S256x64 : Shape := ⟨2, ![256, 64]⟩
abbrev S32x512 : Shape := ⟨2, ![32, 512]⟩
abbrev S1x256 : Shape := ⟨2, ![1, 256]⟩
abbrev S1x1 : Shape := ⟨2, ![1, 1]⟩
abbrev S32x1 : Shape := ⟨2, ![32, 1]⟩
abbrev S32 : Shape := ⟨1, ![32]⟩
abbrev S32x256 : Shape := ⟨2, ![32, 256]⟩

abbrev nBuf : Space → Nat
  | .hbm => 181
  | .vmem => 84
  | .smem => 0
  | _ => 0

abbrev hbmTy0_0 (i : Nat) : BufTy := match i % 128 with
  | 0 => ⟨S32x2048x64, .f32⟩
  | 1 => ⟨S64x512, .f32⟩
  | 2 => ⟨S512, .f32⟩
  | 3 => ⟨S4x512, .f32⟩
  | 4 => ⟨S4x512, .f32⟩
  | 5 => ⟨S4x512x64, .f32⟩
  | 6 => ⟨S4x64, .f32⟩
  | 7 => ⟨S4x512x64, .f32⟩
  | 8 => ⟨S4x64, .f32⟩
  | 9 => ⟨S4x64x64, .f32⟩
  | 10 => ⟨S4x512x64, .f32⟩
  | 11 => ⟨S4x512x512, .f32⟩
  | 12 => ⟨S4x512, .f32⟩
  | 13 => ⟨S4x512x512, .f32⟩
  | 14 => ⟨S4x512, .f32⟩
  | 15 => ⟨S512, .f32⟩
  | 16 => ⟨S512, .f32⟩
  | 17 => ⟨S512x256, .f32⟩
  | 18 => ⟨S256, .f32⟩
  | 19 => ⟨S256x1, .f32⟩
  | 20 => ⟨S1, .f32⟩
  | 21 => ⟨S2048x32x64, .f32⟩
  | 22 => ⟨S65536x64, .f32⟩
  | 23 => ⟨S1x512, .f32⟩
  | 24 => ⟨S65536x512, .f32⟩
  | 25 => ⟨S1x512, .f32⟩
  | 26 => ⟨S512, .f32⟩
  | 27 => ⟨S1x512, .f32⟩
  | 28 => ⟨S1x512, .f32⟩
  | 29 => ⟨S512, .f32⟩
  | 30 => ⟨S1x512, .f32⟩
  | 31 => ⟨S1x512x64, .f32⟩
  | 32 => ⟨S512x64, .f32⟩
  | 33 => ⟨S512x64, .bf16⟩
  | 34 => ⟨S1x64, .f32⟩
  | 35 => ⟨S64, .f32⟩
  | 36 => ⟨S1x64, .f32⟩
  | 37 => ⟨S1x512x64, .f32⟩
  | 38 => ⟨S512x64, .f32⟩
  | 39 => ⟨S512x64, .bf16⟩
  | 40 => ⟨S1x64, .f32⟩
  | 41 => ⟨S64, .f32⟩
  | 42 => ⟨S1x64, .f32⟩
  | 43 => ⟨S1x64x64, .f32⟩
  | 44 => ⟨S64x64, .f32⟩
  | 45 => ⟨S64x64, .f32⟩
  | 46 => ⟨S1x512x64, .f32⟩
  | 47 => ⟨S512x64, .f32⟩
  | 48 => ⟨S64x512, .f32⟩
  | 49 => ⟨S64x512, .bf16⟩
  | 50 => ⟨S1x512x512, .f32⟩
  | 51 => ⟨S512x512, .f32⟩
  | 52 => ⟨S512x512, .bf16⟩
  | 53 => ⟨S1x512, .f32⟩
  | 54 => ⟨S512, .f32⟩
  | 55 => ⟨S1x512, .f32⟩
  | 56 => ⟨S1x512x512, .f32⟩
  | 57 => ⟨S512x512, .f32⟩
  | 58 => ⟨S512x512, .bf16⟩
  | 59 => ⟨S1x512, .f32⟩
  | 60 => ⟨S512, .f32⟩
  | 61 => ⟨S1x512, .f32⟩
  | 62 => ⟨S1x512, .f32⟩
  | 63 => ⟨S512, .f32⟩
  | 64 => ⟨S1x512, .f32⟩
  | 65 => ⟨S1x512, .f32⟩
  | 66 => ⟨S512, .f32⟩
  | 67 => ⟨S1x512, .f32⟩
  | 68 => ⟨S1x512x64, .f32⟩
  | 69 => ⟨S512x64, .f32⟩
  | 70 => ⟨S512x64, .bf16⟩
  | 71 => ⟨S1x64, .f32⟩
  | 72 => ⟨S64, .f32⟩
  | 73 => ⟨S1x64, .f32⟩
  | 74 => ⟨S1x512x64, .f32⟩
  | 75 => ⟨S512x64, .f32⟩
  | 76 => ⟨S512x64, .bf16⟩
  | 77 => ⟨S1x64, .f32⟩
  | 78 => ⟨S64, .f32⟩
  | 79 => ⟨S1x64, .f32⟩
  | 80 => ⟨S1x64x64, .f32⟩
  | 81 => ⟨S64x64, .f32⟩
  | 82 => ⟨S64x64, .f32⟩
  | 83 => ⟨S1x512x64, .f32⟩
  | 84 => ⟨S512x64, .f32⟩
  | 85 => ⟨S64x512, .f32⟩
  | 86 => ⟨S64x512, .bf16⟩
  | 87 => ⟨S1x512x512, .f32⟩
  | 88 => ⟨S512x512, .f32⟩
  | 89 => ⟨S512x512, .bf16⟩
  | 90 => ⟨S1x512, .f32⟩
  | 91 => ⟨S512, .f32⟩
  | 92 => ⟨S1x512, .f32⟩
  | 93 => ⟨S1x512x512, .f32⟩
  | 94 => ⟨S512x512, .f32⟩
  | 95 => ⟨S512x512, .bf16⟩
  | 96 => ⟨S1x512, .f32⟩
  | 97 => ⟨S512, .f32⟩
  | 98 => ⟨S1x512, .f32⟩
  | 99 => ⟨S65536x512, .f32⟩
  | 100 => ⟨S1x512, .f32⟩
  | 101 => ⟨S512, .f32⟩
  | 102 => ⟨S1x512, .f32⟩
  | 103 => ⟨S1x512, .f32⟩
  | 104 => ⟨S512, .f32⟩
  | 105 => ⟨S1x512, .f32⟩
  | 106 => ⟨S1x512x64, .f32⟩
  | 107 => ⟨S512x64, .f32⟩
  | 108 => ⟨S512x64, .bf16⟩
  | 109 => ⟨S1x64, .f32⟩
  | 110 => ⟨S64, .f32⟩
  | 111 => ⟨S1x64, .f32⟩
  | 112 => ⟨S1x512x64, .f32⟩
  | 113 => ⟨S512x64, .f32⟩
  | 114 => ⟨S512x64, .bf16⟩
  | 115 => ⟨S1x64, .f32⟩
  | 116 => ⟨S64, .f32⟩
  | 117 => ⟨S1x64, .f32⟩
  | 118 => ⟨S1x64x64, .f32⟩
  | 119 => ⟨S64x64, .f32⟩
  | 120 => ⟨S64x64, .f32⟩
  | 121 => ⟨S1x512x64, .f32⟩
  | 122 => ⟨S512x64, .f32⟩
  | 123 => ⟨S64x512, .f32⟩
  | 124 => ⟨S64x512, .bf16⟩
  | 125 => ⟨S1x512x512, .f32⟩
  | 126 => ⟨S512x512, .f32⟩
  | 127 => ⟨S512x512, .bf16⟩
  | _ => ⟨S32x2048x64, .f32⟩

abbrev hbmTy0_1 (i : Nat) : BufTy := match i % 128 with
  | 0 => ⟨S1x512, .f32⟩
  | 1 => ⟨S512, .f32⟩
  | 2 => ⟨S1x512, .f32⟩
  | 3 => ⟨S1x512x512, .f32⟩
  | 4 => ⟨S512x512, .f32⟩
  | 5 => ⟨S512x512, .bf16⟩
  | 6 => ⟨S1x512, .f32⟩
  | 7 => ⟨S512, .f32⟩
  | 8 => ⟨S1x512, .f32⟩
  | 9 => ⟨S1x512, .f32⟩
  | 10 => ⟨S512, .f32⟩
  | 11 => ⟨S1x512, .f32⟩
  | 12 => ⟨S1x512, .f32⟩
  | 13 => ⟨S512, .f32⟩
  | 14 => ⟨S1x512, .f32⟩
  | 15 => ⟨S1x512x64, .f32⟩
  | 16 => ⟨S512x64, .f32⟩
  | 17 => ⟨S512x64, .bf16⟩
  | 18 => ⟨S1x64, .f32⟩
  | 19 => ⟨S64, .f32⟩
  | 20 => ⟨S1x64, .f32⟩
  | 21 => ⟨S1x512x64, .f32⟩
  | 22 => ⟨S512x64, .f32⟩
  | 23 => ⟨S512x64, .bf16⟩
  | 24 => ⟨S1x64, .f32⟩
  | 25 => ⟨S64, .f32⟩
  | 26 => ⟨S1x64, .f32⟩
  | 27 => ⟨S1x64x64, .f32⟩
  | 28 => ⟨S64x64, .f32⟩
  | 29 => ⟨S64x64, .f32⟩
  | 30 => ⟨S1x512x64, .f32⟩
  | 31 => ⟨S512x64, .f32⟩
  | 32 => ⟨S64x512, .f32⟩
  | 33 => ⟨S64x512, .bf16⟩
  | 34 => ⟨S1x512x512, .f32⟩
  | 35 => ⟨S512x512, .f32⟩
  | 36 => ⟨S512x512, .bf16⟩
  | 37 => ⟨S1x512, .f32⟩
  | 38 => ⟨S512, .f32⟩
  | 39 => ⟨S1x512, .f32⟩
  | 40 => ⟨S1x512x512, .f32⟩
  | 41 => ⟨S512x512, .f32⟩
  | 42 => ⟨S512x512, .bf16⟩
  | 43 => ⟨S1x512, .f32⟩
  | 44 => ⟨S512, .f32⟩
  | 45 => ⟨S1x512, .f32⟩
  | 46 => ⟨S65536x512, .f32⟩
  | 47 => ⟨S32x512, .f32⟩
  | 48 => ⟨S1x512, .f32⟩
  | 49 => ⟨S1x512, .f32⟩
  | 50 => ⟨S1x256, .f32⟩
  | 51 => ⟨S1x1, .f32⟩
  | 52 => ⟨S32x1, .f32⟩
  | _ => ⟨S32x2048x64, .f32⟩

abbrev hbmTy (i : Nat) : BufTy := match i / 128 with
  | 0 => hbmTy0_0 i
  | 1 => hbmTy0_1 i
  | _ => ⟨S32x2048x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S64x512, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | .local _ .vmem, ⟨6, _⟩ => ⟨S2048x512, .f32⟩
  | .local _ .vmem, ⟨7, _⟩ => ⟨S2048x512, .f32⟩
  | .local _ .vmem, ⟨8, _⟩ => ⟨S1x512, .f32⟩
  | .local _ .vmem, ⟨9, _⟩ => ⟨S1x512, .f32⟩
  | .local _ .vmem, ⟨10, _⟩ => ⟨S512x64, .bf16⟩
  | .local _ .vmem, ⟨11, _⟩ => ⟨S1x64, .f32⟩
  | .local _ .vmem, ⟨12, _⟩ => ⟨S512x64, .bf16⟩
  | .local _ .vmem, ⟨13, _⟩ => ⟨S1x64, .f32⟩
  | .local _ .vmem, ⟨14, _⟩ => ⟨S64x64, .f32⟩
  | .local _ .vmem, ⟨15, _⟩ => ⟨S64x512, .bf16⟩
  | .local _ .vmem, ⟨16, _⟩ => ⟨S512x512, .bf16⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S512x64, .bf16⟩
  | .local _ .vmem, ⟨23, _⟩ => ⟨S1x64, .f32⟩
  | .local _ .vmem, ⟨24, _⟩ => ⟨S512x64, .bf16⟩
  | .local _ .vmem, ⟨25, _⟩ => ⟨S1x64, .f32⟩
  | .local _ .vmem, ⟨26, _⟩ => ⟨S64x64, .f32⟩
  | .local _ .vmem, ⟨27, _⟩ => ⟨S64x512, .bf16⟩
  | .local _ .vmem, ⟨28, _⟩ => ⟨S512x512, .bf16⟩
  | .local _ .vmem, ⟨29, _⟩ => ⟨S1x512, .f32⟩
  | .local _ .vmem, ⟨30, _⟩ => ⟨S512x512, .bf16⟩
  | .local _ .vmem, ⟨31, _⟩ => ⟨S1x512, .f32⟩
  | .local _ .vmem, ⟨32, _⟩ => ⟨S2048x512, .f32⟩
  | .local _ .vmem, ⟨33, _⟩ => ⟨S2048x512, .f32⟩
  | .local _ .vmem, ⟨34, _⟩ => ⟨S2x2048x512, .f32⟩
  | .local _ .vmem, ⟨35, _⟩ => ⟨S32x64, .f32⟩
  | .local _ .vmem, ⟨36, _⟩ => ⟨S32x64, .f32⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | .local _ .vmem, ⟨40, _⟩ => ⟨S256x512, .bf16⟩
  | .local _ .vmem, ⟨41, _⟩ => ⟨S2048x512, .f32⟩
  | .local _ .vmem, ⟨42, _⟩ => ⟨S2048x512, .f32⟩
  | .local _ .vmem, ⟨43, _⟩ => ⟨S1x512, .f32⟩
  | .local _ .vmem, ⟨44, _⟩ => ⟨S1x512, .f32⟩
  | .local _ .vmem, ⟨45, _⟩ => ⟨S512x64, .bf16⟩
  | .local _ .vmem, ⟨46, _⟩ => ⟨S1x64, .f32⟩
  | .local _ .vmem, ⟨47, _⟩ => ⟨S512x64, .bf16⟩
  | .local _ .vmem, ⟨48, _⟩ => ⟨S1x64, .f32⟩
  | .local _ .vmem, ⟨49, _⟩ => ⟨S64x64, .f32⟩
  | .local _ .vmem, ⟨50, _⟩ => ⟨S64x512, .bf16⟩
  | .local _ .vmem, ⟨51, _⟩ => ⟨S512x512, .bf16⟩
  | .local _ .vmem, ⟨52, _⟩ => ⟨S1x512, .f32⟩
  | .local _ .vmem, ⟨53, _⟩ => ⟨S512x512, .bf16⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S512x64, .bf16⟩
  | .local _ .vmem, ⟨58, _⟩ => ⟨S1x64, .f32⟩
  | .local _ .vmem, ⟨59, _⟩ => ⟨S512x64, .bf16⟩
  | .local _ .vmem, ⟨60, _⟩ => ⟨S1x64, .f32⟩
  | .local _ .vmem, ⟨61, _⟩ => ⟨S64x64, .f32⟩
  | .local _ .vmem, ⟨62, _⟩ => ⟨S64x512, .bf16⟩
  | .local _ .vmem, ⟨63, _⟩ => ⟨S512x512, .bf16⟩
  | .local _ .vmem, ⟨64, _⟩ => ⟨S1x512, .f32⟩
  | .local _ .vmem, ⟨65, _⟩ => ⟨S512x512, .bf16⟩
  | .local _ .vmem, ⟨66, _⟩ => ⟨S1x512, .f32⟩
  | .local _ .vmem, ⟨67, _⟩ => ⟨S2048x512, .f32⟩
  | .local _ .vmem, ⟨68, _⟩ => ⟨S2048x512, .f32⟩
  | .local _ .vmem, ⟨69, _⟩ => ⟨S2x2048x512, .f32⟩
  | .local _ .vmem, ⟨70, _⟩ => ⟨S32x64, .f32⟩
  | .local _ .vmem, ⟨71, _⟩ => ⟨S32x64, .f32⟩
  | .local _ .vmem, ⟨72, _⟩ => ⟨S256x512, .bf16⟩
  | .local _ .vmem, ⟨73, _⟩ => ⟨S256x512, .bf16⟩
  | .local _ .vmem, ⟨74, _⟩ => ⟨S256x512, .bf16⟩
  | .local _ .vmem, ⟨75, _⟩ => ⟨S256x512, .bf16⟩
  | .local _ .vmem, ⟨76, _⟩ => ⟨S32x512, .f32⟩
  | .local _ .vmem, ⟨77, _⟩ => ⟨S1x512, .f32⟩
  | .local _ .vmem, ⟨78, _⟩ => ⟨S1x512, .f32⟩
  | .local _ .vmem, ⟨79, _⟩ => ⟨S512x256, .f32⟩
  | .local _ .vmem, ⟨80, _⟩ => ⟨S1x256, .f32⟩
  | .local _ .vmem, ⟨81, _⟩ => ⟨S256x1, .f32⟩
  | .local _ .vmem, ⟨82, _⟩ => ⟨S1x1, .f32⟩
  | .local _ .vmem, ⟨83, _⟩ => ⟨S32x1, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg16_0 : Ref sig .tc := ⟨.vmem, 23, rfl⟩
abbrev cc1_stg17_0 : Ref sig .tc := ⟨.vmem, 24, rfl⟩
abbrev cc1_stg18_0 : Ref sig .tc := ⟨.vmem, 25, rfl⟩
abbrev cc1_stg19_0 : Ref sig .tc := ⟨.vmem, 26, rfl⟩
abbrev cc1_stg20_0 : Ref sig .tc := ⟨.vmem, 27, rfl⟩
abbrev cc1_stg21_0 : Ref sig .tc := ⟨.vmem, 28, rfl⟩
abbrev cc1_stg22_0 : Ref sig .tc := ⟨.vmem, 29, rfl⟩
abbrev cc1_stg23_0 : Ref sig .tc := ⟨.vmem, 30, rfl⟩
abbrev cc1_stg24_0 : Ref sig .tc := ⟨.vmem, 31, rfl⟩
abbrev cc1_stg25_0 : Ref sig .tc := ⟨.vmem, 32, rfl⟩
abbrev cc1_stg25_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc1_scratch3 : Ref sig .tc := ⟨.vmem, 37, rfl⟩
abbrev cc1_scratch4 : Ref sig .tc := ⟨.vmem, 38, rfl⟩
abbrev cc1_scratch5 : Ref sig .tc := ⟨.vmem, 39, rfl⟩
abbrev cc1_scratch6 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg10_0 : Ref sig .tc := ⟨.vmem, 52, rfl⟩
abbrev cc2_stg11_0 : Ref sig .tc := ⟨.vmem, 53, rfl⟩
abbrev cc2_stg12_0 : Ref sig .tc := ⟨.vmem, 54, rfl⟩
abbrev cc2_stg13_0 : Ref sig .tc := ⟨.vmem, 55, rfl⟩
abbrev cc2_stg14_0 : Ref sig .tc := ⟨.vmem, 56, rfl⟩
abbrev cc2_stg15_0 : Ref sig .tc := ⟨.vmem, 57, rfl⟩
abbrev cc2_stg16_0 : Ref sig .tc := ⟨.vmem, 58, rfl⟩
abbrev cc2_stg17_0 : Ref sig .tc := ⟨.vmem, 59, rfl⟩
abbrev cc2_stg18_0 : Ref sig .tc := ⟨.vmem, 60, rfl⟩
abbrev cc2_stg19_0 : Ref sig .tc := ⟨.vmem, 61, rfl⟩
abbrev cc2_stg20_0 : Ref sig .tc := ⟨.vmem, 62, rfl⟩
abbrev cc2_stg21_0 : Ref sig .tc := ⟨.vmem, 63, rfl⟩
abbrev cc2_stg22_0 : Ref sig .tc := ⟨.vmem, 64, rfl⟩
abbrev cc2_stg23_0 : Ref sig .tc := ⟨.vmem, 65, rfl⟩
abbrev cc2_stg24_0 : Ref sig .tc := ⟨.vmem, 66, rfl⟩
abbrev cc2_stg25_0 : Ref sig .tc := ⟨.vmem, 67, rfl⟩
abbrev cc2_stg25_1 : Ref sig .tc := ⟨.vmem, 68, rfl⟩
abbrev cc2_scratch0 : Ref sig .tc := ⟨.vmem, 69, rfl⟩
abbrev cc2_scratch1 : Ref sig .tc := ⟨.vmem, 70, rfl⟩
abbrev cc2_scratch2 : Ref sig .tc := ⟨.vmem, 71, rfl⟩
abbrev cc2_scratch3 : Ref sig .tc := ⟨.vmem, 72, rfl⟩
abbrev cc2_scratch4 : Ref sig .tc := ⟨.vmem, 73, rfl⟩
abbrev cc2_scratch5 : Ref sig .tc := ⟨.vmem, 74, rfl⟩
abbrev cc2_scratch6 : Ref sig .tc := ⟨.vmem, 75, rfl⟩
abbrev cc3_stg0_0 : Ref sig .tc := ⟨.vmem, 76, rfl⟩
abbrev cc3_stg1_0 : Ref sig .tc := ⟨.vmem, 77, rfl⟩
abbrev cc3_stg2_0 : Ref sig .tc := ⟨.vmem, 78, rfl⟩
abbrev cc3_stg3_0 : Ref sig .tc := ⟨.vmem, 79, rfl⟩
abbrev cc3_stg4_0 : Ref sig .tc := ⟨.vmem, 80, rfl⟩
abbrev cc3_stg5_0 : Ref sig .tc := ⟨.vmem, 81, rfl⟩
abbrev cc3_stg6_0 : Ref sig .tc := ⟨.vmem, 82, rfl⟩
abbrev cc3_stg7_0 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem21_0 : DmaSem sig := 28
abbrev cc1_sem22_0 : DmaSem sig := 29
abbrev cc1_sem23_0 : DmaSem sig := 30
abbrev cc1_sem24_0 : DmaSem sig := 31
abbrev cc1_sem25_0 : DmaSem sig := 32
abbrev cc1_sem25_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem12_0 : DmaSem sig := 47
abbrev cc2_sem13_0 : DmaSem sig := 48
abbrev cc2_sem14_0 : DmaSem sig := 49
abbrev cc2_sem15_0 : DmaSem sig := 50
abbrev cc2_sem16_0 : DmaSem sig := 51
abbrev cc2_sem17_0 : DmaSem sig := 52
abbrev cc2_sem18_0 : DmaSem sig := 53
abbrev cc2_sem19_0 : DmaSem sig := 54
abbrev cc2_sem20_0 : DmaSem sig := 55
abbrev cc2_sem21_0 : DmaSem sig := 56
abbrev cc2_sem22_0 : DmaSem sig := 57
abbrev cc2_sem23_0 : DmaSem sig := 58
abbrev cc2_sem24_0 : DmaSem sig := 59
abbrev cc2_sem25_0 : DmaSem sig := 60
abbrev cc2_sem25_1 : DmaSem sig := 61
abbrev cc3_sem0_0 : DmaSem sig := 62
abbrev cc3_sem1_0 : DmaSem sig := 63
abbrev cc3_sem2_0 : DmaSem sig := 64
abbrev cc3_sem3_0 : DmaSem sig := 65
abbrev cc3_sem4_0 : DmaSem sig := 66
abbrev cc3_sem5_0 : DmaSem sig := 67
abbrev cc3_sem6_0 : DmaSem sig := 68
abbrev cc3_sem7_0 : DmaSem sig := 69

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![33], ![false]⟩

def k1_off1 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v12 : Index := Scalar.indexCast v1
  let c0_7 : Index := 0#32
  let c0_8 : Index := 0#32
  ![v12.toNat, 0, 0]
def k1_off2 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v143 : Index := Scalar.indexCast v1
  let c256 : Index := 256#32
  let c0_71 : Index := 0#32
  ![v143.toNat, 256, 0]
def k1_off3 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v470 : Index := Scalar.indexCast v1
  let c512 : Index := 512#32
  let c0_218 : Index := 0#32
  ![v470.toNat, 512, 0]
def k1_off4 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v797 : Index := Scalar.indexCast v1
  let c768 : Index := 768#32
  let c0_365 : Index := 0#32
  ![v797.toNat, 768, 0]
def k1_off5 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v1124 : Index := Scalar.indexCast v1
  let c1024 : Index := 1024#32
  let c0_512 : Index := 0#32
  ![v1124.toNat, 1024, 0]
def k1_off6 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v1451 : Index := Scalar.indexCast v1
  let c1280 : Index := 1280#32
  let c0_659 : Index := 0#32
  ![v1451.toNat, 1280, 0]
def k1_off7 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v1778 : Index := Scalar.indexCast v1
  let c1536 : Index := 1536#32
  let c0_806 : Index := 0#32
  ![v1778.toNat, 1536, 0]
def k1_off8 (i : grid1.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v2105 : Index := Scalar.indexCast v1
  let c1792 : Index := 1792#32
  let c0_953 : Index := 0#32
  ![v2105.toNat, 1792, 0]
def cc1_transform_0 (i : grid1.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S512x64 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x64 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S512x64 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x64 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S64x64 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S64x512 .bf16 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S512x512 .bf16 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x512 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S512x512 .bf16 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x512 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 2 → Memref sig .tc .vmem S2048x512 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev grid2 : Pipeline.Grid := ⟨1, ![33], ![false]⟩

def k2_off1 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v12 : Index := Scalar.indexCast v1
  let c0_7 : Index := 0#32
  let c0_8 : Index := 0#32
  ![v12.toNat, 0, 0]
def k2_off2 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v143 : Index := Scalar.indexCast v1
  let c256 : Index := 256#32
  let c0_71 : Index := 0#32
  ![v143.toNat, 256, 0]
def k2_off3 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v470 : Index := Scalar.indexCast v1
  let c512 : Index := 512#32
  let c0_218 : Index := 0#32
  ![v470.toNat, 512, 0]
def k2_off4 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v797 : Index := Scalar.indexCast v1
  let c768 : Index := 768#32
  let c0_365 : Index := 0#32
  ![v797.toNat, 768, 0]
def k2_off5 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v1124 : Index := Scalar.indexCast v1
  let c1024 : Index := 1024#32
  let c0_512 : Index := 0#32
  ![v1124.toNat, 1024, 0]
def k2_off6 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v1451 : Index := Scalar.indexCast v1
  let c1280 : Index := 1280#32
  let c0_659 : Index := 0#32
  ![v1451.toNat, 1280, 0]
def k2_off7 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v1778 : Index := Scalar.indexCast v1
  let c1536 : Index := 1536#32
  let c0_806 : Index := 0#32
  ![v1778.toNat, 1536, 0]
def k2_off8 (i : grid2.Coords) (c1_i32 : BitVec 32) : Fin 3 → Nat :=
  let arg0 : BitVec 32 := BitVec.ofNat 32 (i 0).val
  let v0 : BitVec 32 := Scalar.addi arg0 c1_i32
  let c2_i32 : BitVec 32 := 2#32
  let v1 : BitVec 32 := Scalar.remsi v0 c2_i32
  let v2105 : Index := Scalar.indexCast v1
  let c1792 : Index := 1792#32
  let c0_953 : Index := 0#32
  ![v2105.toNat, 1792, 0]
def cc2_transform_0 (i : grid2.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_23 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_24 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_25 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x512 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S512x512 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S512x64 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S512x64 .bf16 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x64 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S64x64 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S64x512 .bf16 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S512x512 .bf16 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 1 → Memref sig .tc .vmem S1x512 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false]

abbrev stage2_23 : Fin 1 → Memref sig .tc .vmem S512x512 .bf16 := fun | 0 => Memref.whole cc2_stg23_0 | ⟨_ + 1, h⟩ => absurd h (Nat.not_lt.2 (Nat.le_add_left _ _))
abbrev sem2_23 : Fin 1 → DmaSem sig := fun | 0 => cc2_sem23_0 | ⟨_ + 1, h⟩ => absurd h (Nat.not_lt.2 (Nat.le_add_left _ _))
abbrev reads2_23 : Fin grid2.rank → Bool := ![false]

abbrev stage2_24 : Fin 1 → Memref sig .tc .vmem S1x512 .f32 := fun | 0 => Memref.whole cc2_stg24_0 | ⟨_ + 1, h⟩ => absurd h (Nat.not_lt.2 (Nat.le_add_left _ _))
abbrev sem2_24 : Fin 1 → DmaSem sig := fun | 0 => cc2_sem24_0 | ⟨_ + 1, h⟩ => absurd h (Nat.not_lt.2 (Nat.le_add_left _ _))
abbrev reads2_24 : Fin grid2.rank → Bool := ![false]

abbrev stage2_25 : Fin 2 → Memref sig .tc .vmem S2048x512 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev grid3 : Pipeline.Grid := .none

abbrev stage3_0 : Fin 1 → Memref sig .tc .vmem S32x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S512x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S256x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S32x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
-- ==== ReferenceIdeal.lean ====
abbrev S32x2048x64 : Shape := ⟨3, ![32, 2048, 64]⟩
abbrev S64x512 : Shape := ⟨2, ![64, 512]⟩
abbrev S512 : Shape := ⟨1, ![512]⟩
abbrev S4x512 : Shape := ⟨2, ![4, 512]⟩
abbrev S4x512x64 : Shape := ⟨3, ![4, 512, 64]⟩
abbrev S4x64 : Shape := ⟨2, ![4, 64]⟩
abbrev S4x64x64 : Shape := ⟨3, ![4, 64, 64]⟩
abbrev S4x512x512 : Shape := ⟨3, ![4, 512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S32x2048x512 : Shape := ⟨3, ![32, 2048, 512]⟩
abbrev S1x1x512 : Shape := ⟨3, ![1, 1, 512]⟩
abbrev S1x512 : Shape := ⟨2, ![1, 512]⟩
abbrev S1x512x64 : Shape := ⟨3, ![1, 512, 64]⟩
abbrev S512x64 : Shape := ⟨2, ![512, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x512x512 : Shape := ⟨3, ![1, 512, 512]⟩
abbrev S512x512 : Shape := ⟨2, ![512, 512]⟩
abbrev S_ : Shape := ⟨0, ![]⟩
abbrev S32x2048 : Shape := ⟨2, ![32, 2048]⟩
abbrev S32x2048x1 : Shape := ⟨3, ![32, 2048, 1]⟩
abbrev S1x1x64 : Shape := ⟨3, ![1, 1, 64]⟩
abbrev S2048x32x64 : Shape := ⟨3, ![2048, 32, 64]⟩
abbrev S32x64 : Shape := ⟨2, ![32, 64]⟩
abbrev S2048x32x512 : Shape := ⟨3, ![2048, 32, 512]⟩
abbrev S1x32x64 : Shape := ⟨3, ![1, 32, 64]⟩
abbrev S32x512 : Shape := ⟨2, ![32, 512]⟩
abbrev S1x32x512 : Shape := ⟨3, ![1, 32, 512]⟩
abbrev S32x1x512 : Shape := ⟨3, ![32, 1, 512]⟩
abbrev S32 : Shape := ⟨1, ![32]⟩
abbrev S32x1 : Shape := ⟨2, ![32, 1]⟩
abbrev S32x256 : Shape := ⟨2, ![32, 256]⟩
abbrev S1x256 : Shape := ⟨2, ![1, 256]⟩
abbrev S1x1 : Shape := ⟨2, ![1, 1]⟩

abbrev nBuf : Space → Nat
  | .hbm => 631
  | .vmem => 0
  | .smem => 0
  | _ => 0

abbrev hbmTy0_0 (i : Nat) : BufTy := match i % 128 with
  | 0 => ⟨S32x2048x64, .f32⟩
  | 1 => ⟨S64x512, .f32⟩
  | 2 => ⟨S512, .f32⟩
  | 3 => ⟨S4x512, .f32⟩
  | 4 => ⟨S4x512, .f32⟩
  | 5 => ⟨S4x512x64, .f32⟩
  | 6 => ⟨S4x64, .f32⟩
  | 7 => ⟨S4x512x64, .f32⟩
  | 8 => ⟨S4x64, .f32⟩
  | 9 => ⟨S4x64x64, .f32⟩
  | 10 => ⟨S4x512x64, .f32⟩
  | 11 => ⟨S4x512x512, .f32⟩
  | 12 => ⟨S4x512, .f32⟩
  | 13 => ⟨S4x512x512, .f32⟩
  | 14 => ⟨S4x512, .f32⟩
  | 15 => ⟨S512, .f32⟩
  | 16 => ⟨S512, .f32⟩
  | 17 => ⟨S512x256, .f32⟩
  | 18 => ⟨S256, .f32⟩
  | 19 => ⟨S256x1, .f32⟩
  | 20 => ⟨S1, .f32⟩
  | 21 => ⟨S32x2048x512, .f32⟩
  | 22 => ⟨S1x1x512, .f32⟩
  | 23 => ⟨S32x2048x512, .f32⟩
  | 24 => ⟨S32x2048x512, .f32⟩
  | 25 => ⟨S1x512, .f32⟩
  | 26 => ⟨S512, .f32⟩
  | 27 => ⟨S1x512, .f32⟩
  | 28 => ⟨S512, .f32⟩
  | 29 => ⟨S1x512x64, .f32⟩
  | 30 => ⟨S512x64, .f32⟩
  | 31 => ⟨S1x64, .f32⟩
  | 32 => ⟨S64, .f32⟩
  | 33 => ⟨S1x512x64, .f32⟩
  | 34 => ⟨S512x64, .f32⟩
  | 35 => ⟨S1x64, .f32⟩
  | 36 => ⟨S64, .f32⟩
  | 37 => ⟨S1x64x64, .f32⟩
  | 38 => ⟨S64x64, .f32⟩
  | 39 => ⟨S1x512x64, .f32⟩
  | 40 => ⟨S512x64, .f32⟩
  | 41 => ⟨S1x512x512, .f32⟩
  | 42 => ⟨S512x512, .f32⟩
  | 43 => ⟨S1x512, .f32⟩
  | 44 => ⟨S512, .f32⟩
  | 45 => ⟨S1x512x512, .f32⟩
  | 46 => ⟨S512x512, .f32⟩
  | 47 => ⟨S1x512, .f32⟩
  | 48 => ⟨S512, .f32⟩
  | 49 => ⟨S_, .f32⟩
  | 50 => ⟨S32x2048, .f32⟩
  | 51 => ⟨S32x2048x1, .f32⟩
  | 52 => ⟨S_, .f32⟩
  | 53 => ⟨S32x2048x1, .f32⟩
  | 54 => ⟨S32x2048x1, .f32⟩
  | 55 => ⟨S32x2048x512, .f32⟩
  | 56 => ⟨S32x2048x512, .f32⟩
  | 57 => ⟨S32x2048x512, .f32⟩
  | 58 => ⟨S_, .f32⟩
  | 59 => ⟨S32x2048, .f32⟩
  | 60 => ⟨S32x2048x1, .f32⟩
  | 61 => ⟨S_, .f32⟩
  | 62 => ⟨S32x2048x1, .f32⟩
  | 63 => ⟨S32x2048x1, .f32⟩
  | 64 => ⟨S32x2048x512, .f32⟩
  | 65 => ⟨S32x2048x512, .f32⟩
  | 66 => ⟨S_, .f32⟩
  | 67 => ⟨S32x2048x1, .f32⟩
  | 68 => ⟨S32x2048x1, .f32⟩
  | 69 => ⟨S32x2048x1, .f32⟩
  | 70 => ⟨S32x2048x512, .f32⟩
  | 71 => ⟨S32x2048x512, .f32⟩
  | 72 => ⟨S1x1x512, .f32⟩
  | 73 => ⟨S32x2048x512, .f32⟩
  | 74 => ⟨S32x2048x512, .f32⟩
  | 75 => ⟨S1x1x512, .f32⟩
  | 76 => ⟨S32x2048x512, .f32⟩
  | 77 => ⟨S32x2048x512, .f32⟩
  | 78 => ⟨S32x2048x64, .f32⟩
  | 79 => ⟨S1x1x64, .f32⟩
  | 80 => ⟨S32x2048x64, .f32⟩
  | 81 => ⟨S32x2048x64, .f32⟩
  | 82 => ⟨S32x2048x64, .f32⟩
  | 83 => ⟨S1x1x64, .f32⟩
  | 84 => ⟨S32x2048x64, .f32⟩
  | 85 => ⟨S32x2048x64, .f32⟩
  | 86 => ⟨S32x2048x64, .f32⟩
  | 87 => ⟨S32x2048x64, .f32⟩
  | 88 => ⟨S_, .f32⟩
  | 89 => ⟨S32x2048x64, .f32⟩
  | 90 => ⟨S32x2048x64, .f32⟩
  | 91 => ⟨S_, .f32⟩
  | 92 => ⟨S32x2048x64, .f32⟩
  | 93 => ⟨S32x2048x64, .f32⟩
  | 94 => ⟨S2048x32x64, .f32⟩
  | 95 => ⟨S2048x32x64, .f32⟩
  | 96 => ⟨S_, .f32⟩
  | 97 => ⟨S32x64, .f32⟩
  | 98 => ⟨S_, .f32⟩
  | 99 => ⟨S2048x32x512, .f32⟩
  | 100 => ⟨S_, .i32⟩
  | 101 => ⟨S2048x32x64, .f32⟩
  | 102 => ⟨S2048x32x64, .f32⟩
  | 103 => ⟨S64x64, .f32⟩
  | 104 => ⟨S512x64, .f32⟩
  | 105 => ⟨S_, .i32⟩
  | 106 => ⟨S32x64, .f32⟩
  | 107 => ⟨S2048x32x512, .f32⟩
  | 108 => ⟨S_, .i32⟩
  | 109 => ⟨S_, .i1⟩
  | 110 => ⟨S_, .i32⟩
  | 111 => ⟨S_, .i32⟩
  | 112 => ⟨S1x32x64, .f32⟩
  | 113 => ⟨S32x64, .f32⟩
  | 114 => ⟨S_, .i32⟩
  | 115 => ⟨S_, .i32⟩
  | 116 => ⟨S1x32x64, .f32⟩
  | 117 => ⟨S32x64, .f32⟩
  | 118 => ⟨S_, .f32⟩
  | 119 => ⟨S32x64, .f32⟩
  | 120 => ⟨S32x64, .f32⟩
  | 121 => ⟨S32x64, .f32⟩
  | 122 => ⟨S64x64, .f32⟩
  | 123 => ⟨S32x64, .f32⟩
  | 124 => ⟨S32x64, .f32⟩
  | 125 => ⟨S32x64, .f32⟩
  | 126 => ⟨S32x64, .f32⟩
  | 127 => ⟨S64x512, .f32⟩
  | _ => ⟨S32x2048x64, .f32⟩

abbrev hbmTy0_1 (i : Nat) : BufTy := match i % 128 with
  | 0 => ⟨S32x512, .f32⟩
  | 1 => ⟨S1x32x512, .f32⟩
  | 2 => ⟨S_, .i32⟩
  | 3 => ⟨S_, .i32⟩
  | 4 => ⟨S2048x32x512, .f32⟩
  | 5 => ⟨S_, .i32⟩
  | 6 => ⟨S_, .i32⟩
  | 7 => ⟨S32x2048x512, .f32⟩
  | 8 => ⟨S32x2048x512, .f32⟩
  | 9 => ⟨S1x1x512, .f32⟩
  | 10 => ⟨S32x2048x512, .f32⟩
  | 11 => ⟨S32x2048x512, .f32⟩
  | 12 => ⟨S32x2048x512, .f32⟩
  | 13 => ⟨S32x2048x512, .f32⟩
  | 14 => ⟨S_, .f32⟩
  | 15 => ⟨S32x2048x512, .f32⟩
  | 16 => ⟨S32x2048x512, .f32⟩
  | 17 => ⟨S_, .f32⟩
  | 18 => ⟨S32x2048x512, .f32⟩
  | 19 => ⟨S32x2048x512, .f32⟩
  | 20 => ⟨S32x2048x512, .f32⟩
  | 21 => ⟨S32x2048x512, .f32⟩
  | 22 => ⟨S1x1x512, .f32⟩
  | 23 => ⟨S32x2048x512, .f32⟩
  | 24 => ⟨S32x2048x512, .f32⟩
  | 25 => ⟨S32x2048x512, .f32⟩
  | 26 => ⟨S1x512, .f32⟩
  | 27 => ⟨S512, .f32⟩
  | 28 => ⟨S1x512, .f32⟩
  | 29 => ⟨S512, .f32⟩
  | 30 => ⟨S1x512x64, .f32⟩
  | 31 => ⟨S512x64, .f32⟩
  | 32 => ⟨S1x64, .f32⟩
  | 33 => ⟨S64, .f32⟩
  | 34 => ⟨S1x512x64, .f32⟩
  | 35 => ⟨S512x64, .f32⟩
  | 36 => ⟨S1x64, .f32⟩
  | 37 => ⟨S64, .f32⟩
  | 38 => ⟨S1x64x64, .f32⟩
  | 39 => ⟨S64x64, .f32⟩
  | 40 => ⟨S1x512x64, .f32⟩
  | 41 => ⟨S512x64, .f32⟩
  | 42 => ⟨S1x512x512, .f32⟩
  | 43 => ⟨S512x512, .f32⟩
  | 44 => ⟨S1x512, .f32⟩
  | 45 => ⟨S512, .f32⟩
  | 46 => ⟨S1x512x512, .f32⟩
  | 47 => ⟨S512x512, .f32⟩
  | 48 => ⟨S1x512, .f32⟩
  | 49 => ⟨S512, .f32⟩
  | 50 => ⟨S_, .f32⟩
  | 51 => ⟨S32x2048, .f32⟩
  | 52 => ⟨S32x2048x1, .f32⟩
  | 53 => ⟨S_, .f32⟩
  | 54 => ⟨S32x2048x1, .f32⟩
  | 55 => ⟨S32x2048x1, .f32⟩
  | 56 => ⟨S32x2048x512, .f32⟩
  | 57 => ⟨S32x2048x512, .f32⟩
  | 58 => ⟨S32x2048x512, .f32⟩
  | 59 => ⟨S_, .f32⟩
  | 60 => ⟨S32x2048, .f32⟩
  | 61 => ⟨S32x2048x1, .f32⟩
  | 62 => ⟨S_, .f32⟩
  | 63 => ⟨S32x2048x1, .f32⟩
  | 64 => ⟨S32x2048x1, .f32⟩
  | 65 => ⟨S32x2048x512, .f32⟩
  | 66 => ⟨S32x2048x512, .f32⟩
  | 67 => ⟨S_, .f32⟩
  | 68 => ⟨S32x2048x1, .f32⟩
  | 69 => ⟨S32x2048x1, .f32⟩
  | 70 => ⟨S32x2048x1, .f32⟩
  | 71 => ⟨S32x2048x512, .f32⟩
  | 72 => ⟨S32x2048x512, .f32⟩
  | 73 => ⟨S1x1x512, .f32⟩
  | 74 => ⟨S32x2048x512, .f32⟩
  | 75 => ⟨S32x2048x512, .f32⟩
  | 76 => ⟨S1x1x512, .f32⟩
  | 77 => ⟨S32x2048x512, .f32⟩
  | 78 => ⟨S32x2048x512, .f32⟩
  | 79 => ⟨S32x2048x64, .f32⟩
  | 80 => ⟨S1x1x64, .f32⟩
  | 81 => ⟨S32x2048x64, .f32⟩
  | 82 => ⟨S32x2048x64, .f32⟩
  | 83 => ⟨S32x2048x64, .f32⟩
  | 84 => ⟨S1x1x64, .f32⟩
  | 85 => ⟨S32x2048x64, .f32⟩
  | 86 => ⟨S32x2048x64, .f32⟩
  | 87 => ⟨S32x2048x64, .f32⟩
  | 88 => ⟨S32x2048x64, .f32⟩
  | 89 => ⟨S_, .f32⟩
  | 90 => ⟨S32x2048x64, .f32⟩
  | 91 => ⟨S32x2048x64, .f32⟩
  | 92 => ⟨S_, .f32⟩
  | 93 => ⟨S32x2048x64, .f32⟩
  | 94 => ⟨S32x2048x64, .f32⟩
  | 95 => ⟨S2048x32x64, .f32⟩
  | 96 => ⟨S2048x32x64, .f32⟩
  | 97 => ⟨S_, .f32⟩
  | 98 => ⟨S32x64, .f32⟩
  | 99 => ⟨S_, .f32⟩
  | 100 => ⟨S2048x32x512, .f32⟩
  | 101 => ⟨S_, .i32⟩
  | 102 => ⟨S2048x32x64, .f32⟩
  | 103 => ⟨S2048x32x64, .f32⟩
  | 104 => ⟨S64x64, .f32⟩
  | 105 => ⟨S512x64, .f32⟩
  | 106 => ⟨S_, .i32⟩
  | 107 => ⟨S32x64, .f32⟩
  | 108 => ⟨S2048x32x512, .f32⟩
  | 109 => ⟨S_, .i32⟩
  | 110 => ⟨S_, .i1⟩
  | 111 => ⟨S_, .i32⟩
  | 112 => ⟨S_, .i32⟩
  | 113 => ⟨S1x32x64, .f32⟩
  | 114 => ⟨S32x64, .f32⟩
  | 115 => ⟨S_, .i32⟩
  | 116 => ⟨S_, .i32⟩
  | 117 => ⟨S1x32x64, .f32⟩
  | 118 => ⟨S32x64, .f32⟩
  | 119 => ⟨S_, .f32⟩
  | 120 => ⟨S32x64, .f32⟩
  | 121 => ⟨S32x64, .f32⟩
  | 122 => ⟨S32x64, .f32⟩
  | 123 => ⟨S64x64, .f32⟩
  | 124 => ⟨S32x64, .f32⟩
  | 125 => ⟨S32x64, .f32⟩
  | 126 => ⟨S32x64, .f32⟩
  | 127 => ⟨S32x64, .f32⟩
  | _ => ⟨S32x2048x64, .f32⟩

abbrev hbmTy0_2 (i : Nat) : BufTy := match i % 128 with
  | 0 => ⟨S64x512, .f32⟩
  | 1 => ⟨S32x512, .f32⟩
  | 2 => ⟨S1x32x512, .f32⟩
  | 3 => ⟨S_, .i32⟩
  | 4 => ⟨S_, .i32⟩
  | 5 => ⟨S2048x32x512, .f32⟩
  | 6 => ⟨S_, .i32⟩
  | 7 => ⟨S_, .i32⟩
  | 8 => ⟨S32x2048x512, .f32⟩
  | 9 => ⟨S32x2048x512, .f32⟩
  | 10 => ⟨S1x1x512, .f32⟩
  | 11 => ⟨S32x2048x512, .f32⟩
  | 12 => ⟨S32x2048x512, .f32⟩
  | 13 => ⟨S32x2048x512, .f32⟩
  | 14 => ⟨S32x2048x512, .f32⟩
  | 15 => ⟨S_, .f32⟩
  | 16 => ⟨S32x2048x512, .f32⟩
  | 17 => ⟨S32x2048x512, .f32⟩
  | 18 => ⟨S_, .f32⟩
  | 19 => ⟨S32x2048x512, .f32⟩
  | 20 => ⟨S32x2048x512, .f32⟩
  | 21 => ⟨S32x2048x512, .f32⟩
  | 22 => ⟨S32x2048x512, .f32⟩
  | 23 => ⟨S1x1x512, .f32⟩
  | 24 => ⟨S32x2048x512, .f32⟩
  | 25 => ⟨S32x2048x512, .f32⟩
  | 26 => ⟨S32x2048x512, .f32⟩
  | 27 => ⟨S1x512, .f32⟩
  | 28 => ⟨S512, .f32⟩
  | 29 => ⟨S1x512, .f32⟩
  | 30 => ⟨S512, .f32⟩
  | 31 => ⟨S1x512x64, .f32⟩
  | 32 => ⟨S512x64, .f32⟩
  | 33 => ⟨S1x64, .f32⟩
  | 34 => ⟨S64, .f32⟩
  | 35 => ⟨S1x512x64, .f32⟩
  | 36 => ⟨S512x64, .f32⟩
  | 37 => ⟨S1x64, .f32⟩
  | 38 => ⟨S64, .f32⟩
  | 39 => ⟨S1x64x64, .f32⟩
  | 40 => ⟨S64x64, .f32⟩
  | 41 => ⟨S1x512x64, .f32⟩
  | 42 => ⟨S512x64, .f32⟩
  | 43 => ⟨S1x512x512, .f32⟩
  | 44 => ⟨S512x512, .f32⟩
  | 45 => ⟨S1x512, .f32⟩
  | 46 => ⟨S512, .f32⟩
  | 47 => ⟨S1x512x512, .f32⟩
  | 48 => ⟨S512x512, .f32⟩
  | 49 => ⟨S1x512, .f32⟩
  | 50 => ⟨S512, .f32⟩
  | 51 => ⟨S_, .f32⟩
  | 52 => ⟨S32x2048, .f32⟩
  | 53 => ⟨S32x2048x1, .f32⟩
  | 54 => ⟨S_, .f32⟩
  | 55 => ⟨S32x2048x1, .f32⟩
  | 56 => ⟨S32x2048x1, .f32⟩
  | 57 => ⟨S32x2048x512, .f32⟩
  | 58 => ⟨S32x2048x512, .f32⟩
  | 59 => ⟨S32x2048x512, .f32⟩
  | 60 => ⟨S_, .f32⟩
  | 61 => ⟨S32x2048, .f32⟩
  | 62 => ⟨S32x2048x1, .f32⟩
  | 63 => ⟨S_, .f32⟩
  | 64 => ⟨S32x2048x1, .f32⟩
  | 65 => ⟨S32x2048x1, .f32⟩
  | 66 => ⟨S32x2048x512, .f32⟩
  | 67 => ⟨S32x2048x512, .f32⟩
  | 68 => ⟨S_, .f32⟩
  | 69 => ⟨S32x2048x1, .f32⟩
  | 70 => ⟨S32x2048x1, .f32⟩
  | 71 => ⟨S32x2048x1, .f32⟩
  | 72 => ⟨S32x2048x512, .f32⟩
  | 73 => ⟨S32x2048x512, .f32⟩
  | 74 => ⟨S1x1x512, .f32⟩
  | 75 => ⟨S32x2048x512, .f32⟩
  | 76 => ⟨S32x2048x512, .f32⟩
  | 77 => ⟨S1x1x512, .f32⟩
  | 78 => ⟨S32x2048x512, .f32⟩
  | 79 => ⟨S32x2048x512, .f32⟩
  | 80 => ⟨S32x2048x64, .f32⟩
  | 81 => ⟨S1x1x64, .f32⟩
  | 82 => ⟨S32x2048x64, .f32⟩
  | 83 => ⟨S32x2048x64, .f32⟩
  | 84 => ⟨S32x2048x64, .f32⟩
  | 85 => ⟨S1x1x64, .f32⟩
  | 86 => ⟨S32x2048x64, .f32⟩
  | 87 => ⟨S32x2048x64, .f32⟩
  | 88 => ⟨S32x2048x64, .f32⟩
  | 89 => ⟨S32x2048x64, .f32⟩
  | 90 => ⟨S_, .f32⟩
  | 91 => ⟨S32x2048x64, .f32⟩
  | 92 => ⟨S32x2048x64, .f32⟩
  | 93 => ⟨S_, .f32⟩
  | 94 => ⟨S32x2048x64, .f32⟩
  | 95 => ⟨S32x2048x64, .f32⟩
  | 96 => ⟨S2048x32x64, .f32⟩
  | 97 => ⟨S2048x32x64, .f32⟩
  | 98 => ⟨S_, .f32⟩
  | 99 => ⟨S32x64, .f32⟩
  | 100 => ⟨S_, .f32⟩
  | 101 => ⟨S2048x32x512, .f32⟩
  | 102 => ⟨S_, .i32⟩
  | 103 => ⟨S2048x32x64, .f32⟩
  | 104 => ⟨S2048x32x64, .f32⟩
  | 105 => ⟨S64x64, .f32⟩
  | 106 => ⟨S512x64, .f32⟩
  | 107 => ⟨S_, .i32⟩
  | 108 => ⟨S32x64, .f32⟩
  | 109 => ⟨S2048x32x512, .f32⟩
  | 110 => ⟨S_, .i32⟩
  | 111 => ⟨S_, .i1⟩
  | 112 => ⟨S_, .i32⟩
  | 113 => ⟨S_, .i32⟩
  | 114 => ⟨S1x32x64, .f32⟩
  | 115 => ⟨S32x64, .f32⟩
  | 116 => ⟨S_, .i32⟩
  | 117 => ⟨S_, .i32⟩
  | 118 => ⟨S1x32x64, .f32⟩
  | 119 => ⟨S32x64, .f32⟩
  | 120 => ⟨S_, .f32⟩
  | 121 => ⟨S32x64, .f32⟩
  | 122 => ⟨S32x64, .f32⟩
  | 123 => ⟨S32x64, .f32⟩
  | 124 => ⟨S64x64, .f32⟩
  | 125 => ⟨S32x64, .f32⟩
  | 126 => ⟨S32x64, .f32⟩
  | 127 => ⟨S32x64, .f32⟩
  | _ => ⟨S32x2048x64, .f32⟩

abbrev hbmTy0_3 (i : Nat) : BufTy := match i % 128 with
  | 0 => ⟨S32x64, .f32⟩
  | 1 => ⟨S64x512, .f32⟩
  | 2 => ⟨S32x512, .f32⟩
  | 3 => ⟨S1x32x512, .f32⟩
  | 4 => ⟨S_, .i32⟩
  | 5 => ⟨S_, .i32⟩
  | 6 => ⟨S2048x32x512, .f32⟩
  | 7 => ⟨S_, .i32⟩
  | 8 => ⟨S_, .i32⟩
  | 9 => ⟨S32x2048x512, .f32⟩
  | 10 => ⟨S32x2048x512, .f32⟩
  | 11 => ⟨S1x1x512, .f32⟩
  | 12 => ⟨S32x2048x512, .f32⟩
  | 13 => ⟨S32x2048x512, .f32⟩
  | 14 => ⟨S32x2048x512, .f32⟩
  | 15 => ⟨S32x2048x512, .f32⟩
  | 16 => ⟨S_, .f32⟩
  | 17 => ⟨S32x2048x512, .f32⟩
  | 18 => ⟨S32x2048x512, .f32⟩
  | 19 => ⟨S_, .f32⟩
  | 20 => ⟨S32x2048x512, .f32⟩
  | 21 => ⟨S32x2048x512, .f32⟩
  | 22 => ⟨S32x2048x512, .f32⟩
  | 23 => ⟨S32x2048x512, .f32⟩
  | 24 => ⟨S1x1x512, .f32⟩
  | 25 => ⟨S32x2048x512, .f32⟩
  | 26 => ⟨S32x2048x512, .f32⟩
  | 27 => ⟨S32x2048x512, .f32⟩
  | 28 => ⟨S1x512, .f32⟩
  | 29 => ⟨S512, .f32⟩
  | 30 => ⟨S1x512, .f32⟩
  | 31 => ⟨S512, .f32⟩
  | 32 => ⟨S1x512x64, .f32⟩
  | 33 => ⟨S512x64, .f32⟩
  | 34 => ⟨S1x64, .f32⟩
  | 35 => ⟨S64, .f32⟩
  | 36 => ⟨S1x512x64, .f32⟩
  | 37 => ⟨S512x64, .f32⟩
  | 38 => ⟨S1x64, .f32⟩
  | 39 => ⟨S64, .f32⟩
  | 40 => ⟨S1x64x64, .f32⟩
  | 41 => ⟨S64x64, .f32⟩
  | 42 => ⟨S1x512x64, .f32⟩
  | 43 => ⟨S512x64, .f32⟩
  | 44 => ⟨S1x512x512, .f32⟩
  | 45 => ⟨S512x512, .f32⟩
  | 46 => ⟨S1x512, .f32⟩
  | 47 => ⟨S512, .f32⟩
  | 48 => ⟨S1x512x512, .f32⟩
  | 49 => ⟨S512x512, .f32⟩
  | 50 => ⟨S1x512, .f32⟩
  | 51 => ⟨S512, .f32⟩
  | 52 => ⟨S_, .f32⟩
  | 53 => ⟨S32x2048, .f32⟩
  | 54 => ⟨S32x2048x1, .f32⟩
  | 55 => ⟨S_, .f32⟩
  | 56 => ⟨S32x2048x1, .f32⟩
  | 57 => ⟨S32x2048x1, .f32⟩
  | 58 => ⟨S32x2048x512, .f32⟩
  | 59 => ⟨S32x2048x512, .f32⟩
  | 60 => ⟨S32x2048x512, .f32⟩
  | 61 => ⟨S_, .f32⟩
  | 62 => ⟨S32x2048, .f32⟩
  | 63 => ⟨S32x2048x1, .f32⟩
  | 64 => ⟨S_, .f32⟩
  | 65 => ⟨S32x2048x1, .f32⟩
  | 66 => ⟨S32x2048x1, .f32⟩
  | 67 => ⟨S32x2048x512, .f32⟩
  | 68 => ⟨S32x2048x512, .f32⟩
  | 69 => ⟨S_, .f32⟩
  | 70 => ⟨S32x2048x1, .f32⟩
  | 71 => ⟨S32x2048x1, .f32⟩
  | 72 => ⟨S32x2048x1, .f32⟩
  | 73 => ⟨S32x2048x512, .f32⟩
  | 74 => ⟨S32x2048x512, .f32⟩
  | 75 => ⟨S1x1x512, .f32⟩
  | 76 => ⟨S32x2048x512, .f32⟩
  | 77 => ⟨S32x2048x512, .f32⟩
  | 78 => ⟨S1x1x512, .f32⟩
  | 79 => ⟨S32x2048x512, .f32⟩
  | 80 => ⟨S32x2048x512, .f32⟩
  | 81 => ⟨S32x2048x64, .f32⟩
  | 82 => ⟨S1x1x64, .f32⟩
  | 83 => ⟨S32x2048x64, .f32⟩
  | 84 => ⟨S32x2048x64, .f32⟩
  | 85 => ⟨S32x2048x64, .f32⟩
  | 86 => ⟨S1x1x64, .f32⟩
  | 87 => ⟨S32x2048x64, .f32⟩
  | 88 => ⟨S32x2048x64, .f32⟩
  | 89 => ⟨S32x2048x64, .f32⟩
  | 90 => ⟨S32x2048x64, .f32⟩
  | 91 => ⟨S_, .f32⟩
  | 92 => ⟨S32x2048x64, .f32⟩
  | 93 => ⟨S32x2048x64, .f32⟩
  | 94 => ⟨S_, .f32⟩
  | 95 => ⟨S32x2048x64, .f32⟩
  | 96 => ⟨S32x2048x64, .f32⟩
  | 97 => ⟨S2048x32x64, .f32⟩
  | 98 => ⟨S2048x32x64, .f32⟩
  | 99 => ⟨S_, .f32⟩
  | 100 => ⟨S32x64, .f32⟩
  | 101 => ⟨S_, .f32⟩
  | 102 => ⟨S2048x32x512, .f32⟩
  | 103 => ⟨S_, .i32⟩
  | 104 => ⟨S2048x32x64, .f32⟩
  | 105 => ⟨S2048x32x64, .f32⟩
  | 106 => ⟨S64x64, .f32⟩
  | 107 => ⟨S512x64, .f32⟩
  | 108 => ⟨S_, .i32⟩
  | 109 => ⟨S32x64, .f32⟩
  | 110 => ⟨S2048x32x512, .f32⟩
  | 111 => ⟨S_, .i32⟩
  | 112 => ⟨S_, .i1⟩
  | 113 => ⟨S_, .i32⟩
  | 114 => ⟨S_, .i32⟩
  | 115 => ⟨S1x32x64, .f32⟩
  | 116 => ⟨S32x64, .f32⟩
  | 117 => ⟨S_, .i32⟩
  | 118 => ⟨S_, .i32⟩
  | 119 => ⟨S1x32x64, .f32⟩
  | 120 => ⟨S32x64, .f32⟩
  | 121 => ⟨S_, .f32⟩
  | 122 => ⟨S32x64, .f32⟩
  | 123 => ⟨S32x64, .f32⟩
  | 124 => ⟨S32x64, .f32⟩
  | 125 => ⟨S64x64, .f32⟩
  | 126 => ⟨S32x64, .f32⟩
  | 127 => ⟨S32x64, .f32⟩
  | _ => ⟨S32x2048x64, .f32⟩

abbrev hbmTy0_4 (i : Nat) : BufTy := match i % 128 with
  | 0 => ⟨S32x64, .f32⟩
  | 1 => ⟨S32x64, .f32⟩
  | 2 => ⟨S64x512, .f32⟩
  | 3 => ⟨S32x512, .f32⟩
  | 4 => ⟨S1x32x512, .f32⟩
  | 5 => ⟨S_, .i32⟩
  | 6 => ⟨S_, .i32⟩
  | 7 => ⟨S2048x32x512, .f32⟩
  | 8 => ⟨S_, .i32⟩
  | 9 => ⟨S_, .i32⟩
  | 10 => ⟨S32x2048x512, .f32⟩
  | 11 => ⟨S32x2048x512, .f32⟩
  | 12 => ⟨S1x1x512, .f32⟩
  | 13 => ⟨S32x2048x512, .f32⟩
  | 14 => ⟨S32x2048x512, .f32⟩
  | 15 => ⟨S32x2048x512, .f32⟩
  | 16 => ⟨S32x2048x512, .f32⟩
  | 17 => ⟨S_, .f32⟩
  | 18 => ⟨S32x2048x512, .f32⟩
  | 19 => ⟨S32x2048x512, .f32⟩
  | 20 => ⟨S_, .f32⟩
  | 21 => ⟨S32x2048x512, .f32⟩
  | 22 => ⟨S32x2048x512, .f32⟩
  | 23 => ⟨S32x2048x512, .f32⟩
  | 24 => ⟨S32x2048x512, .f32⟩
  | 25 => ⟨S1x1x512, .f32⟩
  | 26 => ⟨S32x2048x512, .f32⟩
  | 27 => ⟨S32x2048x512, .f32⟩
  | 28 => ⟨S32x2048x512, .f32⟩
  | 29 => ⟨S32x1x512, .f32⟩
  | 30 => ⟨S32x512, .f32⟩
  | 31 => ⟨S_, .f32⟩
  | 32 => ⟨S32, .f32⟩
  | 33 => ⟨S32x1, .f32⟩
  | 34 => ⟨S_, .f32⟩
  | 35 => ⟨S32x1, .f32⟩
  | 36 => ⟨S32x1, .f32⟩
  | 37 => ⟨S32x512, .f32⟩
  | 38 => ⟨S32x512, .f32⟩
  | 39 => ⟨S32x512, .f32⟩
  | 40 => ⟨S_, .f32⟩
  | 41 => ⟨S32, .f32⟩
  | 42 => ⟨S32x1, .f32⟩
  | 43 => ⟨S_, .f32⟩
  | 44 => ⟨S32x1, .f32⟩
  | 45 => ⟨S32x1, .f32⟩
  | 46 => ⟨S32x512, .f32⟩
  | 47 => ⟨S32x512, .f32⟩
  | 48 => ⟨S_, .f32⟩
  | 49 => ⟨S32x1, .f32⟩
  | 50 => ⟨S32x1, .f32⟩
  | 51 => ⟨S32x1, .f32⟩
  | 52 => ⟨S32x512, .f32⟩
  | 53 => ⟨S32x512, .f32⟩
  | 54 => ⟨S1x512, .f32⟩
  | 55 => ⟨S32x512, .f32⟩
  | 56 => ⟨S32x512, .f32⟩
  | 57 => ⟨S1x512, .f32⟩
  | 58 => ⟨S32x512, .f32⟩
  | 59 => ⟨S32x512, .f32⟩
  | 60 => ⟨S32x256, .f32⟩
  | 61 => ⟨S1x256, .f32⟩
  | 62 => ⟨S32x256, .f32⟩
  | 63 => ⟨S32x256, .f32⟩
  | 64 => ⟨S_, .f32⟩
  | 65 => ⟨S32x256, .f32⟩
  | 66 => ⟨S32x256, .f32⟩
  | 67 => ⟨S_, .f32⟩
  | 68 => ⟨S32x256, .f32⟩
  | 69 => ⟨S32x256, .f32⟩
  | 70 => ⟨S32x256, .f32⟩
  | 71 => ⟨S_, .f32⟩
  | 72 => ⟨S32x256, .f32⟩
  | 73 => ⟨S32x256, .f32⟩
  | 74 => ⟨S_, .f32⟩
  | 75 => ⟨S32x256, .f32⟩
  | 76 => ⟨S32x256, .f32⟩
  | 77 => ⟨S_, .f32⟩
  | 78 => ⟨S32x256, .f32⟩
  | 79 => ⟨S32x256, .f32⟩
  | 80 => ⟨S_, .f32⟩
  | 81 => ⟨S32x256, .f32⟩
  | 82 => ⟨S32x256, .f32⟩
  | 83 => ⟨S_, .f32⟩
  | 84 => ⟨S32x256, .f32⟩
  | 85 => ⟨S32x256, .f32⟩
  | 86 => ⟨S32x256, .f32⟩
  | 87 => ⟨S_, .f32⟩
  | 88 => ⟨S32x256, .f32⟩
  | 89 => ⟨S32x256, .f32⟩
  | 90 => ⟨S32x256, .f32⟩
  | 91 => ⟨S_, .f32⟩
  | 92 => ⟨S32x256, .f32⟩
  | 93 => ⟨S32x256, .f32⟩
  | 94 => ⟨S32x256, .f32⟩
  | 95 => ⟨S_, .f32⟩
  | 96 => ⟨S32x256, .f32⟩
  | 97 => ⟨S32x256, .f32⟩
  | 98 => ⟨S32x256, .f32⟩
  | 99 => ⟨S32x256, .f32⟩
  | 100 => ⟨S32x256, .f32⟩
  | 101 => ⟨S32x256, .f32⟩
  | 102 => ⟨S32x256, .f32⟩
  | 103 => ⟨S_, .f32⟩
  | 104 => ⟨S32x256, .f32⟩
  | 105 => ⟨S32x256, .f32⟩
  | 106 => ⟨S_, .f32⟩
  | 107 => ⟨S32x256, .f32⟩
  | 108 => ⟨S32x256, .i1⟩
  | 109 => ⟨S32x256, .f32⟩
  | 110 => ⟨S32x256, .f32⟩
  | 111 => ⟨S_, .f32⟩
  | 112 => ⟨S32x256, .f32⟩
  | 113 => ⟨S32x256, .f32⟩
  | 114 => ⟨S32x256, .f32⟩
  | 115 => ⟨S32x1, .f32⟩
  | 116 => ⟨S1x1, .f32⟩
  | 117 => ⟨S32x1, .f32⟩
  | 118 => ⟨S32x1, .f32⟩
  | _ => ⟨S32x2048x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x2048x64, .f32⟩

abbrev bufTy : (tb : Table) → Fin (tcTables nBuf tb) → BufTy
  | .hbm, ⟨i, _⟩ => hbmTy i
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_cst_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_1 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_cst_7 : Ref sig .tc := ⟨.hbm, 98, rfl⟩
abbrev main_v69 : Ref sig .tc := ⟨.hbm, 99, rfl⟩
abbrev main_c : Ref sig .tc := ⟨.hbm, 100, rfl⟩
abbrev main_v70_0 : Ref sig .tc := ⟨.hbm, 101, rfl⟩
abbrev main_v70_1 : Ref sig .tc := ⟨.hbm, 102, rfl⟩
abbrev main_v70_2 : Ref sig .tc := ⟨.hbm, 103, rfl⟩
abbrev main_v70_3 : Ref sig .tc := ⟨.hbm, 104, rfl⟩
abbrev main_v70_4 : Ref sig .tc := ⟨.hbm, 105, rfl⟩
abbrev main_v70_5 : Ref sig .tc := ⟨.hbm, 106, rfl⟩
abbrev main_v70_6 : Ref sig .tc := ⟨.hbm, 107, rfl⟩
abbrev main_while0c_c_70 : Ref sig .tc := ⟨.hbm, 108, rfl⟩
abbrev main_while0c_v412 : Ref sig .tc := ⟨.hbm, 109, rfl⟩
abbrev main_while0b_call0_c : Ref sig .tc := ⟨.hbm, 110, rfl⟩
abbrev main_while0b_call0_c_0 : Ref sig .tc := ⟨.hbm, 111, rfl⟩
abbrev main_while0b_call0_v0 : Ref sig .tc := ⟨.hbm, 112, rfl⟩
abbrev main_while0b_v412 : Ref sig .tc := ⟨.hbm, 113, rfl⟩
abbrev main_while0b_call1_c : Ref sig .tc := ⟨.hbm, 114, rfl⟩
abbrev main_while0b_call1_c_0 : Ref sig .tc := ⟨.hbm, 115, rfl⟩
abbrev main_while0b_call1_v0 : Ref sig .tc := ⟨.hbm, 116, rfl⟩
abbrev main_while0b_v413 : Ref sig .tc := ⟨.hbm, 117, rfl⟩
abbrev main_while0b_cst_70 : Ref sig .tc := ⟨.hbm, 118, rfl⟩
abbrev main_while0b_v414 : Ref sig .tc := ⟨.hbm, 119, rfl⟩
abbrev main_while0b_v415 : Ref sig .tc := ⟨.hbm, 120, rfl⟩
abbrev main_while0b_v416 : Ref sig .tc := ⟨.hbm, 121, rfl⟩
abbrev main_while0b_v417 : Ref sig .tc := ⟨.hbm, 122, rfl⟩
abbrev main_while0b_v418 : Ref sig .tc := ⟨.hbm, 123, rfl⟩
abbrev main_while0b_v419 : Ref sig .tc := ⟨.hbm, 124, rfl⟩
abbrev main_while0b_v420 : Ref sig .tc := ⟨.hbm, 125, rfl⟩
abbrev main_while0b_v421 : Ref sig .tc := ⟨.hbm, 126, rfl⟩
abbrev main_while0b_v422 : Ref sig .tc := ⟨.hbm, 127, rfl⟩
abbrev main_while0b_v423 : Ref sig .tc := ⟨.hbm, 128, rfl⟩
abbrev main_while0b_call2_v0 : Ref sig .tc := ⟨.hbm, 129, rfl⟩
abbrev main_while0b_call2_c : Ref sig .tc := ⟨.hbm, 130, rfl⟩
abbrev main_while0b_call2_c_0 : Ref sig .tc := ⟨.hbm, 131, rfl⟩
abbrev main_while0b_v424 : Ref sig .tc := ⟨.hbm, 132, rfl⟩
abbrev main_while0b_c_71 : Ref sig .tc := ⟨.hbm, 133, rfl⟩
abbrev main_while0b_v425 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_cst_8 : Ref sig .tc := ⟨.hbm, 142, rfl⟩
abbrev main_v78 : Ref sig .tc := ⟨.hbm, 143, rfl⟩
abbrev main_v79 : Ref sig .tc := ⟨.hbm, 144, rfl⟩
abbrev main_cst_9 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_10 : Ref sig .tc := ⟨.hbm, 178, rfl⟩
abbrev main_v112 : Ref sig .tc := ⟨.hbm, 179, rfl⟩
abbrev main_v113 : Ref sig .tc := ⟨.hbm, 180, rfl⟩
abbrev main_cst_11 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_12 : Ref sig .tc := ⟨.hbm, 187, rfl⟩
abbrev main_v119 : Ref sig .tc := ⟨.hbm, 188, rfl⟩
abbrev main_v120 : Ref sig .tc := ⟨.hbm, 189, rfl⟩
abbrev main_cst_13 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_cst_14 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_cst_15 : Ref sig .tc := ⟨.hbm, 217, rfl⟩
abbrev main_v146 : Ref sig .tc := ⟨.hbm, 218, rfl⟩
abbrev main_v147 : Ref sig .tc := ⟨.hbm, 219, rfl⟩
abbrev main_cst_16 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_cst_17 : Ref sig .tc := ⟨.hbm, 225, rfl⟩
abbrev main_v152 : Ref sig .tc := ⟨.hbm, 226, rfl⟩
abbrev main_cst_18 : Ref sig .tc := ⟨.hbm, 227, rfl⟩
abbrev main_v153 : Ref sig .tc := ⟨.hbm, 228, rfl⟩
abbrev main_c_19 : Ref sig .tc := ⟨.hbm, 229, rfl⟩
abbrev main_v154_0 : Ref sig .tc := ⟨.hbm, 230, rfl⟩
abbrev main_v154_1 : Ref sig .tc := ⟨.hbm, 231, rfl⟩
abbrev main_v154_2 : Ref sig .tc := ⟨.hbm, 232, rfl⟩
abbrev main_v154_3 : Ref sig .tc := ⟨.hbm, 233, rfl⟩
abbrev main_v154_4 : Ref sig .tc := ⟨.hbm, 234, rfl⟩
abbrev main_v154_5 : Ref sig .tc := ⟨.hbm, 235, rfl⟩
abbrev main_v154_6 : Ref sig .tc := ⟨.hbm, 236, rfl⟩
abbrev main_while1c_c_70 : Ref sig .tc := ⟨.hbm, 237, rfl⟩
abbrev main_while1c_v412 : Ref sig .tc := ⟨.hbm, 238, rfl⟩
abbrev main_while1b_call3_c : Ref sig .tc := ⟨.hbm, 239, rfl⟩
abbrev main_while1b_call3_c_0 : Ref sig .tc := ⟨.hbm, 240, rfl⟩
abbrev main_while1b_call3_v0 : Ref sig .tc := ⟨.hbm, 241, rfl⟩
abbrev main_while1b_v412 : Ref sig .tc := ⟨.hbm, 242, rfl⟩
abbrev main_while1b_call4_c : Ref sig .tc := ⟨.hbm, 243, rfl⟩
abbrev main_while1b_call4_c_0 : Ref sig .tc := ⟨.hbm, 244, rfl⟩
abbrev main_while1b_call4_v0 : Ref sig .tc := ⟨.hbm, 245, rfl⟩
abbrev main_while1b_v413 : Ref sig .tc := ⟨.hbm, 246, rfl⟩
abbrev main_while1b_cst_70 : Ref sig .tc := ⟨.hbm, 247, rfl⟩
abbrev main_while1b_v414 : Ref sig .tc := ⟨.hbm, 248, rfl⟩
abbrev main_while1b_v415 : Ref sig .tc := ⟨.hbm, 249, rfl⟩
abbrev main_while1b_v416 : Ref sig .tc := ⟨.hbm, 250, rfl⟩
abbrev main_while1b_v417 : Ref sig .tc := ⟨.hbm, 251, rfl⟩
abbrev main_while1b_v418 : Ref sig .tc := ⟨.hbm, 252, rfl⟩
abbrev main_while1b_v419 : Ref sig .tc := ⟨.hbm, 253, rfl⟩
abbrev main_while1b_v420 : Ref sig .tc := ⟨.hbm, 254, rfl⟩
abbrev main_while1b_v421 : Ref sig .tc := ⟨.hbm, 255, rfl⟩
abbrev main_while1b_v422 : Ref sig .tc := ⟨.hbm, 256, rfl⟩
abbrev main_while1b_v423 : Ref sig .tc := ⟨.hbm, 257, rfl⟩
abbrev main_while1b_call5_v0 : Ref sig .tc := ⟨.hbm, 258, rfl⟩
abbrev main_while1b_call5_c : Ref sig .tc := ⟨.hbm, 259, rfl⟩
abbrev main_while1b_call5_c_0 : Ref sig .tc := ⟨.hbm, 260, rfl⟩
abbrev main_while1b_v424 : Ref sig .tc := ⟨.hbm, 261, rfl⟩
abbrev main_while1b_c_71 : Ref sig .tc := ⟨.hbm, 262, rfl⟩
abbrev main_while1b_v425 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_cst_20 : Ref sig .tc := ⟨.hbm, 271, rfl⟩
abbrev main_v162 : Ref sig .tc := ⟨.hbm, 272, rfl⟩
abbrev main_v163 : Ref sig .tc := ⟨.hbm, 273, rfl⟩
abbrev main_cst_21 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_cst_22 : Ref sig .tc := ⟨.hbm, 307, rfl⟩
abbrev main_v196 : Ref sig .tc := ⟨.hbm, 308, rfl⟩
abbrev main_v197 : Ref sig .tc := ⟨.hbm, 309, rfl⟩
abbrev main_cst_23 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_cst_24 : Ref sig .tc := ⟨.hbm, 316, rfl⟩
abbrev main_v203 : Ref sig .tc := ⟨.hbm, 317, rfl⟩
abbrev main_v204 : Ref sig .tc := ⟨.hbm, 318, rfl⟩
abbrev main_cst_25 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_cst_26 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_v229 : Ref sig .tc := ⟨.hbm, 345, rfl⟩
abbrev main_cst_27 : Ref sig .tc := ⟨.hbm, 346, rfl⟩
abbrev main_v230 : Ref sig .tc := ⟨.hbm, 347, rfl⟩
abbrev main_v231 : Ref sig .tc := ⟨.hbm, 348, rfl⟩
abbrev main_cst_28 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_cst_29 : Ref sig .tc := ⟨.hbm, 354, rfl⟩
abbrev main_v236 : Ref sig .tc := ⟨.hbm, 355, rfl⟩
abbrev main_cst_30 : Ref sig .tc := ⟨.hbm, 356, rfl⟩
abbrev main_v237 : Ref sig .tc := ⟨.hbm, 357, rfl⟩
abbrev main_c_31 : Ref sig .tc := ⟨.hbm, 358, rfl⟩
abbrev main_v238_0 : Ref sig .tc := ⟨.hbm, 359, rfl⟩
abbrev main_v238_1 : Ref sig .tc := ⟨.hbm, 360, rfl⟩
abbrev main_v238_2 : Ref sig .tc := ⟨.hbm, 361, rfl⟩
abbrev main_v238_3 : Ref sig .tc := ⟨.hbm, 362, rfl⟩
abbrev main_v238_4 : Ref sig .tc := ⟨.hbm, 363, rfl⟩
abbrev main_v238_5 : Ref sig .tc := ⟨.hbm, 364, rfl⟩
abbrev main_v238_6 : Ref sig .tc := ⟨.hbm, 365, rfl⟩
abbrev main_while2c_c_70 : Ref sig .tc := ⟨.hbm, 366, rfl⟩
abbrev main_while2c_v412 : Ref sig .tc := ⟨.hbm, 367, rfl⟩
abbrev main_while2b_call6_c : Ref sig .tc := ⟨.hbm, 368, rfl⟩
abbrev main_while2b_call6_c_0 : Ref sig .tc := ⟨.hbm, 369, rfl⟩
abbrev main_while2b_call6_v0 : Ref sig .tc := ⟨.hbm, 370, rfl⟩
abbrev main_while2b_v412 : Ref sig .tc := ⟨.hbm, 371, rfl⟩
abbrev main_while2b_call7_c : Ref sig .tc := ⟨.hbm, 372, rfl⟩
abbrev main_while2b_call7_c_0 : Ref sig .tc := ⟨.hbm, 373, rfl⟩
abbrev main_while2b_call7_v0 : Ref sig .tc := ⟨.hbm, 374, rfl⟩
abbrev main_while2b_v413 : Ref sig .tc := ⟨.hbm, 375, rfl⟩
abbrev main_while2b_cst_70 : Ref sig .tc := ⟨.hbm, 376, rfl⟩
abbrev main_while2b_v414 : Ref sig .tc := ⟨.hbm, 377, rfl⟩
abbrev main_while2b_v415 : Ref sig .tc := ⟨.hbm, 378, rfl⟩
abbrev main_while2b_v416 : Ref sig .tc := ⟨.hbm, 379, rfl⟩
abbrev main_while2b_v417 : Ref sig .tc := ⟨.hbm, 380, rfl⟩
abbrev main_while2b_v418 : Ref sig .tc := ⟨.hbm, 381, rfl⟩
abbrev main_while2b_v419 : Ref sig .tc := ⟨.hbm, 382, rfl⟩
abbrev main_while2b_v420 : Ref sig .tc := ⟨.hbm, 383, rfl⟩
abbrev main_while2b_v421 : Ref sig .tc := ⟨.hbm, 384, rfl⟩
abbrev main_while2b_v422 : Ref sig .tc := ⟨.hbm, 385, rfl⟩
abbrev main_while2b_v423 : Ref sig .tc := ⟨.hbm, 386, rfl⟩
abbrev main_while2b_call8_v0 : Ref sig .tc := ⟨.hbm, 387, rfl⟩
abbrev main_while2b_call8_c : Ref sig .tc := ⟨.hbm, 388, rfl⟩
abbrev main_while2b_call8_c_0 : Ref sig .tc := ⟨.hbm, 389, rfl⟩
abbrev main_while2b_v424 : Ref sig .tc := ⟨.hbm, 390, rfl⟩
abbrev main_while2b_c_71 : Ref sig .tc := ⟨.hbm, 391, rfl⟩
abbrev main_while2b_v425 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_v243 : Ref sig .tc := ⟨.hbm, 397, rfl⟩
abbrev main_v244 : Ref sig .tc := ⟨.hbm, 398, rfl⟩
abbrev main_v245 : Ref sig .tc := ⟨.hbm, 399, rfl⟩
abbrev main_cst_32 : Ref sig .tc := ⟨.hbm, 400, rfl⟩
abbrev main_v246 : Ref sig .tc := ⟨.hbm, 401, rfl⟩
abbrev main_v247 : Ref sig .tc := ⟨.hbm, 402, rfl⟩
abbrev main_cst_33 : Ref sig .tc := ⟨.hbm, 403, rfl⟩
abbrev main_v248 : Ref sig .tc := ⟨.hbm, 404, rfl⟩
abbrev main_v249 : Ref sig .tc := ⟨.hbm, 405, rfl⟩
abbrev main_v250 : Ref sig .tc := ⟨.hbm, 406, rfl⟩
abbrev main_v251 : Ref sig .tc := ⟨.hbm, 407, rfl⟩
abbrev main_v252 : Ref sig .tc := ⟨.hbm, 408, rfl⟩
abbrev main_v253 : Ref sig .tc := ⟨.hbm, 409, rfl⟩
abbrev main_v254 : Ref sig .tc := ⟨.hbm, 410, rfl⟩
abbrev main_v255 : Ref sig .tc := ⟨.hbm, 411, rfl⟩
abbrev main_v256 : Ref sig .tc := ⟨.hbm, 412, rfl⟩
abbrev main_v257 : Ref sig .tc := ⟨.hbm, 413, rfl⟩
abbrev main_v258 : Ref sig .tc := ⟨.hbm, 414, rfl⟩
abbrev main_v259 : Ref sig .tc := ⟨.hbm, 415, rfl⟩
abbrev main_v260 : Ref sig .tc := ⟨.hbm, 416, rfl⟩
abbrev main_v261 : Ref sig .tc := ⟨.hbm, 417, rfl⟩
abbrev main_v262 : Ref sig .tc := ⟨.hbm, 418, rfl⟩
abbrev main_v263 : Ref sig .tc := ⟨.hbm, 419, rfl⟩
abbrev main_v264 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_v270 : Ref sig .tc := ⟨.hbm, 426, rfl⟩
abbrev main_v271 : Ref sig .tc := ⟨.hbm, 427, rfl⟩
abbrev main_v272 : Ref sig .tc := ⟨.hbm, 428, rfl⟩
abbrev main_v273 : Ref sig .tc := ⟨.hbm, 429, rfl⟩
abbrev main_v274 : Ref sig .tc := ⟨.hbm, 430, rfl⟩
abbrev main_v275 : Ref sig .tc := ⟨.hbm, 431, rfl⟩
abbrev main_v276 : Ref sig .tc := ⟨.hbm, 432, rfl⟩
abbrev main_v277 : Ref sig .tc := ⟨.hbm, 433, rfl⟩
abbrev main_v278 : Ref sig .tc := ⟨.hbm, 434, rfl⟩
abbrev main_v279 : Ref sig .tc := ⟨.hbm, 435, rfl⟩
abbrev main_cst_34 : Ref sig .tc := ⟨.hbm, 436, rfl⟩
abbrev main_v280 : Ref sig .tc := ⟨.hbm, 437, rfl⟩
abbrev main_v281 : Ref sig .tc := ⟨.hbm, 438, rfl⟩
abbrev main_cst_35 : Ref sig .tc := ⟨.hbm, 439, rfl⟩
abbrev main_v282 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_v286 : Ref sig .tc := ⟨.hbm, 444, rfl⟩
abbrev main_cst_36 : Ref sig .tc := ⟨.hbm, 445, rfl⟩
abbrev main_v287 : Ref sig .tc := ⟨.hbm, 446, rfl⟩
abbrev main_v288 : Ref sig .tc := ⟨.hbm, 447, rfl⟩
abbrev main_cst_37 : Ref sig .tc := ⟨.hbm, 448, rfl⟩
abbrev main_v289 : Ref sig .tc := ⟨.hbm, 449, rfl⟩
abbrev main_v290 : Ref sig .tc := ⟨.hbm, 450, rfl⟩
abbrev main_v291 : Ref sig .tc := ⟨.hbm, 451, rfl⟩
abbrev main_v292 : Ref sig .tc := ⟨.hbm, 452, rfl⟩
abbrev main_cst_38 : Ref sig .tc := ⟨.hbm, 453, rfl⟩
abbrev main_v293 : Ref sig .tc := ⟨.hbm, 454, rfl⟩
abbrev main_v294 : Ref sig .tc := ⟨.hbm, 455, rfl⟩
abbrev main_v295 : Ref sig .tc := ⟨.hbm, 456, rfl⟩
abbrev main_v296 : Ref sig .tc := ⟨.hbm, 457, rfl⟩
abbrev main_v297 : Ref sig .tc := ⟨.hbm, 458, rfl⟩
abbrev main_v298 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_v302 : Ref sig .tc := ⟨.hbm, 463, rfl⟩
abbrev main_v303 : Ref sig .tc := ⟨.hbm, 464, rfl⟩
abbrev main_v304 : Ref sig .tc := ⟨.hbm, 465, rfl⟩
abbrev main_v305 : Ref sig .tc := ⟨.hbm, 466, rfl⟩
abbrev main_v306 : Ref sig .tc := ⟨.hbm, 467, rfl⟩
abbrev main_v307 : Ref sig .tc := ⟨.hbm, 468, rfl⟩
abbrev main_v308 : Ref sig .tc := ⟨.hbm, 469, rfl⟩
abbrev main_v309 : Ref sig .tc := ⟨.hbm, 470, rfl⟩
abbrev main_v310 : Ref sig .tc := ⟨.hbm, 471, rfl⟩
abbrev main_v311 : Ref sig .tc := ⟨.hbm, 472, rfl⟩
abbrev main_v312 : Ref sig .tc := ⟨.hbm, 473, rfl⟩
abbrev main_v313 : Ref sig .tc := ⟨.hbm, 474, rfl⟩
abbrev main_cst_39 : Ref sig .tc := ⟨.hbm, 475, rfl⟩
abbrev main_v314 : Ref sig .tc := ⟨.hbm, 476, rfl⟩
abbrev main_v315 : Ref sig .tc := ⟨.hbm, 477, rfl⟩
abbrev main_cst_40 : Ref sig .tc := ⟨.hbm, 478, rfl⟩
abbrev main_v316 : Ref sig .tc := ⟨.hbm, 479, rfl⟩
abbrev main_v317 : Ref sig .tc := ⟨.hbm, 480, rfl⟩
abbrev main_v318 : Ref sig .tc := ⟨.hbm, 481, rfl⟩
abbrev main_v319 : Ref sig .tc := ⟨.hbm, 482, rfl⟩
abbrev main_cst_41 : Ref sig .tc := ⟨.hbm, 483, rfl⟩
abbrev main_v320 : Ref sig .tc := ⟨.hbm, 484, rfl⟩
abbrev main_cst_42 : Ref sig .tc := ⟨.hbm, 485, rfl⟩
abbrev main_v321 : Ref sig .tc := ⟨.hbm, 486, rfl⟩
abbrev main_c_43 : Ref sig .tc := ⟨.hbm, 487, rfl⟩
abbrev main_v322_0 : Ref sig .tc := ⟨.hbm, 488, rfl⟩
abbrev main_v322_1 : Ref sig .tc := ⟨.hbm, 489, rfl⟩
abbrev main_v322_2 : Ref sig .tc := ⟨.hbm, 490, rfl⟩
abbrev main_v322_3 : Ref sig .tc := ⟨.hbm, 491, rfl⟩
abbrev main_v322_4 : Ref sig .tc := ⟨.hbm, 492, rfl⟩
abbrev main_v322_5 : Ref sig .tc := ⟨.hbm, 493, rfl⟩
abbrev main_v322_6 : Ref sig .tc := ⟨.hbm, 494, rfl⟩
abbrev main_while3c_c_70 : Ref sig .tc := ⟨.hbm, 495, rfl⟩
abbrev main_while3c_v412 : Ref sig .tc := ⟨.hbm, 496, rfl⟩
abbrev main_while3b_call9_c : Ref sig .tc := ⟨.hbm, 497, rfl⟩
abbrev main_while3b_call9_c_0 : Ref sig .tc := ⟨.hbm, 498, rfl⟩
abbrev main_while3b_call9_v0 : Ref sig .tc := ⟨.hbm, 499, rfl⟩
abbrev main_while3b_v412 : Ref sig .tc := ⟨.hbm, 500, rfl⟩
abbrev main_while3b_call10_c : Ref sig .tc := ⟨.hbm, 501, rfl⟩
abbrev main_while3b_call10_c_0 : Ref sig .tc := ⟨.hbm, 502, rfl⟩
abbrev main_while3b_call10_v0 : Ref sig .tc := ⟨.hbm, 503, rfl⟩
abbrev main_while3b_v413 : Ref sig .tc := ⟨.hbm, 504, rfl⟩
abbrev main_while3b_cst_70 : Ref sig .tc := ⟨.hbm, 505, rfl⟩
abbrev main_while3b_v414 : Ref sig .tc := ⟨.hbm, 506, rfl⟩
abbrev main_while3b_v415 : Ref sig .tc := ⟨.hbm, 507, rfl⟩
abbrev main_while3b_v416 : Ref sig .tc := ⟨.hbm, 508, rfl⟩
abbrev main_while3b_v417 : Ref sig .tc := ⟨.hbm, 509, rfl⟩
abbrev main_while3b_v418 : Ref sig .tc := ⟨.hbm, 510, rfl⟩
abbrev main_while3b_v419 : Ref sig .tc := ⟨.hbm, 511, rfl⟩
abbrev main_while3b_v420 : Ref sig .tc := ⟨.hbm, 512, rfl⟩
abbrev main_while3b_v421 : Ref sig .tc := ⟨.hbm, 513, rfl⟩
abbrev main_while3b_v422 : Ref sig .tc := ⟨.hbm, 514, rfl⟩
abbrev main_while3b_v423 : Ref sig .tc := ⟨.hbm, 515, rfl⟩
abbrev main_while3b_call11_v0 : Ref sig .tc := ⟨.hbm, 516, rfl⟩
abbrev main_while3b_call11_c : Ref sig .tc := ⟨.hbm, 517, rfl⟩
abbrev main_while3b_call11_c_0 : Ref sig .tc := ⟨.hbm, 518, rfl⟩
abbrev main_while3b_v424 : Ref sig .tc := ⟨.hbm, 519, rfl⟩
abbrev main_while3b_c_71 : Ref sig .tc := ⟨.hbm, 520, rfl⟩
abbrev main_while3b_v425 : Ref sig .tc := ⟨.hbm, 521, rfl⟩
abbrev main_v323 : Ref sig .tc := ⟨.hbm, 522, rfl⟩
abbrev main_v324 : Ref sig .tc := ⟨.hbm, 523, rfl⟩
abbrev main_v325 : Ref sig .tc := ⟨.hbm, 524, rfl⟩
abbrev main_v326 : Ref sig .tc := ⟨.hbm, 525, rfl⟩
abbrev main_v327 : Ref sig .tc := ⟨.hbm, 526, rfl⟩
abbrev main_v328 : Ref sig .tc := ⟨.hbm, 527, rfl⟩
abbrev main_v329 : Ref sig .tc := ⟨.hbm, 528, rfl⟩
abbrev main_cst_44 : Ref sig .tc := ⟨.hbm, 529, rfl⟩
abbrev main_v330 : Ref sig .tc := ⟨.hbm, 530, rfl⟩
abbrev main_v331 : Ref sig .tc := ⟨.hbm, 531, rfl⟩
abbrev main_cst_45 : Ref sig .tc := ⟨.hbm, 532, rfl⟩
abbrev main_v332 : Ref sig .tc := ⟨.hbm, 533, rfl⟩
abbrev main_v333 : Ref sig .tc := ⟨.hbm, 534, rfl⟩
abbrev main_v334 : Ref sig .tc := ⟨.hbm, 535, rfl⟩
abbrev main_v335 : Ref sig .tc := ⟨.hbm, 536, rfl⟩
abbrev main_v336 : Ref sig .tc := ⟨.hbm, 537, rfl⟩
abbrev main_v337 : Ref sig .tc := ⟨.hbm, 538, rfl⟩
abbrev main_v338 : Ref sig .tc := ⟨.hbm, 539, rfl⟩
abbrev main_v339 : Ref sig .tc := ⟨.hbm, 540, rfl⟩
abbrev main_v340 : Ref sig .tc := ⟨.hbm, 541, rfl⟩
abbrev main_v341 : Ref sig .tc := ⟨.hbm, 542, rfl⟩
abbrev main_cst_46 : Ref sig .tc := ⟨.hbm, 543, rfl⟩
abbrev main_v342 : Ref sig .tc := ⟨.hbm, 544, rfl⟩
abbrev main_v343 : Ref sig .tc := ⟨.hbm, 545, rfl⟩
abbrev main_cst_47 : Ref sig .tc := ⟨.hbm, 546, rfl⟩
abbrev main_v344 : Ref sig .tc := ⟨.hbm, 547, rfl⟩
abbrev main_v345 : Ref sig .tc := ⟨.hbm, 548, rfl⟩
abbrev main_v346 : Ref sig .tc := ⟨.hbm, 549, rfl⟩
abbrev main_v347 : Ref sig .tc := ⟨.hbm, 550, rfl⟩
abbrev main_v348 : Ref sig .tc := ⟨.hbm, 551, rfl⟩
abbrev main_cst_48 : Ref sig .tc := ⟨.hbm, 552, rfl⟩
abbrev main_v349 : Ref sig .tc := ⟨.hbm, 553, rfl⟩
abbrev main_v350 : Ref sig .tc := ⟨.hbm, 554, rfl⟩
abbrev main_cst_49 : Ref sig .tc := ⟨.hbm, 555, rfl⟩
abbrev main_v351 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_50 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_v358 : Ref sig .tc := ⟨.hbm, 564, rfl⟩
abbrev main_v359 : Ref sig .tc := ⟨.hbm, 565, rfl⟩
abbrev main_v360 : Ref sig .tc := ⟨.hbm, 566, rfl⟩
abbrev main_v361 : Ref sig .tc := ⟨.hbm, 567, rfl⟩
abbrev main_v362 : Ref sig .tc := ⟨.hbm, 568, rfl⟩
abbrev main_v363 : Ref sig .tc := ⟨.hbm, 569, rfl⟩
abbrev main_v364 : Ref sig .tc := ⟨.hbm, 570, rfl⟩
abbrev main_v365 : Ref sig .tc := ⟨.hbm, 571, rfl⟩
abbrev main_v366 : Ref sig .tc := ⟨.hbm, 572, rfl⟩
abbrev main_v367 : Ref sig .tc := ⟨.hbm, 573, rfl⟩
abbrev main_v368 : Ref sig .tc := ⟨.hbm, 574, rfl⟩
abbrev main_v369 : Ref sig .tc := ⟨.hbm, 575, rfl⟩
abbrev main_cst_51 : Ref sig .tc := ⟨.hbm, 576, rfl⟩
abbrev main_v370 : Ref sig .tc := ⟨.hbm, 577, rfl⟩
abbrev main_v371 : Ref sig .tc := ⟨.hbm, 578, rfl⟩
abbrev main_cst_52 : Ref sig .tc := ⟨.hbm, 579, rfl⟩
abbrev main_v372 : Ref sig .tc := ⟨.hbm, 580, rfl⟩
abbrev main_v373 : Ref sig .tc := ⟨.hbm, 581, rfl⟩
abbrev main_v374 : Ref sig .tc := ⟨.hbm, 582, rfl⟩
abbrev main_cst_53 : Ref sig .tc := ⟨.hbm, 583, rfl⟩
abbrev main_v375 : Ref sig .tc := ⟨.hbm, 584, rfl⟩
abbrev main_v376 : Ref sig .tc := ⟨.hbm, 585, rfl⟩
abbrev main_cst_54 : Ref sig .tc := ⟨.hbm, 586, rfl⟩
abbrev main_v377 : Ref sig .tc := ⟨.hbm, 587, rfl⟩
abbrev main_v378 : Ref sig .tc := ⟨.hbm, 588, rfl⟩
abbrev main_cst_55 : Ref sig .tc := ⟨.hbm, 589, rfl⟩
abbrev main_v379 : Ref sig .tc := ⟨.hbm, 590, rfl⟩
abbrev main_v380 : Ref sig .tc := ⟨.hbm, 591, rfl⟩
abbrev main_cst_56 : Ref sig .tc := ⟨.hbm, 592, rfl⟩
abbrev main_v381 : Ref sig .tc := ⟨.hbm, 593, rfl⟩
abbrev main_v382 : Ref sig .tc := ⟨.hbm, 594, rfl⟩
abbrev main_cst_57 : Ref sig .tc := ⟨.hbm, 595, rfl⟩
abbrev main_v383 : Ref sig .tc := ⟨.hbm, 596, rfl⟩
abbrev main_v384 : Ref sig .tc := ⟨.hbm, 597, rfl⟩
abbrev main_v385 : Ref sig .tc := ⟨.hbm, 598, rfl⟩
abbrev main_cst_58 : Ref sig .tc := ⟨.hbm, 599, rfl⟩
abbrev main_v386 : Ref sig .tc := ⟨.hbm, 600, rfl⟩
abbrev main_v387 : Ref sig .tc := ⟨.hbm, 601, rfl⟩
abbrev main_v388 : Ref sig .tc := ⟨.hbm, 602, rfl⟩
abbrev main_cst_59 : Ref sig .tc := ⟨.hbm, 603, rfl⟩
abbrev main_v389 : Ref sig .tc := ⟨.hbm, 604, rfl⟩
abbrev main_v390 : Ref sig .tc := ⟨.hbm, 605, rfl⟩
abbrev main_v391 : Ref sig .tc := ⟨.hbm, 606, rfl⟩
abbrev main_cst_60 : Ref sig .tc := ⟨.hbm, 607, rfl⟩
abbrev main_v392 : Ref sig .tc := ⟨.hbm, 608, rfl⟩
abbrev main_v393 : Ref sig .tc := ⟨.hbm, 609, rfl⟩
abbrev main_v394 : Ref sig .tc := ⟨.hbm, 610, rfl⟩
abbrev main_v395 : Ref sig .tc := ⟨.hbm, 611, rfl⟩
abbrev main_v396 : Ref sig .tc := ⟨.hbm, 612, rfl⟩
abbrev main_v397 : Ref sig .tc := ⟨.hbm, 613, rfl⟩
abbrev main_v398 : Ref sig .tc := ⟨.hbm, 614, rfl⟩
abbrev main_cst_61 : Ref sig .tc := ⟨.hbm, 615, rfl⟩
abbrev main_v399 : Ref sig .tc := ⟨.hbm, 616, rfl⟩
abbrev main_v400 : Ref sig .tc := ⟨.hbm, 617, rfl⟩
abbrev main_cst_62 : Ref sig .tc := ⟨.hbm, 618, rfl⟩
abbrev main_v401 : Ref sig .tc := ⟨.hbm, 619, rfl⟩
abbrev main_v402 : Ref sig .tc := ⟨.hbm, 620, rfl⟩
abbrev main_v403 : Ref sig .tc := ⟨.hbm, 621, rfl⟩
abbrev main_v404 : Ref sig .tc := ⟨.hbm, 622, rfl⟩
abbrev main_cst_63 : Ref sig .tc := ⟨.hbm, 623, rfl⟩
abbrev main_v405 : Ref sig .tc := ⟨.hbm, 624, rfl⟩
abbrev main_v406 : Ref sig .tc := ⟨.hbm, 625, rfl⟩
abbrev main_v407 : Ref sig .tc := ⟨.hbm, 626, rfl⟩
abbrev main_v408 : Ref sig .tc := ⟨.hbm, 627, rfl⟩
abbrev main_v409 : Ref sig .tc := ⟨.hbm, 628, rfl⟩
abbrev main_v410 : Ref sig .tc := ⟨.hbm, 629, rfl⟩
abbrev main_v411 : Ref sig .tc := ⟨.hbm, 630, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩

abbrev main_while2_count : Scf.Loop 32 := ⟨0#32, 2048#32, 1#32⟩

abbrev main_while3_count : Scf.Loop 32 := ⟨0#32, 2048#32, 1#32⟩
-- ==== Proof.QuadPay.lean ====
module

public import proofs.«01_k».proof.Proof.Gen.KernelIdeal.Skeleton

@[expose] public section

set_option maxRecDepth 16384

noncomputable section

namespace Cert.Quad

open Idealize.ShloMosaic Idealize.SL.Sem
open Cert.KernelIdeal Cert.KernelIdeal.Gen

variable {F : FTy → Type} [FloatOps F]

/-- The layer normalisation of one sub-block of 256 rows, as the body computes it. -/
def lnP (rows : FVec F S256x512 .f32) (g b : Vec F S1x512 .f32) : FVec F S256x512 .bf16 :=
  let mu := broadcastTo S256x512 (divf (shapeCast S256x1 (multiReduction .add [1] S256 rows 0x00000000#32 reduces_S256x512_S256 (.inl rfl) rfl) shapeCasts_S256_S256x1) (broadcast S256x1 (Scalar.ofBits .f32 0x44000000#32))) broadcasts_S256x1_S256x512
  let ctr := subf rows mu
  let var := divf (shapeCast S256x1 (multiReduction .add [1] S256 (mulf ctr ctr) 0x00000000#32 reduces_S256x512_S256 (.inl rfl) rfl) shapeCasts_S256_S256x1) (broadcast S256x1 (Scalar.ofBits .f32 0x44000000#32))
  let inv := broadcastTo S256x512 (rsqrt (addf var (broadcast S256x1 (Scalar.ofBits .f32 0x3727C5AC#32)))) broadcasts_S256x1_S256x512
  truncf .bf16 (addf (mulf (mulf ctr inv) (broadcastTo S256x512 (shapeCast S1x512 g shapeCasts_S1x512_S1x512) broadcasts_S1x512_S256x512))
    (broadcastTo S256x512 (shapeCast S1x512 b shapeCasts_S1x512_S1x512) broadcasts_S1x512_S256x512)) bitsLt_bf16_f32

/-- A product with a 512×64 weight and its bias added. -/
def xpP (xn : FVec F S256x512 .bf16) (W : Vec F S512x64 .bf16) (b : Vec F S1x64 .f32) : FVec F S256x64 .f32 :=
  addf (matmul dot_S256x512_S512x64_S256x64_1_0_0_1_n_n none xn (shapeCast S512x64 W shapeCasts_S512x64_S512x64) (constant S256x64 .f32 0x00000000#32))
    (broadcastTo S256x64 (shapeCast S1x64 b shapeCasts_S1x64_S1x64) broadcasts_S1x64_S256x64)

/-- The gate of one sub-block. -/
def gateP (xn : FVec F S256x512 .bf16) (W : Vec F S512x512 .bf16) (b : Vec F S1x512 .f32) : FVec F S256x512 .bf16 :=
  shapeCast S256x512 (truncf .bf16 (logistic (addf (matmul dot_S256x512_S512x512_S256x512_1_0_0_1_n_n none xn (shapeCast S512x512 W shapeCasts_S512x512_S512x512) (constant S256x512 .f32 0x00000000#32))
    (broadcastTo S256x512 (shapeCast S1x512 b shapeCasts_S1x512_S1x512) broadcasts_S1x512_S256x512))) bitsLt_bf16_f32) shapeCasts_S256x512_S256x512

/-- A slice of 32 rows of a sub-block of 256 rows fits. -/
theorem slices_k (k : ℕ) (hk : k < 8) : S256x64.Slices ![32 * k, 0] S32x64 := by
  exact (by decide : ∀ k : Fin 8, S256x64.Slices ![32 * k.val, 0] S32x64) ⟨k, hk⟩

/-- One step of the recurrence: the state after it. -/
def stepP (k : ℕ) (hk : k < 8) (xp dl : FVec F S256x64 .f32) (st : Vec F S32x64 .f32) (At : Vec F S64x64 .f32) : Vec F S32x64 .f32 :=
  let xt := extractStridedSlice S32x64 ![32 * k, 0] xp (slices_k k hk)
  let dt := extractStridedSlice S32x64 ![32 * k, 0] dl (slices_k k hk)
  let sA := matmul dot_S32x64_S64x64_S32x64_1_0_0_1_n_n none st (shapeCast S64x64 At shapeCasts_S64x64_S64x64) (constant S32x64 .f32 0x00000000#32)
  addf (mulf (subf (broadcast S32x64 (Scalar.ofBits .f32 0x3F800000#32)) dt) st) (mulf dt (addf sA xt))

/-- The eight states of a sub-block, stacked. -/
def catP (s0 s1 s2 s3 s4 s5 s6 s7 : FVec F S32x64 .f32) : FVec F S256x64 .bf16 :=
  truncf .bf16 (concatenate S256x64 0 [⟨S32x64, s0⟩, ⟨S32x64, s1⟩, ⟨S32x64, s2⟩, ⟨S32x64, s3⟩, ⟨S32x64, s4⟩, ⟨S32x64, s5⟩, ⟨S32x64, s6⟩, ⟨S32x64, s7⟩] concatenates_S32x64_S32x64_S32x64_S32x64_S32x64_S32x64_S32x64_S32x64_S256x64_d0) bitsLt_bf16_f32

/-- What the layer writes for one sub-block: the gated product of the stacked states, the output bias and the residual. -/
def postP (sts : FVec F S256x64 .bf16) (Ct : Vec F S64x512 .bf16) (g : Vec F S256x512 .bf16) (oW : Vec F S512x512 .bf16)
    (res : FVec F S256x512 .f32) (ob : Vec F S1x512 .f32) : FVec F S256x512 .f32 :=
  let sC := matmul dot_S256x64_S64x512_S256x512_1_0_0_1_n_n none sts (shapeCast S64x512 Ct shapeCasts_S64x512_S64x512) (constant S256x512 .f32 0x00000000#32)
  let out := matmul dot_S256x512_S512x512_S256x512_1_0_0_1_n_n none (mulf g (truncf .bf16 sC bitsLt_bf16_f32)) (shapeCast S512x512 oW shapeCasts_S512x512_S512x512) (constant S256x512 .f32 0x00000000#32)
  addf (addf out (broadcastTo S256x512 (shapeCast S1x512 ob shapeCasts_S1x512_S1x512) broadcasts_S1x512_S256x512)) res

end Cert.Quad
-- ==== Proof.QuadProg.lean ====
module

public import proofs.«01_k».proof.Proof.QuadPay

@[expose] public section

set_option maxRecDepth 16384

noncomputable section

namespace Cert.Quad

open Idealize.ShloMosaic Idealize.SL.Sem
open Cert.KernelIdeal Cert.KernelIdeal.Gen

variable {F : FTy → Type} [FloatOps F]

/-- A program of the body. -/
abbrev PG (F : FTy → Type) [FloatOps F] := Prog (TpuEff nD τ sig (Elt F) Λ₀ .tc) PUnit

/-- A buffer in vector memory. -/
abbrev Mr (s : Shape) (e : EltTy) := Memref sig .tc .vmem s e

/-- The weights of one layer, as the body holds them. -/
structure LRefs where
  lng : Mr S1x512 .f32
  lnb : Mr S1x512 .f32
  xpW : Mr S512x64 .bf16
  xpb : Mr S1x64 .f32
  dpW : Mr S512x64 .bf16
  dpb : Mr S1x64 .f32
  At : Mr S64x64 .f32
  Ct : Mr S64x512 .bf16
  gW : Mr S512x512 .bf16
  gb : Mr S1x512 .f32
  oW : Mr S512x512 .bf16
  ob : Mr S1x512 .f32

/-- Sub-block `s` of a chunk of 2048 rows fits. -/
theorem inb_rows (s : ℕ) (hs : s < 8) : ∀ a, (![256 * s, 0] : Fin 2 → ℕ) a + S256x512.size a ≤ S2048x512.size a :=
  (by decide : ∀ s : Fin 8, ∀ a, (![256 * s.val, 0] : Fin 2 → ℕ) a + S256x512.size a ≤ S2048x512.size a) ⟨s, hs⟩

/-- The rows of sub-block `s` in a chunk. -/
abbrev rowsR (s : ℕ) (hs : s < 8) : Rect S2048x512 := Rect.unit (s := S2048x512) ![256 * s, 0] S256x512.size (inb_rows s hs)

/-- Where sub-block `s` of the ring slot `(n + c) mod 2` begins. -/
def ringOff (n : ℕ) (c : BitVec 32) (s : ℕ) : Fin 3 → ℕ :=
  ![(Scalar.indexCast (Scalar.remsi (Scalar.addi (BitVec.ofNat 32 n) c) 2#32)).toNat, 256 * s, 0]

/-- The slot's number is 0 or 1. -/
theorem ringSlot (n : ℕ) (hn : n < 33) (c : Fin 2) :
    (Scalar.indexCast (Scalar.remsi (Scalar.addi (BitVec.ofNat 32 n) (BitVec.ofNat 32 c.val)) 2#32)).toNat = (n + c.val) % 2 :=
  (by decide +kernel : ∀ (n : Fin 33) (c : Fin 2), (Scalar.indexCast (Scalar.remsi (Scalar.addi (BitVec.ofNat 32 n.val) (BitVec.ofNat 32 c.val)) 2#32)).toNat = (n.val + c.val) % 2) ⟨n, hn⟩ c

/-- A sub-block of a ring slot fits. -/
theorem inb_ring (n : ℕ) (hn : n < 33) (c : Fin 2) (s : ℕ) (hs : s < 8) :
    ∀ a, ringOff n (BitVec.ofNat 32 c.val) s a + S1x256x512.size a ≤ S2x2048x512.size a := by
  unfold ringOff
  rw [ringSlot n hn c]
  intro a
  match a with
  | 0 => show (n + c.val) % 2 + 1 ≤ 2; omega
  | 1 => show 256 * s + 256 ≤ 2048; omega
  | 2 => show 0 + 512 ≤ 512; omega

/-- The rows of sub-block `s` in ring slot `(n + c) mod 2`. -/
abbrev ringR (n : ℕ) (hn : n < 33) (c : Fin 2) (s : ℕ) (hs : s < 8) : Rect S2x2048x512 :=
  Rect.unit (s := S2x2048x512) (ringOff n (BitVec.ofNat 32 c.val) s) S1x256x512.size (inb_ring n hn c s hs)

/-- The whole of a buffer, as the body names it. -/
abbrev allR (s : Shape) (off : Fin s.rank → ℕ) (h : ∀ a, off a + s.size a ≤ s.size a) : Rect s := Rect.unit (s := s) off s.size h

/-- Read a whole buffer of two axes. -/
def rd {d : Fin 2 → ℕ} {e : EltTy} (m : Mr ⟨2, d⟩ e) (inb : ∀ a, (![0, 0] : Fin 2 → ℕ) a + d a ≤ d a) (h : 0 < (⟨2, d⟩ : Shape).numel)
    (k : ((⟨2, d⟩ : Shape).Idx → Elt F e) → PG F) : PG F :=
  Prog.op (.load m (Rect.unit (s := ⟨2, d⟩) ![0, 0] d inb).toLoadRect (View.loadsAt_vmem h)) k

/-- How a layer reads its input rows and writes its output rows. -/
structure IO (F : FTy → Type) [FloatOps F] where
  rows : (s : ℕ) → s < 8 → (FVec F S256x512 .f32 → PG F) → PG F
  put : (s : ℕ) → s < 8 → FVec F S256x512 .f32 → PG F → PG F

/-- The first layer reads the fetched chunk and writes its slot of the ring. -/
def ioA (n : ℕ) (hn : n < 33) (X : Mr S2048x512 .f32) (R : Mr S2x2048x512 .f32) : IO F where
  rows s hs k := Prog.op (.load X (rowsR s hs).toLoadRect (View.loadsAt_vmem h_S256x512)) fun v =>
    k (shapeCast S256x512 v shapeCasts_S256x512_S256x512)
  put s hs v k := Prog.op (.load R (ringR n hn 0 s hs).toLoadRect (View.loadsAt_vmem h_S1x256x512)) fun _ =>
    Prog.op (.store R (ringR n hn 0 s hs) (shapeCast S1x256x512 v shapeCasts_S256x512_S1x256x512) Finset.univ
      (View.stores_vmem_bits_univ h_S1x256x512 rfl) (.inl rfl)) fun _ => k

/-- The second layer reads the other slot of the ring and writes the output chunk. -/
def ioB (n : ℕ) (hn : n < 33) (R : Mr S2x2048x512 .f32) (O : Mr S2048x512 .f32) : IO F where
  rows s hs k := Prog.op (.load R (ringR n hn 1 s hs).toLoadRect (View.loadsAt_vmem h_S1x256x512)) fun v =>
    k (shapeCast S256x512 v shapeCasts_S1x256x512_S256x512)
  put s hs v k := Prog.op (.load O (rowsR s hs).toLoadRect (View.loadsAt_vmem h_S256x512)) fun _ =>
    Prog.op (.store O (rowsR s hs) v Finset.univ
      (View.stores_vmem_bits_univ h_S256x512 rfl) (.inl rfl)) fun _ => k

/-- The normalisation of sub-block `s`. -/
def lnOp (io : IO F) (W : LRefs) (s : ℕ) (hs : s < 8) (k : FVec F S256x512 .bf16 → PG F) : PG F :=
  io.rows s hs fun x => rd W.lng inb_S1x512_S1x512_0_0 h_S1x512 fun g => rd W.lnb inb_S1x512_S1x512_0_0 h_S1x512 fun b => k (lnP x g b)

/-- The input projection of a sub-block. -/
def xpOp (W : LRefs) (xn : FVec F S256x512 .bf16) (k : FVec F S256x64 .f32 → PG F) : PG F :=
  rd W.xpW inb_S512x64_S512x64_0_0 h_S512x64 fun w => rd W.xpb inb_S1x64_S1x64_0_0 h_S1x64 fun b => k (xpP xn w b)

/-- The step sizes of a sub-block. -/
def dlOp (W : LRefs) (xn : FVec F S256x512 .bf16) (k : FVec F S256x64 .f32 → PG F) : PG F :=
  rd W.dpW inb_S512x64_S512x64_0_0 h_S512x64 fun w => rd W.dpb inb_S1x64_S1x64_0_0 h_S1x64 fun b => k (logistic (xpP xn w b))

/-- The gate of a sub-block, put in the buffer `G`. -/
def gateOp (W : LRefs) (G : Mr S256x512 .bf16) (hG : G.IsWhole) (xn : FVec F S256x512 .bf16) (k : PG F) : PG F :=
  rd W.gW inb_S512x512_S512x512_0_0 h_S512x512 fun w => rd W.gb inb_S1x512_S1x512_0_0 h_S1x512 fun b =>
  rd (F := F) G inb_S256x512_S256x512_0_0 h_S256x512 fun _ =>
  Prog.op (.store G (Rect.unit (s := S256x512) ![0, 0] S256x512.size inb_S256x512_S256x512_0_0) (gateP xn w b) Finset.univ
    (View.stores_vmem h_S256x512 (hG.storeExact_slice rfl _ packedbf16_S256x512_S256x512_0_0) (fun _ => rfl)) (.inl rfl)) fun _ => k

/-- The output of sub-block `s`, put where the layer writes. -/
def postOp (io : IO F) (W : LRefs) (G : Mr S256x512 .bf16) (s : ℕ) (hs : s < 8) (sts : FVec F S256x64 .bf16) (k : PG F) : PG F :=
  rd W.Ct inb_S64x512_S64x512_0_0 h_S64x512 fun c => rd G inb_S256x512_S256x512_0_0 h_S256x512 fun g =>
  rd W.oW inb_S512x512_S512x512_0_0 h_S512x512 fun o => io.rows s hs fun res => rd W.ob inb_S1x512_S1x512_0_0 h_S1x512 fun b =>
  io.put s hs (postP sts c g o res b) k

/-- One step of the recurrence. -/
def stepOp (W : LRefs) (j : ℕ) (hj : j < 8) (xp dl : FVec F S256x64 .f32) (st : Vec F S32x64 .f32) (k : Vec F S32x64 .f32 → PG F) : PG F :=
  rd W.At inb_S64x64_S64x64_0_0 h_S64x64 fun a => k (stepP j hj xp dl st a)

/-- What a layer carries from one sub-block to the next: the state, the sub-block's two projections, the states of the sub-block
    before, stacked. -/
structure Car (F : FTy → Type) [FloatOps F] where
  st : Vec F S32x64 .f32
  xp : FVec F S256x64 .f32
  dl : FVec F S256x64 .f32
  sts : FVec F S256x64 .bf16

/-- A layer's output of sub-block `s - 1`, when there is one. -/
def postIf : (s : ℕ) → s < 9 → IO F → LRefs → Mr S256x512 .bf16 → FVec F S256x64 .bf16 → PG F → PG F
  | 0, _, _, _, _, _, k => k
  | s + 1, h, io, W, G, sts, k => postOp io W G s (by omega) sts k

/-- The normalisation of the next sub-block, when there is one. -/
def lnIf (more : Bool) (io : IO F) (W : LRefs) (s : ℕ) (h : more = true → s < 8) (k : FVec F S256x512 .bf16 → PG F) : PG F :=
  match more, h with
  | true, h => lnOp io W s (h rfl) k
  | false, _ => k (truncf .bf16 (constant S256x512 .f32 0x00000000#32) bitsLt_bf16_f32)

/-- The next sub-block's input projection, when there is one. -/
def xpIf (more : Bool) (W : LRefs) (xn : FVec F S256x512 .bf16) (k : FVec F S256x64 .f32 → PG F) : PG F :=
  match more with
  | true => xpOp W xn k
  | false => k (constant S256x64 .f32 0x00000000#32)

/-- The next sub-block's step sizes, when there is one. -/
def dlIf (more : Bool) (W : LRefs) (xn : FVec F S256x512 .bf16) (k : FVec F S256x64 .f32 → PG F) : PG F :=
  match more with
  | true => dlOp W xn k
  | false => k (constant S256x64 .f32 0x00000000#32)

/-- The next sub-block's gate, when there is one. -/
def gateIf (more : Bool) (W : LRefs) (G : Mr S256x512 .bf16) (hG : G.IsWhole) (xn : FVec F S256x512 .bf16) (k : PG F) : PG F :=
  match more with
  | true => gateOp W G hG xn k
  | false => k

/-- The two layers' work for sub-block `s`: eight steps each, in turn; the outputs of the sub-block before and the
    projections of the next are spread over the steps. -/
def blk (s : ℕ) (hs : s < 8) (more : Bool) (hm : more = true → s + 1 < 8) (ia ib : IO F) (Wa Wb : LRefs)
    (Ga Gb : Mr S256x512 .bf16) (hGa : Ga.IsWhole) (hGb : Gb.IsWhole) (ca cb : Car F) (k : Car F → Car F → PG F) : PG F :=
  postIf s (by omega) ib Wb Gb cb.sts <| stepOp Wb 0 (by omega) cb.xp cb.dl cb.st fun b0 =>
  postIf s (by omega) ia Wa Ga ca.sts <| stepOp Wa 0 (by omega) ca.xp ca.dl ca.st fun a0 =>
  lnIf more ib Wb (s + 1) hm fun xnb => stepOp Wb 1 (by omega) cb.xp cb.dl b0 fun b1 =>
  lnIf more ia Wa (s + 1) hm fun xna => stepOp Wa 1 (by omega) ca.xp ca.dl a0 fun a1 =>
  xpIf more Wb xnb fun xpb => stepOp Wb 2 (by omega) cb.xp cb.dl b1 fun b2 =>
  xpIf more Wa xna fun xpa => stepOp Wa 2 (by omega) ca.xp ca.dl a1 fun a2 =>
  dlIf more Wb xnb fun dlb => stepOp Wb 3 (by omega) cb.xp cb.dl b2 fun b3 =>
  dlIf more Wa xna fun dla => stepOp Wa 3 (by omega) ca.xp ca.dl a2 fun a3 =>
  gateIf more Wb Gb hGb xnb <| stepOp Wb 4 (by omega) cb.xp cb.dl b3 fun b4 =>
  gateIf more Wa Ga hGa xna <| stepOp Wa 4 (by omega) ca.xp ca.dl a3 fun a4 =>
  stepOp Wb 5 (by omega) cb.xp cb.dl b4 fun b5 => stepOp Wa 5 (by omega) ca.xp ca.dl a4 fun a5 =>
  stepOp Wb 6 (by omega) cb.xp cb.dl b5 fun b6 => stepOp Wa 6 (by omega) ca.xp ca.dl a5 fun a6 =>
  stepOp Wb 7 (by omega) cb.xp cb.dl b6 fun b7 => stepOp Wa 7 (by omega) ca.xp ca.dl a6 fun a7 =>
  k ⟨a7, xpa, dla, catP a0 a1 a2 a3 a4 a5 a6 a7⟩ ⟨b7, xpb, dlb, catP b0 b1 b2 b3 b4 b5 b6 b7⟩

/-- The first sub-block of a layer prepared. -/
def startOp (io : IO F) (W : LRefs) (G : Mr S256x512 .bf16) (hG : G.IsWhole) (st : Vec F S32x64 .f32) (k : Car F → PG F) : PG F :=
  lnOp io W 0 (by omega) fun xn => xpOp W xn fun xp => dlOp W xn fun dl => gateOp W G hG xn <|
  k ⟨st, xp, dl, truncf .bf16 (constant S256x64 .f32 0x00000000#32) bitsLt_bf16_f32⟩

/-- A state as a chunk begins: zero unless the chunk's number is past `c`. -/
def stP (n : ℕ) (c : BitVec 32) (v : Vec F S32x64 .f32) : Vec F S32x64 .f32 :=
  Scalar.select (Scalar.cmpi .sgt (BitVec.ofNat 32 n) c) v (broadcast S32x64 (Scalar.ofBits .f32 0x00000000#32))

/-- The body of the two-layer call over its buffers. -/
def quad (n : ℕ) (hn : n < 33) (X : Mr S2048x512 .f32) (Wa Wb : LRefs) (O : Mr S2048x512 .f32) (R : Mr S2x2048x512 .f32)
    (Sa Sb : Mr S32x64 .f32) (Ga Ga' Gb Gb' : Mr S256x512 .bf16) (ha : Ga.IsWhole) (ha' : Ga'.IsWhole) (hb : Gb.IsWhole)
    (hb' : Gb'.IsWhole) : PG F :=
  let ia : IO F := ioA n hn X R
  let ib : IO F := ioB n hn R O
  rd Sb inb_S32x64_S32x64_0_0 h_S32x64 fun sb => rd Sa inb_S32x64_S32x64_0_0 h_S32x64 fun sa =>
  startOp ib Wb Gb hb (stP n 1#32 sb) fun cb0 => startOp ia Wa Ga ha (stP n 0#32 sa) fun ca0 =>
  blk 0 (by omega) true (fun _ => by omega) ia ib Wa Wb Ga' Gb' ha' hb' ca0 cb0 fun ca1 cb1 =>
  blk 1 (by omega) true (fun _ => by omega) ia ib Wa Wb Ga Gb ha hb ca1 cb1 fun ca2 cb2 =>
  blk 2 (by omega) true (fun _ => by omega) ia ib Wa Wb Ga' Gb' ha' hb' ca2 cb2 fun ca3 cb3 =>
  blk 3 (by omega) true (fun _ => by omega) ia ib Wa Wb Ga Gb ha hb ca3 cb3 fun ca4 cb4 =>
  blk 4 (by omega) true (fun _ => by omega) ia ib Wa Wb Ga' Gb' ha' hb' ca4 cb4 fun ca5 cb5 =>
  blk 5 (by omega) true (fun _ => by omega) ia ib Wa Wb Ga Gb ha hb ca5 cb5 fun ca6 cb6 =>
  blk 6 (by omega) true (fun _ => by omega) ia ib Wa Wb Ga' Gb' ha' hb' ca6 cb6 fun ca7 cb7 =>
  blk 7 (by omega) false (fun h => nomatch h) ia ib Wa Wb Ga Gb ha hb ca7 cb7 fun ca8 cb8 =>
  postOp ib Wb Gb' 7 (by omega) cb8.sts <| postOp ia Wa Ga' 7 (by omega) ca8.sts <|
  rd (F := F) Sa inb_S32x64_S32x64_0_0 h_S32x64 fun _ =>
  Prog.op (.store Sa (Rect.unit (s := S32x64) ![0, 0] S32x64.size inb_S32x64_S32x64_0_0) (shapeCast S32x64 ca8.st shapeCasts_S32x64_S32x64) Finset.univ
    (View.stores_vmem_bits_univ h_S32x64 rfl) (.inl rfl)) fun _ =>
  rd (F := F) Sb inb_S32x64_S32x64_0_0 h_S32x64 fun _ =>
  Prog.op (.store Sb (Rect.unit (s := S32x64) ![0, 0] S32x64.size inb_S32x64_S32x64_0_0) (shapeCast S32x64 cb8.st shapeCasts_S32x64_S32x64) Finset.univ
    (View.stores_vmem_bits_univ h_S32x64 rfl) (.inl rfl)) fun _ => Prog.ret ⟨⟩

end Cert.Quad
-- ==== Proof.QuadMem.lean ====
module

public import proofs.«01_k».proof.Proof.QuadProg
public import proofs.«01_k».proof.Proof.Gen.KernelIdeal.Launch
public import Idealize.ShloMosaic.Lib.VecWindow
public import Idealize.ShloMosaic.Lib.Pipeline.FrameBody
public import Idealize.ShloMosaic.Lib.Tactic

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F]

/-- Assertions about the machine's state. -/
abbrev SP (F : FTy → Type) [FloatOps F] := sProp (MT nD τ sig Unit (Elt F) ℕ (UR sig nD τ) ℕ)

/-- Running a body's program on core `c` to the post `Q`. -/
abbrev Wp (c : Dev nD) (p : PG F) (Q : PUnit → SP F) : SP F :=
  wp frame (wpE (defs₀ (F := F)) Variants.none (c : Thread nD τ) none) Set.univ p Q

/-- Core `c` holds the buffer `m` whole and reads `X` through it. -/
abbrev Own (c : Dev nD) {s : Shape} {e : EltTy} (m : Mr s e) (X : s.Idx → Elt F e) : SP F :=
  owns (Ix := Unit) (Name := ℕ) (U := UR sig nD τ) (Lvl := ℕ) (c : Thread nD τ) m fullShare X

/-- From `P` the step `T` hands its continuation `a` and leaves `P'`. -/
def Does (c : Dev nD) {A : Type} (P : SP F) (T : (A → PG F) → PG F) (a : A) (P' : SP F) : Prop :=
  ∀ (k : A → PG F) (Q : PUnit → SP F), iprop(P ∗ (P' -∗ Wp c (k a) Q)) ⊢ Wp c (T k) Q

/-- From `P` the step `T` leaves `P'`. -/
def Makes (c : Dev nD) (P : SP F) (V : PG F → PG F) (P' : SP F) : Prop :=
  ∀ (k : PG F) (Q : PUnit → SP F), iprop(P ∗ (P' -∗ Wp c k Q)) ⊢ Wp c (V k) Q

section Combine

variable {c : Dev nD} {A : Type} {P P' R : SP F} {T : (A → PG F) → PG F} {V : PG F → PG F} {a : A}

theorem Does.step (h : Does c P T a P') {k : A → PG F} {Q : PUnit → SP F} (hk : P' ⊢ Wp c (k a) Q) : P ⊢ Wp c (T k) Q := by
  refine BIBase.Entails.trans ?_ (h k Q)
  iintro H
  isplitl [H]; · iexact H
  iintro H'
  iapply hk $$ H'

theorem Does.left (h : Does c P T a P') : Does c iprop(P ∗ R) T a iprop(P' ∗ R) := by
  intro k Q
  refine BIBase.Entails.trans ?_ (h k Q)
  iintro ⟨⟨H, HR⟩, Hw⟩
  isplitl [H]; · iexact H
  iintro H'
  iapply Hw
  isplitl [H']; · iexact H'
  iexact HR

theorem Does.right (h : Does c P T a P') : Does c iprop(R ∗ P) T a iprop(R ∗ P') := by
  intro k Q
  refine BIBase.Entails.trans ?_ (h k Q)
  iintro ⟨⟨HR, H⟩, Hw⟩
  isplitl [H]; · iexact H
  iintro H'
  iapply Hw
  isplitl [HR]; · iexact HR
  iexact H'

theorem Makes.step (h : Makes c P V P') {k : PG F} {Q : PUnit → SP F} (hk : P' ⊢ Wp c k Q) : P ⊢ Wp c (V k) Q := by
  refine BIBase.Entails.trans ?_ (h k Q)
  iintro H
  isplitl [H]; · iexact H
  iintro H'
  iapply hk $$ H'

theorem Makes.left (h : Makes c P V P') : Makes c iprop(P ∗ R) V iprop(P' ∗ R) := by
  intro k Q
  refine BIBase.Entails.trans ?_ (h k Q)
  iintro ⟨⟨H, HR⟩, Hw⟩
  isplitl [H]; · iexact H
  iintro H'
  iapply Hw
  isplitl [H']; · iexact H'
  iexact HR

theorem Makes.right (h : Makes c P V P') : Makes c iprop(R ∗ P) V iprop(R ∗ P') := by
  intro k Q
  refine BIBase.Entails.trans ?_ (h k Q)
  iintro ⟨⟨HR, H⟩, Hw⟩
  isplitl [H]; · iexact H
  iintro H'
  iapply Hw
  isplitl [HR]; · iexact HR
  iexact H'

theorem Does.pure (P : SP F) (a : A) : Does c P (fun k => k a) a P := by
  intro k Q
  iintro ⟨H, Hw⟩
  iapply Hw $$ H

theorem Does.bind {B : Type} {P₁ P₂ P₃ : SP F} {T : (A → PG F) → PG F} {a : A} {T' : A → (B → PG F) → PG F} {b : B}
    (h : Does c P₁ T a P₂) (h' : Does c P₂ (T' a) b P₃) : Does c P₁ (fun k => T fun a => T' a k) b P₃ := by
  intro k Q
  refine BIBase.Entails.trans ?_ (h _ Q)
  iintro ⟨H, Hw⟩
  isplitl [H]; · iexact H
  iintro H'
  iapply (h' k Q)
  isplitl [H']; · iexact H'
  iexact Hw

theorem Does.then {P₁ P₂ P₃ : SP F} {T : (A → PG F) → PG F} {a : A} {V : A → PG F → PG F}
    (h : Does c P₁ T a P₂) (h' : Makes c P₂ (V a) P₃) : Makes c P₁ (fun k => T fun a => V a k) P₃ := by
  intro k Q
  refine BIBase.Entails.trans ?_ (h _ Q)
  iintro ⟨H, Hw⟩
  isplitl [H]; · iexact H
  iintro H'
  iapply (h' k Q)
  isplitl [H']; · iexact H'
  iexact Hw

theorem Makes.id (P : SP F) : Makes c P (fun k => k) P := by
  intro k Q
  iintro ⟨H, Hw⟩
  iapply Hw $$ H

end Combine

/-- A load of a rectangle hands on the buffer's elements there. -/
theorem does_load (c : Dev nD) {s : Shape} {e : EltTy} (m : Mr s e) (r : LoadRect s) (hl : m.view.LoadsAt r) (X : s.Idx → Elt F e) :
    Does c (Own c m X) (fun k => Prog.op (.load m r hl) k) (fun x => X (r.idx x)) (Own c m X) := by
  intro k Q
  have h1 := fun f => wp_load (defs := defs₀ (F := F)) (Ix := Unit) (Name := ℕ) (U := UR sig nD τ) (Lvl := ℕ) Variants.none (c : Thread nD τ) none
    Set.univ (Γ := []) (Q := Q) (m := m) (r := r) (hl := hl) (k := k) (q := fullShare) (f := f) (S := m.view.set) (by
      exact View.setOn_subset_set _ _)
  unfold Own owns
  iintro ⟨⟨%f, %hf, H⟩, Hw⟩
  subst hf
  iapply h1 f $$ H
  iintro H
  iapply Hw
  iexists f
  isplitr; · ipureintro; rfl
  iexact H

/-- A store of a whole rectangle puts the payload there. -/
theorem does_store (c : Dev nD) {s : Shape} {e : EltTy} (m : Mr s e) (off size : Fin s.rank → ℕ) (inb : ∀ a, off a + size a ≤ s.size a)
    (w : (Rect.unit off size inb).shape.Idx → Elt F e) (hx : (m.access (Rect.unit off size inb)).Stores Finset.univ)
    (hm : (Finset.univ : Finset (Rect.unit off size inb).shape.Idx) = Finset.univ ∨ ∀ a, (Rect.unit off size inb).stride a = 1) (X : s.Idx → Elt F e) :
    Makes c (Own c m X) (fun k => Prog.op (.store m (Rect.unit off size inb) w Finset.univ hx hm) fun _ => k) (Own c m (put X off size w)) := by
  intro k Q
  have h1 := fun f => wp_store (defs := defs₀ (F := F)) (Ix := Unit) (Name := ℕ) (U := UR sig nD τ) (Lvl := ℕ) Variants.none (c : Thread nD τ) none
    Set.univ (Γ := []) (Q := Q) (m := m) (r := Rect.unit off size inb) (w := w) (Mk := Finset.univ) (hx := hx) (hm := hm) (k := fun _ => k) (f := f) (S := m.view.set) (by
      intro i hi
      rw [View.setOn_univ] at hi
      exact View.set_slice_subset _ _ hi)
  unfold Own owns
  iintro ⟨⟨%f, %hf, H⟩, Hw⟩
  subst hf
  iapply h1 f $$ H
  iintro H
  iapply Hw
  iexists _
  isplitr; swap; · iexact H
  ipureintro
  exact View.read_writes_cons_put m.view f inb w [] rfl

end Cert.Quad
-- ==== Proof.QuadRun.lean ====
module

public import proofs.«01_k».proof.Proof.QuadMem

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F]

/-- The contents of one layer's weights. -/
structure LVals (F : FTy → Type) [FloatOps F] where
  lng : Vec F S1x512 .f32
  lnb : Vec F S1x512 .f32
  xpW : Vec F S512x64 .bf16
  xpb : Vec F S1x64 .f32
  dpW : Vec F S512x64 .bf16
  dpb : Vec F S1x64 .f32
  At : Vec F S64x64 .f32
  Ct : Vec F S64x512 .bf16
  gW : Vec F S512x512 .bf16
  gb : Vec F S1x512 .f32
  oW : Vec F S512x512 .bf16
  ob : Vec F S1x512 .f32

/-- The rows of each sub-block of a chunk. -/
abbrev RowsV (F : FTy → Type) [FloatOps F] := (s : ℕ) → s < 8 → FVec F S256x512 .f32

/-- The gate buffer's contents. -/
abbrev GV (F : FTy → Type) [FloatOps F] := Vec F S256x512 .bf16

/-- The weights of one layer held at their contents. -/
def OwnW (c : Dev nD) (W : LRefs) (v : LVals F) : SP F :=
  iprop(Own c W.lng v.lng ∗ Own c W.lnb v.lnb ∗ Own c W.xpW v.xpW ∗ Own c W.xpb v.xpb ∗ Own c W.dpW v.dpW ∗ Own c W.dpb v.dpb
    ∗ Own c W.At v.At ∗ Own c W.Ct v.Ct ∗ Own c W.gW v.gW ∗ Own c W.gb v.gb ∗ Own c W.oW v.oW ∗ Own c W.ob v.ob)

/-- Each weight of the layer may be read from `P`. -/
structure Reads (c : Dev nD) (P : SP F) (W : LRefs) (v : LVals F) : Prop where
  lng : Does c P (rd W.lng inb_S1x512_S1x512_0_0 h_S1x512) v.lng P
  lnb : Does c P (rd W.lnb inb_S1x512_S1x512_0_0 h_S1x512) v.lnb P
  xpW : Does c P (rd W.xpW inb_S512x64_S512x64_0_0 h_S512x64) v.xpW P
  xpb : Does c P (rd W.xpb inb_S1x64_S1x64_0_0 h_S1x64) v.xpb P
  dpW : Does c P (rd W.dpW inb_S512x64_S512x64_0_0 h_S512x64) v.dpW P
  dpb : Does c P (rd W.dpb inb_S1x64_S1x64_0_0 h_S1x64) v.dpb P
  At : Does c P (rd W.At inb_S64x64_S64x64_0_0 h_S64x64) v.At P
  Ct : Does c P (rd W.Ct inb_S64x512_S64x512_0_0 h_S64x512) v.Ct P
  gW : Does c P (rd W.gW inb_S512x512_S512x512_0_0 h_S512x512) v.gW P
  gb : Does c P (rd W.gb inb_S1x512_S1x512_0_0 h_S1x512) v.gb P
  oW : Does c P (rd W.oW inb_S512x512_S512x512_0_0 h_S512x512) v.oW P
  ob : Does c P (rd W.ob inb_S1x512_S1x512_0_0 h_S1x512) v.ob P

/-- A whole buffer of two axes is read as it is. -/
theorem does_rd (c : Dev nD) {d : Fin 2 → ℕ} {e : EltTy} (m : Mr ⟨2, d⟩ e) (inb : ∀ a, (![0, 0] : Fin 2 → ℕ) a + d a ≤ d a)
    (h : 0 < (⟨2, d⟩ : Shape).numel) (X : (⟨2, d⟩ : Shape).Idx → Elt F e) : Does c (Own c m X) (rd m inb h) X (Own c m X) := by
  have h1 := does_load (F := F) c m (Rect.unit (s := ⟨2, d⟩) ![0, 0] d inb).toLoadRect (View.loadsAt_vmem h) X
  have e1 : (fun x => X ((Rect.unit (s := ⟨2, d⟩) ![0, 0] d inb).toLoadRect.idx x)) = X := by
    funext y
    refine congrArg X (funext fun a => Fin.ext ?_)
    show (![0, 0] : Fin 2 → ℕ) a + 1 * (y a).val = (y a).val
    have := inb a
    omega
  rw [e1] at h1
  exact h1

theorem Reads.left {c : Dev nD} {P R : SP F} {W : LRefs} {v : LVals F} (h : Reads c P W v) : Reads c iprop(P ∗ R) W v :=
  ⟨h.1.left, h.2.left, h.3.left, h.4.left, h.5.left, h.6.left, h.7.left, h.8.left, h.9.left, h.10.left, h.11.left, h.12.left⟩

theorem Reads.right {c : Dev nD} {P R : SP F} {W : LRefs} {v : LVals F} (h : Reads c P W v) : Reads c iprop(R ∗ P) W v :=
  ⟨h.1.right, h.2.right, h.3.right, h.4.right, h.5.right, h.6.right, h.7.right, h.8.right, h.9.right, h.10.right, h.11.right, h.12.right⟩

theorem OwnW.reads (c : Dev nD) (W : LRefs) (v : LVals F) : Reads c (OwnW c W v) W v := by
  unfold OwnW
  exact ⟨.left (does_rd _ _ _ _ _),
    .right (.left (does_rd _ _ _ _ _)),
    .right (.right (.left (does_rd _ _ _ _ _))),
    .right (.right (.right (.left (does_rd _ _ _ _ _)))),
    .right (.right (.right (.right (.left (does_rd _ _ _ _ _))))),
    .right (.right (.right (.right (.right (.left (does_rd _ _ _ _ _)))))),
    .right (.right (.right (.right (.right (.right (.left (does_rd _ _ _ _ _))))))),
    .right (.right (.right (.right (.right (.right (.right (.left (does_rd _ _ _ _ _)))))))),
    .right (.right (.right (.right (.right (.right (.right (.right (.left (does_rd _ _ _ _ _))))))))),
    .right (.right (.right (.right (.right (.right (.right (.right (.right (.left (does_rd _ _ _ _ _)))))))))),
    .right (.right (.right (.right (.right (.right (.right (.right (.right (.right (.left (does_rd _ _ _ _ _))))))))))),
    .right (.right (.right (.right (.right (.right (.right (.right (.right (.right (.right (does_rd _ _ _ _ _)))))))))))⟩

/-! What a layer computes from its weights, its rows and its state. -/

section Values

variable (v : LVals F) (x : RowsV F) (st0 : Vec F S32x64 .f32)

def xnV (s : ℕ) (hs : s < 8) : FVec F S256x512 .bf16 := lnP (x s hs) v.lng v.lnb
def xpV (s : ℕ) (hs : s < 8) : FVec F S256x64 .f32 := xpP (xnV v x s hs) v.xpW v.xpb
def dlV (s : ℕ) (hs : s < 8) : FVec F S256x64 .f32 := logistic (xpP (xnV v x s hs) v.dpW v.dpb)
def gV (s : ℕ) (hs : s < 8) : GV F := gateP (xnV v x s hs) v.gW v.gb

/-- The state after `j` steps of a sub-block. -/
def stk (xp dl : FVec F S256x64 .f32) (At : Vec F S64x64 .f32) (st : Vec F S32x64 .f32) : (j : ℕ) → j ≤ 8 → Vec F S32x64 .f32
  | 0, _ => st
  | j + 1, h => stepP j h xp dl (stk xp dl At st j (Nat.le_of_succ_le h)) At

/-- The state as sub-block `s` begins. -/
def stV : (s : ℕ) → s ≤ 8 → Vec F S32x64 .f32
  | 0, _ => st0
  | s + 1, h => stk (xpV v x s h) (dlV v x s h) v.At (stV s (Nat.le_of_succ_le h)) 8 (le_refl 8)

/-- The state after `j` steps of sub-block `s`. -/
def sjV (s : ℕ) (hs : s < 8) (j : ℕ) (hj : j ≤ 8) : Vec F S32x64 .f32 := stk (xpV v x s hs) (dlV v x s hs) v.At (stV v x st0 s hs.le) j hj

/-- The states of sub-block `s`, stacked. -/
def stsV (s : ℕ) (hs : s < 8) : FVec F S256x64 .bf16 :=
  catP (sjV v x st0 s hs 1 (by omega)) (sjV v x st0 s hs 2 (by omega)) (sjV v x st0 s hs 3 (by omega)) (sjV v x st0 s hs 4 (by omega))
    (sjV v x st0 s hs 5 (by omega)) (sjV v x st0 s hs 6 (by omega)) (sjV v x st0 s hs 7 (by omega)) (sjV v x st0 s hs 8 (by omega))

/-- The layer's output rows. -/
def yV : RowsV F := fun s hs => postP (stsV v x st0 s hs) v.Ct (gV v x s hs) v.oW (x s hs) v.ob

/-- The stacked states of the sub-block before. -/
def prevV : (s : ℕ) → s ≤ 8 → FVec F S256x64 .bf16
  | 0, _ => truncf .bf16 (constant S256x64 .f32 0x00000000#32) bitsLt_bf16_f32
  | s + 1, h => stsV v x st0 s h

/-- What the layer carries into sub-block `s`. -/
def carV (s : ℕ) (hs : s < 8) : Car F := ⟨stV v x st0 s hs.le, xpV v x s hs, dlV v x s hs, prevV v x st0 s hs.le⟩

/-- What the layer carries out of the last sub-block. -/
def carE : Car F := ⟨stV v x st0 8 (le_refl 8), constant S256x64 .f32 0x00000000#32, constant S256x64 .f32 0x00000000#32, prevV v x st0 8 (le_refl 8)⟩

end Values

/-- The store of a gate buffer. -/
def stG (G : Mr S256x512 .bf16) (hG : G.IsWhole) (w : GV F) (k : PG F) : PG F :=
  Prog.op (.store G (Rect.unit (s := S256x512) ![0, 0] S256x512.size inb_S256x512_S256x512_0_0) w Finset.univ
    (View.stores_vmem h_S256x512 (hG.storeExact_slice rfl _ packedbf16_S256x512_S256x512_0_0) (fun _ => rfl)) (.inl rfl)) fun _ => k

/-- A layer runs over the assertions `I n g`: `n` sub-blocks are put, and the gate buffer `G` holds `g`. -/
structure Lay (c : Dev nD) (I : ℕ → GV F → SP F) (io : IO F) (W : LRefs) (v : LVals F) (G : Mr S256x512 .bf16) (hG : G.IsWhole)
    (x y : RowsV F) : Prop where
  w : ∀ n g, Reads c (I n g) W v
  rows : ∀ n g s hs, Does c (I n g) (io.rows s hs) (x s hs) (I n g)
  put : ∀ s hs g, Makes c (I s g) (io.put s hs (y s hs)) (I (s + 1) g)
  gr : ∀ n g, Does c (I n g) (rd G inb_S256x512_S256x512_0_0 h_S256x512) g (I n g)
  gw : ∀ n g w, Makes c (I n g) (stG G hG w) (I n w)

namespace Lay

variable {c : Dev nD} {I : ℕ → GV F → SP F} {io : IO F} {W : LRefs} {v : LVals F} {G : Mr S256x512 .bf16} {hG : G.IsWhole}
  {x : RowsV F} {st0 : Vec F S32x64 .f32} {y : RowsV F}

theorem ln (L : Lay c I io W v G hG x y) (n : ℕ) (g : GV F) (s : ℕ) (hs : s < 8) :
    Does c (I n g) (lnOp io W s hs) (xnV v x s hs) (I n g) :=
  (L.rows n g s hs).bind ((L.w n g).lng.bind ((L.w n g).lnb.bind (Does.pure _ _)))

theorem xp (L : Lay c I io W v G hG x y) (n : ℕ) (g : GV F) (s : ℕ) (hs : s < 8) :
    Does c (I n g) (xpOp W (xnV v x s hs)) (xpV v x s hs) (I n g) :=
  (L.w n g).xpW.bind ((L.w n g).xpb.bind (Does.pure _ _))

theorem dl (L : Lay c I io W v G hG x y) (n : ℕ) (g : GV F) (s : ℕ) (hs : s < 8) :
    Does c (I n g) (dlOp W (xnV v x s hs)) (dlV v x s hs) (I n g) :=
  (L.w n g).dpW.bind ((L.w n g).dpb.bind (Does.pure _ _))

theorem gate (L : Lay c I io W v G hG x y) (n : ℕ) (g : GV F) (s : ℕ) (hs : s < 8) :
    Makes c (I n g) (gateOp W G hG (xnV v x s hs)) (I n (gV v x s hs)) :=
  (L.w n g).gW.then ((L.w n g).gb.then ((L.gr n g).then (L.gw n g _)))

theorem post (L : Lay c I io W v G hG x (yV v x st0)) (s : ℕ) (hs : s < 8) :
    Makes c (I s (gV v x s hs)) (postOp io W G s hs (stsV v x st0 s hs)) (I (s + 1) (gV v x s hs)) :=
  (L.w _ _).Ct.then ((L.gr _ _).then ((L.w _ _).oW.then ((L.rows _ _ s hs).then ((L.w _ _).ob.then (L.put s hs _)))))

theorem step (L : Lay c I io W v G hG x y) (n : ℕ) (g : GV F) (s : ℕ) (hs : s < 8) (j : ℕ) (hj : j < 8) :
    Does c (I n g) (stepOp W j hj (xpV v x s hs) (dlV v x s hs) (sjV v x st0 s hs j hj.le)) (sjV v x st0 s hs (j + 1) hj) (I n g) :=
  (L.w n g).At.bind (Does.pure _ _)

theorem postIf (L : Lay c I io W v G hG x (yV v x st0)) (s : ℕ) (hs : s < 9) (g : GV F) (hg : ∀ t (h : t + 1 = s), g = gV v x t (by omega)) :
    Makes c (I (s - 1) g) (Quad.postIf s hs io W G (prevV v x st0 s (by omega))) (I s g) := by
  cases s with
  | zero => exact Makes.id _
  | succ s =>
    obtain rfl := hg s rfl
    exact L.post s (by omega)

theorem start (L : Lay c I io W v G hG x y) (n : ℕ) (g : GV F) (k : Car F → PG F) (Q : PUnit → SP F)
    (h : I n (gV v x 0 (by omega)) ⊢ Wp c (k (carV v x st0 0 (by omega))) Q) : I n g ⊢ Wp c (startOp io W G hG st0 k) Q :=
  (L.ln n g 0 (by omega)).step ((L.xp n g 0 (by omega)).step ((L.dl n g 0 (by omega)).step ((L.gate n g 0 (by omega)).step h)))

end Lay

/-- Both layers' sub-block `s`, another to come. -/
theorem blk_more (c : Dev nD) (J : ℕ → GV F → ℕ → GV F → SP F) (ia ib : IO F) (Wa Wb : LRefs) (va vb : LVals F)
    (Ga Gb : Mr S256x512 .bf16) (hGa : Ga.IsWhole) (hGb : Gb.IsWhole) (xa xb : RowsV F) (sa sb : Vec F S32x64 .f32)
    (LA : ∀ nb gb, Lay c (fun n g => J n g nb gb) ia Wa va Ga hGa xa (yV va xa sa))
    (LB : ∀ na ga, Lay c (fun n g => J na ga n g) ib Wb vb Gb hGb xb (yV vb xb sb))
    (s : ℕ) (hs : s < 8) (hm : true = true → s + 1 < 8) (ga gb : GV F) (hga : ∀ t (h : t + 1 = s), ga = gV va xa t (by omega))
    (hgb : ∀ t (h : t + 1 = s), gb = gV vb xb t (by omega)) (k : Car F → Car F → PG F) (Q : PUnit → SP F)
    (hk : J s (gV va xa (s + 1) (hm rfl)) s (gV vb xb (s + 1) (hm rfl)) ⊢ Wp c (k (carV va xa sa (s + 1) (hm rfl)) (carV vb xb sb (s + 1) (hm rfl))) Q) :
    J (s - 1) ga (s - 1) gb ⊢ Wp c (blk s hs true hm ia ib Wa Wb Ga Gb hGa hGb (carV va xa sa s hs) (carV vb xb sb s hs) k) Q := by
  simp only [blk, lnIf, xpIf, dlIf, gateIf]
  refine ((LB (s - 1) ga).postIf s (by omega) gb hgb).step ?_
  refine ((LB _ _).step _ _ s hs 0 (by omega)).step ?_
  refine ((LA s gb).postIf s (by omega) ga hga).step ?_
  refine ((LA _ _).step _ _ s hs 0 (by omega)).step ?_
  refine ((LB _ _).ln _ _ (s + 1) (hm rfl)).step ?_
  refine ((LB _ _).step _ _ s hs 1 (by omega)).step ?_
  refine ((LA _ _).ln _ _ (s + 1) (hm rfl)).step ?_
  refine ((LA _ _).step _ _ s hs 1 (by omega)).step ?_
  refine ((LB _ _).xp _ _ (s + 1) (hm rfl)).step ?_
  refine ((LB _ _).step _ _ s hs 2 (by omega)).step ?_
  refine ((LA _ _).xp _ _ (s + 1) (hm rfl)).step ?_
  refine ((LA _ _).step _ _ s hs 2 (by omega)).step ?_
  refine ((LB _ _).dl _ _ (s + 1) (hm rfl)).step ?_
  refine ((LB _ _).step _ _ s hs 3 (by omega)).step ?_
  refine ((LA _ _).dl _ _ (s + 1) (hm rfl)).step ?_
  refine ((LA _ _).step _ _ s hs 3 (by omega)).step ?_
  refine ((LB _ _).gate _ _ (s + 1) (hm rfl)).step ?_
  refine ((LB _ _).step _ _ s hs 4 (by omega)).step ?_
  refine ((LA _ _).gate _ _ (s + 1) (hm rfl)).step ?_
  refine ((LA _ _).step _ _ s hs 4 (by omega)).step ?_
  refine ((LB _ _).step _ _ s hs 5 (by omega)).step ?_
  refine ((LA _ _).step _ _ s hs 5 (by omega)).step ?_
  refine ((LB _ _).step _ _ s hs 6 (by omega)).step ?_
  refine ((LA _ _).step _ _ s hs 6 (by omega)).step ?_
  refine ((LB _ _).step _ _ s hs 7 (by omega)).step ?_
  refine ((LA _ _).step _ _ s hs 7 (by omega)).step ?_
  exact hk

/-- Both layers' last sub-block. -/
theorem blk_last (c : Dev nD) (J : ℕ → GV F → ℕ → GV F → SP F) (ia ib : IO F) (Wa Wb : LRefs) (va vb : LVals F)
    (Ga Gb : Mr S256x512 .bf16) (hGa : Ga.IsWhole) (hGb : Gb.IsWhole) (xa xb : RowsV F) (sa sb : Vec F S32x64 .f32)
    (LA : ∀ nb gb, Lay c (fun n g => J n g nb gb) ia Wa va Ga hGa xa (yV va xa sa))
    (LB : ∀ na ga, Lay c (fun n g => J na ga n g) ib Wb vb Gb hGb xb (yV vb xb sb))
    (hm : false = true → 7 + 1 < 8) (k : Car F → Car F → PG F) (Q : PUnit → SP F)
    (hk : J 7 (gV va xa 6 (by omega)) 7 (gV vb xb 6 (by omega)) ⊢ Wp c (k (carE va xa sa) (carE vb xb sb)) Q) :
    J 6 (gV va xa 6 (by omega)) 6 (gV vb xb 6 (by omega))
      ⊢ Wp c (blk 7 (by omega) false hm ia ib Wa Wb Ga Gb hGa hGb (carV va xa sa 7 (by omega)) (carV vb xb sb 7 (by omega)) k) Q := by
  simp only [blk, lnIf, xpIf, dlIf, gateIf]
  refine ((LB 6 _).postIf 7 (by omega) (gV vb xb 6 (by omega)) fun t h => by obtain rfl : t = 6 := (by omega); rfl).step ?_
  refine ((LB _ _).step _ _ 7 (by omega) 0 (by omega)).step ?_
  refine ((LA 7 _).postIf 7 (by omega) (gV va xa 6 (by omega)) fun t h => by obtain rfl : t = 6 := (by omega); rfl).step ?_
  refine ((LA _ _).step _ _ 7 (by omega) 0 (by omega)).step ?_
  refine ((LB _ _).step _ _ 7 (by omega) 1 (by omega)).step ?_
  refine ((LA _ _).step _ _ 7 (by omega) 1 (by omega)).step ?_
  refine ((LB _ _).step _ _ 7 (by omega) 2 (by omega)).step ?_
  refine ((LA _ _).step _ _ 7 (by omega) 2 (by omega)).step ?_
  refine ((LB _ _).step _ _ 7 (by omega) 3 (by omega)).step ?_
  refine ((LA _ _).step _ _ 7 (by omega) 3 (by omega)).step ?_
  refine ((LB _ _).step _ _ 7 (by omega) 4 (by omega)).step ?_
  refine ((LA _ _).step _ _ 7 (by omega) 4 (by omega)).step ?_
  refine ((LB _ _).step _ _ 7 (by omega) 5 (by omega)).step ?_
  refine ((LA _ _).step _ _ 7 (by omega) 5 (by omega)).step ?_
  refine ((LB _ _).step _ _ 7 (by omega) 6 (by omega)).step ?_
  refine ((LA _ _).step _ _ 7 (by omega) 6 (by omega)).step ?_
  refine ((LB _ _).step _ _ 7 (by omega) 7 (by omega)).step ?_
  refine ((LA _ _).step _ _ 7 (by omega) 7 (by omega)).step ?_
  exact hk

end Cert.Quad
-- ==== Proof.QuadHeld.lean ====
module

public import proofs.«01_k».proof.Proof.QuadRun
public import Idealize.ShloMosaic.Lib.Pipeline.Value

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F]

/-- A chunk's contents. -/
abbrev XV (F : FTy → Type) [FloatOps F] := S2048x512.Idx → Elt F .f32
/-- The ring's contents. -/
abbrev RV (F : FTy → Type) [FloatOps F] := S2x2048x512.Idx → Elt F .f32

/-- Sub-block `s` of a chunk. -/
def rowsX (x : XV F) : RowsV F := fun s hs => shapeCast S256x512 (window x ![256 * s, 0] S256x512.size (inb_rows s hs)) shapeCasts_S256x512_S256x512

/-- Sub-block `s` of ring slot `k`. -/
theorem inb_slot (k : Fin 2) (s : ℕ) (hs : s < 8) : ∀ a, (![k.val, 256 * s, 0] : Fin 3 → ℕ) a + S1x256x512.size a ≤ S2x2048x512.size a := by
  intro a
  match a with
  | 0 => show k.val + 1 ≤ 2; omega
  | 1 => show 256 * s + 256 ≤ 2048; omega
  | 2 => show 0 + 512 ≤ 512; omega

/-- Sub-block `s` of ring slot `k`, as read. -/
def slotV (r : RV F) (k : Fin 2) : RowsV F := fun s hs =>
  shapeCast S256x512 (window r ![k.val, 256 * s, 0] S1x256x512.size (inb_slot k s hs)) shapeCasts_S1x256x512_S256x512

/-- The slot the second layer reads at chunk `n`, and the one the first layer writes. -/
def slot (n : ℕ) (c : Fin 2) : Fin 2 := ⟨(n + c.val) % 2, Nat.mod_lt _ (by omega)⟩

theorem ringOff_eq (n : ℕ) (hn : n < 33) (c : Fin 2) (s : ℕ) : ringOff n (BitVec.ofNat 32 c.val) s = ![(slot n c).val, 256 * s, 0] := by
  unfold ringOff
  rw [ringSlot n hn c]
  rfl

/-- The output chunk held, its first `n` sub-blocks at `y`. -/
def HO (c : Dev nD) (O : Mr S2048x512 .f32) (y : RowsV F) (n : ℕ) : SP F :=
  iprop(∃ o : XV F, ⌜∀ s hs, s < n → window o ![256 * s, 0] S256x512.size (inb_rows s hs) = y s hs⌝ ∗ Own c O o)

/-- The ring held at chunk `n`: the slot read is `x`, and the first `na` sub-blocks of the slot written are `y`. -/
def HR (c : Dev nD) (n : ℕ) (R : Mr S2x2048x512 .f32) (x y : RowsV F) (na : ℕ) : SP F :=
  iprop(∃ r : RV F, ⌜(∀ s hs, slotV r (slot n 1) s hs = x s hs) ∧ ∀ s hs, s < na → slotV r (slot n 0) s hs = y s hs⌝ ∗ Own c R r)

/-- Two casts back and forth. -/
theorem cast_back (v : FVec F S256x512 .f32) :
    shapeCast S256x512 (shapeCast S1x256x512 v shapeCasts_S256x512_S1x256x512) shapeCasts_S1x256x512_S256x512 = v := by
  exact shapeCast_shapeCast _ _ _

theorem HO.put (c : Dev nD) (O : Mr S2048x512 .f32) (y : RowsV F) (s : ℕ) (hs : s < 8) :
    Makes c (HO c O y s) (fun k => Prog.op (.load O (rowsR s hs).toLoadRect (View.loadsAt_vmem h_S256x512)) fun _ =>
      Prog.op (.store O (rowsR s hs) (y s hs) Finset.univ (View.stores_vmem_bits_univ h_S256x512 rfl) (.inl rfl)) fun _ => k) (HO c O y (s + 1)) := by
  have hp : ∀ o : XV F, Makes c (Own c O o) (fun k => Prog.op (.load O (rowsR s hs).toLoadRect (View.loadsAt_vmem h_S256x512)) fun _ =>
      Prog.op (.store O (rowsR s hs) (y s hs) Finset.univ (View.stores_vmem_bits_univ h_S256x512 rfl) (.inl rfl)) fun _ => k)
      (Own c O (VecWindow.put o ![256 * s, 0] S256x512.size (y s hs))) := by
    intro o
    have h1 : Does c (Own c O o) (fun k => Prog.op (.load O (rowsR s hs).toLoadRect (View.loadsAt_vmem h_S256x512)) k) (fun x => o ((rowsR s hs).toLoadRect.idx x)) (Own c O o) := does_load c O _ _ o
    have h2 : Makes c (Own c O o) (fun k => Prog.op (.store O (rowsR s hs) (y s hs) Finset.univ (View.stores_vmem_bits_univ h_S256x512 rfl) (.inl rfl)) fun _ => k)
        (Own c O (VecWindow.put o ![256 * s, 0] S256x512.size (y s hs))) := does_store c O ![256 * s, 0] S256x512.size (inb_rows s hs) (y s hs) _ _ o
    have h3 := Does.then (V := fun _ k => Prog.op (.store O (rowsR s hs) (y s hs) Finset.univ (View.stores_vmem_bits_univ h_S256x512 rfl) (.inl rfl)) fun _ => k) h1 h2
    exact h3
  intro k Q
  unfold HO
  iintro ⟨⟨%o, %ho, H⟩, Hw⟩
  iapply (hp o k Q)
  isplitl [H]; · iexact H
  iintro H
  iapply Hw
  iexists _
  isplitr; swap; · iexact H
  ipureintro
  intro t ht h
  by_cases e : t = s
  · subst e
    exact VecWindow.window_put_same _ _ _ _ _
  · rw [VecWindow.window_put_of_disjoint _ _ _ _ _ _ _ 0 (by
      show 256 * t + 256 ≤ 256 * s ∨ 256 * s + 256 ≤ 256 * t
      omega)]
    exact ho t ht (by omega)

theorem does_ring (c : Dev nD) (n : ℕ) (hn : n < 33) (R : Mr S2x2048x512 .f32) (k : Fin 2) (s : ℕ) (hs : s < 8) (r : RV F) :
    Does c (Own c R r) (fun kk => Prog.op (.load R (ringR n hn k s hs).toLoadRect (View.loadsAt_vmem h_S1x256x512)) fun v =>
      kk (shapeCast S256x512 v shapeCasts_S1x256x512_S256x512)) (slotV r (slot n k) s hs) (Own c R r) := by
  have h := Does.bind (T' := fun v kk => kk (shapeCast S256x512 v shapeCasts_S1x256x512_S256x512))
    (does_load c R (ringR n hn k s hs).toLoadRect (View.loadsAt_vmem h_S1x256x512) r)
    (Does.pure (c := c) (Own c R r) (shapeCast S256x512 (fun x => r ((ringR n hn k s hs).toLoadRect.idx x)) shapeCasts_S1x256x512_S256x512))
  have e : shapeCast S256x512 (fun x => r ((ringR n hn k s hs).toLoadRect.idx x)) shapeCasts_S1x256x512_S256x512 = slotV r (slot n k) s hs := by
    unfold slotV
    have hw : ∀ (off off' : Fin 3 → ℕ) (i1 : ∀ a, off a + S1x256x512.size a ≤ S2x2048x512.size a) (i2 : ∀ a, off' a + S1x256x512.size a ≤ S2x2048x512.size a),
        off = off' → (fun x => r ((Rect.unit (s := S2x2048x512) off S1x256x512.size i1).toLoadRect.idx x)) = window r off' S1x256x512.size i2 := by
      intro off off' i1 i2 e; subst e; rfl
    exact congrArg (fun w => shapeCast S256x512 w shapeCasts_S1x256x512_S256x512) (hw _ _ _ _ (ringOff_eq n hn k s))
  rw [e] at h
  exact h

theorem HR.rows (c : Dev nD) (n : ℕ) (hn : n < 33) (R : Mr S2x2048x512 .f32) (x y : RowsV F) (na s : ℕ) (hs : s < 8) :
    Does c (HR c n R x y na) (fun kk => Prog.op (.load R (ringR n hn 1 s hs).toLoadRect (View.loadsAt_vmem h_S1x256x512)) fun v =>
      kk (shapeCast S256x512 v shapeCasts_S1x256x512_S256x512)) (x s hs) (HR c n R x y na) := by
  intro k Q
  unfold HR
  iintro ⟨⟨%r, %hr, H⟩, Hw⟩
  rw [← hr.1 s hs]
  iapply (does_ring c n hn R 1 s hs r k Q)
  isplitl [H]; · iexact H
  iintro H
  iapply Hw
  iexists r
  isplitr; · ipureintro; exact hr
  iexact H

theorem HR.put (c : Dev nD) (n : ℕ) (hn : n < 33) (R : Mr S2x2048x512 .f32) (x y : RowsV F) (s : ℕ) (hs : s < 8) :
    Makes c (HR c n R x y s) (fun k => Prog.op (.load R (ringR n hn 0 s hs).toLoadRect (View.loadsAt_vmem h_S1x256x512)) fun _ =>
      Prog.op (.store R (ringR n hn 0 s hs) (shapeCast S1x256x512 (y s hs) shapeCasts_S256x512_S1x256x512) Finset.univ
        (View.stores_vmem_bits_univ h_S1x256x512 rfl) (.inl rfl)) fun _ => k) (HR c n R x y (s + 1)) := by
  have hp : ∀ r : RV F, Makes c (Own c R r) (fun k => Prog.op (.load R (ringR n hn 0 s hs).toLoadRect (View.loadsAt_vmem h_S1x256x512)) fun _ =>
      Prog.op (.store R (ringR n hn 0 s hs) (shapeCast S1x256x512 (y s hs) shapeCasts_S256x512_S1x256x512) Finset.univ
        (View.stores_vmem_bits_univ h_S1x256x512 rfl) (.inl rfl)) fun _ => k)
      (Own c R (VecWindow.put r (ringOff n (BitVec.ofNat 32 (0 : Fin 2).val) s) S1x256x512.size (shapeCast S1x256x512 (y s hs) shapeCasts_S256x512_S1x256x512))) := by
    intro r
    have h1 : Does c (Own c R r) (fun k => Prog.op (.load R (ringR n hn 0 s hs).toLoadRect (View.loadsAt_vmem h_S1x256x512)) k) (fun x => r ((ringR n hn 0 s hs).toLoadRect.idx x)) (Own c R r) := does_load c R _ _ r
    have h2 : Makes c (Own c R r) (fun k => Prog.op (.store R (ringR n hn 0 s hs) (shapeCast S1x256x512 (y s hs) shapeCasts_S256x512_S1x256x512) Finset.univ
        (View.stores_vmem_bits_univ h_S1x256x512 rfl) (.inl rfl)) fun _ => k)
        (Own c R (VecWindow.put r (ringOff n (BitVec.ofNat 32 (0 : Fin 2).val) s) S1x256x512.size (shapeCast S1x256x512 (y s hs) shapeCasts_S256x512_S1x256x512))) :=
      does_store c R (ringOff n (BitVec.ofNat 32 (0 : Fin 2).val) s) S1x256x512.size (inb_ring n hn 0 s hs) (shapeCast S1x256x512 (y s hs) shapeCasts_S256x512_S1x256x512) _ _ r
    have h3 := Does.then (V := fun _ k => Prog.op (.store R (ringR n hn 0 s hs) (shapeCast S1x256x512 (y s hs) shapeCasts_S256x512_S1x256x512) Finset.univ
        (View.stores_vmem_bits_univ h_S1x256x512 rfl) (.inl rfl)) fun _ => k) h1 h2
    exact h3
  intro k Q
  unfold HR
  iintro ⟨⟨%r, %hr, H⟩, Hw⟩
  iapply (hp r k Q)
  isplitl [H]; · iexact H
  iintro H
  iapply Hw
  iexists _
  isplitr; swap; · iexact H
  ipureintro
  rw [ringOff_eq n hn 0 s]
  refine ⟨fun t ht => ?_, fun t ht h => ?_⟩
  · rw [← hr.1 t ht]
    unfold slotV
    rw [VecWindow.window_put_of_disjoint _ _ _ _ _ _ _ 0 (by
      show (n + 1) % 2 + 1 ≤ (n + 0) % 2 ∨ (n + 0) % 2 + 1 ≤ (n + 1) % 2
      omega)]
  · by_cases e : t = s
    · subst e
      unfold slotV
      rw [VecWindow.window_put_same]
      exact cast_back _
    · rw [← hr.2 t ht (by omega)]
      unfold slotV
      rw [VecWindow.window_put_of_disjoint _ _ _ _ _ _ _ 1 (by
        show 256 * t + 256 ≤ 256 * s ∨ 256 * s + 256 ≤ 256 * t
        omega)]

/-- Rows of the fetched chunk. -/
theorem does_rows (c : Dev nD) (X : Mr S2048x512 .f32) (x : XV F) (s : ℕ) (hs : s < 8) :
    Does c (Own c X x) (fun kk => Prog.op (.load X (rowsR s hs).toLoadRect (View.loadsAt_vmem h_S256x512)) fun v =>
      kk (shapeCast S256x512 v shapeCasts_S256x512_S256x512)) (rowsX x s hs) (Own c X x) :=
  (does_load c X (rowsR s hs).toLoadRect (View.loadsAt_vmem h_S256x512) x).bind (Does.pure _ _)

/-- A whole buffer of two axes written. -/
theorem does_wr (c : Dev nD) {d : Fin 2 → ℕ} {e : EltTy} (m : Mr ⟨2, d⟩ e) (inb : ∀ a, (![0, 0] : Fin 2 → ℕ) a + d a ≤ d a)
    (w : (⟨2, d⟩ : Shape).Idx → Elt F e) (hx : (m.access (Rect.unit (s := ⟨2, d⟩) ![0, 0] d inb)).Stores Finset.univ)
    (hm : (Finset.univ : Finset (Rect.unit (s := ⟨2, d⟩) ![0, 0] d inb).shape.Idx) = Finset.univ ∨ ∀ a, (Rect.unit (s := ⟨2, d⟩) ![0, 0] d inb).stride a = 1)
    (X : (⟨2, d⟩ : Shape).Idx → Elt F e) :
    Makes c (Own c m X) (fun k => Prog.op (.store m (Rect.unit (s := ⟨2, d⟩) ![0, 0] d inb) w Finset.univ hx hm) fun _ => k) (Own c m w) := by
  have h := does_store (F := F) c m ![0, 0] d inb w hx hm X
  have e : put (s := ⟨2, d⟩) X ![0, 0] d w = w := by
    funext y
    unfold VecWindow.put
    rw [dif_pos (fun a => ⟨by have := inb a; omega, by have := inb a; have h2 : (y a).val < d a := (y a).isLt; omega⟩)]
    refine congrArg w (funext fun a => Fin.ext ?_)
    rw [Rect.unitLocal_val]
    have := inb a
    omega
  rw [e] at h
  exact h

end Cert.Quad
-- ==== Proof.QuadBody.lean ====
module

public import proofs.«01_k».proof.Proof.QuadHeld
public import Idealize.ShloMosaic.Lib.Pipeline.Value

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F]

/-- The buffers of the two-layer body. -/
structure Bufs where
  X : Mr S2048x512 .f32
  Wa : LRefs
  Wb : LRefs
  O : Mr S2048x512 .f32
  R : Mr S2x2048x512 .f32
  Sa : Mr S32x64 .f32
  Sb : Mr S32x64 .f32
  Ga : Mr S256x512 .bf16
  Ga' : Mr S256x512 .bf16
  Gb : Mr S256x512 .bf16
  Gb' : Mr S256x512 .bf16
  ha : Ga.IsWhole
  ha' : Ga'.IsWhole
  hb : Gb.IsWhole
  hb' : Gb'.IsWhole

/-- Everything the body of chunk `n` holds: `na` and `nb` sub-blocks of the two layers' outputs are put. -/
def Hd (c : Dev nD) (n : ℕ) (B : Bufs) (xv : XV F) (va vb : LVals F) (rb ya yb : RowsV F) (sa sb : Vec F S32x64 .f32) (na nb : ℕ)
    (ga ga' gb gb' : GV F) : SP F :=
  iprop(Own c B.X xv ∗ OwnW c B.Wa va ∗ OwnW c B.Wb vb ∗ HO c B.O yb nb ∗ HR c n B.R rb ya na ∗ Own c B.Sa sa ∗ Own c B.Sb sb
    ∗ Own c B.Ga ga ∗ Own c B.Ga' ga' ∗ Own c B.Gb gb ∗ Own c B.Gb' gb')

section Layers

variable (c : Dev nD) (n : ℕ) (hn : n < 33) (B : Bufs) (xv : XV F) (va vb : LVals F) (rb ya yb : RowsV F) (sa sb : Vec F S32x64 .f32)

theorem layA (nb : ℕ) (ga' gb gb' : GV F) :
    Lay c (fun m g => Hd c n B xv va vb rb ya yb sa sb m nb g ga' gb gb') (ioA n hn B.X B.R) B.Wa va B.Ga B.ha (rowsX xv) ya := by
  unfold Hd
  exact
  { w := fun _ _ => .right (.left (OwnW.reads _ _ _))
    rows := fun _ _ _ _ => .left (does_rows _ _ _ _ _)
    put := fun _ _ _ => .right (.right (.right (.right (.left (HR.put _ _ hn _ _ _ _ _)))))
    gr := fun _ _ => .right (.right (.right (.right (.right (.right (.right (.left (does_rd _ _ _ _ _))))))))
    gw := fun _ _ _ => .right (.right (.right (.right (.right (.right (.right (.left (does_wr _ _ _ _ _ _ _)))))))) }

theorem layA' (nb : ℕ) (ga gb gb' : GV F) :
    Lay c (fun m g => Hd c n B xv va vb rb ya yb sa sb m nb ga g gb gb') (ioA n hn B.X B.R) B.Wa va B.Ga' B.ha' (rowsX xv) ya := by
  unfold Hd
  exact
  { w := fun _ _ => .right (.left (OwnW.reads _ _ _))
    rows := fun _ _ _ _ => .left (does_rows _ _ _ _ _)
    put := fun _ _ _ => .right (.right (.right (.right (.left (HR.put _ _ hn _ _ _ _ _)))))
    gr := fun _ _ => .right (.right (.right (.right (.right (.right (.right (.right (.left (does_rd _ _ _ _ _)))))))))
    gw := fun _ _ _ => .right (.right (.right (.right (.right (.right (.right (.right (.left (does_wr _ _ _ _ _ _ _))))))))) }

theorem layB (na : ℕ) (ga ga' gb' : GV F) :
    Lay c (fun m g => Hd c n B xv va vb rb ya yb sa sb na m ga ga' g gb') (ioB n hn B.R B.O) B.Wb vb B.Gb B.hb rb yb := by
  unfold Hd
  exact
  { w := fun _ _ => .right (.right (.left (OwnW.reads _ _ _)))
    rows := fun _ _ _ _ => .right (.right (.right (.right (.left (HR.rows _ _ hn _ _ _ _ _ _)))))
    put := fun _ _ _ => .right (.right (.right (.left (HO.put _ _ _ _ _))))
    gr := fun _ _ => .right (.right (.right (.right (.right (.right (.right (.right (.right (.left (does_rd _ _ _ _ _))))))))))
    gw := fun _ _ _ => .right (.right (.right (.right (.right (.right (.right (.right (.right (.left (does_wr _ _ _ _ _ _ _)))))))))) }

theorem layB' (na : ℕ) (ga ga' gb : GV F) :
    Lay c (fun m g => Hd c n B xv va vb rb ya yb sa sb na m ga ga' gb g) (ioB n hn B.R B.O) B.Wb vb B.Gb' B.hb' rb yb := by
  unfold Hd
  exact
  { w := fun _ _ => .right (.right (.left (OwnW.reads _ _ _)))
    rows := fun _ _ _ _ => .right (.right (.right (.right (.left (HR.rows _ _ hn _ _ _ _ _ _)))))
    put := fun _ _ _ => .right (.right (.right (.left (HO.put _ _ _ _ _))))
    gr := fun _ _ => .right (.right (.right (.right (.right (.right (.right (.right (.right (.right (does_rd _ _ _ _ _))))))))))
    gw := fun _ _ _ => .right (.right (.right (.right (.right (.right (.right (.right (.right (.right (does_wr _ _ _ _ _ _ _)))))))))) }

end Layers

/-- The body of chunk `n`: from its input chunk `xv`, the ring slot's rows `rb` and the states `sa`, `sb`, both layers' output rows and states. -/
theorem quad_wp (c : Dev nD) (n : ℕ) (hn : n < 33) (B : Bufs) (xv : XV F) (va vb : LVals F) (rb : RowsV F) (sa sb : Vec F S32x64 .f32)
    (ga ga' gb gb' : GV F) (Q : PUnit → SP F)
    (hQ : ∀ ga ga' gb gb' : GV F, Hd c n B xv va vb rb (yV va (rowsX xv) (stP n 0#32 sa)) (yV vb rb (stP n 1#32 sb))
        (stV va (rowsX xv) (stP n 0#32 sa) 8 (le_refl 8)) (stV vb rb (stP n 1#32 sb) 8 (le_refl 8)) 8 8 ga ga' gb gb' ⊢ Q ⟨⟩) :
    Hd c n B xv va vb rb (yV va (rowsX xv) (stP n 0#32 sa)) (yV vb rb (stP n 1#32 sb)) sa sb 0 0 ga ga' gb gb'
      ⊢ Wp c (quad n hn B.X B.Wa B.Wb B.O B.R B.Sa B.Sb B.Ga B.Ga' B.Gb B.Gb' B.ha B.ha' B.hb B.hb') Q := by
  have rdSa : ∀ ya yb sa sb na nb ga ga' gb gb', Does c (Hd c n B xv va vb rb ya yb sa sb na nb ga ga' gb gb') (rd B.Sa inb_S32x64_S32x64_0_0 h_S32x64) sa
      (Hd c n B xv va vb rb ya yb sa sb na nb ga ga' gb gb') := fun _ _ _ _ _ _ _ _ _ _ => .right (.right (.right (.right (.right (.left (does_rd _ _ _ _ _))))))
  have rdSb : ∀ ya yb sa sb na nb ga ga' gb gb', Does c (Hd c n B xv va vb rb ya yb sa sb na nb ga ga' gb gb') (rd B.Sb inb_S32x64_S32x64_0_0 h_S32x64) sb
      (Hd c n B xv va vb rb ya yb sa sb na nb ga ga' gb gb') := fun _ _ _ _ _ _ _ _ _ _ => .right (.right (.right (.right (.right (.right (.left (does_rd _ _ _ _ _)))))))
  have wrSa : ∀ ya yb sa sb na nb ga ga' gb gb' w, Makes c (Hd c n B xv va vb rb ya yb sa sb na nb ga ga' gb gb')
      (fun k => Prog.op (.store B.Sa (Rect.unit (s := S32x64) ![0, 0] S32x64.size inb_S32x64_S32x64_0_0) w Finset.univ
        (View.stores_vmem_bits_univ h_S32x64 rfl) (.inl rfl)) fun _ => k)
      (Hd c n B xv va vb rb ya yb w sb na nb ga ga' gb gb') := fun _ _ _ _ _ _ _ _ _ _ _ => .right (.right (.right (.right (.right (.left (does_wr _ _ _ _ _ _ _))))))
  have wrSb : ∀ ya yb sa sb na nb ga ga' gb gb' w, Makes c (Hd c n B xv va vb rb ya yb sa sb na nb ga ga' gb gb')
      (fun k => Prog.op (.store B.Sb (Rect.unit (s := S32x64) ![0, 0] S32x64.size inb_S32x64_S32x64_0_0) w Finset.univ
        (View.stores_vmem_bits_univ h_S32x64 rfl) (.inl rfl)) fun _ => k)
      (Hd c n B xv va vb rb ya yb sa w na nb ga ga' gb gb') := fun _ _ _ _ _ _ _ _ _ _ _ => .right (.right (.right (.right (.right (.right (.left (does_wr _ _ _ _ _ _ _)))))))
  unfold quad
  refine Does.step (rdSb _ _ _ _ _ _ _ _ _ _) (Does.step (rdSa _ _ _ _ _ _ _ _ _ _) ?_)
  refine Lay.start (layB c n hn B xv va vb rb _ _ _ _ _ _ _ _) 0 gb _ Q ?_
  refine Lay.start (layA c n hn B xv va vb rb _ _ _ _ _ _ _ _) 0 ga _ Q ?_
  have Je := fun s hs hm ga gb ga' gb' h1 h2 k h3 => blk_more c (fun na ga' nb gb' => Hd c n B xv va vb rb (yV va (rowsX xv) (stP n 0#32 sa)) (yV vb rb (stP n 1#32 sb)) sa sb na nb ga ga' gb gb')
    (ioA n hn B.X B.R) (ioB n hn B.R B.O) B.Wa B.Wb va vb B.Ga' B.Gb' B.ha' B.hb' (rowsX xv) rb (stP n 0#32 sa) (stP n 1#32 sb)
    (fun nb gb' => layA' c n hn B xv va vb rb _ _ _ _ nb ga gb gb') (fun na ga' => layB' c n hn B xv va vb rb _ _ _ _ na ga ga' gb) s hs hm ga' gb' h1 h2 k Q h3
  have Jo := fun s hs hm ga' gb' ga gb h1 h2 k h3 => blk_more c (fun na ga nb gb => Hd c n B xv va vb rb (yV va (rowsX xv) (stP n 0#32 sa)) (yV vb rb (stP n 1#32 sb)) sa sb na nb ga ga' gb gb')
    (ioA n hn B.X B.R) (ioB n hn B.R B.O) B.Wa B.Wb va vb B.Ga B.Gb B.ha B.hb (rowsX xv) rb (stP n 0#32 sa) (stP n 1#32 sb)
    (fun nb gb => layA c n hn B xv va vb rb _ _ _ _ nb ga' gb gb') (fun na ga => layB c n hn B xv va vb rb _ _ _ _ na ga ga' gb') s hs hm ga gb h1 h2 k Q h3
  refine Je 0 _ _ _ _ _ _ (fun t h => absurd h (by omega)) (fun t h => absurd h (by omega)) _ ?_
  refine Jo 1 _ _ _ _ _ _ (fun t h => by obtain rfl : t = 0 := (by omega); rfl) (fun t h => by obtain rfl : t = 0 := (by omega); rfl) _ ?_
  refine Je 2 _ _ _ _ _ _ (fun t h => by obtain rfl : t = 1 := (by omega); rfl) (fun t h => by obtain rfl : t = 1 := (by omega); rfl) _ ?_
  refine Jo 3 _ _ _ _ _ _ (fun t h => by obtain rfl : t = 2 := (by omega); rfl) (fun t h => by obtain rfl : t = 2 := (by omega); rfl) _ ?_
  refine Je 4 _ _ _ _ _ _ (fun t h => by obtain rfl : t = 3 := (by omega); rfl) (fun t h => by obtain rfl : t = 3 := (by omega); rfl) _ ?_
  refine Jo 5 _ _ _ _ _ _ (fun t h => by obtain rfl : t = 4 := (by omega); rfl) (fun t h => by obtain rfl : t = 4 := (by omega); rfl) _ ?_
  refine Je 6 _ _ _ _ _ _ (fun t h => by obtain rfl : t = 5 := (by omega); rfl) (fun t h => by obtain rfl : t = 5 := (by omega); rfl) _ ?_
  refine blk_last c (fun na ga nb gb => Hd c n B xv va vb rb (yV va (rowsX xv) (stP n 0#32 sa)) (yV vb rb (stP n 1#32 sb)) sa sb na nb ga _ gb _)
    (ioA n hn B.X B.R) (ioB n hn B.R B.O) B.Wa B.Wb va vb B.Ga B.Gb B.ha B.hb (rowsX xv) rb (stP n 0#32 sa) (stP n 1#32 sb)
    (fun nb gb => layA c n hn B xv va vb rb _ _ _ _ nb _ gb _) (fun na ga => layB c n hn B xv va vb rb _ _ _ _ na ga _ _) _ _ Q ?_
  refine ((layB' c n hn B xv va vb rb _ _ _ _ _ _ _ _).post 7 (by omega)).step ?_
  refine ((layA' c n hn B xv va vb rb _ _ _ _ _ _ _ _).post 7 (by omega)).step ?_
  refine Does.step (rdSa _ _ _ _ _ _ _ _ _ _) (Makes.step (wrSa _ _ _ _ _ _ _ _ _ _ _) (Does.step (rdSb _ _ _ _ _ _ _ _ _ _) (Makes.step (wrSb _ _ _ _ _ _ _ _ _ _ _) ?_)))
  have e1 := shapeCast_self (carE va (rowsX xv) (stP n 0#32 sa)).st shapeCasts_S32x64_S32x64
  have e2 := shapeCast_self (carE vb rb (stP n 1#32 sb)).st shapeCasts_S32x64_S32x64
  rw [e1, e2]
  iintro H
  unfold Wp
  rw [wp_ret]
  imodintro
  have hf := hQ (gV va (rowsX xv) 6 (by omega)) (gV va (rowsX xv) 7 (by omega)) (gV vb rb 6 (by omega)) (gV vb rb 7 (by omega))
  iapply hf
  iexact H

end Cert.Quad
-- ==== Proof.QuadPoint.lean ====
module

public import proofs.«01_k».proof.Proof.QuadBody
public import Idealize.ShloMosaic.Lib.Pipeline.Value

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F]

section Seqs

variable (xs : ℕ → XV F) (va vb : LVals F)

/-- The zero state. -/
def zst : Vec F S32x64 .f32 := broadcast S32x64 (Scalar.ofBits .f32 0x00000000#32)

/-- The first layer's state before chunk `n`. -/
def stA : ℕ → Vec F S32x64 .f32
  | 0 => zst
  | n + 1 => stV va (rowsX (xs n)) (stP n 0#32 (stA n)) 8 (le_refl 8)

/-- The first layer's output rows of chunk `n`. -/
def yA (n : ℕ) : RowsV F := yV va (rowsX (xs n)) (stP n 0#32 (stA xs va n))

/-- The second layer's state before grid point `n`, where it takes chunk `n - 1`. -/
def stB : ℕ → Vec F S32x64 .f32
  | 0 => zst
  | n + 1 => stV vb (yA xs va (n - 1)) (stP n 1#32 (stB n)) 8 (le_refl 8)

/-- The second layer's output rows at grid point `n`, those of chunk `n - 1`. -/
def yB (n : ℕ) : RowsV F := yV vb (yA xs va (n - 1)) (stP n 1#32 (stB xs va vb n))

/-- What is known of the scratch contents before grid point `n`. -/
def Inv (n : ℕ) (r : RV F) (sa sb : Vec F S32x64 .f32) : Prop :=
  (1 ≤ n → sa = stA xs va n ∧ slotV r (slot n 1) = yA xs va (n - 1)) ∧ (2 ≤ n → sb = stB xs va vb n)

/-- The scratch buffers held before grid point `n`. -/
def Scr (c : Dev nD) (B : Bufs) (n : ℕ) : SP F :=
  iprop(∃ (r : RV F) (sa sb : Vec F S32x64 .f32) (ga ga' gb gb' : GV F), ⌜Inv xs va vb n r sa sb⌝ ∗ Own c B.R r ∗ Own c B.Sa sa ∗ Own c B.Sb sb
    ∗ Own c B.Ga ga ∗ Own c B.Ga' ga' ∗ Own c B.Gb gb ∗ Own c B.Gb' gb')

theorem slot_next (n : ℕ) : slot (n + 1) 1 = slot n 0 := by
  apply Fin.ext
  show (n + 1 + 1) % 2 = (n + 0) % 2
  omega

theorem stP_a (n : ℕ) (sa : Vec F S32x64 .f32) (h : 1 ≤ n → sa = stA xs va n) : stP n 0#32 sa = stP n 0#32 (stA xs va n) := by
  cases n with
  | zero => rfl
  | succ n => rw [h (by omega)]

theorem stP_b (n : ℕ) (sb : Vec F S32x64 .f32) (h : 2 ≤ n → sb = stB xs va vb n) : stP n 1#32 sb = stP n 1#32 (stB xs va vb n) := by
  match n with
  | 0 => rfl
  | 1 => rfl
  | n + 2 => rw [h (by omega)]

/-- One grid point: the body takes the scratch from one point to the next, and after the first point the output chunk is the second layer's rows. -/
theorem point_wp (c : Dev nD) (n : ℕ) (hn : n < 33) (B : Bufs) (Q : PUnit → SP F)
    (hQ : iprop(Own c B.X (xs n) ∗ OwnW c B.Wa va ∗ OwnW c B.Wb vb ∗ (∃ o : XV F, ⌜1 ≤ n → rowsX o = yB xs va vb n⌝ ∗ Own c B.O o)
        ∗ Scr xs va vb c B (n + 1)) ⊢ Q ⟨⟩) :
    iprop(Own c B.X (xs n) ∗ OwnW c B.Wa va ∗ OwnW c B.Wb vb ∗ (∃ o : XV F, Own c B.O o) ∗ Scr xs va vb c B n)
      ⊢ Wp c (quad n hn B.X B.Wa B.Wb B.O B.R B.Sa B.Sb B.Ga B.Ga' B.Gb B.Gb' B.ha B.ha' B.hb B.hb') Q := by
  unfold Scr
  iintro ⟨HX, HWa, HWb, ⟨%o, HO⟩, ⟨%r, %sa, %sb, %ga, %ga', %gb, %gb', %hI, HR, HSa, HSb, H1, H2, H3, H4⟩⟩
  have ea := stP_a xs va n sa fun h => (hI.1 h).1
  have eb := stP_b xs va vb n sb hI.2
  have hw := quad_wp c n hn B (xs n) va vb (slotV r (slot n 1)) sa sb ga ga' gb gb' Q ?_
  · iapply hw
    unfold Hd HO HR
    isplitl [HX]; · iexact HX
    isplitl [HWa]; · iexact HWa
    isplitl [HWb]; · iexact HWb
    isplitl [HO]
    · iexists o; isplitr; swap; · iexact HO
      ipureintro; exact fun s hs h => absurd h (Nat.not_lt_zero s)
    isplitl [HR]
    · iexists r; isplitr; swap; · iexact HR
      ipureintro; exact ⟨fun s hs => rfl, fun s hs h => absurd h (Nat.not_lt_zero s)⟩
    isplitl [HSa]; · iexact HSa
    isplitl [HSb]; · iexact HSb
    isplitl [H1]; · iexact H1
    isplitl [H2]; · iexact H2
    isplitl [H3]; · iexact H3
    iexact H4
  · intro ga ga' gb gb'
    refine BIBase.Entails.trans ?_ hQ
    unfold Hd HO HR Scr
    rw [ea, eb]
    iintro ⟨HX, HWa, HWb, ⟨%o, %ho, HO⟩, ⟨%r', %hr, HR⟩, HSa, HSb, H1, H2, H3, H4⟩
    isplitl [HX]; · iexact HX
    isplitl [HWa]; · iexact HWa
    isplitl [HWb]; · iexact HWb
    isplitl [HO]
    · iexists o; isplitr; swap; · iexact HO
      ipureintro
      intro h1
      funext s hs
      unfold rowsX
      rw [ho s hs hs]
      refine (Idealize.ShloMosaic.shapeCast_self (s := S256x512) _ _).trans ?_
      unfold yB
      rw [(hI.1 h1).2]
    iexists r', (stV va (rowsX (xs n)) (stP n 0#32 (stA xs va n)) 8 (le_refl 8)), (stV vb (slotV r (slot n 1)) (stP n 1#32 (stB xs va vb n)) 8 (le_refl 8)), ga, ga', gb, gb'
    isplitr
    · ipureintro
      refine ⟨fun _ => ⟨rfl, ?_⟩, fun h2 => ?_⟩
      · rw [slot_next]
        funext s hs
        exact hr.2 s hs hs
      · have e := (hI.1 (show 1 ≤ n by omega)).2
        show _ = stV vb (yA xs va (n - 1)) (stP n 1#32 (stB xs va vb n)) 8 (le_refl 8)
        rw [e]
    isplitl [HR]; · iexact HR
    isplitl [HSa]; · iexact HSa
    isplitl [HSb]; · iexact HSb
    isplitl [H1]; · iexact H1
    isplitl [H2]; · iexact H2
    isplitl [H3]; · iexact H3
    iexact H4

end Seqs

end Cert.Quad
-- ==== Proof.QuadChunk.lean ====
module

public import proofs.«01_k».proof.Proof.QuadPoint
public import Idealize.ShloMosaic.Lib.Pointwise.Index

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F]

theorem lt_chunk (n k : ℕ) (hk : k < 2048) : 2048 * min n 31 + k < 65536 := by
  have : min n 31 ≤ 31 := Nat.min_le_right _ _
  omega

/-- Chunk `n` of an array of chunks of 2048 rows; past the last, the last. -/
def chunk (h : Vec F S65536x512 .f32) (n : ℕ) : XV F :=
  fun y => h (ix2 ⟨2048 * min n 31 + (y 0).val, lt_chunk n _ (y 0).isLt⟩ (y 1))

/-- The array whose chunk `n` has the rows `y (n + 1)`. -/
def unchunk (y : ℕ → RowsV F) : Vec F S65536x512 .f32 :=
  fun i => y ((i 0).val / 2048 + 1) ((i 0).val % 2048 / 256) (by omega) (ix2 ⟨(i 0).val % 256, Nat.mod_lt _ (by omega)⟩ (i 1))

/-- Rows of a chunk, one element. -/
theorem rowsX_apply (x : XV F) (s : ℕ) (hs : s < 8) (i : Fin 256) (l : Fin 512) :
    rowsX x s hs (ix2 i l) = x (ix2 ⟨256 * s + i.val, by omega⟩ l) := by
  unfold rowsX
  rw [show shapeCast S256x512 (window x ![256 * s, 0] S256x512.size (inb_rows s hs)) shapeCasts_S256x512_S256x512 = window x ![256 * s, 0] S256x512.size (inb_rows s hs) from Idealize.ShloMosaic.shapeCast_self (s := S256x512) _ _]
  unfold VecWindow.window
  congr 1
  funext a; apply Fin.ext
  rw [Rect.emb_apply]
  match a with
  | 0 => show 256 * s + 1 * i.val = _; simp [ix2]
  | 1 => show 0 + 1 * l.val = _; simp [ix2]

/-- A block at offset zero of the array's own size is the array. -/
theorem whole_emb {m n : ℕ} {e : EltTy} (x : Vec F ⟨2, ![m, n]⟩ e) (f : (⟨2, ![m, n]⟩ : Shape).Idx → (⟨2, ![m, n]⟩ : Shape).Idx)
    (h0 : ∀ y, (f y 0).val = 0 * m + 1 * (y 0).val) (h1 : ∀ y, (f y 1).val = 0 * n + 1 * (y 1).val) : (fun y => x (f y)) = x := by
  funext y
  congr 1
  funext a; apply Fin.ext
  match a with
  | 0 => rw [h0 y]; omega
  | 1 => rw [h1 y]; omega

/-- The block `k` of 2048 rows is chunk `n`. -/
theorem chunk_emb (x : Vec F S65536x512 .f32) (n k : ℕ) (hk : k = min n 31) (f : S2048x512.Idx → S65536x512.Idx)
    (h0 : ∀ y, (f y 0).val = k * 2048 + 1 * (y 0).val) (h1 : ∀ y, (f y 1).val = 0 * 512 + 1 * (y 1).val) : (fun y => x (f y)) = chunk x n := by
  funext y
  unfold chunk
  congr 1
  funext a; apply Fin.ext
  match a with
  | 0 => rw [h0 y, hk]; show _ = 2048 * min n 31 + (y 0).val; omega
  | 1 => rw [h1 y]; show _ = (y 1).val; omega

/-- An element of the array whose chunks are `y`, in the block of grid point `n`. -/
theorem unchunk_emb (y : ℕ → RowsV F) (x : XV F) (n : ℕ) (hn : 1 ≤ n) (hx : rowsX x = y n) (k : ℕ) (hk : k = n - 1) (i : S2048x512.Idx) (j : S65536x512.Idx)
    (h0 : (j 0).val = k * 2048 + 1 * (i 0).val) (h1 : (j 1).val = 0 * 512 + 1 * (i 1).val) : x i = unchunk y j := by
  have hi : (i 0).val < 2048 := (i 0).isLt
  have key : ∀ (n' s s' : ℕ) (hs : s < 8) (hs' : s' < 8) (a a' : S256x512.Idx), n' = n → s' = s → a' = a → y n s hs a = y n' s' hs' a' := by
    intro n' s s' hs hs' a a' e1 e2 e3; subst e1; subst e2; subst e3; rfl
  unfold unchunk
  rw [← key _ ((i 0).val / 256) _ (by omega) _ (ix2 ⟨(i 0).val % 256, Nat.mod_lt _ (by omega)⟩ (i 1)) _ (by omega) (by omega)
    (by congr 1; · apply Fin.ext; show (j 0).val % 256 = (i 0).val % 256; omega
        · apply Fin.ext; omega), ← hx]
  refine Eq.trans ?_ (rowsX_apply x _ _ ⟨(i 0).val % 256, Nat.mod_lt _ (by omega)⟩ (i 1)).symm
  congr 1
  funext a; apply Fin.ext
  match a with
  | 0 => show (i 0).val = 256 * ((i 0).val / 256) + (i 0).val % 256; omega
  | 1 => rfl

/-- Twelve conjuncts taken off a conjunction. -/
theorem take12 (a1 a2 a3 a4 a5 a6 a7 a8 a9 a10 a11 a12 R : SP F) : iprop(a1 ∗ a2 ∗ a3 ∗ a4 ∗ a5 ∗ a6 ∗ a7 ∗ a8 ∗ a9 ∗ a10 ∗ a11 ∗ a12 ∗ R) = iprop((a1 ∗ a2 ∗ a3 ∗ a4 ∗ a5 ∗ a6 ∗ a7 ∗ a8 ∗ a9 ∗ a10 ∗ a11 ∗ a12) ∗ R) := by
  have e : ∀ P Q S : SP F, iprop((P ∗ Q) ∗ S) = iprop(P ∗ Q ∗ S) := fun P Q S => equiv_iff.mp ⟨BI.sep_assoc, BI.sep_assoc'⟩
  simp only [e]

/-- The conjuncts of a call's windows, by layer. -/
theorem group (X a1 a2 a3 a4 a5 a6 a7 a8 a9 a10 a11 a12 b1 b2 b3 b4 b5 b6 b7 b8 b9 b10 b11 b12 O : SP F) : iprop(X ∗ a1 ∗ a2 ∗ a3 ∗ a4 ∗ a5 ∗ a6 ∗ a7 ∗ a8 ∗ a9 ∗ a10 ∗ a11 ∗ a12 ∗ b1 ∗ b2 ∗ b3 ∗ b4 ∗ b5 ∗ b6 ∗ b7 ∗ b8 ∗ b9 ∗ b10 ∗ b11 ∗ b12 ∗ O)
    = iprop(X ∗ (a1 ∗ a2 ∗ a3 ∗ a4 ∗ a5 ∗ a6 ∗ a7 ∗ a8 ∗ a9 ∗ a10 ∗ a11 ∗ a12) ∗ (b1 ∗ b2 ∗ b3 ∗ b4 ∗ b5 ∗ b6 ∗ b7 ∗ b8 ∗ b9 ∗ b10 ∗ b11 ∗ b12) ∗ O) := by
  rw [take12 (R := iprop(b1 ∗ b2 ∗ b3 ∗ b4 ∗ b5 ∗ b6 ∗ b7 ∗ b8 ∗ b9 ∗ b10 ∗ b11 ∗ b12 ∗ O)), take12 (R := O)]

end Cert.Quad
-- ==== Proof.QuadEq.lean ====
module

public import proofs.«01_k».proof.Proof.QuadProg

@[expose] public section

set_option maxRecDepth 16384

noncomputable section

namespace Cert.Quad

open Idealize.ShloMosaic Idealize.SL.Sem
open Cert.KernelIdeal Cert.KernelIdeal.Gen

variable {F : FTy → Type} [FloatOps F]

set_option maxRecDepth 65536 in
set_option maxHeartbeats 0 in
/-- The printed body of call 1 is the body over its buffers. -/
theorem cc1_eq (i : grid1.Coords) (arg1 : Mr S2048x512 .f32) (h1 : arg1.IsWhole) (arg2 : Mr S1x512 .f32) (h2 : arg2.IsWhole) (arg3 : Mr S1x512 .f32) (h3 : arg3.IsWhole) (arg4 : Mr S512x64 .bf16) (h4 : arg4.IsWhole) (arg5 : Mr S1x64 .f32) (h5 : arg5.IsWhole) (arg6 : Mr S512x64 .bf16) (h6 : arg6.IsWhole) (arg7 : Mr S1x64 .f32) (h7 : arg7.IsWhole) (arg8 : Mr S64x64 .f32) (h8 : arg8.IsWhole) (arg9 : Mr S64x512 .bf16) (h9 : arg9.IsWhole) (arg10 : Mr S512x512 .bf16) (h10 : arg10.IsWhole) (arg11 : Mr S1x512 .f32) (h11 : arg11.IsWhole) (arg12 : Mr S512x512 .bf16) (h12 : arg12.IsWhole) (arg13 : Mr S1x512 .f32) (h13 : arg13.IsWhole) (arg14 : Mr S1x512 .f32) (h14 : arg14.IsWhole) (arg15 : Mr S1x512 .f32) (h15 : arg15.IsWhole) (arg16 : Mr S512x64 .bf16) (h16 : arg16.IsWhole) (arg17 : Mr S1x64 .f32) (h17 : arg17.IsWhole) (arg18 : Mr S512x64 .bf16) (h18 : arg18.IsWhole) (arg19 : Mr S1x64 .f32) (h19 : arg19.IsWhole) (arg20 : Mr S64x64 .f32) (h20 : arg20.IsWhole) (arg21 : Mr S64x512 .bf16) (h21 : arg21.IsWhole) (arg22 : Mr S512x512 .bf16) (h22 : arg22.IsWhole) (arg23 : Mr S1x512 .f32) (h23 : arg23.IsWhole) (arg24 : Mr S512x512 .bf16) (h24 : arg24.IsWhole) (arg25 : Mr S1x512 .f32) (h25 : arg25.IsWhole) (arg26 : Mr S2048x512 .f32) (h26 : arg26.IsWhole) (arg27 : Mr S2x2048x512 .f32) (h27 : arg27.IsWhole) (arg28 : Mr S32x64 .f32) (h28 : arg28.IsWhole) (arg29 : Mr S32x64 .f32) (h29 : arg29.IsWhole) (arg30 : Mr S256x512 .bf16) (h30 : arg30.IsWhole) (arg31 : Mr S256x512 .bf16) (h31 : arg31.IsWhole) (arg32 : Mr S256x512 .bf16) (h32 : arg32.IsWhole) (arg33 : Mr S256x512 .bf16) (h33 : arg33.IsWhole) :
    cc1_mamba_quad (F := F) i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 arg27 h27 arg28 h28 arg29 h29 arg30 h30 arg31 h31 arg32 h32 arg33 h33 =
      quad (i 0).val (i 0).isLt arg1 ⟨arg2, arg3, arg4, arg5, arg6, arg7, arg8, arg9, arg10, arg11, arg12, arg13⟩ ⟨arg14, arg15, arg16, arg17, arg18, arg19, arg20, arg21, arg22, arg23, arg24, arg25⟩
        arg26 arg27 arg28 arg29 arg30 arg31 arg32 arg33 h30 h31 h32 h33 := by
  rw [cc1_mamba_quad_eq_skeleton]
  rfl

set_option maxRecDepth 65536 in
set_option maxHeartbeats 0 in
/-- The printed body of call 2 is the body over its buffers. -/
theorem cc2_eq (i : grid2.Coords) (arg1 : Mr S2048x512 .f32) (h1 : arg1.IsWhole) (arg2 : Mr S1x512 .f32) (h2 : arg2.IsWhole) (arg3 : Mr S1x512 .f32) (h3 : arg3.IsWhole) (arg4 : Mr S512x64 .bf16) (h4 : arg4.IsWhole) (arg5 : Mr S1x64 .f32) (h5 : arg5.IsWhole) (arg6 : Mr S512x64 .bf16) (h6 : arg6.IsWhole) (arg7 : Mr S1x64 .f32) (h7 : arg7.IsWhole) (arg8 : Mr S64x64 .f32) (h8 : arg8.IsWhole) (arg9 : Mr S64x512 .bf16) (h9 : arg9.IsWhole) (arg10 : Mr S512x512 .bf16) (h10 : arg10.IsWhole) (arg11 : Mr S1x512 .f32) (h11 : arg11.IsWhole) (arg12 : Mr S512x512 .bf16) (h12 : arg12.IsWhole) (arg13 : Mr S1x512 .f32) (h13 : arg13.IsWhole) (arg14 : Mr S1x512 .f32) (h14 : arg14.IsWhole) (arg15 : Mr S1x512 .f32) (h15 : arg15.IsWhole) (arg16 : Mr S512x64 .bf16) (h16 : arg16.IsWhole) (arg17 : Mr S1x64 .f32) (h17 : arg17.IsWhole) (arg18 : Mr S512x64 .bf16) (h18 : arg18.IsWhole) (arg19 : Mr S1x64 .f32) (h19 : arg19.IsWhole) (arg20 : Mr S64x64 .f32) (h20 : arg20.IsWhole) (arg21 : Mr S64x512 .bf16) (h21 : arg21.IsWhole) (arg22 : Mr S512x512 .bf16) (h22 : arg22.IsWhole) (arg23 : Mr S1x512 .f32) (h23 : arg23.IsWhole) (arg24 : Mr S512x512 .bf16) (h24 : arg24.IsWhole) (arg25 : Mr S1x512 .f32) (h25 : arg25.IsWhole) (arg26 : Mr S2048x512 .f32) (h26 : arg26.IsWhole) (arg27 : Mr S2x2048x512 .f32) (h27 : arg27.IsWhole) (arg28 : Mr S32x64 .f32) (h28 : arg28.IsWhole) (arg29 : Mr S32x64 .f32) (h29 : arg29.IsWhole) (arg30 : Mr S256x512 .bf16) (h30 : arg30.IsWhole) (arg31 : Mr S256x512 .bf16) (h31 : arg31.IsWhole) (arg32 : Mr S256x512 .bf16) (h32 : arg32.IsWhole) (arg33 : Mr S256x512 .bf16) (h33 : arg33.IsWhole) :
    cc2_mamba_quad (F := F) i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 arg27 h27 arg28 h28 arg29 h29 arg30 h30 arg31 h31 arg32 h32 arg33 h33 =
      quad (i 0).val (i 0).isLt arg1 ⟨arg2, arg3, arg4, arg5, arg6, arg7, arg8, arg9, arg10, arg11, arg12, arg13⟩ ⟨arg14, arg15, arg16, arg17, arg18, arg19, arg20, arg21, arg22, arg23, arg24, arg25⟩
        arg26 arg27 arg28 arg29 arg30 arg31 arg32 arg33 h30 h31 h32 h33 := by
  rw [cc2_mamba_quad_eq_skeleton]
  rfl

end Cert.Quad
-- ==== Proof.RegionMk.lean ====
module

public import proofs.«01_k».proof.Proof.QuadMem
public import proofs.«01_k».proof.Proof.Gen.KernelIdeal.Regions

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal Cert.KernelIdeal.Gen

variable {F : FTy → Type} [FloatOps F]

/-- The proof data of one call on core `c`. -/
abbrev RD (F : FTy → Type) [FloatOps F] (p : Fin 4) (c : Dev nD) := RDat τ (Elt F) Unit ℕ (UR sig nD τ) ℕ (cfgs p) c

/-- No level is assigned to a semaphore. -/
abbrev Lz : GSem nD τ sig → Finset Unit := fun _ => ∅
abbrev lvz : GSem nD τ sig → Unit → ℕ := fun _ _ => 0

/-- Core `c` owes nothing. -/
abbrev Idle (F : FTy → Type) [FloatOps F] (c : Dev nD) : SP F := iprop(∃ W, owes (c : Thread nD τ) (0 : CellTallies nD τ sig Unit) W)

/-- Core `c`'s unscoped buffers at `V`, and the core owing nothing. -/
abbrev At (V : Dev nD → Valuation τ sig (Elt F)) (c : Dev nD) : SP F :=
  iprop(StableHlo.held (c : Thread nD τ) (Pipeline.ucRefs τ sig) (V c) ∗ Idle F c)

/-- What a call's proof data must satisfy to take the buffers from `Vi` to `Vo`. -/
structure Call (p : Fin 4) (rd : (c : Dev nD) → RD F p c) (Vi Vo : Dev nD → Valuation τ sig (Elt F)) : Prop where
  share : ∀ c w, (rd c).share w = fullShare
  entry : ∀ c w, (rd c).A w = Vi c (Proc.devRef .tc (Pipeline.arrRef (cfgs p).spec w))
  owed : ∀ c t, (rd c).owed t = 0
  recorded : ∀ c t, (rd c).recorded t = Set.univ
  body : ∀ c, (rd c).BodyObligation (defs₀ (F := F)) Variants.none () Set.univ
  hin : ∀ c, (Pipeline.scopedRest (Ix := Unit) (Name := ℕ) (U := UR sig nD τ) (Lvl := ℕ) (Val := Elt F) (cfgs p).spec c : SP F) ⊢ (rd c).Φ 0
  hout : ∀ c, (rd c).Φ (Fin.last (cfgs p).N) ⊢ (Pipeline.scopedRest (Ix := Unit) (Name := ℕ) (U := UR sig nD τ) (Lvl := ℕ) (Val := Elt F) (cfgs p).spec c : SP F)
  final : ∀ c w G, (rd c).ArrAt w (cfgs p).N G → G = Vo c (Proc.devRef .tc (Pipeline.arrRef (cfgs p).spec w))
  rest : ∀ c (b : Ref sig .tc), (∀ w, b ≠ Pipeline.arrRef (cfgs p).spec w) → Vo c (Proc.devRef .tc b) = Vi c (Proc.devRef .tc b)

variable (rds : (p : Fin 4) → (c : Dev nD) → RD F p c)

set_option backward.isDefEq.respectTransparency.types false in
/-- The segment of a call, from its proof data. -/
def mkReg (p : Fin 4) (kit : Pipeline.LaunchFacts (nD := nD) (τ := τ) cfgs p) (Vi Vo : Dev nD → Valuation τ sig (Elt F)) (h : Call p (rds p) Vi Vo) :
    Pipeline.RDat.RegionSeg (pcfgs (F := F)) adm rds () (defs₀ (F := F)) Variants.none Lz lvz p where
  win := kit.win.to₀
  block_pos := kit.block_pos
  stage_whole := kit.stage_whole
  K := PEmpty
  osem k := k.elim
  ho := Pipeline.OwnSemFacts.none _
  hbody := h.body
  hwaits := Pipeline.RDat.hwaits_of_owed_zero (pcfgs (F := F)) adm rds () Lz lvz p h.owed
  pre := At Vi
  post := At Vo
  X _ := iprop(emp)
  Y _ := iprop(emp)
  Z c := Pipeline.unscopedRest (Ix := Unit) (Name := ℕ) (U := UR sig nD τ) (Lvl := ℕ) (cfgs p).spec c (fun b => Vi c (Proc.devRef .tc b))
  hentry c := by
    rw [Pipeline.ownSems0_none]
    have hsplit := Pipeline.RDat.arrays_of_unscopedBufs (p := p) (pcfgs (F := F)) adm rds kit.win kit.arr_whole c (h.share c)
      (fun b => Vi c (Proc.devRef .tc b)) (fun w => h.entry c w)
    rw [show (unscopedBufs c (fun b => Vi c (Proc.devRef .tc b)) : SP F) = StableHlo.held (c : Thread nD τ) (Pipeline.ucRefs τ sig) (Vi c)
      from Pipeline.unscopedBufs_held (Ix := Unit) (Name := ℕ) (U := UR sig nD τ) (Lvl := ℕ) c (Vi c)] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      rw [h.owed c 0]
      icases HO with ⟨%W, HO⟩; iexists W; isplitr
      · ipureintro; unfold RDat.bound; rw [h.recorded c 0]; exact fun _ _ => Or.inl trivial
      iexact HO
    isplitr; · iempintro
    iexact Hrest
  hin c := by
    refine BIBase.Entails.trans ?_ (h.hin c)
    iintro ⟨-, -, Hr⟩; iexact Hr
  hout c := by
    refine BIBase.Entails.trans (h.hout c) ?_
    rw [Pipeline.ownSems0_none]
    iintro Hr
    isplitr; · iempintro
    isplitr; · iempintro
    iexact Hr
  hexit c := by
    have hsp := Pipeline.unscopedBufs_split (Ix := Unit) (Name := ℕ) (U := UR sig nD τ) (Lvl := ℕ) (Val := Elt F) cfgs p kit.win.arr_unscoped kit.win.arr_inj c (fun b => Vo c (Proc.devRef .tc b))
    rw [show (unscopedBufs c (fun b => Vo c (Proc.devRef .tc b)) : SP F) = StableHlo.held (c : Thread nD τ) (Pipeline.ucRefs τ sig) (Vo c)
      from Pipeline.unscopedBufs_held (Ix := Unit) (Name := ℕ) (U := UR sig nD τ) (Lvl := ℕ) c (Vo c)] at hsp
    have hre : (Pipeline.unscopedRest (Ix := Unit) (Name := ℕ) (U := UR sig nD τ) (Lvl := ℕ) (cfgs p).spec c (fun b => Vi c (Proc.devRef .tc b)) : SP F)
        = Pipeline.unscopedRest (Ix := Unit) (Name := ℕ) (U := UR sig nD τ) (Lvl := ℕ) (cfgs p).spec c (fun b => Vo c (Proc.devRef .tc b)) := by
      unfold Pipeline.unscopedRest
      refine bigSep_congr fun b hb => ?_
      dsimp only
      rw [h.rest c b fun w e => (Finset.mem_sdiff.mp hb).2 (e ▸ Finset.mem_image.mpr ⟨w, Finset.mem_univ _, rfl⟩)]
    have ha : (rds p c).arraysAt (cfgs p).N ⊢ (bigSep Finset.univ fun w => ((c : Thread nD τ).loc (Pipeline.arrRef (cfgs p).spec w)) ↦{fullShare} Vo c (Proc.devRef .tc (Pipeline.arrRef (cfgs p).spec w)) : SP F) := by
      refine BIBase.Entails.trans (Entails.of_eq (Pipeline.RDat.arraysAt_eq (pcfgs (F := F)) adm rds p c kit.arr_whole (h.share c) (cfgs p).N)) ?_
      have hw : ∀ w, iprop(∃ G, ⌜(rds p c).ArrAt w (cfgs p).N G⌝ ∗ (((c : Thread nD τ).loc (Pipeline.arrRef (cfgs p).spec w)) ↦{fullShare} G : SP F))
          ⊢ (((c : Thread nD τ).loc (Pipeline.arrRef (cfgs p).spec w)) ↦{fullShare} Vo c (Proc.devRef .tc (Pipeline.arrRef (cfgs p).spec w)) : SP F) := by
        intro w
        iintro ⟨%G, %hG, H⟩
        rw [h.final c w G hG]
        iexact H
      exact bigSep_mono fun w _ => hw w
    rw [hre]
    unfold At
    rw [hsp]
    iintro ⟨Ha, HO, -, Hrest⟩
    imodintro
    isplitl [Ha Hrest]
    · isplitl [Ha]
      · iapply ha; iexact Ha
      iexact Hrest
    unfold RDat.owesAt Pipeline.owesWithin
    rw [h.owed c (Fin.last _)]
    icases HO with ⟨%W, -, HO⟩; iexists W; iexact HO

end Cert.Quad
-- ==== Proof.InprojRegion.lean ====
module

public import proofs.«01_k».proof.Proof.QuadChunk
public import proofs.«01_k».proof.Proof.QuadEq
public import proofs.«01_k».proof.Proof.RegionMk
public import proofs.«01_k».proof.Proof.Gen.KernelIdeal.Points
public import Idealize.ShloMosaic.Lib.Pipeline.FrameBody
public import Idealize.ShloMosaic.Lib.Pipeline.ArrRel
public import Idealize.ShloMosaic.Lib.Pipeline.ValueKit
public import Idealize.ShloMosaic.Lib.Pointwise.Index

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Idealize.ShloMosaic.VecWindow (window put)

variable {F : FTy → Type} [FloatOps F]

variable (V : Dev nD → Valuation τ sig (Elt F))

theorem lt_block (n k : ℕ) (hk : k < 4096) : 4096 * min n 15 + k < 65536 := by
  have : min n 15 ≤ 15 := Nat.min_le_right _ _
  omega

/-- Block `n` of 4096 rows of the input. -/
def block0 (x : Vec F S65536x64 .f32) (n : ℕ) : Vec F S4096x64 .f32 :=
  fun y => x (ix2 ⟨4096 * min n 15 + (y 0).val, lt_block n _ (y 0).isLt⟩ (y 1))

theorem block0_emb (x : Vec F S65536x64 .f32) (n k : ℕ) (hk : k = min n 15) (f : S4096x64.Idx → S65536x64.Idx)
    (h0 : ∀ y, (f y 0).val = k * 4096 + 1 * (y 0).val) (h1 : ∀ y, (f y 1).val = 0 * 64 + 1 * (y 1).val) : (fun y => x (f y)) = block0 x n := by
  funext y
  unfold block0
  congr 1
  funext a; apply Fin.ext
  match a with
  | 0 => rw [h0 y, hk]; show _ = 4096 * min n 15 + (y 0).val; omega
  | 1 => rw [h1 y]; show _ = (y 1).val; omega

/-- The array whose blocks of 4096 rows are `y n`. -/
def unblock0 (y : ℕ → Vec F S4096x512 .f32) : Vec F S65536x512 .f32 :=
  fun i => y ((i 0).val / 4096) (ix2 ⟨(i 0).val % 4096, Nat.mod_lt _ (by omega)⟩ (i 1))

theorem unblock0_emb (y : ℕ → Vec F S4096x512 .f32) (x : Vec F S4096x512 .f32) (n : ℕ) (hx : x = y n) (k : ℕ) (hk : k = n) (i : S4096x512.Idx) (j : S65536x512.Idx)
    (h0 : (j 0).val = k * 4096 + 1 * (i 0).val) (h1 : (j 1).val = 0 * 512 + 1 * (i 1).val) : x i = unblock0 y j := by
  have hi : (i 0).val < 4096 := (i 0).isLt
  have key : ∀ (n' : ℕ) (a a' : S4096x512.Idx), n' = n → a' = a → y n a = y n' a' := by
    intro n' a a' e1 e2; subst e1; subst e2; rfl
  subst hx
  unfold unblock0
  refine key _ _ _ (by omega) ?_
  funext a; apply Fin.ext
  match a with
  | 0 => show (j 0).val % 4096 = (i 0).val; omega
  | 1 => show (j 1).val = (i 1).val; omega

/-- The blocks of the input, and what the body makes of each. -/
def xs0 (c : Dev nD) : ℕ → Vec F S4096x64 .f32 := block0 (V c main_v1)
def ys0 (c : Dev nD) (n : ℕ) : Vec F S4096x512 .f32 := k0_pay1 (xs0 V c n) (V c main_arg1) (V c main_v2)

/-- The output window's block, as an array. -/
def out0 (w : Fin 4) (h : w = 3) (X : (cfg0.win w).block.Idx → Elt F (cfg0.win w).elt) : Vec F S4096x512 .f32 := by
  subst h; exact X

/-- The proof data of the projection call: every input buffer is left as found, the output buffer holds the body's value. -/
def rd0 (c : Dev nD) : RD F 0 c where
  A w := V c (Proc.devRef .tc (Pipeline.arrRef spec0 w))
  after w t Y X := (w ≠ 3 → X = Y) ∧ ∀ h : w = 3, out0 w h X = ys0 V c t.val
  Φ _ := Pipeline.scopedRest (Ix := Unit) (Name := ℕ) (U := UR sig nD τ) (Lvl := ℕ) (Val := Elt F) spec0 c
  q _ := fullShare
  owed _ := 0

/-- The block of the input at each point. -/
theorem in0_index : ∀ t : Fin grid0.N, cc0_transform_0 (grid0.coords t) 0 = min t.val 15 := by decide +kernel
theorem out0_index : ∀ t : Fin grid0.N, cc0_transform_3 (grid0.coords t) 0 = t.val := by decide +kernel

/-- Every input buffer is found at a fetched block. -/
theorem found0 (c : Dev nD) (t : Fin cfg0.N) (w : Fin 4) (hw : w ≠ 3) (hin : (cfg0.win w).isOut = false) (hc : ∀ t t' : Fin cfg0.N, (cfg0.win w).clip (cfg0.grid.coords t) = (cfg0.win w).clip (cfg0.grid.coords t')) (Y)
    (h : (rd0 V c).Finds w t Y) : ∃ d, Y = (rd0 V c).fetched w t d :=
  RDat.finds_in_eq_fetched (rd0 V c) w hin (fun t t' _ => hc t t') (fun _ _ _ h => h.1 hw) t Y h

theorem find0_0 (c : Dev nD) (t : Fin cfg0.N) (Y) (h : (rd0 V c).Finds 0 t Y) : Y = xs0 V c t.val := by
  obtain ⟨d, rfl⟩ := found0 V c t 0 (by decide) rfl (fun _ _ => rfl) Y h
  exact block0_emb (V c main_v1) t.val _ (in0_index t) _ (fun _ => rfl) (fun _ => rfl)

theorem find0_1 (c : Dev nD) (t : Fin cfg0.N) (Y) (h : (rd0 V c).Finds 1 t Y) : Y = V c main_arg1 := by
  obtain ⟨d, rfl⟩ := found0 V c t 1 (by decide) rfl (fun _ _ => rfl) Y h
  exact whole_emb (V c main_arg1) _ (fun _ => rfl) (fun _ => rfl)

theorem find0_2 (c : Dev nD) (t : Fin cfg0.N) (Y) (h : (rd0 V c).Finds 2 t Y) : Y = V c main_v2 := by
  obtain ⟨d, rfl⟩ := found0 V c t 2 (by decide) rfl (fun _ _ => rfl) Y h
  exact whole_emb (V c main_v2) _ (fun _ => rfl) (fun _ => rfl)

/-- The body's run at one point, with anything else held aside. -/
theorem point0 (c : Dev nD) (t : Fin cfg0.N) (R : SP F) (o : S4096x512.Idx → Elt F .f32) {Q : PUnit → SP F}
    (hQ : iprop(R ∗ Own c (win0_0.stage (cfg0.slots t 0)) (xs0 V c t.val) ∗ Own c (win0_1.stage (cfg0.slots t 1)) (V c main_arg1) ∗ Own c (win0_2.stage (cfg0.slots t 2)) (V c main_v2) ∗ Own c (win0_3.stage (cfg0.slots t 3)) (ys0 V c t.val)) ⊢ Q ⟨⟩) :
    iprop(R ∗ Own c (win0_0.stage (cfg0.slots t 0)) (xs0 V c t.val) ∗ Own c (win0_1.stage (cfg0.slots t 1)) (V c main_arg1) ∗ Own c (win0_2.stage (cfg0.slots t 2)) (V c main_v2) ∗ Own c (win0_3.stage (cfg0.slots t 3)) o) ⊢ Wp c (bodyAt0 (F := F) t) Q := by
  unfold bodyAt0
  rw [cc0_mamba_inproj_eq_skeleton]
  show _ ⊢ Wp c (rd (win0_0.stage (cfg0.slots t 0)) inb_S4096x64_S4096x64_0_0 h_S4096x64 fun v0 => rd (win0_1.stage (cfg0.slots t 1)) inb_S64x512_S64x512_0_0 h_S64x512 fun v2 =>
    rd (win0_2.stage (cfg0.slots t 2)) inb_S1x512_S1x512_0_0 h_S1x512 fun v4 => rd (win0_3.stage (cfg0.slots t 3)) inb_S4096x512_S4096x512_0_0 h_S4096x512 fun _ =>
      Prog.op (.store (win0_3.stage (cfg0.slots t 3)) (Rect.unit (s := S4096x512) ![0, 0] S4096x512.size inb_S4096x512_S4096x512_0_0) (k0_pay1 v0 v2 v4) Finset.univ (View.stores_vmem_bits_univ h_S4096x512 rfl) (.inl rfl)) fun _ => Prog.ret ⟨⟩) Q
  refine Does.step (.right (.left (does_rd _ _ _ _ _))) ?_
  refine Does.step (.right (.right (.left (does_rd _ _ _ _ _)))) ?_
  refine Does.step (.right (.right (.right (.left (does_rd _ _ _ _ _))))) ?_
  refine Does.step (.right (.right (.right (.right (does_rd _ _ _ _ _))))) ?_
  refine Makes.step (.right (.right (.right (.right (does_wr _ _ _ _ _ _ _))))) ?_
  unfold Wp; rw [wp_ret]
  iintro H; imodintro; iapply hQ; iexact H

/-- One point of the projection call. -/
theorem body0 (c : Dev nD) : (rd0 V c).BodyObligation (defs₀ (F := F)) Variants.none () Set.univ := by
  intro t Y hY
  have e : defs₀ (F := F) .tc cfg0.body (cfg0.bodyArgs t (cfg0.slots t)) = bodyAt0 t := by
    unfold defs₀; rw [Defs.onTc_tc]
  have hk : ∀ w : Fin 4, w ≠ 3 → owns (c : Thread nD τ) ((cfg0.win w).stage (cfg0.slots t w)) fullShare (Y w)
      ⊢ (iprop(∃ X, ⌜(rd0 V c).after w t (Y w) X⌝ ∗ owns (c : Thread nD τ) ((cfg0.win w).stage (cfg0.slots t w)) fullShare X) : SP F) := by
    intro w hw
    iintro H
    iexists (Y w)
    isplitr; · ipureintro; exact ⟨fun _ => rfl, fun e => absurd e hw⟩
    iexact H
  have ho : Own c (win0_3.stage (cfg0.slots t 3)) (ys0 V c t.val)
      ⊢ (iprop(∃ X, ⌜(rd0 V c).after 3 t (Y 3) X⌝ ∗ owns (c : Thread nD τ) ((cfg0.win 3).stage (cfg0.slots t 3)) fullShare X) : SP F) := by
    iintro H
    iexists (ys0 V c t.val)
    isplitr; · ipureintro; exact ⟨fun e => absurd rfl e, fun _ => rfl⟩
    iexact H
  have hbody : iprop((rd0 V c).Φ t.castSucc ∗ (rd0 V c).owesAt () t.castSucc ∗ bigSep Finset.univ fun w : Fin 4 => owns (c : Thread nD τ) ((cfg0.win w).stage (cfg0.slots t w)) fullShare (Y w))
      ⊢ Wp c (defs₀ (F := F) .tc cfg0.body (cfg0.bodyArgs t (cfg0.slots t))) fun _ => iprop((rd0 V c).Φ t.succ ∗ (rd0 V c).owesAt () t.succ
        ∗ bigSep Finset.univ fun w : Fin 4 => iprop(∃ X, ⌜(rd0 V c).after w t (Y w) X⌝ ∗ owns (c : Thread nD τ) ((cfg0.win w).stage (cfg0.slots t w)) fullShare X)) := by
    rw [e]
    show iprop((rd0 V c).Φ t.succ ∗ (rd0 V c).owesAt () t.succ ∗ _) ⊢ _
    rw [bigSep_W0, bigSep_W0]
    refine BIBase.Entails.trans ?_ (point0 V c t iprop((rd0 V c).Φ t.succ ∗ (rd0 V c).owesAt () t.succ) (Y 3) ?_)
    · rw [find0_0 V c t _ (hY 0), find0_1 V c t _ (hY 1), find0_2 V c t _ (hY 2)]
      iintro ⟨HΦ, HO, H⟩
      isplitl [HΦ HO]
      · isplitl [HΦ]; · iexact HΦ
        iexact HO
      iexact H
    · iintro ⟨⟨HΦ, HO⟩, H0, H1, H2, HN⟩
      isplitl [HΦ]; · iexact HΦ
      isplitl [HO]; · iexact HO
      isplitl [H0]; · iapply (hk 0 (by decide)); rw [find0_0 V c t _ (hY 0)]; iexact H0
      isplitl [H1]; · iapply (hk 1 (by decide)); rw [find0_1 V c t _ (hY 1)]; iexact H1
      isplitl [H2]; · iapply (hk 2 (by decide)); rw [find0_2 V c t _ (hY 2)]; iexact H2
      iapply ho; iexact HN
  exact hbody

/-- The array the projection leaves. -/
def o0 (c : Dev nD) : Vec F S65536x512 .f32 := unblock0 (ys0 V c)

/-- The output array after the call. -/
theorem final0 (c : Dev nD) (G) (h : (rd0 V c).ArrAt 3 cfg0.N G) : G = o0 V c := by
  obtain ⟨X, hX, hA⟩ := RDat.ArrAt.exists_exact (rd := rd0 V c) (w := (3 : Fin 4)) (n := cfg0.N) h
  rw [hA (Function.update (fun _ _ _ => Classical.arbitrary _) 3 X) fun u _ _ => by rw [Function.update_self]]
  refine Pipeline.Dat.arrAt_eq_of_covers _ 3 _ (by decide +kernel) fun t hf y => ?_
  obtain ⟨Y, -, hY⟩ := hX t t.isLt hf
  have hr := hY.2 rfl
  rw [RDat.withAfter_after, Function.update_self]
  refine unblock0_emb _ (X t) t.val hr _ (out0_index t) y _ ?_ ?_
  · rfl
  · rfl

/-- Every other window is an input, of another array. -/
theorem ins0 : ∀ w : Fin 4, w ≠ 3 → (cfg0.win w).isOut = false := by decide
theorem arr0 : ∀ w : Fin 4, w ≠ 3 → Pipeline.arrRef spec0 w ≠ main_v3 := by decide

/-- The projection call takes the buffers from `V` to `V` with its output array. -/
theorem call0 : Call 0 (rd0 V) V (fun c => Function.update (V c) main_v3 (o0 V c)) where
  share c w := by unfold RDat.share; split <;> rfl
  entry c w := rfl
  owed c t := rfl
  recorded c t := rfl
  body := body0 V
  hin c := BIBase.Entails.rfl
  hout c := BIBase.Entails.rfl
  final c w G h := by
    by_cases e : w = 3
    · subst e
      rw [final0 V c G h]
      show o0 V c = Function.update (V c) (Proc.devRef .tc main_v3) (o0 V c) (Proc.devRef .tc main_v3)
      rw [Function.update_self]
    · have hin : (cfg0.win w).isOut = false := ins0 w e
      rw [RDat.ArrAt_in (rd0 V c) w hin] at h
      rw [h]
      exact (Function.update_of_ne (f := V c) (show Proc.devRef .tc (Pipeline.arrRef spec0 w) ≠ main_v3 from fun h => arr0 w e (Proc.devRef_injective _ h)) _).symm
  rest c b hb := Function.update_of_ne (fun e => hb 3 (Proc.devRef_injective _ e)) _ _

end Cert.Quad
-- ==== Proof.QuadRegion1.lean ====
module

public import proofs.«01_k».proof.Proof.QuadChunk
public import proofs.«01_k».proof.Proof.QuadEq
public import proofs.«01_k».proof.Proof.RegionMk
public import proofs.«01_k».proof.Proof.Gen.KernelIdeal.Points
public import Idealize.ShloMosaic.Lib.Pipeline.FrameBody
public import Idealize.ShloMosaic.Lib.Pipeline.ArrRel
public import Idealize.ShloMosaic.Lib.Pipeline.ValueKit
public import Idealize.ShloMosaic.Lib.Pointwise.Index

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Idealize.ShloMosaic.VecWindow (window put)

variable {F : FTy → Type} [FloatOps F]

variable (V : Dev nD → Valuation τ sig (Elt F))

/-- The weights of the first layer of call 1. -/
def va1 (c : Dev nD) : LVals F :=
  ⟨V c main_v6, V c main_v9, V c main_v12, V c main_v15, V c main_v18, V c main_v21, V c main_v24, V c main_v28, V c main_v31, V c main_v34, V c main_v37, V c main_v40⟩
/-- The weights of the second layer of call 1. -/
def vb1 (c : Dev nD) : LVals F :=
  ⟨V c main_v43, V c main_v46, V c main_v49, V c main_v52, V c main_v55, V c main_v58, V c main_v61, V c main_v65, V c main_v68, V c main_v71, V c main_v74, V c main_v77⟩
/-- The chunks of call 1's input. -/
def xs1 (c : Dev nD) : ℕ → XV F := chunk (V c main_v3)

/-- The output window's block, as contents of a chunk. -/
def out1 (w : Fin 26) (h : w = 25) (X : (cfg1.win w).block.Idx → Elt F (cfg1.win w).elt) : XV F := by
  subst h; exact X

/-- Call 1's scratch buffers, and nothing else. -/
abbrev B1 (X O : Mr S2048x512 .f32) (Wa Wb : LRefs) : Bufs :=
  ⟨X, Wa, Wb, O, .whole cc1_scratch0, .whole cc1_scratch1, .whole cc1_scratch2, .whole cc1_scratch3, .whole cc1_scratch4, .whole cc1_scratch5, .whole cc1_scratch6,
    Memref.isWhole_whole _, Memref.isWhole_whole _, Memref.isWhole_whole _, Memref.isWhole_whole _⟩

/-- What is held between the points of call 1. -/
def scr1 (xs : ℕ → XV F) (va vb : LVals F) (c : Dev nD) (n : ℕ) : SP F :=
  iprop(∃ (r : RV F) (sa sb : Vec F S32x64 .f32) (ga ga' gb gb' : GV F), ⌜Inv xs va vb n r sa sb⌝ ∗ Own c (.whole cc1_scratch0) r ∗ Own c (.whole cc1_scratch1) sa
    ∗ Own c (.whole cc1_scratch2) sb ∗ Own c (.whole cc1_scratch3) ga ∗ Own c (.whole cc1_scratch4) ga' ∗ Own c (.whole cc1_scratch5) gb ∗ Own c (.whole cc1_scratch6) gb')

/-- Call 1's proof data: every input buffer is left as found, and from the second point on the output buffer holds the second layer's rows. -/
def rd1 (c : Dev nD) : RD F 1 c where
  A w := V c (Proc.devRef .tc (Pipeline.arrRef spec1 w))
  after w t Y X := (w ≠ 25 → X = Y) ∧ ∀ h : w = 25, 1 ≤ t.val → rowsX (out1 w h X) = yB (xs1 V c) (va1 V c) (vb1 V c) t.val
  Φ t := iprop(scr1 (xs1 V c) (va1 V c) (vb1 V c) c t.val
    ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6])
  q _ := fullShare
  owed _ := 0

/-- The block of the input at each point. -/
theorem in1_index : ∀ t : Fin grid1.N, cc1_transform_0 (grid1.coords t) 0 = min t.val 31 := by decide +kernel
/-- The coordinate of each point. -/
theorem coord1 : ∀ t : Fin grid1.N, (grid1.coords t 0).val = t.val := by decide +kernel

/-- Every input buffer is found at a fetched block. -/
theorem found1 (c : Dev nD) (t : Fin cfg1.N) (w : Fin 26) (hw : w ≠ 25) (hin : (cfg1.win w).isOut = false) (hc : ∀ t t' : Fin cfg1.N, (cfg1.win w).clip (cfg1.grid.coords t) = (cfg1.win w).clip (cfg1.grid.coords t')) (Y)
    (h : (rd1 V c).Finds w t Y) : ∃ d, Y = (rd1 V c).fetched w t d :=
  RDat.finds_in_eq_fetched (rd1 V c) w hin (fun t t' _ => hc t t') (fun _ _ _ h => h.1 hw) t Y h

/-- The input chunk found at point `t`. -/
theorem find1_0 (c : Dev nD) (t : Fin cfg1.N) (Y) (h : (rd1 V c).Finds 0 t Y) : Y = xs1 V c t.val := by
  obtain ⟨d, rfl⟩ := found1 V c t 0 (by decide) rfl (fun _ _ => rfl) Y h
  exact chunk_emb (V c main_v3) t.val _ (in1_index t) _ (fun _ => rfl) (fun _ => rfl)

theorem find1_1 (c : Dev nD) (t : Fin cfg1.N) (Y) (h : (rd1 V c).Finds 1 t Y) : Y = V c main_v6 := by
  obtain ⟨d, rfl⟩ := found1 V c t 1 (by decide) rfl (fun _ _ => rfl) Y h
  exact whole_emb (V c main_v6) _ (fun _ => rfl) (fun _ => rfl)

theorem find1_2 (c : Dev nD) (t : Fin cfg1.N) (Y) (h : (rd1 V c).Finds 2 t Y) : Y = V c main_v9 := by
  obtain ⟨d, rfl⟩ := found1 V c t 2 (by decide) rfl (fun _ _ => rfl) Y h
  exact whole_emb (V c main_v9) _ (fun _ => rfl) (fun _ => rfl)

theorem find1_3 (c : Dev nD) (t : Fin cfg1.N) (Y) (h : (rd1 V c).Finds 3 t Y) : Y = V c main_v12 := by
  obtain ⟨d, rfl⟩ := found1 V c t 3 (by decide) rfl (fun _ _ => rfl) Y h
  exact whole_emb (V c main_v12) _ (fun _ => rfl) (fun _ => rfl)

theorem find1_4 (c : Dev nD) (t : Fin cfg1.N) (Y) (h : (rd1 V c).Finds 4 t Y) : Y = V c main_v15 := by
  obtain ⟨d, rfl⟩ := found1 V c t 4 (by decide) rfl (fun _ _ => rfl) Y h
  exact whole_emb (V c main_v15) _ (fun _ => rfl) (fun _ => rfl)

theorem find1_5 (c : Dev nD) (t : Fin cfg1.N) (Y) (h : (rd1 V c).Finds 5 t Y) : Y = V c main_v18 := by
  obtain ⟨d, rfl⟩ := found1 V c t 5 (by decide) rfl (fun _ _ => rfl) Y h
  exact whole_emb (V c main_v18) _ (fun _ => rfl) (fun _ => rfl)

theorem find1_6 (c : Dev nD) (t : Fin cfg1.N) (Y) (h : (rd1 V c).Finds 6 t Y) : Y = V c main_v21 := by
  obtain ⟨d, rfl⟩ := found1 V c t 6 (by decide) rfl (fun _ _ => rfl) Y h
  exact whole_emb (V c main_v21) _ (fun _ => rfl) (fun _ => rfl)

theorem find1_7 (c : Dev nD) (t : Fin cfg1.N) (Y) (h : (rd1 V c).Finds 7 t Y) : Y = V c main_v24 := by
  obtain ⟨d, rfl⟩ := found1 V c t 7 (by decide) rfl (fun _ _ => rfl) Y h
  exact whole_emb (V c main_v24) _ (fun _ => rfl) (fun _ => rfl)

theorem find1_8 (c : Dev nD) (t : Fin cfg1.N) (Y) (h : (rd1 V c).Finds 8 t Y) : Y = V c main_v28 := by
  obtain ⟨d, rfl⟩ := found1 V c t 8 (by decide) rfl (fun _ _ => rfl) Y h
  exact whole_emb (V c main_v28) _ (fun _ => rfl) (fun _ => rfl)

theorem find1_9 (c : Dev nD) (t : Fin cfg1.N) (Y) (h : (rd1 V c).Finds 9 t Y) : Y = V c main_v31 := by
  obtain ⟨d, rfl⟩ := found1 V c t 9 (by decide) rfl (fun _ _ => rfl) Y h
  exact whole_emb (V c main_v31) _ (fun _ => rfl) (fun _ => rfl)

theorem find1_10 (c : Dev nD) (t : Fin cfg1.N) (Y) (h : (rd1 V c).Finds 10 t Y) : Y = V c main_v34 := by
  obtain ⟨d, rfl⟩ := found1 V c t 10 (by decide) rfl (fun _ _ => rfl) Y h
  exact whole_emb (V c main_v34) _ (fun _ => rfl) (fun _ => rfl)

theorem find1_11 (c : Dev nD) (t : Fin cfg1.N) (Y) (h : (rd1 V c).Finds 11 t Y) : Y = V c main_v37 := by
  obtain ⟨d, rfl⟩ := found1 V c t 11 (by decide) rfl (fun _ _ => rfl) Y h
  exact whole_emb (V c main_v37) _ (fun _ => rfl) (fun _ => rfl)

theorem find1_12 (c : Dev nD) (t : Fin cfg1.N) (Y) (h : (rd1 V c).Finds 12 t Y) : Y = V c main_v40 := by
  obtain ⟨d, rfl⟩ := found1 V c t 12 (by decide) rfl (fun _ _ => rfl) Y h
  exact whole_emb (V c main_v40) _ (fun _ => rfl) (fun _ => rfl)

theorem find1_13 (c : Dev nD) (t : Fin cfg1.N) (Y) (h : (rd1 V c).Finds 13 t Y) : Y = V c main_v43 := by
  obtain ⟨d, rfl⟩ := found1 V c t 13 (by decide) rfl (fun _ _ => rfl) Y h
  exact whole_emb (V c main_v43) _ (fun _ => rfl) (fun _ => rfl)

theorem find1_14 (c : Dev nD) (t : Fin cfg1.N) (Y) (h : (rd1 V c).Finds 14 t Y) : Y = V c main_v46 := by
  obtain ⟨d, rfl⟩ := found1 V c t 14 (by decide) rfl (fun _ _ => rfl) Y h
  exact whole_emb (V c main_v46) _ (fun _ => rfl) (fun _ => rfl)

theorem find1_15 (c : Dev nD) (t : Fin cfg1.N) (Y) (h : (rd1 V c).Finds 15 t Y) : Y = V c main_v49 := by
  obtain ⟨d, rfl⟩ := found1 V c t 15 (by decide) rfl (fun _ _ => rfl) Y h
  exact whole_emb (V c main_v49) _ (fun _ => rfl) (fun _ => rfl)

theorem find1_16 (c : Dev nD) (t : Fin cfg1.N) (Y) (h : (rd1 V c).Finds 16 t Y) : Y = V c main_v52 := by
  obtain ⟨d, rfl⟩ := found1 V c t 16 (by decide) rfl (fun _ _ => rfl) Y h
  exact whole_emb (V c main_v52) _ (fun _ => rfl) (fun _ => rfl)

theorem find1_17 (c : Dev nD) (t : Fin cfg1.N) (Y) (h : (rd1 V c).Finds 17 t Y) : Y = V c main_v55 := by
  obtain ⟨d, rfl⟩ := found1 V c t 17 (by decide) rfl (fun _ _ => rfl) Y h
  exact whole_emb (V c main_v55) _ (fun _ => rfl) (fun _ => rfl)

theorem find1_18 (c : Dev nD) (t : Fin cfg1.N) (Y) (h : (rd1 V c).Finds 18 t Y) : Y = V c main_v58 := by
  obtain ⟨d, rfl⟩ := found1 V c t 18 (by decide) rfl (fun _ _ => rfl) Y h
  exact whole_emb (V c main_v58) _ (fun _ => rfl) (fun _ => rfl)

theorem find1_19 (c : Dev nD) (t : Fin cfg1.N) (Y) (h : (rd1 V c).Finds 19 t Y) : Y = V c main_v61 := by
  obtain ⟨d, rfl⟩ := found1 V c t 19 (by decide) rfl (fun _ _ => rfl) Y h
  exact whole_emb (V c main_v61) _ (fun _ => rfl) (fun _ => rfl)

theorem find1_20 (c : Dev nD) (t : Fin cfg1.N) (Y) (h : (rd1 V c).Finds 20 t Y) : Y = V c main_v65 := by
  obtain ⟨d, rfl⟩ := found1 V c t 20 (by decide) rfl (fun _ _ => rfl) Y h
  exact whole_emb (V c main_v65) _ (fun _ => rfl) (fun _ => rfl)

theorem find1_21 (c : Dev nD) (t : Fin cfg1.N) (Y) (h : (rd1 V c).Finds 21 t Y) : Y = V c main_v68 := by
  obtain ⟨d, rfl⟩ := found1 V c t 21 (by decide) rfl (fun _ _ => rfl) Y h
  exact whole_emb (V c main_v68) _ (fun _ => rfl) (fun _ => rfl)

theorem find1_22 (c : Dev nD) (t : Fin cfg1.N) (Y) (h : (rd1 V c).Finds 22 t Y) : Y = V c main_v71 := by
  obtain ⟨d, rfl⟩ := found1 V c t 22 (by decide) rfl (fun _ _ => rfl) Y h
  exact whole_emb (V c main_v71) _ (fun _ => rfl) (fun _ => rfl)

theorem find1_23 (c : Dev nD) (t : Fin cfg1.N) (Y) (h : (rd1 V c).Finds 23 t Y) : Y = V c main_v74 := by
  obtain ⟨d, rfl⟩ := found1 V c t 23 (by decide) rfl (fun _ _ => rfl) Y h
  exact whole_emb (V c main_v74) _ (fun _ => rfl) (fun _ => rfl)

theorem find1_24 (c : Dev nD) (t : Fin cfg1.N) (Y) (h : (rd1 V c).Finds 24 t Y) : Y = V c main_v77 := by
  obtain ⟨d, rfl⟩ := found1 V c t 24 (by decide) rfl (fun _ _ => rfl) Y h
  exact whole_emb (V c main_v77) _ (fun _ => rfl) (fun _ => rfl)

/-- The layers' weight buffers at point `t`. -/
abbrev Wa1 (t : Fin cfg1.N) : LRefs := ⟨(win1_1.stage (cfg1.slots t 1)), (win1_2.stage (cfg1.slots t 2)), (win1_3.stage (cfg1.slots t 3)), (win1_4.stage (cfg1.slots t 4)), (win1_5.stage (cfg1.slots t 5)), (win1_6.stage (cfg1.slots t 6)), (win1_7.stage (cfg1.slots t 7)), (win1_8.stage (cfg1.slots t 8)), (win1_9.stage (cfg1.slots t 9)), (win1_10.stage (cfg1.slots t 10)), (win1_11.stage (cfg1.slots t 11)), (win1_12.stage (cfg1.slots t 12))⟩
abbrev Wb1 (t : Fin cfg1.N) : LRefs := ⟨(win1_13.stage (cfg1.slots t 13)), (win1_14.stage (cfg1.slots t 14)), (win1_15.stage (cfg1.slots t 15)), (win1_16.stage (cfg1.slots t 16)), (win1_17.stage (cfg1.slots t 17)), (win1_18.stage (cfg1.slots t 18)), (win1_19.stage (cfg1.slots t 19)), (win1_20.stage (cfg1.slots t 20)), (win1_21.stage (cfg1.slots t 21)), (win1_22.stage (cfg1.slots t 22)), (win1_23.stage (cfg1.slots t 23)), (win1_24.stage (cfg1.slots t 24))⟩

/-- The windows' buffers as found at point `t`. -/
theorem in1 (c : Dev nD) (t : Fin cfg1.N) (Y : (w : Fin 26) → (cfg1.win w).block.Idx → Elt F (cfg1.win w).elt) (h : ∀ w, (rd1 V c).Finds w t (Y w)) :
    (bigSep Finset.univ fun w : Fin 26 => owns (c : Thread nD τ) ((cfg1.win w).stage (cfg1.slots t w)) fullShare (Y w) : SP F)
      ⊢ iprop(Own c (win1_0.stage (cfg1.slots t 0)) (xs1 V c t.val) ∗ OwnW c (Wa1 t) (va1 V c) ∗ OwnW c (Wb1 t) (vb1 V c) ∗ ∃ o : XV F, Own c (win1_25.stage (cfg1.slots t 25)) o) := by
  rw [bigSep_W1, group, find1_0 V c t _ (h 0), find1_1 V c t _ (h 1), find1_2 V c t _ (h 2), find1_3 V c t _ (h 3), find1_4 V c t _ (h 4), find1_5 V c t _ (h 5), find1_6 V c t _ (h 6), find1_7 V c t _ (h 7), find1_8 V c t _ (h 8), find1_9 V c t _ (h 9), find1_10 V c t _ (h 10), find1_11 V c t _ (h 11), find1_12 V c t _ (h 12), find1_13 V c t _ (h 13), find1_14 V c t _ (h 14), find1_15 V c t _ (h 15), find1_16 V c t _ (h 16), find1_17 V c t _ (h 17), find1_18 V c t _ (h 18), find1_19 V c t _ (h 19), find1_20 V c t _ (h 20), find1_21 V c t _ (h 21), find1_22 V c t _ (h 22), find1_23 V c t _ (h 23), find1_24 V c t _ (h 24)]
  unfold OwnW
  iintro ⟨HX, HA, HB, HO⟩
  isplitl [HX]; · iexact HX
  isplitl [HA]; · iexact HA
  isplitl [HB]; · iexact HB
  iexists _; iexact HO

/-- The windows' buffers as left at point `t`. -/
theorem out1_of (c : Dev nD) (t : Fin cfg1.N) (Y : (w : Fin 26) → (cfg1.win w).block.Idx → Elt F (cfg1.win w).elt) (h : ∀ w, (rd1 V c).Finds w t (Y w)) :
    iprop(Own c (win1_0.stage (cfg1.slots t 0)) (xs1 V c t.val) ∗ OwnW c (Wa1 t) (va1 V c) ∗ OwnW c (Wb1 t) (vb1 V c)
        ∗ ∃ o : XV F, ⌜1 ≤ t.val → rowsX o = yB (xs1 V c) (va1 V c) (vb1 V c) t.val⌝ ∗ Own c (win1_25.stage (cfg1.slots t 25)) o)
      ⊢ (bigSep Finset.univ fun w : Fin 26 => iprop(∃ X, ⌜(rd1 V c).after w t (Y w) X⌝ ∗ owns (c : Thread nD τ) ((cfg1.win w).stage (cfg1.slots t w)) fullShare X) : SP F) := by
  have hk : ∀ w : Fin 26, w ≠ 25 → owns (c : Thread nD τ) ((cfg1.win w).stage (cfg1.slots t w)) fullShare (Y w)
      ⊢ (iprop(∃ X, ⌜(rd1 V c).after w t (Y w) X⌝ ∗ owns (c : Thread nD τ) ((cfg1.win w).stage (cfg1.slots t w)) fullShare X) : SP F) := by
    intro w hw
    iintro H
    iexists (Y w)
    isplitr; · ipureintro; exact ⟨fun _ => rfl, fun e => absurd e hw⟩
    iexact H
  have ho : iprop(∃ o : XV F, ⌜1 ≤ t.val → rowsX o = yB (xs1 V c) (va1 V c) (vb1 V c) t.val⌝ ∗ Own c (win1_25.stage (cfg1.slots t 25)) o)
      ⊢ (iprop(∃ X, ⌜(rd1 V c).after 25 t (Y 25) X⌝ ∗ owns (c : Thread nD τ) ((cfg1.win 25).stage (cfg1.slots t 25)) fullShare X) : SP F) := by
    iintro ⟨%o, %h, H⟩
    iexists o
    isplitr; · ipureintro; exact ⟨fun e => absurd rfl e, fun _ => h⟩
    iexact H
  have hg := group (F := F) (owns (c : Thread nD τ) ((cfg1.win 0).stage (cfg1.slots t 0)) fullShare (Y 0)) (owns (c : Thread nD τ) ((cfg1.win 1).stage (cfg1.slots t 1)) fullShare (Y 1)) (owns (c : Thread nD τ) ((cfg1.win 2).stage (cfg1.slots t 2)) fullShare (Y 2)) (owns (c : Thread nD τ) ((cfg1.win 3).stage (cfg1.slots t 3)) fullShare (Y 3)) (owns (c : Thread nD τ) ((cfg1.win 4).stage (cfg1.slots t 4)) fullShare (Y 4)) (owns (c : Thread nD τ) ((cfg1.win 5).stage (cfg1.slots t 5)) fullShare (Y 5)) (owns (c : Thread nD τ) ((cfg1.win 6).stage (cfg1.slots t 6)) fullShare (Y 6)) (owns (c : Thread nD τ) ((cfg1.win 7).stage (cfg1.slots t 7)) fullShare (Y 7)) (owns (c : Thread nD τ) ((cfg1.win 8).stage (cfg1.slots t 8)) fullShare (Y 8)) (owns (c : Thread nD τ) ((cfg1.win 9).stage (cfg1.slots t 9)) fullShare (Y 9)) (owns (c : Thread nD τ) ((cfg1.win 10).stage (cfg1.slots t 10)) fullShare (Y 10)) (owns (c : Thread nD τ) ((cfg1.win 11).stage (cfg1.slots t 11)) fullShare (Y 11)) (owns (c : Thread nD τ) ((cfg1.win 12).stage (cfg1.slots t 12)) fullShare (Y 12)) (owns (c : Thread nD τ) ((cfg1.win 13).stage (cfg1.slots t 13)) fullShare (Y 13)) (owns (c : Thread nD τ) ((cfg1.win 14).stage (cfg1.slots t 14)) fullShare (Y 14)) (owns (c : Thread nD τ) ((cfg1.win 15).stage (cfg1.slots t 15)) fullShare (Y 15)) (owns (c : Thread nD τ) ((cfg1.win 16).stage (cfg1.slots t 16)) fullShare (Y 16)) (owns (c : Thread nD τ) ((cfg1.win 17).stage (cfg1.slots t 17)) fullShare (Y 17)) (owns (c : Thread nD τ) ((cfg1.win 18).stage (cfg1.slots t 18)) fullShare (Y 18)) (owns (c : Thread nD τ) ((cfg1.win 19).stage (cfg1.slots t 19)) fullShare (Y 19)) (owns (c : Thread nD τ) ((cfg1.win 20).stage (cfg1.slots t 20)) fullShare (Y 20)) (owns (c : Thread nD τ) ((cfg1.win 21).stage (cfg1.slots t 21)) fullShare (Y 21)) (owns (c : Thread nD τ) ((cfg1.win 22).stage (cfg1.slots t 22)) fullShare (Y 22)) (owns (c : Thread nD τ) ((cfg1.win 23).stage (cfg1.slots t 23)) fullShare (Y 23)) (owns (c : Thread nD τ) ((cfg1.win 24).stage (cfg1.slots t 24)) fullShare (Y 24))
    (iprop(∃ X, ⌜(rd1 V c).after 25 t (Y 25) X⌝ ∗ owns (c : Thread nD τ) ((cfg1.win 25).stage (cfg1.slots t 25)) fullShare X))
  have hid : ∀ P : SP F, P ⊢ P := fun _ => BIBase.Entails.rfl
  rw [bigSep_W1]
  refine BIBase.Entails.trans ?_ (BIBase.Entails.trans (Entails.of_eq hg.symm) ?_)
  · rw [find1_0 V c t _ (h 0), find1_1 V c t _ (h 1), find1_2 V c t _ (h 2), find1_3 V c t _ (h 3), find1_4 V c t _ (h 4), find1_5 V c t _ (h 5), find1_6 V c t _ (h 6), find1_7 V c t _ (h 7), find1_8 V c t _ (h 8), find1_9 V c t _ (h 9), find1_10 V c t _ (h 10), find1_11 V c t _ (h 11), find1_12 V c t _ (h 12), find1_13 V c t _ (h 13), find1_14 V c t _ (h 14), find1_15 V c t _ (h 15), find1_16 V c t _ (h 16), find1_17 V c t _ (h 17), find1_18 V c t _ (h 18), find1_19 V c t _ (h 19), find1_20 V c t _ (h 20), find1_21 V c t _ (h 21), find1_22 V c t _ (h 22), find1_23 V c t _ (h 23), find1_24 V c t _ (h 24)]
    unfold OwnW
    iintro ⟨HX, HA, HB, HO⟩
    isplitl [HX]; · iexact HX
    isplitl [HA]; · iexact HA
    isplitl [HB]; · iexact HB
    iapply ho; iexact HO
  · exact BI.sep_mono (hk 0 (by decide)) (BI.sep_mono (hk 1 (by decide)) (BI.sep_mono (hk 2 (by decide)) (BI.sep_mono (hk 3 (by decide)) (BI.sep_mono (hk 4 (by decide)) (BI.sep_mono (hk 5 (by decide)) (BI.sep_mono (hk 6 (by decide)) (BI.sep_mono (hk 7 (by decide)) (BI.sep_mono (hk 8 (by decide)) (BI.sep_mono (hk 9 (by decide)) (BI.sep_mono (hk 10 (by decide)) (BI.sep_mono (hk 11 (by decide)) (BI.sep_mono (hk 12 (by decide)) (BI.sep_mono (hk 13 (by decide)) (BI.sep_mono (hk 14 (by decide)) (BI.sep_mono (hk 15 (by decide)) (BI.sep_mono (hk 16 (by decide)) (BI.sep_mono (hk 17 (by decide)) (BI.sep_mono (hk 18 (by decide)) (BI.sep_mono (hk 19 (by decide)) (BI.sep_mono (hk 20 (by decide)) (BI.sep_mono (hk 21 (by decide)) (BI.sep_mono (hk 22 (by decide)) (BI.sep_mono (hk 23 (by decide)) (BI.sep_mono (hk 24 (by decide)) ((hid _) )))))))))))))))))))))))))

/-- The body called at point `t` is the layers' body over its buffers. -/
theorem run1 (t : Fin cfg1.N) (hn : t.val < 33) :
    defs₀ (F := F) .tc cfg1.body (cfg1.bodyArgs t (cfg1.slots t))
      = quad t.val hn (win1_0.stage (cfg1.slots t 0)) (Wa1 t) (Wb1 t) (win1_25.stage (cfg1.slots t 25)) (.whole cc1_scratch0) (.whole cc1_scratch1) (.whole cc1_scratch2) (.whole cc1_scratch3) (.whole cc1_scratch4) (.whole cc1_scratch5) (.whole cc1_scratch6) (Memref.isWhole_whole _) (Memref.isWhole_whole _) (Memref.isWhole_whole _) (Memref.isWhole_whole _) := by
  have e : defs₀ (F := F) .tc cfg1.body (cfg1.bodyArgs t (cfg1.slots t)) = bodyAt1 t := by
    unfold defs₀; rw [Defs.onTc_tc]
  rw [e]
  unfold bodyAt1
  rw [cc1_eq]
  have hcoord : ∀ (n n' : ℕ) (e : n = n') (h : n < 33) (h' : n' < 33),
      quad (F := F) n h (win1_0.stage (cfg1.slots t 0)) (Wa1 t) (Wb1 t) (win1_25.stage (cfg1.slots t 25)) (.whole cc1_scratch0) (.whole cc1_scratch1) (.whole cc1_scratch2) (.whole cc1_scratch3) (.whole cc1_scratch4) (.whole cc1_scratch5) (.whole cc1_scratch6) (Memref.isWhole_whole _) (Memref.isWhole_whole _) (Memref.isWhole_whole _) (Memref.isWhole_whole _)
      = quad n' h' (win1_0.stage (cfg1.slots t 0)) (Wa1 t) (Wb1 t) (win1_25.stage (cfg1.slots t 25)) (.whole cc1_scratch0) (.whole cc1_scratch1) (.whole cc1_scratch2) (.whole cc1_scratch3) (.whole cc1_scratch4) (.whole cc1_scratch5) (.whole cc1_scratch6) (Memref.isWhole_whole _) (Memref.isWhole_whole _) (Memref.isWhole_whole _) (Memref.isWhole_whole _) := by
    intro n n' e h h'; subst e; rfl
  exact hcoord _ _ (coord1 t) _ _

/-- One point of call 1. -/
theorem body1 (c : Dev nD) : (rd1 V c).BodyObligation (defs₀ (F := F)) Variants.none () Set.univ := by
  intro t Y hY
  have hn : t.val < 33 := coord1 t ▸ (grid1.coords t 0).isLt
  have hr := run1 (F := F) t hn
  have hp := point_wp (xs1 V c) (va1 V c) (vb1 V c) c t.val hn (B1 (win1_0.stage (cfg1.slots t 0)) (win1_25.stage (cfg1.slots t 25)) (Wa1 t) (Wb1 t))
    (fun _ => iprop(Own c (win1_0.stage (cfg1.slots t 0)) (xs1 V c t.val) ∗ OwnW c (Wa1 t) (va1 V c) ∗ OwnW c (Wb1 t) (vb1 V c)
        ∗ (∃ o : XV F, ⌜1 ≤ t.val → rowsX o = yB (xs1 V c) (va1 V c) (vb1 V c) t.val⌝ ∗ Own c (win1_25.stage (cfg1.slots t 25)) o)
        ∗ scr1 (xs1 V c) (va1 V c) (vb1 V c) c (t.val + 1))) BIBase.Entails.rfl
  have hs : scr1 (xs1 V c) (va1 V c) (vb1 V c) c t.val ⊢ Scr (xs1 V c) (va1 V c) (vb1 V c) c (B1 (win1_0.stage (cfg1.slots t 0)) (win1_25.stage (cfg1.slots t 25)) (Wa1 t) (Wb1 t)) t.val := Entails.of_eq rfl
  have hi := in1 V c t Y hY
  have ho := out1_of V c t Y hY
  have hbody : iprop((rd1 V c).Φ t.castSucc ∗ (rd1 V c).owesAt () t.castSucc ∗ bigSep Finset.univ fun w : Fin 26 => owns (c : Thread nD τ) ((cfg1.win w).stage (cfg1.slots t w)) fullShare (Y w))
      ⊢ Wp c (defs₀ (F := F) .tc cfg1.body (cfg1.bodyArgs t (cfg1.slots t))) fun _ => iprop((rd1 V c).Φ t.succ ∗ (rd1 V c).owesAt () t.succ
        ∗ bigSep Finset.univ fun w : Fin 26 => iprop(∃ X, ⌜(rd1 V c).after w t (Y w) X⌝ ∗ owns (c : Thread nD τ) ((cfg1.win w).stage (cfg1.slots t w)) fullShare X)) := by
    rw [hr]
    show iprop((scr1 (xs1 V c) (va1 V c) (vb1 V c) c t.val ∗ _) ∗ (rd1 V c).owesAt () t.succ ∗ _) ⊢ Wp c _ fun _ => iprop((scr1 (xs1 V c) (va1 V c) (vb1 V c) c (t.val + 1) ∗ _) ∗ (rd1 V c).owesAt () t.succ ∗ _)
    iintro ⟨⟨HS, HR⟩, HO, HW⟩
    ihave HW := hi $$ HW
    icases HW with ⟨HX, HA, HB, Ho⟩
    iapply (wp_wand_r frame (wpE (defs₀ (F := F)) Variants.none (c : Thread nD τ) none) Set.univ)
    isplitl [HX HA HB Ho HS]
    · iapply hp
      isplitl [HX]; · iexact HX
      isplitl [HA]; · iexact HA
      isplitl [HB]; · iexact HB
      isplitl [Ho]; · iexact Ho
      iapply hs; iexact HS
    iintro %_ ⟨HX, HA, HB, Ho, HS⟩
    isplitl [HS HR]
    · isplitl [HS]; · iexact HS
      iexact HR
    isplitl [HO]; · iexact HO
    iapply ho
    isplitl [HX]; · iexact HX
    isplitl [HA]; · iexact HA
    isplitl [HB]; · iexact HB
    iexact Ho
  exact hbody

/-- Before the first point the scratch buffers hold anything. -/
theorem hin1 (c : Dev nD) : (Pipeline.scopedRest (Ix := Unit) (Name := ℕ) (U := UR sig nD τ) (Lvl := ℕ) (Val := Elt F) spec1 c : SP F) ⊢ (rd1 V c).Φ 0 := by
  rw [scopedRest1_split c]
  show _ ⊢ iprop(scr1 (xs1 V c) (va1 V c) (vb1 V c) c 0 ∗ _)
  unfold scr1
  simp only [owns_whole_eq]
  iintro ⟨⟨⟨%r, Hr⟩, ⟨%sa, Hsa⟩, ⟨%sb, Hsb⟩, ⟨%ga, H1⟩, ⟨%ga', H2⟩, ⟨%gb, H3⟩, ⟨%gb', H4⟩⟩, HR⟩
  isplitr [HR]
  · iexists r, sa, sb, ga, ga', gb, gb'
    isplitr; · ipureintro; exact ⟨fun h => absurd h (by omega), fun h => absurd h (by omega)⟩
    isplitl [Hr]; · iexists r; isplitr; · ipureintro; rfl
                    iexact Hr
    isplitl [Hsa]; · iexists sa; isplitr; · ipureintro; rfl
                     iexact Hsa
    isplitl [Hsb]; · iexists sb; isplitr; · ipureintro; rfl
                     iexact Hsb
    isplitl [H1]; · iexists ga; isplitr; · ipureintro; rfl
                    iexact H1
    isplitl [H2]; · iexists ga'; isplitr; · ipureintro; rfl
                    iexact H2
    isplitl [H3]; · iexists gb; isplitr; · ipureintro; rfl
                    iexact H3
    iexists gb'; isplitr; · ipureintro; rfl
    iexact H4
  iexact HR

/-- After the last point the scratch buffers are given back. -/
theorem hout1 (c : Dev nD) : (rd1 V c).Φ (Fin.last cfg1.N) ⊢ (Pipeline.scopedRest (Ix := Unit) (Name := ℕ) (U := UR sig nD τ) (Lvl := ℕ) (Val := Elt F) spec1 c : SP F) := by
  rw [scopedRest1_split c]
  show iprop(scr1 (xs1 V c) (va1 V c) (vb1 V c) c _ ∗ _) ⊢ _
  unfold scr1
  simp only [owns_whole_eq]
  iintro ⟨⟨%r, %sa, %sb, %ga, %ga', %gb, %gb', -, ⟨%r', -, Hr⟩, ⟨%sa', -, Hsa⟩, ⟨%sb', -, Hsb⟩, ⟨%g1, -, H1⟩, ⟨%g2, -, H2⟩, ⟨%g3, -, H3⟩, ⟨%g4, -, H4⟩⟩, HR⟩
  isplitr [HR]
  · isplitl [Hr]; · iexists r'; iexact Hr
    isplitl [Hsa]; · iexists sa'; iexact Hsa
    isplitl [Hsb]; · iexists sb'; iexact Hsb
    isplitl [H1]; · iexists g1; iexact H1
    isplitl [H2]; · iexists g2; iexact H2
    isplitl [H3]; · iexists g3; iexact H3
    iexists g4; iexact H4
  iexact HR

/-- The array call 1 leaves. -/
def o1 (c : Dev nD) : Vec F S65536x512 .f32 := unchunk (yB (xs1 V c) (va1 V c) (vb1 V c))

theorem out1_index : ∀ t : Fin grid1.N, win1_25.flush t = true → cc1_transform_25 (grid1.coords t) 0 = t.val - 1 ∧ 1 ≤ t.val := by decide +kernel

/-- The output array after the call. -/
theorem final1 (c : Dev nD) (G) (h : (rd1 V c).ArrAt 25 cfg1.N G) : G = o1 V c := by
  obtain ⟨X, hX, hA⟩ := RDat.ArrAt.exists_exact (rd := rd1 V c) (w := (25 : Fin 26)) (n := cfg1.N) h
  rw [hA (Function.update (fun _ _ _ => Classical.arbitrary _) 25 X) fun u _ _ => by rw [Function.update_self]]
  refine Pipeline.Dat.arrAt_eq_of_covers _ 25 _ (by decide +kernel) fun t hf y => ?_
  obtain ⟨Y, -, hY⟩ := hX t t.isLt hf
  obtain ⟨hi, ht⟩ := out1_index t hf
  have hr := hY.2 rfl ht
  rw [RDat.withAfter_after, Function.update_self]
  refine unchunk_emb _ (X t) t.val ht hr _ hi y _ ?_ ?_
  · rfl
  · rfl

/-- Every other window is an input, of another array. -/
theorem ins1 : ∀ w : Fin 26, w ≠ 25 → (cfg1.win w).isOut = false := by decide
theorem arr1 : ∀ w : Fin 26, w ≠ 25 → Pipeline.arrRef spec1 w ≠ main_v78 := by decide

/-- Call 1 takes the buffers from `V` to `V` with its output array. -/
theorem call1 : Call 1 (rd1 V) V (fun c => Function.update (V c) main_v78 (o1 V c)) where
  share c w := by unfold RDat.share; split <;> rfl
  entry c w := rfl
  owed c t := rfl
  recorded c t := rfl
  body := body1 V
  hin := hin1 V
  hout := hout1 V
  final c w G h := by
    by_cases e : w = 25
    · subst e
      rw [final1 V c G h]
      show o1 V c = Function.update (V c) (Proc.devRef .tc main_v78) (o1 V c) (Proc.devRef .tc main_v78)
      rw [Function.update_self]
    · have hin : (cfg1.win w).isOut = false := ins1 w e
      rw [RDat.ArrAt_in (rd1 V c) w hin] at h
      rw [h]
      exact (Function.update_of_ne (f := V c) (show Proc.devRef .tc (Pipeline.arrRef spec1 w) ≠ main_v78 from fun h => arr1 w e (Proc.devRef_injective _ h)) _).symm
  rest c b hb := Function.update_of_ne (fun e => hb 25 (Proc.devRef_injective _ e)) _ _

end Cert.Quad
-- ==== Proof.QuadRegion2.lean ====
module

public import proofs.«01_k».proof.Proof.QuadChunk
public import proofs.«01_k».proof.Proof.QuadEq
public import proofs.«01_k».proof.Proof.RegionMk
public import proofs.«01_k».proof.Proof.Gen.KernelIdeal.Points
public import Idealize.ShloMosaic.Lib.Pipeline.FrameBody
public import Idealize.ShloMosaic.Lib.Pipeline.ArrRel
public import Idealize.ShloMosaic.Lib.Pipeline.ValueKit
public import Idealize.ShloMosaic.Lib.Pointwise.Index

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Idealize.ShloMosaic.VecWindow (window put)

variable {F : FTy → Type} [FloatOps F]

variable (V : Dev nD → Valuation τ sig (Elt F))

/-- The weights of the first layer of call 2. -/
def va2 (c : Dev nD) : LVals F :=
  ⟨V c main_v81, V c main_v84, V c main_v87, V c main_v90, V c main_v93, V c main_v96, V c main_v99, V c main_v103, V c main_v106, V c main_v109, V c main_v112, V c main_v115⟩
/-- The weights of the second layer of call 2. -/
def vb2 (c : Dev nD) : LVals F :=
  ⟨V c main_v118, V c main_v121, V c main_v124, V c main_v127, V c main_v130, V c main_v133, V c main_v136, V c main_v140, V c main_v143, V c main_v146, V c main_v149, V c main_v152⟩
/-- The chunks of call 2's input. -/
def xs2 (c : Dev nD) : ℕ → XV F := chunk (V c main_v78)

/-- The output window's block, as contents of a chunk. -/
def out2 (w : Fin 26) (h : w = 25) (X : (cfg2.win w).block.Idx → Elt F (cfg2.win w).elt) : XV F := by
  subst h; exact X

/-- Call 2's scratch buffers, and nothing else. -/
abbrev B2 (X O : Mr S2048x512 .f32) (Wa Wb : LRefs) : Bufs :=
  ⟨X, Wa, Wb, O, .whole cc2_scratch0, .whole cc2_scratch1, .whole cc2_scratch2, .whole cc2_scratch3, .whole cc2_scratch4, .whole cc2_scratch5, .whole cc2_scratch6,
    Memref.isWhole_whole _, Memref.isWhole_whole _, Memref.isWhole_whole _, Memref.isWhole_whole _⟩

/-- What is held between the points of call 2. -/
def scr2 (xs : ℕ → XV F) (va vb : LVals F) (c : Dev nD) (n : ℕ) : SP F :=
  iprop(∃ (r : RV F) (sa sb : Vec F S32x64 .f32) (ga ga' gb gb' : GV F), ⌜Inv xs va vb n r sa sb⌝ ∗ Own c (.whole cc2_scratch0) r ∗ Own c (.whole cc2_scratch1) sa
    ∗ Own c (.whole cc2_scratch2) sb ∗ Own c (.whole cc2_scratch3) ga ∗ Own c (.whole cc2_scratch4) ga' ∗ Own c (.whole cc2_scratch5) gb ∗ Own c (.whole cc2_scratch6) gb')

/-- Call 2's proof data: every input buffer is left as found, and from the second point on the output buffer holds the second layer's rows. -/
def rd2 (c : Dev nD) : RD F 2 c where
  A w := V c (Proc.devRef .tc (Pipeline.arrRef spec2 w))
  after w t Y X := (w ≠ 25 → X = Y) ∧ ∀ h : w = 25, 1 ≤ t.val → rowsX (out2 w h X) = yB (xs2 V c) (va2 V c) (vb2 V c) t.val
  Φ t := iprop(scr2 (xs2 V c) (va2 V c) (vb2 V c) c t.val
    ∗ Pipeline.scopedRestBut (Ix := Unit) (Name := ℕ) (U := UR sig nD τ) (Lvl := ℕ) (Val := Elt F) spec2 c [cc2_scratch0, cc2_scratch1, cc2_scratch2, cc2_scratch3, cc2_scratch4, cc2_scratch5, cc2_scratch6])
  q _ := fullShare
  owed _ := 0

/-- The block of the input at each point. -/
theorem in2_index : ∀ t : Fin grid2.N, cc2_transform_0 (grid2.coords t) 0 = min t.val 31 := by decide +kernel
/-- The coordinate of each point. -/
theorem coord2 : ∀ t : Fin grid2.N, (grid2.coords t 0).val = t.val := by decide +kernel

/-- Every input buffer is found at a fetched block. -/
theorem found2 (c : Dev nD) (t : Fin cfg2.N) (w : Fin 26) (hw : w ≠ 25) (hin : (cfg2.win w).isOut = false) (hc : ∀ t t' : Fin cfg2.N, (cfg2.win w).clip (cfg2.grid.coords t) = (cfg2.win w).clip (cfg2.grid.coords t')) (Y)
    (h : (rd2 V c).Finds w t Y) : ∃ d, Y = (rd2 V c).fetched w t d :=
  RDat.finds_in_eq_fetched (rd2 V c) w hin (fun t t' _ => hc t t') (fun _ _ _ h => h.1 hw) t Y h

/-- The input chunk found at point `t`. -/
theorem find2_0 (c : Dev nD) (t : Fin cfg2.N) (Y) (h : (rd2 V c).Finds 0 t Y) : Y = xs2 V c t.val := by
  obtain ⟨d, rfl⟩ := found2 V c t 0 (by decide) rfl (fun _ _ => rfl) Y h
  exact chunk_emb (V c main_v78) t.val _ (in2_index t) _ (fun _ => rfl) (fun _ => rfl)

theorem find2_1 (c : Dev nD) (t : Fin cfg2.N) (Y) (h : (rd2 V c).Finds 1 t Y) : Y = V c main_v81 := by
  obtain ⟨d, rfl⟩ := found2 V c t 1 (by decide) rfl (fun _ _ => rfl) Y h
  exact whole_emb (V c main_v81) _ (fun _ => rfl) (fun _ => rfl)

theorem find2_2 (c : Dev nD) (t : Fin cfg2.N) (Y) (h : (rd2 V c).Finds 2 t Y) : Y = V c main_v84 := by
  obtain ⟨d, rfl⟩ := found2 V c t 2 (by decide) rfl (fun _ _ => rfl) Y h
  exact whole_emb (V c main_v84) _ (fun _ => rfl) (fun _ => rfl)

theorem find2_3 (c : Dev nD) (t : Fin cfg2.N) (Y) (h : (rd2 V c).Finds 3 t Y) : Y = V c main_v87 := by
  obtain ⟨d, rfl⟩ := found2 V c t 3 (by decide) rfl (fun _ _ => rfl) Y h
  exact whole_emb (V c main_v87) _ (fun _ => rfl) (fun _ => rfl)

theorem find2_4 (c : Dev nD) (t : Fin cfg2.N) (Y) (h : (rd2 V c).Finds 4 t Y) : Y = V c main_v90 := by
  obtain ⟨d, rfl⟩ := found2 V c t 4 (by decide) rfl (fun _ _ => rfl) Y h
  exact whole_emb (V c main_v90) _ (fun _ => rfl) (fun _ => rfl)

theorem find2_5 (c : Dev nD) (t : Fin cfg2.N) (Y) (h : (rd2 V c).Finds 5 t Y) : Y = V c main_v93 := by
  obtain ⟨d, rfl⟩ := found2 V c t 5 (by decide) rfl (fun _ _ => rfl) Y h
  exact whole_emb (V c main_v93) _ (fun _ => rfl) (fun _ => rfl)

theorem find2_6 (c : Dev nD) (t : Fin cfg2.N) (Y) (h : (rd2 V c).Finds 6 t Y) : Y = V c main_v96 := by
  obtain ⟨d, rfl⟩ := found2 V c t 6 (by decide) rfl (fun _ _ => rfl) Y h
  exact whole_emb (V c main_v96) _ (fun _ => rfl) (fun _ => rfl)

theorem find2_7 (c : Dev nD) (t : Fin cfg2.N) (Y) (h : (rd2 V c).Finds 7 t Y) : Y = V c main_v99 := by
  obtain ⟨d, rfl⟩ := found2 V c t 7 (by decide) rfl (fun _ _ => rfl) Y h
  exact whole_emb (V c main_v99) _ (fun _ => rfl) (fun _ => rfl)

theorem find2_8 (c : Dev nD) (t : Fin cfg2.N) (Y) (h : (rd2 V c).Finds 8 t Y) : Y = V c main_v103 := by
  obtain ⟨d, rfl⟩ := found2 V c t 8 (by decide) rfl (fun _ _ => rfl) Y h
  exact whole_emb (V c main_v103) _ (fun _ => rfl) (fun _ => rfl)

theorem find2_9 (c : Dev nD) (t : Fin cfg2.N) (Y) (h : (rd2 V c).Finds 9 t Y) : Y = V c main_v106 := by
  obtain ⟨d, rfl⟩ := found2 V c t 9 (by decide) rfl (fun _ _ => rfl) Y h
  exact whole_emb (V c main_v106) _ (fun _ => rfl) (fun _ => rfl)

theorem find2_10 (c : Dev nD) (t : Fin cfg2.N) (Y) (h : (rd2 V c).Finds 10 t Y) : Y = V c main_v109 := by
  obtain ⟨d, rfl⟩ := found2 V c t 10 (by decide) rfl (fun _ _ => rfl) Y h
  exact whole_emb (V c main_v109) _ (fun _ => rfl) (fun _ => rfl)

theorem find2_11 (c : Dev nD) (t : Fin cfg2.N) (Y) (h : (rd2 V c).Finds 11 t Y) : Y = V c main_v112 := by
  obtain ⟨d, rfl⟩ := found2 V c t 11 (by decide) rfl (fun _ _ => rfl) Y h
  exact whole_emb (V c main_v112) _ (fun _ => rfl) (fun _ => rfl)

theorem find2_12 (c : Dev nD) (t : Fin cfg2.N) (Y) (h : (rd2 V c).Finds 12 t Y) : Y = V c main_v115 := by
  obtain ⟨d, rfl⟩ := found2 V c t 12 (by decide) rfl (fun _ _ => rfl) Y h
  exact whole_emb (V c main_v115) _ (fun _ => rfl) (fun _ => rfl)

theorem find2_13 (c : Dev nD) (t : Fin cfg2.N) (Y) (h : (rd2 V c).Finds 13 t Y) : Y = V c main_v118 := by
  obtain ⟨d, rfl⟩ := found2 V c t 13 (by decide) rfl (fun _ _ => rfl) Y h
  exact whole_emb (V c main_v118) _ (fun _ => rfl) (fun _ => rfl)

theorem find2_14 (c : Dev nD) (t : Fin cfg2.N) (Y) (h : (rd2 V c).Finds 14 t Y) : Y = V c main_v121 := by
  obtain ⟨d, rfl⟩ := found2 V c t 14 (by decide) rfl (fun _ _ => rfl) Y h
  exact whole_emb (V c main_v121) _ (fun _ => rfl) (fun _ => rfl)

theorem find2_15 (c : Dev nD) (t : Fin cfg2.N) (Y) (h : (rd2 V c).Finds 15 t Y) : Y = V c main_v124 := by
  obtain ⟨d, rfl⟩ := found2 V c t 15 (by decide) rfl (fun _ _ => rfl) Y h
  exact whole_emb (V c main_v124) _ (fun _ => rfl) (fun _ => rfl)

theorem find2_16 (c : Dev nD) (t : Fin cfg2.N) (Y) (h : (rd2 V c).Finds 16 t Y) : Y = V c main_v127 := by
  obtain ⟨d, rfl⟩ := found2 V c t 16 (by decide) rfl (fun _ _ => rfl) Y h
  exact whole_emb (V c main_v127) _ (fun _ => rfl) (fun _ => rfl)

theorem find2_17 (c : Dev nD) (t : Fin cfg2.N) (Y) (h : (rd2 V c).Finds 17 t Y) : Y = V c main_v130 := by
  obtain ⟨d, rfl⟩ := found2 V c t 17 (by decide) rfl (fun _ _ => rfl) Y h
  exact whole_emb (V c main_v130) _ (fun _ => rfl) (fun _ => rfl)

theorem find2_18 (c : Dev nD) (t : Fin cfg2.N) (Y) (h : (rd2 V c).Finds 18 t Y) : Y = V c main_v133 := by
  obtain ⟨d, rfl⟩ := found2 V c t 18 (by decide) rfl (fun _ _ => rfl) Y h
  exact whole_emb (V c main_v133) _ (fun _ => rfl) (fun _ => rfl)

theorem find2_19 (c : Dev nD) (t : Fin cfg2.N) (Y) (h : (rd2 V c).Finds 19 t Y) : Y = V c main_v136 := by
  obtain ⟨d, rfl⟩ := found2 V c t 19 (by decide) rfl (fun _ _ => rfl) Y h
  exact whole_emb (V c main_v136) _ (fun _ => rfl) (fun _ => rfl)

theorem find2_20 (c : Dev nD) (t : Fin cfg2.N) (Y) (h : (rd2 V c).Finds 20 t Y) : Y = V c main_v140 := by
  obtain ⟨d, rfl⟩ := found2 V c t 20 (by decide) rfl (fun _ _ => rfl) Y h
  exact whole_emb (V c main_v140) _ (fun _ => rfl) (fun _ => rfl)

theorem find2_21 (c : Dev nD) (t : Fin cfg2.N) (Y) (h : (rd2 V c).Finds 21 t Y) : Y = V c main_v143 := by
  obtain ⟨d, rfl⟩ := found2 V c t 21 (by decide) rfl (fun _ _ => rfl) Y h
  exact whole_emb (V c main_v143) _ (fun _ => rfl) (fun _ => rfl)

theorem find2_22 (c : Dev nD) (t : Fin cfg2.N) (Y) (h : (rd2 V c).Finds 22 t Y) : Y = V c main_v146 := by
  obtain ⟨d, rfl⟩ := found2 V c t 22 (by decide) rfl (fun _ _ => rfl) Y h
  exact whole_emb (V c main_v146) _ (fun _ => rfl) (fun _ => rfl)

theorem find2_23 (c : Dev nD) (t : Fin cfg2.N) (Y) (h : (rd2 V c).Finds 23 t Y) : Y = V c main_v149 := by
  obtain ⟨d, rfl⟩ := found2 V c t 23 (by decide) rfl (fun _ _ => rfl) Y h
  exact whole_emb (V c main_v149) _ (fun _ => rfl) (fun _ => rfl)

theorem find2_24 (c : Dev nD) (t : Fin cfg2.N) (Y) (h : (rd2 V c).Finds 24 t Y) : Y = V c main_v152 := by
  obtain ⟨d, rfl⟩ := found2 V c t 24 (by decide) rfl (fun _ _ => rfl) Y h
  exact whole_emb (V c main_v152) _ (fun _ => rfl) (fun _ => rfl)

/-- The layers' weight buffers at point `t`. -/
abbrev Wa2 (t : Fin cfg2.N) : LRefs := ⟨(win2_1.stage (cfg2.slots t 1)), (win2_2.stage (cfg2.slots t 2)), (win2_3.stage (cfg2.slots t 3)), (win2_4.stage (cfg2.slots t 4)), (win2_5.stage (cfg2.slots t 5)), (win2_6.stage (cfg2.slots t 6)), (win2_7.stage (cfg2.slots t 7)), (win2_8.stage (cfg2.slots t 8)), (win2_9.stage (cfg2.slots t 9)), (win2_10.stage (cfg2.slots t 10)), (win2_11.stage (cfg2.slots t 11)), (win2_12.stage (cfg2.slots t 12))⟩
abbrev Wb2 (t : Fin cfg2.N) : LRefs := ⟨(win2_13.stage (cfg2.slots t 13)), (win2_14.stage (cfg2.slots t 14)), (win2_15.stage (cfg2.slots t 15)), (win2_16.stage (cfg2.slots t 16)), (win2_17.stage (cfg2.slots t 17)), (win2_18.stage (cfg2.slots t 18)), (win2_19.stage (cfg2.slots t 19)), (win2_20.stage (cfg2.slots t 20)), (win2_21.stage (cfg2.slots t 21)), (win2_22.stage (cfg2.slots t 22)), (win2_23.stage (cfg2.slots t 23)), (win2_24.stage (cfg2.slots t 24))⟩

/-- The windows' buffers as found at point `t`. -/
theorem in2 (c : Dev nD) (t : Fin cfg2.N) (Y : (w : Fin 26) → (cfg2.win w).block.Idx → Elt F (cfg2.win w).elt) (h : ∀ w, (rd2 V c).Finds w t (Y w)) :
    (bigSep Finset.univ fun w : Fin 26 => owns (c : Thread nD τ) ((cfg2.win w).stage (cfg2.slots t w)) fullShare (Y w) : SP F)
      ⊢ iprop(Own c (win2_0.stage (cfg2.slots t 0)) (xs2 V c t.val) ∗ OwnW c (Wa2 t) (va2 V c) ∗ OwnW c (Wb2 t) (vb2 V c) ∗ ∃ o : XV F, Own c (win2_25.stage (cfg2.slots t 25)) o) := by
  rw [bigSep_W2, group, find2_0 V c t _ (h 0), find2_1 V c t _ (h 1), find2_2 V c t _ (h 2), find2_3 V c t _ (h 3), find2_4 V c t _ (h 4), find2_5 V c t _ (h 5), find2_6 V c t _ (h 6), find2_7 V c t _ (h 7), find2_8 V c t _ (h 8), find2_9 V c t _ (h 9), find2_10 V c t _ (h 10), find2_11 V c t _ (h 11), find2_12 V c t _ (h 12), find2_13 V c t _ (h 13), find2_14 V c t _ (h 14), find2_15 V c t _ (h 15), find2_16 V c t _ (h 16), find2_17 V c t _ (h 17), find2_18 V c t _ (h 18), find2_19 V c t _ (h 19), find2_20 V c t _ (h 20), find2_21 V c t _ (h 21), find2_22 V c t _ (h 22), find2_23 V c t _ (h 23), find2_24 V c t _ (h 24)]
  unfold OwnW
  iintro ⟨HX, HA, HB, HO⟩
  isplitl [HX]; · iexact HX
  isplitl [HA]; · iexact HA
  isplitl [HB]; · iexact HB
  iexists _; iexact HO

/-- The windows' buffers as left at point `t`. -/
theorem out2_of (c : Dev nD) (t : Fin cfg2.N) (Y : (w : Fin 26) → (cfg2.win w).block.Idx → Elt F (cfg2.win w).elt) (h : ∀ w, (rd2 V c).Finds w t (Y w)) :
    iprop(Own c (win2_0.stage (cfg2.slots t 0)) (xs2 V c t.val) ∗ OwnW c (Wa2 t) (va2 V c) ∗ OwnW c (Wb2 t) (vb2 V c)
        ∗ ∃ o : XV F, ⌜1 ≤ t.val → rowsX o = yB (xs2 V c) (va2 V c) (vb2 V c) t.val⌝ ∗ Own c (win2_25.stage (cfg2.slots t 25)) o)
      ⊢ (bigSep Finset.univ fun w : Fin 26 => iprop(∃ X, ⌜(rd2 V c).after w t (Y w) X⌝ ∗ owns (c : Thread nD τ) ((cfg2.win w).stage (cfg2.slots t w)) fullShare X) : SP F) := by
  have hk : ∀ w : Fin 26, w ≠ 25 → owns (c : Thread nD τ) ((cfg2.win w).stage (cfg2.slots t w)) fullShare (Y w)
      ⊢ (iprop(∃ X, ⌜(rd2 V c).after w t (Y w) X⌝ ∗ owns (c : Thread nD τ) ((cfg2.win w).stage (cfg2.slots t w)) fullShare X) : SP F) := by
    intro w hw
    iintro H
    iexists (Y w)
    isplitr; · ipureintro; exact ⟨fun _ => rfl, fun e => absurd e hw⟩
    iexact H
  have ho : iprop(∃ o : XV F, ⌜1 ≤ t.val → rowsX o = yB (xs2 V c) (va2 V c) (vb2 V c) t.val⌝ ∗ Own c (win2_25.stage (cfg2.slots t 25)) o)
      ⊢ (iprop(∃ X, ⌜(rd2 V c).after 25 t (Y 25) X⌝ ∗ owns (c : Thread nD τ) ((cfg2.win 25).stage (cfg2.slots t 25)) fullShare X) : SP F) := by
    iintro ⟨%o, %h, H⟩
    iexists o
    isplitr; · ipureintro; exact ⟨fun e => absurd rfl e, fun _ => h⟩
    iexact H
  have hg := group (F := F) (owns (c : Thread nD τ) ((cfg2.win 0).stage (cfg2.slots t 0)) fullShare (Y 0)) (owns (c : Thread nD τ) ((cfg2.win 1).stage (cfg2.slots t 1)) fullShare (Y 1)) (owns (c : Thread nD τ) ((cfg2.win 2).stage (cfg2.slots t 2)) fullShare (Y 2)) (owns (c : Thread nD τ) ((cfg2.win 3).stage (cfg2.slots t 3)) fullShare (Y 3)) (owns (c : Thread nD τ) ((cfg2.win 4).stage (cfg2.slots t 4)) fullShare (Y 4)) (owns (c : Thread nD τ) ((cfg2.win 5).stage (cfg2.slots t 5)) fullShare (Y 5)) (owns (c : Thread nD τ) ((cfg2.win 6).stage (cfg2.slots t 6)) fullShare (Y 6)) (owns (c : Thread nD τ) ((cfg2.win 7).stage (cfg2.slots t 7)) fullShare (Y 7)) (owns (c : Thread nD τ) ((cfg2.win 8).stage (cfg2.slots t 8)) fullShare (Y 8)) (owns (c : Thread nD τ) ((cfg2.win 9).stage (cfg2.slots t 9)) fullShare (Y 9)) (owns (c : Thread nD τ) ((cfg2.win 10).stage (cfg2.slots t 10)) fullShare (Y 10)) (owns (c : Thread nD τ) ((cfg2.win 11).stage (cfg2.slots t 11)) fullShare (Y 11)) (owns (c : Thread nD τ) ((cfg2.win 12).stage (cfg2.slots t 12)) fullShare (Y 12)) (owns (c : Thread nD τ) ((cfg2.win 13).stage (cfg2.slots t 13)) fullShare (Y 13)) (owns (c : Thread nD τ) ((cfg2.win 14).stage (cfg2.slots t 14)) fullShare (Y 14)) (owns (c : Thread nD τ) ((cfg2.win 15).stage (cfg2.slots t 15)) fullShare (Y 15)) (owns (c : Thread nD τ) ((cfg2.win 16).stage (cfg2.slots t 16)) fullShare (Y 16)) (owns (c : Thread nD τ) ((cfg2.win 17).stage (cfg2.slots t 17)) fullShare (Y 17)) (owns (c : Thread nD τ) ((cfg2.win 18).stage (cfg2.slots t 18)) fullShare (Y 18)) (owns (c : Thread nD τ) ((cfg2.win 19).stage (cfg2.slots t 19)) fullShare (Y 19)) (owns (c : Thread nD τ) ((cfg2.win 20).stage (cfg2.slots t 20)) fullShare (Y 20)) (owns (c : Thread nD τ) ((cfg2.win 21).stage (cfg2.slots t 21)) fullShare (Y 21)) (owns (c : Thread nD τ) ((cfg2.win 22).stage (cfg2.slots t 22)) fullShare (Y 22)) (owns (c : Thread nD τ) ((cfg2.win 23).stage (cfg2.slots t 23)) fullShare (Y 23)) (owns (c : Thread nD τ) ((cfg2.win 24).stage (cfg2.slots t 24)) fullShare (Y 24))
    (iprop(∃ X, ⌜(rd2 V c).after 25 t (Y 25) X⌝ ∗ owns (c : Thread nD τ) ((cfg2.win 25).stage (cfg2.slots t 25)) fullShare X))
  have hid : ∀ P : SP F, P ⊢ P := fun _ => BIBase.Entails.rfl
  rw [bigSep_W2]
  refine BIBase.Entails.trans ?_ (BIBase.Entails.trans (Entails.of_eq hg.symm) ?_)
  · rw [find2_0 V c t _ (h 0), find2_1 V c t _ (h 1), find2_2 V c t _ (h 2), find2_3 V c t _ (h 3), find2_4 V c t _ (h 4), find2_5 V c t _ (h 5), find2_6 V c t _ (h 6), find2_7 V c t _ (h 7), find2_8 V c t _ (h 8), find2_9 V c t _ (h 9), find2_10 V c t _ (h 10), find2_11 V c t _ (h 11), find2_12 V c t _ (h 12), find2_13 V c t _ (h 13), find2_14 V c t _ (h 14), find2_15 V c t _ (h 15), find2_16 V c t _ (h 16), find2_17 V c t _ (h 17), find2_18 V c t _ (h 18), find2_19 V c t _ (h 19), find2_20 V c t _ (h 20), find2_21 V c t _ (h 21), find2_22 V c t _ (h 22), find2_23 V c t _ (h 23), find2_24 V c t _ (h 24)]
    unfold OwnW
    iintro ⟨HX, HA, HB, HO⟩
    isplitl [HX]; · iexact HX
    isplitl [HA]; · iexact HA
    isplitl [HB]; · iexact HB
    iapply ho; iexact HO
  · exact BI.sep_mono (hk 0 (by decide)) (BI.sep_mono (hk 1 (by decide)) (BI.sep_mono (hk 2 (by decide)) (BI.sep_mono (hk 3 (by decide)) (BI.sep_mono (hk 4 (by decide)) (BI.sep_mono (hk 5 (by decide)) (BI.sep_mono (hk 6 (by decide)) (BI.sep_mono (hk 7 (by decide)) (BI.sep_mono (hk 8 (by decide)) (BI.sep_mono (hk 9 (by decide)) (BI.sep_mono (hk 10 (by decide)) (BI.sep_mono (hk 11 (by decide)) (BI.sep_mono (hk 12 (by decide)) (BI.sep_mono (hk 13 (by decide)) (BI.sep_mono (hk 14 (by decide)) (BI.sep_mono (hk 15 (by decide)) (BI.sep_mono (hk 16 (by decide)) (BI.sep_mono (hk 17 (by decide)) (BI.sep_mono (hk 18 (by decide)) (BI.sep_mono (hk 19 (by decide)) (BI.sep_mono (hk 20 (by decide)) (BI.sep_mono (hk 21 (by decide)) (BI.sep_mono (hk 22 (by decide)) (BI.sep_mono (hk 23 (by decide)) (BI.sep_mono (hk 24 (by decide)) ((hid _) )))))))))))))))))))))))))

/-- The body called at point `t` is the layers' body over its buffers. -/
theorem run2 (t : Fin cfg2.N) (hn : t.val < 33) :
    defs₀ (F := F) .tc cfg2.body (cfg2.bodyArgs t (cfg2.slots t))
      = quad t.val hn (win2_0.stage (cfg2.slots t 0)) (Wa2 t) (Wb2 t) (win2_25.stage (cfg2.slots t 25)) (.whole cc2_scratch0) (.whole cc2_scratch1) (.whole cc2_scratch2) (.whole cc2_scratch3) (.whole cc2_scratch4) (.whole cc2_scratch5) (.whole cc2_scratch6) (Memref.isWhole_whole _) (Memref.isWhole_whole _) (Memref.isWhole_whole _) (Memref.isWhole_whole _) := by
  have e : defs₀ (F := F) .tc cfg2.body (cfg2.bodyArgs t (cfg2.slots t)) = bodyAt2 t := by
    unfold defs₀; rw [Defs.onTc_tc]
  rw [e]
  unfold bodyAt2
  rw [cc2_eq]
  have hcoord : ∀ (n n' : ℕ) (e : n = n') (h : n < 33) (h' : n' < 33),
      quad (F := F) n h (win2_0.stage (cfg2.slots t 0)) (Wa2 t) (Wb2 t) (win2_25.stage (cfg2.slots t 25)) (.whole cc2_scratch0) (.whole cc2_scratch1) (.whole cc2_scratch2) (.whole cc2_scratch3) (.whole cc2_scratch4) (.whole cc2_scratch5) (.whole cc2_scratch6) (Memref.isWhole_whole _) (Memref.isWhole_whole _) (Memref.isWhole_whole _) (Memref.isWhole_whole _)
      = quad n' h' (win2_0.stage (cfg2.slots t 0)) (Wa2 t) (Wb2 t) (win2_25.stage (cfg2.slots t 25)) (.whole cc2_scratch0) (.whole cc2_scratch1) (.whole cc2_scratch2) (.whole cc2_scratch3) (.whole cc2_scratch4) (.whole cc2_scratch5) (.whole cc2_scratch6) (Memref.isWhole_whole _) (Memref.isWhole_whole _) (Memref.isWhole_whole _) (Memref.isWhole_whole _) := by
    intro n n' e h h'; subst e; rfl
  exact hcoord _ _ (coord2 t) _ _

/-- One point of call 2. -/
theorem body2 (c : Dev nD) : (rd2 V c).BodyObligation (defs₀ (F := F)) Variants.none () Set.univ := by
  intro t Y hY
  have hn : t.val < 33 := coord2 t ▸ (grid2.coords t 0).isLt
  have hr := run2 (F := F) t hn
  have hp := point_wp (xs2 V c) (va2 V c) (vb2 V c) c t.val hn (B2 (win2_0.stage (cfg2.slots t 0)) (win2_25.stage (cfg2.slots t 25)) (Wa2 t) (Wb2 t))
    (fun _ => iprop(Own c (win2_0.stage (cfg2.slots t 0)) (xs2 V c t.val) ∗ OwnW c (Wa2 t) (va2 V c) ∗ OwnW c (Wb2 t) (vb2 V c)
        ∗ (∃ o : XV F, ⌜1 ≤ t.val → rowsX o = yB (xs2 V c) (va2 V c) (vb2 V c) t.val⌝ ∗ Own c (win2_25.stage (cfg2.slots t 25)) o)
        ∗ scr2 (xs2 V c) (va2 V c) (vb2 V c) c (t.val + 1))) BIBase.Entails.rfl
  have hs : scr2 (xs2 V c) (va2 V c) (vb2 V c) c t.val ⊢ Scr (xs2 V c) (va2 V c) (vb2 V c) c (B2 (win2_0.stage (cfg2.slots t 0)) (win2_25.stage (cfg2.slots t 25)) (Wa2 t) (Wb2 t)) t.val := Entails.of_eq rfl
  have hi := in2 V c t Y hY
  have ho := out2_of V c t Y hY
  have hbody : iprop((rd2 V c).Φ t.castSucc ∗ (rd2 V c).owesAt () t.castSucc ∗ bigSep Finset.univ fun w : Fin 26 => owns (c : Thread nD τ) ((cfg2.win w).stage (cfg2.slots t w)) fullShare (Y w))
      ⊢ Wp c (defs₀ (F := F) .tc cfg2.body (cfg2.bodyArgs t (cfg2.slots t))) fun _ => iprop((rd2 V c).Φ t.succ ∗ (rd2 V c).owesAt () t.succ
        ∗ bigSep Finset.univ fun w : Fin 26 => iprop(∃ X, ⌜(rd2 V c).after w t (Y w) X⌝ ∗ owns (c : Thread nD τ) ((cfg2.win w).stage (cfg2.slots t w)) fullShare X)) := by
    rw [hr]
    show iprop((scr2 (xs2 V c) (va2 V c) (vb2 V c) c t.val ∗ _) ∗ (rd2 V c).owesAt () t.succ ∗ _) ⊢ Wp c _ fun _ => iprop((scr2 (xs2 V c) (va2 V c) (vb2 V c) c (t.val + 1) ∗ _) ∗ (rd2 V c).owesAt () t.succ ∗ _)
    iintro ⟨⟨HS, HR⟩, HO, HW⟩
    ihave HW := hi $$ HW
    icases HW with ⟨HX, HA, HB, Ho⟩
    iapply (wp_wand_r frame (wpE (defs₀ (F := F)) Variants.none (c : Thread nD τ) none) Set.univ)
    isplitl [HX HA HB Ho HS]
    · iapply hp
      isplitl [HX]; · iexact HX
      isplitl [HA]; · iexact HA
      isplitl [HB]; · iexact HB
      isplitl [Ho]; · iexact Ho
      iapply hs; iexact HS
    iintro %_ ⟨HX, HA, HB, Ho, HS⟩
    isplitl [HS HR]
    · isplitl [HS]; · iexact HS
      iexact HR
    isplitl [HO]; · iexact HO
    iapply ho
    isplitl [HX]; · iexact HX
    isplitl [HA]; · iexact HA
    isplitl [HB]; · iexact HB
    iexact Ho
  exact hbody

/-- Before the first point the scratch buffers hold anything. -/
theorem hin2 (c : Dev nD) : (Pipeline.scopedRest (Ix := Unit) (Name := ℕ) (U := UR sig nD τ) (Lvl := ℕ) (Val := Elt F) spec2 c : SP F) ⊢ (rd2 V c).Φ 0 := by
  rw [scopedRest2_split c]
  show _ ⊢ iprop(scr2 (xs2 V c) (va2 V c) (vb2 V c) c 0 ∗ _)
  unfold scr2
  simp only [owns_whole_eq]
  iintro ⟨⟨⟨%r, Hr⟩, ⟨%sa, Hsa⟩, ⟨%sb, Hsb⟩, ⟨%ga, H1⟩, ⟨%ga', H2⟩, ⟨%gb, H3⟩, ⟨%gb', H4⟩⟩, HR⟩
  isplitr [HR]
  · iexists r, sa, sb, ga, ga', gb, gb'
    isplitr; · ipureintro; exact ⟨fun h => absurd h (by omega), fun h => absurd h (by omega)⟩
    isplitl [Hr]; · iexists r; isplitr; · ipureintro; rfl
                    iexact Hr
    isplitl [Hsa]; · iexists sa; isplitr; · ipureintro; rfl
                     iexact Hsa
    isplitl [Hsb]; · iexists sb; isplitr; · ipureintro; rfl
                     iexact Hsb
    isplitl [H1]; · iexists ga; isplitr; · ipureintro; rfl
                    iexact H1
    isplitl [H2]; · iexists ga'; isplitr; · ipureintro; rfl
                    iexact H2
    isplitl [H3]; · iexists gb; isplitr; · ipureintro; rfl
                    iexact H3
    iexists gb'; isplitr; · ipureintro; rfl
    iexact H4
  iexact HR

/-- After the last point the scratch buffers are given back. -/
theorem hout2 (c : Dev nD) : (rd2 V c).Φ (Fin.last cfg2.N) ⊢ (Pipeline.scopedRest (Ix := Unit) (Name := ℕ) (U := UR sig nD τ) (Lvl := ℕ) (Val := Elt F) spec2 c : SP F) := by
  rw [scopedRest2_split c]
  show iprop(scr2 (xs2 V c) (va2 V c) (vb2 V c) c _ ∗ _) ⊢ _
  unfold scr2
  simp only [owns_whole_eq]
  iintro ⟨⟨%r, %sa, %sb, %ga, %ga', %gb, %gb', -, ⟨%r', -, Hr⟩, ⟨%sa', -, Hsa⟩, ⟨%sb', -, Hsb⟩, ⟨%g1, -, H1⟩, ⟨%g2, -, H2⟩, ⟨%g3, -, H3⟩, ⟨%g4, -, H4⟩⟩, HR⟩
  isplitr [HR]
  · isplitl [Hr]; · iexists r'; iexact Hr
    isplitl [Hsa]; · iexists sa'; iexact Hsa
    isplitl [Hsb]; · iexists sb'; iexact Hsb
    isplitl [H1]; · iexists g1; iexact H1
    isplitl [H2]; · iexists g2; iexact H2
    isplitl [H3]; · iexists g3; iexact H3
    iexists g4; iexact H4
  iexact HR

/-- The array call 2 leaves. -/
def o2 (c : Dev nD) : Vec F S65536x512 .f32 := unchunk (yB (xs2 V c) (va2 V c) (vb2 V c))

theorem out2_index : ∀ t : Fin grid2.N, win2_25.flush t = true → cc2_transform_25 (grid2.coords t) 0 = t.val - 1 ∧ 1 ≤ t.val := by decide +kernel

/-- The output array after the call. -/
theorem final2 (c : Dev nD) (G) (h : (rd2 V c).ArrAt 25 cfg2.N G) : G = o2 V c := by
  obtain ⟨X, hX, hA⟩ := RDat.ArrAt.exists_exact (rd := rd2 V c) (w := (25 : Fin 26)) (n := cfg2.N) h
  rw [hA (Function.update (fun _ _ _ => Classical.arbitrary _) 25 X) fun u _ _ => by rw [Function.update_self]]
  refine Pipeline.Dat.arrAt_eq_of_covers _ 25 _ (by decide +kernel) fun t hf y => ?_
  obtain ⟨Y, -, hY⟩ := hX t t.isLt hf
  obtain ⟨hi, ht⟩ := out2_index t hf
  have hr := hY.2 rfl ht
  rw [RDat.withAfter_after, Function.update_self]
  refine unchunk_emb _ (X t) t.val ht hr _ hi y _ ?_ ?_
  · rfl
  · rfl

/-- Every other window is an input, of another array. -/
theorem ins2 : ∀ w : Fin 26, w ≠ 25 → (cfg2.win w).isOut = false := by decide
theorem arr2 : ∀ w : Fin 26, w ≠ 25 → Pipeline.arrRef spec2 w ≠ main_v153 := by decide

/-- Call 2 takes the buffers from `V` to `V` with its output array. -/
theorem call2 : Call 2 (rd2 V) V (fun c => Function.update (V c) main_v153 (o2 V c)) where
  share c w := by unfold RDat.share; split <;> rfl
  entry c w := rfl
  owed c t := rfl
  recorded c t := rfl
  body := body2 V
  hin := hin2 V
  hout := hout2 V
  final c w G h := by
    by_cases e : w = 25
    · subst e
      rw [final2 V c G h]
      show o2 V c = Function.update (V c) (Proc.devRef .tc main_v153) (o2 V c) (Proc.devRef .tc main_v153)
      rw [Function.update_self]
    · have hin : (cfg2.win w).isOut = false := ins2 w e
      rw [RDat.ArrAt_in (rd2 V c) w hin] at h
      rw [h]
      exact (Function.update_of_ne (f := V c) (show Proc.devRef .tc (Pipeline.arrRef spec2 w) ≠ main_v153 from fun h => arr2 w e (Proc.devRef_injective _ h)) _).symm
  rest c b hb := Function.update_of_ne (fun e => hb 25 (Proc.devRef_injective _ e)) _ _

end Cert.Quad
-- ==== Proof.HeadRegion.lean ====
module

public import proofs.«01_k».proof.Proof.QuadChunk
public import proofs.«01_k».proof.Proof.QuadEq
public import proofs.«01_k».proof.Proof.RegionMk
public import proofs.«01_k».proof.Proof.Gen.KernelIdeal.Points
public import Idealize.ShloMosaic.Lib.Pipeline.FrameBody
public import Idealize.ShloMosaic.Lib.Pipeline.ArrRel
public import Idealize.ShloMosaic.Lib.Pipeline.ValueKit
public import Idealize.ShloMosaic.Lib.Pointwise.Index

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Idealize.ShloMosaic.VecWindow (window put)

variable {F : FTy → Type} [FloatOps F]

variable (V : Dev nD → Valuation τ sig (Elt F))

/-- What the head makes of its arrays. -/
def headV (h : Vec F S32x512 .f32) (lng lnb : Vec F S1x512 .f32) (w1 : Vec F S512x256 .f32) (b1 : Vec F S1x256 .f32) (w2 : Vec F S256x1 .f32) (b2 : Vec F S1x1 .f32) : Vec F S32x1 .f32 :=
  k3_pay6 (k3_pay2 h lng lnb w1 b1) (k3_pay3 h lng lnb w1 b1) (k3_pay4 h lng lnb w1 b1) (Scalar.ofBits .f32 0x3F800000#32) (k3_pay5 (F := F)) w2 b2

/-- The head's output array. -/
def o3 (c : Dev nD) : Vec F S32x1 .f32 := headV (V c main_v154) (V c main_v155) (V c main_v156) (V c main_arg17) (V c main_v157) (V c main_arg19) (V c main_v158)

/-- The output window's block, as an array. -/
def out3 (w : Fin 8) (h : w = 7) (X : (cfg3.win w).block.Idx → Elt F (cfg3.win w).elt) : Vec F S32x1 .f32 := by
  subst h; exact X

/-- The proof data of the head call: every input buffer is left as found, the output buffer holds the body's value. -/
def rd3 (c : Dev nD) : RD F 3 c where
  A w := V c (Proc.devRef .tc (Pipeline.arrRef spec3 w))
  after w t Y X := (w ≠ 7 → X = Y) ∧ ∀ h : w = 7, out3 w h X = o3 V c
  Φ _ := Pipeline.scopedRest (Ix := Unit) (Name := ℕ) (U := UR sig nD τ) (Lvl := ℕ) (Val := Elt F) spec3 c
  q _ := fullShare
  owed _ := 0

/-- Every input buffer is found at a fetched block. -/
theorem found3 (c : Dev nD) (t : Fin cfg3.N) (w : Fin 8) (hw : w ≠ 7) (hin : (cfg3.win w).isOut = false) (hc : ∀ t t' : Fin cfg3.N, (cfg3.win w).clip (cfg3.grid.coords t) = (cfg3.win w).clip (cfg3.grid.coords t')) (Y)
    (h : (rd3 V c).Finds w t Y) : ∃ d, Y = (rd3 V c).fetched w t d :=
  RDat.finds_in_eq_fetched (rd3 V c) w hin (fun t t' _ => hc t t') (fun _ _ _ h => h.1 hw) t Y h

theorem find3_0 (c : Dev nD) (t : Fin cfg3.N) (Y) (h : (rd3 V c).Finds 0 t Y) : Y = V c main_v154 := by
  obtain ⟨d, rfl⟩ := found3 V c t 0 (by decide) rfl (fun _ _ => rfl) Y h
  exact whole_emb (V c main_v154) _ (fun _ => rfl) (fun _ => rfl)

theorem find3_1 (c : Dev nD) (t : Fin cfg3.N) (Y) (h : (rd3 V c).Finds 1 t Y) : Y = V c main_v155 := by
  obtain ⟨d, rfl⟩ := found3 V c t 1 (by decide) rfl (fun _ _ => rfl) Y h
  exact whole_emb (V c main_v155) _ (fun _ => rfl) (fun _ => rfl)

theorem find3_2 (c : Dev nD) (t : Fin cfg3.N) (Y) (h : (rd3 V c).Finds 2 t Y) : Y = V c main_v156 := by
  obtain ⟨d, rfl⟩ := found3 V c t 2 (by decide) rfl (fun _ _ => rfl) Y h
  exact whole_emb (V c main_v156) _ (fun _ => rfl) (fun _ => rfl)

theorem find3_3 (c : Dev nD) (t : Fin cfg3.N) (Y) (h : (rd3 V c).Finds 3 t Y) : Y = V c main_arg17 := by
  obtain ⟨d, rfl⟩ := found3 V c t 3 (by decide) rfl (fun _ _ => rfl) Y h
  exact whole_emb (V c main_arg17) _ (fun _ => rfl) (fun _ => rfl)

theorem find3_4 (c : Dev nD) (t : Fin cfg3.N) (Y) (h : (rd3 V c).Finds 4 t Y) : Y = V c main_v157 := by
  obtain ⟨d, rfl⟩ := found3 V c t 4 (by decide) rfl (fun _ _ => rfl) Y h
  exact whole_emb (V c main_v157) _ (fun _ => rfl) (fun _ => rfl)

theorem find3_5 (c : Dev nD) (t : Fin cfg3.N) (Y) (h : (rd3 V c).Finds 5 t Y) : Y = V c main_arg19 := by
  obtain ⟨d, rfl⟩ := found3 V c t 5 (by decide) rfl (fun _ _ => rfl) Y h
  exact whole_emb (V c main_arg19) _ (fun _ => rfl) (fun _ => rfl)

theorem find3_6 (c : Dev nD) (t : Fin cfg3.N) (Y) (h : (rd3 V c).Finds 6 t Y) : Y = V c main_v158 := by
  obtain ⟨d, rfl⟩ := found3 V c t 6 (by decide) rfl (fun _ _ => rfl) Y h
  exact whole_emb (V c main_v158) _ (fun _ => rfl) (fun _ => rfl)

/-- The body's run, with anything else held aside. -/
theorem point3 (c : Dev nD) (t : Fin cfg3.N) (R : SP F) (o : S32x1.Idx → Elt F .f32) {Q : PUnit → SP F}
    (hQ : iprop(R ∗ Own c (win3_0.stage (cfg3.slots t 0)) (V c main_v154) ∗ Own c (win3_1.stage (cfg3.slots t 1)) (V c main_v155) ∗ Own c (win3_2.stage (cfg3.slots t 2)) (V c main_v156) ∗ Own c (win3_3.stage (cfg3.slots t 3)) (V c main_arg17) ∗ Own c (win3_4.stage (cfg3.slots t 4)) (V c main_v157) ∗ Own c (win3_5.stage (cfg3.slots t 5)) (V c main_arg19) ∗ Own c (win3_6.stage (cfg3.slots t 6)) (V c main_v158) ∗ Own c (win3_7.stage (cfg3.slots t 7)) (o3 V c)) ⊢ Q ⟨⟩) :
    iprop(R ∗ Own c (win3_0.stage (cfg3.slots t 0)) (V c main_v154) ∗ Own c (win3_1.stage (cfg3.slots t 1)) (V c main_v155) ∗ Own c (win3_2.stage (cfg3.slots t 2)) (V c main_v156) ∗ Own c (win3_3.stage (cfg3.slots t 3)) (V c main_arg17) ∗ Own c (win3_4.stage (cfg3.slots t 4)) (V c main_v157) ∗ Own c (win3_5.stage (cfg3.slots t 5)) (V c main_arg19) ∗ Own c (win3_6.stage (cfg3.slots t 6)) (V c main_v158) ∗ Own c (win3_7.stage (cfg3.slots t 7)) o) ⊢ Wp c (bodyAt3 (F := F) t) Q := by
  unfold bodyAt3
  rw [cc3_mamba_head_eq_skeleton]
  unfold cc3_mamba_head_skel
  rw [k3_part1_eq_skeleton, k3_part2_eq_skeleton]
  show _ ⊢ Wp c (rd (win3_0.stage (cfg3.slots t 0)) inb_S32x512_S32x512_0_0 h_S32x512 fun v0 => rd (win3_1.stage (cfg3.slots t 1)) inb_S1x512_S1x512_0_0 h_S1x512 fun v1 => rd (win3_2.stage (cfg3.slots t 2)) inb_S1x512_S1x512_0_0 h_S1x512 fun v2 => rd (win3_3.stage (cfg3.slots t 3)) inb_S512x256_S512x256_0_0 h_S512x256 fun v3 => rd (win3_4.stage (cfg3.slots t 4)) inb_S1x256_S1x256_0_0 h_S1x256 fun v4 => rd (win3_5.stage (cfg3.slots t 5)) inb_S256x1_S256x1_0_0 h_S256x1 fun v5 => rd (win3_6.stage (cfg3.slots t 6)) inb_S1x1_S1x1_0_0 h_S1x1 fun v6 => rd (win3_7.stage (cfg3.slots t 7)) inb_S32x1_S32x1_0_0 h_S32x1 fun _ =>
      Prog.op (.store (win3_7.stage (cfg3.slots t 7)) (Rect.unit (s := S32x1) ![0, 0] S32x1.size inb_S32x1_S32x1_0_0) (headV v0 v1 v2 v3 v4 v5 v6) Finset.univ (View.stores_vmem_bits_univ h_S32x1 rfl) (.inl rfl)) fun _ => Prog.ret ⟨⟩) Q
  refine Does.step (.right (.left (does_rd _ _ _ _ _))) ?_
  refine Does.step (.right (.right (.left (does_rd _ _ _ _ _)))) ?_
  refine Does.step (.right (.right (.right (.left (does_rd _ _ _ _ _))))) ?_
  refine Does.step (.right (.right (.right (.right (.left (does_rd _ _ _ _ _)))))) ?_
  refine Does.step (.right (.right (.right (.right (.right (.left (does_rd _ _ _ _ _))))))) ?_
  refine Does.step (.right (.right (.right (.right (.right (.right (.left (does_rd _ _ _ _ _)))))))) ?_
  refine Does.step (.right (.right (.right (.right (.right (.right (.right (.left (does_rd _ _ _ _ _))))))))) ?_
  refine Does.step (.right (.right (.right (.right (.right (.right (.right (.right (does_rd _ _ _ _ _))))))))) ?_
  refine Makes.step (.right (.right (.right (.right (.right (.right (.right (.right (does_wr _ _ _ _ _ _ _))))))))) ?_
  unfold Wp; rw [wp_ret]
  iintro H; imodintro; iapply hQ; iexact H

/-- One point of the head call. -/
theorem body3 (c : Dev nD) : (rd3 V c).BodyObligation (defs₀ (F := F)) Variants.none () Set.univ := by
  intro t Y hY
  have e : defs₀ (F := F) .tc cfg3.body (cfg3.bodyArgs t (cfg3.slots t)) = bodyAt3 t := by
    unfold defs₀; rw [Defs.onTc_tc]
  have hk : ∀ w : Fin 8, w ≠ 7 → owns (c : Thread nD τ) ((cfg3.win w).stage (cfg3.slots t w)) fullShare (Y w)
      ⊢ (iprop(∃ X, ⌜(rd3 V c).after w t (Y w) X⌝ ∗ owns (c : Thread nD τ) ((cfg3.win w).stage (cfg3.slots t w)) fullShare X) : SP F) := by
    intro w hw
    iintro H
    iexists (Y w)
    isplitr; · ipureintro; exact ⟨fun _ => rfl, fun e => absurd e hw⟩
    iexact H
  have ho : Own c (win3_7.stage (cfg3.slots t 7)) (o3 V c)
      ⊢ (iprop(∃ X, ⌜(rd3 V c).after 7 t (Y 7) X⌝ ∗ owns (c : Thread nD τ) ((cfg3.win 7).stage (cfg3.slots t 7)) fullShare X) : SP F) := by
    iintro H
    iexists (o3 V c)
    isplitr; · ipureintro; exact ⟨fun e => absurd rfl e, fun _ => rfl⟩
    iexact H
  have hbody : iprop((rd3 V c).Φ t.castSucc ∗ (rd3 V c).owesAt () t.castSucc ∗ bigSep Finset.univ fun w : Fin 8 => owns (c : Thread nD τ) ((cfg3.win w).stage (cfg3.slots t w)) fullShare (Y w))
      ⊢ Wp c (defs₀ (F := F) .tc cfg3.body (cfg3.bodyArgs t (cfg3.slots t))) fun _ => iprop((rd3 V c).Φ t.succ ∗ (rd3 V c).owesAt () t.succ
        ∗ bigSep Finset.univ fun w : Fin 8 => iprop(∃ X, ⌜(rd3 V c).after w t (Y w) X⌝ ∗ owns (c : Thread nD τ) ((cfg3.win w).stage (cfg3.slots t w)) fullShare X)) := by
    rw [e]
    show iprop((rd3 V c).Φ t.succ ∗ (rd3 V c).owesAt () t.succ ∗ _) ⊢ _
    rw [bigSep_W3, bigSep_W3]
    refine BIBase.Entails.trans ?_ (point3 V c t iprop((rd3 V c).Φ t.succ ∗ (rd3 V c).owesAt () t.succ) (Y 7) ?_)
    · rw [find3_0 V c t _ (hY 0), find3_1 V c t _ (hY 1), find3_2 V c t _ (hY 2), find3_3 V c t _ (hY 3), find3_4 V c t _ (hY 4), find3_5 V c t _ (hY 5), find3_6 V c t _ (hY 6)]
      iintro ⟨HΦ, HO, H⟩
      isplitl [HΦ HO]
      · isplitl [HΦ]; · iexact HΦ
        iexact HO
      iexact H
    · iintro ⟨⟨HΦ, HO⟩, H0, H1, H2, H3, H4, H5, H6, HN⟩
      isplitl [HΦ]; · iexact HΦ
      isplitl [HO]; · iexact HO
      isplitl [H0]; · iapply (hk 0 (by decide)); rw [find3_0 V c t _ (hY 0)]; iexact H0
      isplitl [H1]; · iapply (hk 1 (by decide)); rw [find3_1 V c t _ (hY 1)]; iexact H1
      isplitl [H2]; · iapply (hk 2 (by decide)); rw [find3_2 V c t _ (hY 2)]; iexact H2
      isplitl [H3]; · iapply (hk 3 (by decide)); rw [find3_3 V c t _ (hY 3)]; iexact H3
      isplitl [H4]; · iapply (hk 4 (by decide)); rw [find3_4 V c t _ (hY 4)]; iexact H4
      isplitl [H5]; · iapply (hk 5 (by decide)); rw [find3_5 V c t _ (hY 5)]; iexact H5
      isplitl [H6]; · iapply (hk 6 (by decide)); rw [find3_6 V c t _ (hY 6)]; iexact H6
      iapply ho; iexact HN
  exact hbody

/-- The output array after the call. -/
theorem final3 (c : Dev nD) (G) (h : (rd3 V c).ArrAt 7 cfg3.N G) : G = o3 V c := by
  obtain ⟨X, hX, hA⟩ := RDat.ArrAt.exists_exact (rd := rd3 V c) (w := (7 : Fin 8)) (n := cfg3.N) h
  rw [hA (Function.update (fun _ _ _ => Classical.arbitrary _) 7 X) fun u _ _ => by rw [Function.update_self]]
  refine Pipeline.Dat.arrAt_eq_of_covers _ 7 _ (by decide +kernel) fun t hf y => ?_
  obtain ⟨Y, -, hY⟩ := hX t t.isLt hf
  have hr : X t = o3 V c := hY.2 rfl
  rw [RDat.withAfter_after, Function.update_self, hr]
  exact congrFun (whole_emb (o3 V c) _ (fun _ => rfl) (fun _ => rfl)).symm y

/-- Every other window is an input, of another array. -/
theorem ins3 : ∀ w : Fin 8, w ≠ 7 → (cfg3.win w).isOut = false := by decide
theorem arr3 : ∀ w : Fin 8, w ≠ 7 → Pipeline.arrRef spec3 w ≠ main_v159 := by decide

/-- The head call takes the buffers from `V` to `V` with its output array. -/
theorem call3 : Call 3 (rd3 V) V (fun c => Function.update (V c) main_v159 (o3 V c)) where
  share c w := by unfold RDat.share; split <;> rfl
  entry c w := rfl
  owed c t := rfl
  recorded c t := rfl
  body := body3 V
  hin c := BIBase.Entails.rfl
  hout c := BIBase.Entails.rfl
  final c w G h := by
    by_cases e : w = 7
    · subst e
      rw [final3 V c G h]
      show o3 V c = Function.update (V c) (Proc.devRef .tc main_v159) (o3 V c) (Proc.devRef .tc main_v159)
      rw [Function.update_self]
    · have hin : (cfg3.win w).isOut = false := ins3 w e
      rw [RDat.ArrAt_in (rd3 V c) w hin] at h
      rw [h]
      exact (Function.update_of_ne (f := V c) (show Proc.devRef .tc (Pipeline.arrRef spec3 w) ≠ main_v159 from fun h => arr3 w e (Proc.devRef_injective _ h)) _).symm
  rest c b hb := Function.update_of_ne (fun e => hb 7 (Proc.devRef_injective _ e)) _ _

end Cert.Quad
-- ==== Proof.Run.lean ====
module

public import proofs.«01_k».proof.Proof.InprojRegion
public import proofs.«01_k».proof.Proof.QuadRegion1
public import proofs.«01_k».proof.Proof.QuadRegion2
public import proofs.«01_k».proof.Proof.HeadRegion

@[expose] public section

set_option maxRecDepth 16384

noncomputable section

namespace Cert.Quad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal Cert.KernelIdeal.Gen

variable {F : FTy → Type} [FloatOps F]
variable (m : (ℓ : Loc nD τ sig) → Buf (Elt F) ℓ)

/-- Core `c`'s unscoped buffers after the first host stretch. -/
def U1 (c : Dev nD) : Valuation τ sig (Elt F) := StableHlo.after hostOps0 (V0 m c)
/-- After the input projection. -/
def U2 (c : Dev nD) : Valuation τ sig (Elt F) := Function.update (U1 m c) main_v3 (o0 (U1 m) c)
/-- After the second host stretch. -/
def U3 (c : Dev nD) : Valuation τ sig (Elt F) := StableHlo.after hostOps1 (U2 m c)
/-- After the first pair of layers. -/
def U4 (c : Dev nD) : Valuation τ sig (Elt F) := Function.update (U3 m c) main_v78 (o1 (U3 m) c)
/-- After the third host stretch. -/
def U5 (c : Dev nD) : Valuation τ sig (Elt F) := StableHlo.after hostOps2 (U4 m c)
/-- After the second pair of layers. -/
def U6 (c : Dev nD) : Valuation τ sig (Elt F) := Function.update (U5 m c) main_v153 (o2 (U5 m) c)
/-- After the fourth host stretch. -/
def U7 (c : Dev nD) : Valuation τ sig (Elt F) := StableHlo.after hostOps3 (U6 m c)
/-- After the head. -/
def U8 (c : Dev nD) : Valuation τ sig (Elt F) := Function.update (U7 m c) main_v159 (o3 (U7 m) c)

/-- What each call leaves, in the form the generated valuations take it. -/
def outsOf : Outs (F := F) := fun J r c => match J with
  | 2 => U2 m c r
  | 4 => U4 m c r
  | 6 => U6 m c r
  | _ => U8 m c r

/-- The generated last valuation is `U8`. -/
theorem V8_eq (c : Dev nD) : V8 m (outsOf m) c = U8 m c := by
  have h2 : V2 m (outsOf m) c = U2 m c := by
    show Function.update (U1 m c) (Proc.devRef .tc main_v3) (Function.update (U1 m c) (Proc.devRef .tc main_v3) _ _) = _
    rw [Function.update_self]; rfl
  have h4 : V4 m (outsOf m) c = U4 m c := by
    show Function.update (StableHlo.after hostOps1 (V2 m (outsOf m) c)) (Proc.devRef .tc main_v78) (Function.update (U3 m c) (Proc.devRef .tc main_v78) _ _) = _
    rw [Function.update_self, h2]; rfl
  have h6 : V6 m (outsOf m) c = U6 m c := by
    show Function.update (StableHlo.after hostOps2 (V4 m (outsOf m) c)) (Proc.devRef .tc main_v153) (Function.update (U5 m c) (Proc.devRef .tc main_v153) _ _) = _
    rw [Function.update_self, h4]; rfl
  show Function.update (StableHlo.after hostOps3 (V6 m (outsOf m) c)) (Proc.devRef .tc main_v159) (Function.update (U7 m c) (Proc.devRef .tc main_v159) _ _) = _
  rw [Function.update_self, h6]; rfl

/-- The proof data of the four calls. -/
def rds : (p : Fin 4) → (c : Dev nD) → RD F p c
  | 0 => rd0 (U1 m)
  | 1 => rd1 (U3 m)
  | 2 => rd2 (U5 m)
  | 3 => rd3 (U7 m)

/-- The segment of a host stretch from the buffers `V`. -/
abbrev hostSeg (ops : List (HloOp τ sig (Elt F)))
    (hs : ops.Forall fun op => op.bufs ⊆ StableHlo.tcRefs τ sig)
    (hf : ops.Forall fun op => op.fresh = ∅) (V : Dev nD → Valuation τ sig (Elt F)) :
    Pipeline.HostSeg (pcfgs (F := F)) (defs₀ (F := F)) (Name := ℕ) (Ix := Unit) (U := UR sig nD τ) (Lvl := ℕ) Variants.none Lz lvz :=
  Pipeline.HostSeg.ofOps _ _ _ _ _ (Pipeline.ucRefs τ sig) ops
    (fun op h => Pipeline.sub_ucRefs op ((List.forall_iff_forall_mem.mp hs) op h))
    (fun op h => (List.forall_iff_forall_mem.mp hf) op h) V (Idle F)

/-- The program's segments, in order. -/
abbrev segsU : List (Pipeline.RDat.Seg (pcfgs (F := F)) adm (rds m) () (defs₀ (F := F)) Variants.none Lz lvz) :=
  [.host (hostSeg hostOps0 hostOps0_sub hostOps0_fresh (V0 m)),
   .region (mkReg (rds m) 0 launch0 (U1 m) (U2 m) (call0 (U1 m))),
   .host (hostSeg hostOps1 hostOps1_sub hostOps1_fresh (U2 m)),
   .region (mkReg (rds m) 1 launch1 (U3 m) (U4 m) (call1 (U3 m))),
   .host (hostSeg hostOps2 hostOps2_sub hostOps2_fresh (U4 m)),
   .region (mkReg (rds m) 2 launch2 (U5 m) (U6 m) (call2 (U5 m))),
   .host (hostSeg hostOps3 hostOps3_sub hostOps3_fresh (U6 m)),
   .region (mkReg (rds m) 3 launch3 (U7 m) (U8 m) (call3 (U7 m)))]

set_option backward.isDefEq.respectTransparency.types false in
/-- The program runs from any memory, ends with every unscoped buffer at `U8`, and every semaphore at zero. -/
theorem run (g : Dev nD → PrngReg) :
    θ_run (defs (F := F)) (onTc (τ := τ) (main (F := F))) ⟨m, fun _ => 0, g⟩ (fun r =>
      (∀ c : Dev nD, ∀ b ∈ Pipeline.ucRefs τ sig, r.2.mem (c, b) = U8 m c b) ∧ r.2.sem = fun _ => 0) := by
  refine Pipeline.RDat.θ_run_regions_kit_dev_sems (pcfgs (F := F)) adm (rds m) () cellOf_inj emb₁ defs₀ Variants.none Lz lvz m g main
    (fun _ => segsU m)
    (fun c Q => by
      rewrite [main_chain c, Pipeline.RDat.Seg.run_eq_chain,
        show (segsU m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [segsU, Pipeline.RDat.Seg.pipes_host, Pipeline.RDat.Seg.pipes_region, Pipeline.RDat.Seg.pipes_nil]; decide)
    0 (fun _ _ => rfl) (fun _ => (BI.emp : SP F))
    (initOf (Pipeline.cells (Pipeline.pin (pcfgs (F := F)) adm) cellOf_inj) (Pipeline.launchToks (Pipeline.pin (pcfgs (F := F)) adm) cellOf_inj))
    ?_
    (At (V0 m)) (fun c => StableHlo.held (c : Thread nD τ) (Pipeline.ucRefs τ sig) (U8 m c))
    (fun c => ⟨.rfl, .rfl, .rfl, .rfl, .rfl, .rfl, .rfl, .rfl, .rfl⟩)
    ?_ (fun c s => ∀ b ∈ Pipeline.ucRefs τ sig, s.mem (c, b) = U8 m c b)
    (fun c s' => ?_) (fun _ h hz => ⟨h, funext fun g => hz g (.inr (regions_no_unscoped g.2))⟩)
  · iintro Hu; imodintro
    isplitl [Hu]
    · iapply (show (ownU _ : SP F) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : SP F) ⊢ bigSep Finset.univ (fun _ : Dev nD => (BI.emp : SP F)) from by rw [BI.bigSep_emp_const])
    iempintro
  · have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred 0 c ∗ prngReg c (g c) ∗ BI.emp)
        ⊢ At (V0 m) c := by
      intro c
      unfold At
      rw [← Pipeline.unscopedBufs_held (Ix := Unit) (Name := ℕ) (U := UR sig nD τ) (Lvl := ℕ) c (V0 m c)]
      iintro ⟨H, -, HO, -, -, -⟩
      isplitl [H]; · iexact H
      iexists ∅; iexact HO
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred 0 c ∗ prngReg c (g c) ∗ BI.emp))
        ⊢ (bigSep Finset.univ (At (V0 m)) : SP F) := bigSep_mono fun c _ => hone c
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (U8 m c) s') $$ [Hh HSI]
    · isplitl [Hh] <;> iassumption
    icases Hr with ⟨%h, HSI⟩
    imodintro
    isplitr
    · ipureintro; exact h
    · iexact HSI

/-- A tensor core's reference that is not scoped is one of the unscoped references. -/
theorem mem_uc (r : Ref sig .tc) (h : (Proc.devRef (τ := τ) .tc r).isScoped = false) :
    Proc.devRef (τ := τ) .tc r ∈ Pipeline.ucRefs τ sig :=
  Finset.mem_filter.mpr ⟨StableHlo.devRef_mem_tcRefs r, by rw [h]; exact Bool.false_ne_true⟩

end Cert.Quad
-- ==== Proof.Spec.lean ====
module

public import Idealize.ShloMosaic.Lib.Pointwise

@[expose] public section

set_option maxRecDepth 16384

noncomputable section

namespace Cert.Spec

open Idealize.ShloMosaic

/-- One row of a hidden array, at the extended reals. -/
abbrev Row := Fin 512 → EReal
/-- One row of a state. -/
abbrev SRow := Fin 64 → EReal

/-- The mean of a row. -/
def mean (r : Row) : EReal := Ideal.div (∑ k, r k) (Ideal.ofBits .f32 0x44000000#32)
/-- The variance of a row, with the small constant added. -/
def vare (r : Row) : EReal := Ideal.div (∑ k, (r k - mean r) * (r k - mean r)) (Ideal.ofBits .f32 0x44000000#32) + Ideal.ofBits .f32 0x3727C5AC#32
/-- The layer normalisation of a row. -/
def lnR (g b : Row) (r : Row) : Row := fun j => (r j - mean r) * Ideal.rsqrt (vare r) * g j + b j
/-- A product with a weight, and a bias. -/
def linR {n : ℕ} (W : Fin 512 → Fin n → EReal) (b : Fin n → EReal) (r : Row) : Fin n → EReal := fun s => (∑ k, r k * W k s) + b s

/-- The weights of one layer. -/
structure RW where
  g : Row
  b : Row
  xpW : Fin 512 → Fin 64 → EReal
  xpb : SRow
  dpW : Fin 512 → Fin 64 → EReal
  dpb : SRow
  A : Fin 64 → Fin 64 → EReal
  C : Fin 512 → Fin 64 → EReal
  gW : Fin 512 → Fin 512 → EReal
  gb : Row
  oW : Fin 512 → Fin 512 → EReal
  ob : Row

/-- What a row puts into the recurrence. -/
def xpR (w : RW) (r : Row) : SRow := linR w.xpW w.xpb (lnR w.g w.b r)
/-- How far a row moves the recurrence. -/
def dlR (w : RW) (r : Row) : SRow := fun s => Ideal.logistic (linR w.dpW w.dpb (lnR w.g w.b r) s)
/-- A row's gate. -/
def gtR (w : RW) (r : Row) : Row := fun s => Ideal.logistic (linR w.gW w.gb (lnR w.g w.b r) s)
/-- One step of the recurrence. -/
def stepR (A : Fin 64 → Fin 64 → EReal) (xp dl st : SRow) : SRow := fun s => (1 - dl s) * st s + dl s * ((∑ k, st k * A s k) + xp s)
/-- The state after `n` steps over the rows `x`, from `s0`. -/
def stR (w : RW) (x : ℕ → Row) (s0 : SRow) : ℕ → SRow
  | 0 => s0
  | n + 1 => stepR w.A (xpR w (x n)) (dlR w (x n)) (stR w x s0 n)
/-- The gated product, the output bias and the residual, from the normalised row and the scan's output. -/
def outX (gW : Fin 512 → Fin 512 → EReal) (gb : Row) (oW : Fin 512 → Fin 512 → EReal) (ob : Row) (xn out r : Row) : Row :=
  fun j => (∑ k, Ideal.logistic (linR gW gb xn k) * out k * oW k j) + ob j + r j
/-- What a layer makes of a row, from the state after it. -/
def outR (w : RW) (st : SRow) (r : Row) : Row := fun j => (∑ k, gtR w r k * (∑ s, st s * w.C k s) * w.oW k j) + w.ob j + r j
/-- A layer over a sequence of rows. -/
def layR (w : RW) (x : ℕ → Row) (t : ℕ) : Row := outR w (stR w x (fun _ => 0) (t + 1)) (x t)

/-- Steps in two parts. -/
theorem stR_add (w : RW) (x : ℕ → Row) (s0 : SRow) (m : ℕ) : ∀ n, stR w x s0 (m + n) = stR w (fun t => x (m + t)) (stR w x s0 m) n
  | 0 => rfl
  | n + 1 => by
    show stepR w.A (xpR w (x (m + n))) (dlR w (x (m + n))) (stR w x s0 (m + n)) = _
    rw [stR_add w x s0 m n]; rfl

/-- The state depends on the rows taken only. -/
theorem stR_congr (w : RW) (x y : ℕ → Row) (s0 : SRow) : ∀ n, (∀ t, t < n → x t = y t) → stR w x s0 n = stR w y s0 n
  | 0, _ => rfl
  | n + 1, h => by
    show stepR w.A (xpR w (x n)) (dlR w (x n)) (stR w x s0 n) = stepR w.A (xpR w (y n)) (dlR w (y n)) (stR w y s0 n)
    rw [stR_congr w x y s0 n fun t ht => h t (by omega), h n (by omega)]

/-- A layer's row depends on the rows up to it only. -/
theorem layR_congr (w : RW) (x y : ℕ → Row) (t : ℕ) (h : ∀ u, u ≤ t → x u = y u) : layR w x t = layR w y t := by
  unfold layR
  rw [stR_congr w x y _ (t + 1) fun u hu => h u (by omega), h t (le_refl t)]

/-- The divisor of a mean is positive. -/
theorem c512_pos : 0 < Ideal.ofBits .f32 0x44000000#32 := by
  simp [Ideal.ofBits, Ideal.ieee]
  exact_mod_cast (by positivity : (0 : ℝ) < 8388608 * (2 ^ 14)⁻¹)
/-- The small constant is positive. -/
theorem eps_pos : 0 < Ideal.ofBits .f32 0x3727C5AC#32 := by
  simp [Ideal.ofBits, Ideal.ieee]
  exact_mod_cast (by positivity : (0 : ℝ) < 10995116 * (2 ^ 40)⁻¹)

/-- A square is nonnegative. -/
theorem sq_nonneg' (x : EReal) : 0 ≤ x * x := by
  rcases le_total 0 x with h | h
  · exact mul_nonneg h h
  · rw [← neg_mul_neg]
    have h' : 0 ≤ -x := by rw [EReal.le_neg]; simpa using h
    exact mul_nonneg h' h'

/-- The variance with the constant added is positive. -/
theorem vare_pos (r : Row) : 0 < vare r := by
  unfold vare
  have h1 : 0 ≤ ∑ k, (r k - mean r) * (r k - mean r) := Finset.sum_nonneg fun k _ => sq_nonneg' _
  have h2 : 0 ≤ Ideal.div (∑ k, (r k - mean r) * (r k - mean r)) (Ideal.ofBits .f32 0x44000000#32) := by
    unfold Ideal.div
    rw [if_neg (ne_of_gt c512_pos)]
    exact mul_nonneg h1 (EReal.inv_nonneg_of_nonneg c512_pos.le)
  exact lt_of_lt_of_le eps_pos (le_add_of_nonneg_left h2)

/-- Dividing by a square root is multiplying by the reciprocal square root. -/
theorem div_sqrt (x v : EReal) (hv : 0 < v) : Ideal.div x (Ideal.sqrt v) = x * Ideal.rsqrt v := by
  induction v using EReal.rec with
  | bot => simp at hv
  | top => simp [Ideal.div]
  | coe r =>
    have hr : 0 < r := by exact_mod_cast hv
    have h1 : Ideal.sqrt (r : EReal) = ((Real.sqrt r : ℝ) : EReal) := by rw [Ideal.sqrt_coe, if_neg (not_lt.mpr hr.le)]
    have h2 : Ideal.rsqrt (r : EReal) = (((Real.sqrt r)⁻¹ : ℝ) : EReal) := by rw [Ideal.rsqrt_coe, if_neg (not_lt.mpr hr.le), if_neg (ne_of_gt hr)]
    have h3 : (Real.sqrt r : EReal) ≠ 0 := by exact_mod_cast (ne_of_gt (Real.sqrt_pos.mpr hr))
    rw [h1, h2]
    unfold Ideal.div
    rw [if_neg h3, EReal.coe_inv]

/-- The normalisation with a square root divided by. -/
theorem lnR_div (g b r : Row) (j : Fin 512) : Ideal.div (r j - mean r) (Ideal.sqrt (vare r)) * g j + b j = lnR g b r j := by
  rw [div_sqrt _ _ (vare_pos r)]; rfl

/-- A scan whose step writes one row of outputs leaves the rows of the recurrence. -/
theorem scan_rows (w : RW) (x : Fin 32 → ℕ → Row) (st : ℕ → Fin 32 → SRow) (out : ℕ → Fin 2048 → Fin 32 → Row)
    (h0 : ∀ b, st 0 b = fun _ => 0)
    (hs : ∀ k, k < 2048 → ∀ b, st (k + 1) b = stepR w.A (xpR w (x b k)) (dlR w (x b k)) (st k b))
    (ho : ∀ k, k < 2048 → ∀ (t : Fin 2048) b, out (k + 1) t b = if t.val = k then (fun j => ∑ s, st (k + 1) b s * w.C j s) else out k t b)
    (t : Fin 2048) (b : Fin 32) : out 2048 t b = fun j => ∑ s, stR w (x b) (fun _ => 0) (t.val + 1) s * w.C j s := by
  have hst : ∀ k, k ≤ 2048 → st k b = stR w (x b) (fun _ => 0) k := by
    intro k
    induction k with
    | zero => intro _; exact h0 b
    | succ k ih => intro hk; rw [hs k (by omega) b, ih (by omega)]; rfl
  have hout : ∀ k, k ≤ 2048 → t.val < k → out k t b = fun j => ∑ s, stR w (x b) (fun _ => 0) (t.val + 1) s * w.C j s := by
    intro k
    induction k with
    | zero => intro _ h; omega
    | succ k ih =>
      intro hk ht
      rw [ho k (by omega) t b]
      by_cases e : t.val = k
      · rw [if_pos e, hst (k + 1) hk, e]
      · rw [if_neg e]; exact ih (by omega) (by omega)
  exact hout 2048 (le_refl _) t.isLt

end Cert.Spec
-- ==== Proof.KRow.lean ====
module

public import proofs.«01_k».proof.Proof.QuadPoint
public import proofs.«01_k».proof.Proof.QuadChunk
public import proofs.«01_k».proof.Proof.Spec

@[expose] public section

set_option maxRecDepth 16384

noncomputable section

namespace Cert.Quad

open Idealize.ShloMosaic Idealize.ShloMosaic.TcCoe
open Cert.KernelIdeal Cert.KernelIdeal.Gen Cert.Spec

/-- The layer's weights, element by element. -/
def rw (v : LVals Ideal) : RW where
  g j := v.lng (ix2 0 j)
  b j := v.lnb (ix2 0 j)
  xpW k s := v.xpW (ix2 k s)
  xpb s := v.xpb (ix2 0 s)
  dpW k s := v.dpW (ix2 k s)
  dpb s := v.dpb (ix2 0 s)
  A s k := v.At (ix2 k s)
  C k s := v.Ct (ix2 s k)
  gW k s := v.gW (ix2 k s)
  gb s := v.gb (ix2 0 s)
  oW k s := v.oW (ix2 k s)
  ob s := v.ob (ix2 0 s)

/-- The normalised rows of a sub-block. -/
theorem lnP_at (x : FVec Ideal S256x512 .f32) (g b : Vec Ideal S1x512 .f32) (i : Fin 256) (j : Fin 512) :
    lnP x g b (ix2 i j) = lnR (fun k => g (ix2 0 k)) (fun k => b (ix2 0 k)) (fun k => x (ix2 i k)) j := by
  pointwise [lnP]
  rfl

/-- The product with a 512×64 weight. -/
theorem xpP_at (x : FVec Ideal S256x512 .bf16) (W : Vec Ideal S512x64 .bf16) (b : Vec Ideal S1x64 .f32) (i : Fin 256) (s : Fin 64) :
    xpP x W b (ix2 i s) = linR (fun k s => W (ix2 k s)) (fun s => b (ix2 0 s)) (fun k => x (ix2 i k)) s := by
  pointwise [xpP]
  rfl

/-- The gate. -/
theorem gateP_at (x : FVec Ideal S256x512 .bf16) (W : Vec Ideal S512x512 .bf16) (b : Vec Ideal S1x512 .f32) (i : Fin 256) (s : Fin 512) :
    gateP x W b (ix2 i s) = Ideal.logistic (linR (fun k s => W (ix2 k s)) (fun s => b (ix2 0 s)) (fun k => x (ix2 i k)) s) := by
  pointwise [gateP]
  rfl

/-- A step of the recurrence, for the batch `b`. -/
theorem stepP_at (k : ℕ) (hk : k < 8) (xp dl : FVec Ideal S256x64 .f32) (st : Vec Ideal S32x64 .f32) (At : Vec Ideal S64x64 .f32) (b : Fin 32) (s : Fin 64) :
    stepP k hk xp dl st At (ix2 b s) = stepR (fun s k => At (ix2 k s)) (fun s => xp (ix2 ⟨32 * k + b.val, by omega⟩ s)) (fun s => dl (ix2 ⟨32 * k + b.val, by omega⟩ s))
      (fun s => st (ix2 b s)) s := by
  pointwise [stepP]
  rfl

/-- The gated product, the output bias and the residual. -/
theorem postP_at (sts : FVec Ideal S256x64 .bf16) (Ct : Vec Ideal S64x512 .bf16) (g : Vec Ideal S256x512 .bf16) (oW : Vec Ideal S512x512 .bf16)
    (res : FVec Ideal S256x512 .f32) (ob : Vec Ideal S1x512 .f32) (i : Fin 256) (j : Fin 512) :
    postP sts Ct g oW res ob (ix2 i j) = (∑ k : Fin 512, g (ix2 i k) * (∑ s : Fin 64, sts (ix2 i s) * Ct (ix2 s k)) * oW (ix2 k j)) + ob (ix2 0 j) + res (ix2 i j) := by
  pointwise [postP]

/-- The stacked states. -/
theorem catP_at (f : (j : ℕ) → j ≤ 8 → FVec Ideal S32x64 .f32) (j : ℕ) (hj : j < 8) (b : Fin 32) (s : Fin 64) :
    catP (f 1 (by omega)) (f 2 (by omega)) (f 3 (by omega)) (f 4 (by omega)) (f 5 (by omega)) (f 6 (by omega)) (f 7 (by omega)) (f 8 (by omega)) (ix2 ⟨32 * j + b.val, by omega⟩ s)
      = f (j + 1) (by omega) (ix2 b s) := by
  have h8 : j = 0 ∨ j = 1 ∨ j = 2 ∨ j = 3 ∨ j = 4 ∨ j = 5 ∨ j = 6 ∨ j = 7 := by omega
  have hb := b.isLt
  rcases h8 with rfl | rfl | rfl | rfl | rfl | rfl | rfl | rfl <;> pointwise [catP] <;>
    repeat' split
  all_goals first
    | (exfalso; omega)
    | (refine congrArg (fun i => f _ _ (ix2 i s)) (Fin.ext ?_); show _ = b.val; dsimp only; omega)
    | rfl

end Cert.Quad
-- ==== Proof.KVal.lean ====
module

public import proofs.«01_k».proof.Proof.KRow

@[expose] public section

set_option maxRecDepth 16384

noncomputable section

namespace Cert.Quad

open Idealize.ShloMosaic Idealize.ShloMosaic.TcCoe
open Cert.KernelIdeal Cert.KernelIdeal.Gen Cert.Spec

section Chunk
variable (v : LVals Ideal) (x : RowsV Ideal) (b : Fin 32) (X : ℕ → Row)

/-- The rows of batch `b` in a chunk are the sequence `X`. -/
def Rows : Prop := ∀ s (hs : s < 8) j (hj : j < 8) l, x s hs (ix2 ⟨32 * j + b.val, by omega⟩ l) = X (8 * s + j) l

variable {v x b X} (hX : Rows x b X)
include hX

/-- What the chunk's rows put into the recurrence. -/
theorem xpV_at (s : ℕ) (hs : s < 8) (j : ℕ) (hj : j < 8) (q : Fin 64) :
    xpV v x s hs (ix2 ⟨32 * j + b.val, by omega⟩ q) = xpR (rw v) (X (8 * s + j)) q := by
  refine (xpP_at _ _ _ _ q).trans ?_
  have e : (fun k => xnV v x s hs (ix2 ⟨32 * j + b.val, by omega⟩ k)) = lnR (rw v).g (rw v).b (X (8 * s + j)) := by
    funext k
    refine (lnP_at _ _ _ _ k).trans ?_
    rw [show (fun k => x s hs (ix2 ⟨32 * j + b.val, by omega⟩ k)) = X (8 * s + j) from funext fun l => hX s hs j hj l]
    rfl
  rw [e]; rfl

/-- How far the chunk's rows move the recurrence. -/
theorem dlV_at (s : ℕ) (hs : s < 8) (j : ℕ) (hj : j < 8) (q : Fin 64) :
    dlV v x s hs (ix2 ⟨32 * j + b.val, by omega⟩ q) = dlR (rw v) (X (8 * s + j)) q := by
  refine congrArg Ideal.logistic (?_ : xpP (xnV v x s hs) v.dpW v.dpb (ix2 ⟨32 * j + b.val, by omega⟩ q) = linR (rw v).dpW (rw v).dpb (lnR (rw v).g (rw v).b (X (8 * s + j))) q)
  refine (xpP_at _ _ _ _ q).trans ?_
  have e : (fun k => xnV v x s hs (ix2 ⟨32 * j + b.val, by omega⟩ k)) = lnR (rw v).g (rw v).b (X (8 * s + j)) := by
    funext k
    refine (lnP_at _ _ _ _ k).trans ?_
    rw [show (fun k => x s hs (ix2 ⟨32 * j + b.val, by omega⟩ k)) = X (8 * s + j) from funext fun l => hX s hs j hj l]
    rfl
  rw [e]; rfl

/-- The gates of the chunk's rows. -/
theorem gV_at (s : ℕ) (hs : s < 8) (j : ℕ) (hj : j < 8) (q : Fin 512) :
    gV v x s hs (ix2 ⟨32 * j + b.val, by omega⟩ q) = gtR (rw v) (X (8 * s + j)) q := by
  refine (gateP_at _ _ _ _ q).trans ?_
  have e : (fun k => xnV v x s hs (ix2 ⟨32 * j + b.val, by omega⟩ k)) = lnR (rw v).g (rw v).b (X (8 * s + j)) := by
    funext k
    refine (lnP_at _ _ _ _ k).trans ?_
    rw [show (fun k => x s hs (ix2 ⟨32 * j + b.val, by omega⟩ k)) = X (8 * s + j) from funext fun l => hX s hs j hj l]
    rfl
  rw [e]; rfl

/-- The state after some steps of a sub-block. -/
theorem stk_at (s : ℕ) (hs : s < 8) (st : Vec Ideal S32x64 .f32) : ∀ (j : ℕ) (hj : j ≤ 8) (q : Fin 64),
    stk (xpV v x s hs) (dlV v x s hs) v.At st j hj (ix2 b q) = stR (rw v) (fun t => X (8 * s + t)) (fun q => st (ix2 b q)) j q
  | 0, _, _ => rfl
  | j + 1, hj, q => by
    refine (stepP_at j hj _ _ _ _ b q).trans ?_
    show _ = stepR (rw v).A (xpR (rw v) (X (8 * s + j))) (dlR (rw v) (X (8 * s + j))) (stR (rw v) (fun t => X (8 * s + t)) (fun q => st (ix2 b q)) j) q
    rw [show (fun q => xpV v x s hs (ix2 ⟨32 * j + b.val, by omega⟩ q)) = xpR (rw v) (X (8 * s + j)) from funext fun q => xpV_at hX s hs j hj q,
      show (fun q => dlV v x s hs (ix2 ⟨32 * j + b.val, by omega⟩ q)) = dlR (rw v) (X (8 * s + j)) from funext fun q => dlV_at hX s hs j hj q,
      show (fun q => stk (xpV v x s hs) (dlV v x s hs) v.At st j (Nat.le_of_succ_le hj) (ix2 b q)) = _ from funext fun q => stk_at s hs st j (Nat.le_of_succ_le hj) q]
    rfl

/-- The state as a sub-block begins. -/
theorem stV_at (st : Vec Ideal S32x64 .f32) : ∀ (s : ℕ) (hs : s ≤ 8) (q : Fin 64),
    stV v x st s hs (ix2 b q) = stR (rw v) X (fun q => st (ix2 b q)) (8 * s) q
  | 0, _, _ => rfl
  | s + 1, hs, q => by
    refine (stk_at hX s hs _ 8 (le_refl 8) q).trans ?_
    rw [show (fun q => stV v x st s (Nat.le_of_succ_le hs) (ix2 b q)) = _ from funext fun q => stV_at st s (Nat.le_of_succ_le hs) q, show 8 * (s + 1) = 8 * s + 8 from rfl, stR_add]

/-- The state after some steps of a sub-block, from the chunk's start. -/
theorem sjV_at (st : Vec Ideal S32x64 .f32) (s : ℕ) (hs : s < 8) (j : ℕ) (hj : j ≤ 8) (q : Fin 64) :
    sjV v x st s hs j hj (ix2 b q) = stR (rw v) X (fun q => st (ix2 b q)) (8 * s + j) q := by
  refine (stk_at hX s hs _ j hj q).trans ?_
  rw [show (fun q => stV v x st s hs.le (ix2 b q)) = _ from funext fun q => stV_at hX st s hs.le q, stR_add]

/-- The chunk's output rows. -/
theorem yV_at (st : Vec Ideal S32x64 .f32) (s : ℕ) (hs : s < 8) (j : ℕ) (hj : j < 8) (l : Fin 512) :
    yV v x st s hs (ix2 ⟨32 * j + b.val, by omega⟩ l)
      = outR (rw v) (stR (rw v) X (fun q => st (ix2 b q)) (8 * s + j + 1)) (X (8 * s + j)) l := by
  refine (postP_at _ _ _ _ _ _ _ l).trans ?_
  refine congrArg₂ (· + ·) (congrArg₂ (· + ·) (Finset.sum_congr rfl fun k _ => ?_) rfl) (hX s hs j hj l)
  refine congrArg₂ (· * ·) (congrArg₂ (· * ·) (gV_at hX s hs j hj k) (Finset.sum_congr rfl fun q _ => ?_)) rfl
  refine congrArg₂ (· * ·) ?_ rfl
  exact (catP_at (fun j hj => sjV v x st s hs j hj) j hj b q).trans (sjV_at hX st s hs (j + 1) hj q)

end Chunk

/-- The sequence of rows of batch `b` in a hidden array. -/
def seqOf (h : Vec Ideal S65536x512 .f32) (b : Fin 32) : ℕ → Row := fun t l => h (ix2 ⟨32 * min t 2047 + b.val, by omega⟩ l)

/-- The rows of a chunk. -/
theorem chunk_rows (h : Vec Ideal S65536x512 .f32) (b : Fin 32) (n : ℕ) (hn : n < 32) : Rows (rowsX (chunk h n)) b fun t => seqOf h b (64 * n + t) := by
  intro s hs j hj l
  refine (rowsX_apply (chunk h n) s hs ⟨32 * j + b.val, by omega⟩ l).trans ?_
  unfold chunk seqOf
  have hb := b.isLt
  refine congrArg (fun r => h (ix2 r l)) (Fin.ext ?_)
  show 2048 * min n 31 + (256 * s + (32 * j + b.val)) = 32 * min (64 * n + (8 * s + j)) 2047 + b.val
  omega

theorem stP_zero0 : ∀ n : Fin 34, 0 < n.val → Scalar.cmpi .sgt (BitVec.ofNat 32 n.val) 0#32 = 1#1 := by decide
theorem stP_zero1 : ∀ n : Fin 34, 1 < n.val → Scalar.cmpi .sgt (BitVec.ofNat 32 n.val) 1#32 = 1#1 := by decide

/-- The state taken is the state held, after the first chunk. -/
theorem stP_pos (n : ℕ) (c : BitVec 32) (v : Vec Ideal S32x64 .f32) (h : Scalar.cmpi .sgt (BitVec.ofNat 32 n) c = 1#1) : stP n c v = v := by
  unfold stP; rw [h]; rfl

/-- The state taken is zero, at the first chunk. -/
theorem stP_neg (n : ℕ) (c : BitVec 32) (v : Vec Ideal S32x64 .f32) (h : Scalar.cmpi .sgt (BitVec.ofNat 32 n) c = 0#1) (b : Fin 32) :
    (fun q => stP n c v (ix2 b q)) = fun _ => (0 : EReal) := by
  unfold stP; rw [h]
  funext q
  show Ideal.ofBits .f32 0x00000000#32 = 0
  exact Ideal.ofBits_zero_f32

section Two
variable (h : Vec Ideal S65536x512 .f32) (va vb : LVals Ideal) (b : Fin 32)

/-- The first layer's state as chunk `n` begins. -/
theorem stA_at : ∀ n, n < 32 → (fun q => stP n 0#32 (stA (chunk h) va n) (ix2 b q)) = stR (rw va) (seqOf h b) (fun _ => 0) (64 * n)
  | 0, _ => stP_neg 0 _ _ (by decide) b
  | n + 1, hn => by
    rw [stP_pos (n + 1) _ _ (stP_zero0 ⟨n + 1, by omega⟩ (Nat.succ_pos n))]
    funext q
    refine (stV_at (chunk_rows h b n (by omega)) _ 8 (le_refl 8) q).trans ?_
    rw [stA_at n (by omega), show 64 * (n + 1) = 64 * n + 8 * 8 from by omega, stR_add]

/-- The first layer's rows. -/
theorem yA_rows (n : ℕ) (hn : n < 32) : Rows (yA (chunk h) va n) b fun t => layR (rw va) (seqOf h b) (64 * n + t) := by
  intro s hs j hj l
  refine (yV_at (chunk_rows h b n hn) _ s hs j hj l).trans ?_
  rw [stA_at h va b n hn, ← stR_add]
  rfl

/-- The second layer's state as chunk `n` begins, at grid point `n + 1`. -/
theorem stB_at : ∀ n, n < 32 → (fun q => stP (n + 1) 1#32 (stB (chunk h) va vb (n + 1)) (ix2 b q)) = stR (rw vb) (layR (rw va) (seqOf h b)) (fun _ => 0) (64 * n)
  | 0, _ => stP_neg 1 _ _ (by decide) b
  | n + 1, hn => by
    rw [stP_pos (n + 1 + 1) _ _ (stP_zero1 ⟨n + 1 + 1, by omega⟩ (by show 1 < n + 1 + 1; omega))]
    funext q
    refine (stV_at (yA_rows h va b n (by omega)) _ 8 (le_refl 8) q).trans ?_
    rw [stB_at n (by omega), show 64 * (n + 1) = 64 * n + 8 * 8 from by omega, stR_add]

/-- The second layer's rows. -/
theorem yB_rows (n : ℕ) (hn : n < 32) : Rows (yB (chunk h) va vb (n + 1)) b fun t => layR (rw vb) (layR (rw va) (seqOf h b)) (64 * n + t) := by
  intro s hs j hj l
  refine (yV_at (yA_rows h va b n hn) _ s hs j hj l).trans ?_
  rw [stB_at h va vb b n hn, ← stR_add]
  rfl

/-- The array two layers leave, row by row. -/
theorem unchunk_at (t : ℕ) (ht : t < 2048) (l : Fin 512) :
    unchunk (yB (chunk h) va vb) (ix2 ⟨32 * t + b.val, by omega⟩ l) = layR (rw vb) (layR (rw va) (seqOf h b)) t l := by
  have hb := b.isLt
  have key := yB_rows h va vb b (t / 64) (by omega) (t % 64 / 8) (by omega) (t % 8) (by omega) l
  have e : 64 * (t / 64) + (8 * (t % 64 / 8) + t % 8) = t := by omega
  beta_reduce at key
  rw [e] at key
  refine Eq.trans ?_ key
  unfold unchunk
  have e1 : (32 * t + b.val) / 2048 + 1 = t / 64 + 1 := by omega
  have e2 : (32 * t + b.val) % 2048 / 256 = t % 64 / 8 := by omega
  have e3 : (32 * t + b.val) % 256 = 32 * (t % 8) + b.val := by omega
  have gen : ∀ (n n' s s' i i' : ℕ) (hs : s < 8) (hs' : s' < 8) (hi : i < 256) (hi' : i' < 256), n = n' → s = s' → i = i' →
      yB (chunk h) va vb n s hs (ix2 ⟨i, hi⟩ l) = yB (chunk h) va vb n' s' hs' (ix2 ⟨i', hi'⟩ l) := by
    rintro n _ s _ i _ _ _ _ _ rfl rfl rfl; rfl
  exact gen _ _ _ _ _ _ _ _ _ _ e1 e2 e3

/-- The same, as a sequence of rows. -/
theorem unchunk_seq (t : ℕ) (ht : t < 2048) : seqOf (unchunk (yB (chunk h) va vb)) b t = layR (rw vb) (layR (rw va) (seqOf h b)) t := by
  funext l
  refine Eq.trans ?_ (unchunk_at h va vb b t ht l)
  unfold seqOf
  refine congrArg (fun r => unchunk (yB (chunk h) va vb) (ix2 r l)) (Fin.ext ?_)
  show 32 * min t 2047 + b.val = 32 * t + b.val
  omega

end Two

end Cert.Quad
-- ==== Proof.SpecHead.lean ====
module

public import proofs.«01_k».proof.Proof.Spec

@[expose] public section

set_option maxRecDepth 16384

noncomputable section

namespace Cert.Spec

open Idealize.ShloMosaic

/-- The reciprocal the approximation of the error function is a polynomial in. -/
def tOf (a : EReal) : EReal := Ideal.div 1 (1 + Ideal.ofBits .f32 0x3EA7BA05#32 * a)
/-- The error function's approximation, at a number that is not negative. -/
def erfA (a : EReal) : EReal :=
  1 - tOf a * (Ideal.ofBits .f32 0x3E827906#32 + tOf a * (Ideal.ofBits .f32 0xBE91A98E#32 + tOf a * (Ideal.ofBits .f32 0x3FB5F0E3#32
    + tOf a * (Ideal.ofBits .f32 0xBFBA00E3#32 + tOf a * Ideal.ofBits .f32 0x3F87DC22#32)))) * Ideal.exp (-a * a)
open Classical in
/-- The gelu, with that approximation. -/
def gel (z : EReal) : EReal :=
  Ideal.ofBits .f32 0x3F000000#32 * z * (1 + if z * Ideal.ofBits .f32 0x3F3504F3#32 < 0
    then -erfA (FloatOps.absf (F := Ideal) (φ := .f32) (z * Ideal.ofBits .f32 0x3F3504F3#32)) else erfA (FloatOps.absf (F := Ideal) (φ := .f32) (z * Ideal.ofBits .f32 0x3F3504F3#32)))
/-- The head, of one row. -/
def headR (g b : Row) (W1 : Fin 512 → Fin 256 → EReal) (b1 : Fin 256 → EReal) (W2 : Fin 256 → EReal) (b2 : EReal) (r : Row) : EReal :=
  (∑ k, gel (linR W1 b1 (lnR g b r) k) * W2 k) + b2
/-- The input projection, of one row. -/
def inR (W : Fin 64 → Fin 512 → EReal) (b : Row) (a : Fin 64 → EReal) : Row := fun j => (∑ k, a k * W k j) + b j
/-- Four layers over a sequence of rows, at the last step. -/
def lastR (w : Fin 4 → RW) (x : ℕ → Row) : Row := layR (w 3) (layR (w 2) (layR (w 1) (layR (w 0) x))) 2047

/-- Sequences that follow the layers up to the last step end as the layers do. -/
theorem lastR_of (w : Fin 4 → RW) (x0 x1 x2 x3 : ℕ → Row) (h1 : ∀ t, t < 2048 → x1 t = layR (w 0) x0 t) (h2 : ∀ t, t < 2048 → x2 t = layR (w 1) x1 t)
    (h3 : ∀ t, t < 2048 → x3 t = layR (w 2) x2 t) : layR (w 3) x3 2047 = lastR w x0 := by
  have e1 : ∀ t, t < 2048 → x2 t = layR (w 1) (layR (w 0) x0) t := fun t ht => (h2 t ht).trans (layR_congr _ _ _ t fun u hu => h1 u (by omega))
  have e2 : ∀ t, t < 2048 → x3 t = layR (w 2) (layR (w 1) (layR (w 0) x0)) t := fun t ht => (h3 t ht).trans (layR_congr _ _ _ t fun u hu => e1 u (by omega))
  exact layR_congr _ _ _ 2047 fun u hu => e2 u (by omega)

end Cert.Spec
-- ==== Proof.KHead.lean ====
module

public import proofs.«01_k».proof.Proof.HeadRegion
public import proofs.«01_k».proof.Proof.SpecHead

@[expose] public section

set_option maxRecDepth 16384

noncomputable section

namespace Cert.Quad

open Idealize.ShloMosaic Idealize.ShloMosaic.TcCoe
open Cert.KernelIdeal Cert.KernelIdeal.Gen Cert.Spec

section Pay
variable (h : Vec Ideal S32x512 .f32) (lng lnb : Vec Ideal S1x512 .f32) (w1 : Vec Ideal S512x256 .f32) (b1 : Vec Ideal S1x256 .f32) (b : Fin 32)

/-- The head's first product, of one row. -/
def preK (s : Fin 256) : EReal := linR (fun k s => w1 (ix2 k s)) (fun s => b1 (ix2 0 s)) (lnR (fun k => lng (ix2 0 k)) (fun k => lnb (ix2 0 k)) (fun k => h (ix2 b k))) s

/-- Half the head's first product. -/
theorem k3_pay2_at (s : Fin 256) : @Eq EReal (k3_pay2 h lng lnb w1 b1 (ix2 b s)) (preK h lng lnb w1 b1 b s * Ideal.ofBits .f32 0x3F000000#32) := by
  pointwise [k3_pay2, k3_pay1]
  rfl

/-- What the error function is taken of. -/
theorem k3_pay3_at (s : Fin 256) : @Eq EReal (k3_pay3 h lng lnb w1 b1 (ix2 b s)) (preK h lng lnb w1 b1 b s * Ideal.ofBits .f32 0x3F3504F3#32) := by
  pointwise [k3_pay3, k3_pay1]
  rfl

/-- Whether that is negative. -/
theorem k3_pay4_at (s : Fin 256) : k3_pay4 h lng lnb w1 b1 (ix2 b s) = FloatOps.cmpf (F := Ideal) (φ := .f32) .olt (preK h lng lnb w1 b1 b s * Ideal.ofBits .f32 0x3F3504F3#32) (Ideal.ofBits .f32 0x00000000#32) := by
  refine Eq.trans ?_ (congrArg (fun u => FloatOps.cmpf (F := Ideal) (φ := .f32) .olt u (Ideal.ofBits .f32 0x00000000#32)) (k3_pay3_at h lng lnb w1 b1 b s))
  pointwise [k3_pay4]
end Pay

/-- Minus one, as a constant. -/
theorem neg_one_bits : Ideal.ofBits .f32 0xBF800000#32 = -1 := by
  simp [Ideal.ofBits, Ideal.ieee]
  rw [← EReal.coe_mul]
  norm_num

/-- The sign times the approximation is the approximation with that sign. -/
theorem sign_mul (u a : EReal) : Scalar.select (FloatOps.cmpf (F := Ideal) (φ := .f32) .olt u (Ideal.ofBits .f32 0x00000000#32)) (Ideal.ofBits .f32 0xBF800000#32) 1 * a
    = if u < 0 then -a else a := by
  rw [neg_one_bits, Ideal.ofBits_zero_f32]
  by_cases h : u < 0
  · rw [if_pos h, show FloatOps.cmpf (F := Ideal) (φ := .f32) .olt u (0 : EReal) = 1#1 from congrArg BitVec.ofBool (decide_eq_true h)]
    exact neg_one_mul a
  · rw [if_neg h, show FloatOps.cmpf (F := Ideal) (φ := .f32) .olt u (0 : EReal) = 0#1 from congrArg BitVec.ofBool (decide_eq_false h)]
    exact one_mul a

/-- The head's gelu and second product, of one row. -/
theorem k3_pay6_at (z : FVec Ideal S32x256 .f32) (u : FVec Ideal S32x256 .f32) (i : IVec S32x256 1) (w2 : Vec Ideal S256x1 .f32) (b2 : Vec Ideal S1x1 .f32) (b : Fin 32) :
    @Eq EReal (k3_pay6 z u i (Scalar.ofBits .f32 0x3F800000#32) (k3_pay5 (F := Ideal)) w2 b2 (ix2 b 0))
      ((∑ k : Fin 256, @id EReal (z (ix2 b k)) * (1 + Scalar.select (i (ix2 b k)) (Ideal.ofBits .f32 0xBF800000#32) 1 * erfA (FloatOps.absf (F := Ideal) (φ := .f32) (u (ix2 b k)))) * @id EReal (w2 (ix2 k 0))) + @id EReal (b2 (ix2 0 0))) := by
  pointwise [k3_pay6, k3_pay5]
  unfold erfA tOf
  simp only [zero_sub, id]

/-- The head, of one row. -/
theorem headV_at (h : Vec Ideal S32x512 .f32) (lng lnb : Vec Ideal S1x512 .f32) (w1 : Vec Ideal S512x256 .f32) (b1 : Vec Ideal S1x256 .f32) (w2 : Vec Ideal S256x1 .f32) (b2 : Vec Ideal S1x1 .f32) (b : Fin 32) :
    headV h lng lnb w1 b1 w2 b2 (ix2 b 0) = headR (fun k => lng (ix2 0 k)) (fun k => lnb (ix2 0 k)) (fun k s => w1 (ix2 k s)) (fun s => b1 (ix2 0 s)) (fun k => w2 (ix2 k 0)) (b2 (ix2 0 0)) (fun k => h (ix2 b k)) := by
  refine (k3_pay6_at _ _ _ w2 b2 b).trans (congrArg₂ (· + ·) (Finset.sum_congr rfl fun k _ => congrArg₂ (· * ·) ?_ rfl) rfl)
  rw [k3_pay4_at, sign_mul, k3_pay3_at]
  refine congrArg₂ (· * ·) ((k3_pay2_at h lng lnb w1 b1 b k).trans (mul_comm _ _)) ?_
  rfl

end Cert.Quad
-- ==== Proof.KFinal.lean ====
module

public import proofs.«01_k».proof.Proof.Run
public import proofs.«01_k».proof.Proof.KVal
public import proofs.«01_k».proof.Proof.KHead
public import proofs.«01_k».proof.Proof.Gen.KernelIdeal.Regions
public import Idealize.ShloMosaic.Lib.StableHlo.ReadAt

@[expose] public section

set_option maxRecDepth 16384

noncomputable section

namespace Cert.Quad

open Idealize.ShloMosaic Idealize.ShloMosaic.TcCoe
open Cert.KernelIdeal Cert.KernelIdeal.Gen Cert.Spec
open Idealize.ShloMosaic.StableHlo

/-- Layer `l`'s weights, element by element. -/
def loadK (V : Valuation τ sig (Elt Ideal)) (l : Fin 4) : RW where
  g j := V (Proc.devRef .tc main_arg3) (ix2 l j)
  b j := V (Proc.devRef .tc main_arg4) (ix2 l j)
  xpW k s := V (Proc.devRef .tc main_arg5) (ix3 l k s)
  xpb s := V (Proc.devRef .tc main_arg6) (ix2 l s)
  dpW k s := V (Proc.devRef .tc main_arg7) (ix3 l k s)
  dpb s := V (Proc.devRef .tc main_arg8) (ix2 l s)
  A s k := V (Proc.devRef .tc main_arg9) (ix3 l s k)
  C k s := V (Proc.devRef .tc main_arg10) (ix3 l k s)
  gW k s := V (Proc.devRef .tc main_arg11) (ix3 l k s)
  gb s := V (Proc.devRef .tc main_arg12) (ix2 l s)
  oW k s := V (Proc.devRef .tc main_arg13) (ix3 l k s)
  ob s := V (Proc.devRef .tc main_arg14) (ix2 l s)

/-- Weights are the same where each is. -/
theorem RW_ext (v w : RW) (h1 : ∀ j, v.g j = w.g j) (h2 : ∀ j, v.b j = w.b j) (h3 : ∀ k s, v.xpW k s = w.xpW k s) (h4 : ∀ s, v.xpb s = w.xpb s)
    (h5 : ∀ k s, v.dpW k s = w.dpW k s) (h6 : ∀ s, v.dpb s = w.dpb s) (h7 : ∀ s k, v.A s k = w.A s k) (h8 : ∀ k s, v.C k s = w.C k s)
    (h9 : ∀ k s, v.gW k s = w.gW k s) (h10 : ∀ s, v.gb s = w.gb s) (h11 : ∀ k s, v.oW k s = w.oW k s) (h12 : ∀ s, v.ob s = w.ob s) : v = w := by
  cases v; cases w
  simp only [RW.mk.injEq]
  exact ⟨funext h1, funext h2, funext₂ h3, funext h4, funext₂ h5, funext h6, funext₂ h7, funext₂ h8, funext₂ h9, funext h10, funext₂ h11, funext h12⟩

variable (V : Dev nD → Valuation τ sig (Elt Ideal)) (c : Dev nD)

set_option maxHeartbeats 4000000 in
/-- The first layer's weights, as the first pair of layers takes them. -/
theorem rw_va1 : rw (va1 (fun c => after hostOps1 (V c)) c) = loadK (V c) 0 := by
  refine RW_ext _ _ ?_ ?_ ?_ ?_ ?_ ?_ ?_ ?_ ?_ ?_ ?_ ?_ <;> intros <;> dsimp only [rw, va1, loadK] <;> after_reads_at

set_option maxHeartbeats 4000000 in
/-- The second layer's weights, as the first pair of layers takes them. -/
theorem rw_vb1 : rw (vb1 (fun c => after hostOps1 (V c)) c) = loadK (V c) 1 := by
  refine RW_ext _ _ ?_ ?_ ?_ ?_ ?_ ?_ ?_ ?_ ?_ ?_ ?_ ?_ <;> intros <;> dsimp only [rw, vb1, loadK] <;> after_reads_at

set_option maxHeartbeats 4000000 in
/-- The third layer's weights, as the second pair of layers takes them. -/
theorem rw_va2 : rw (va2 (fun c => after hostOps2 (V c)) c) = loadK (V c) 2 := by
  refine RW_ext _ _ ?_ ?_ ?_ ?_ ?_ ?_ ?_ ?_ ?_ ?_ ?_ ?_ <;> intros <;> dsimp only [rw, va2, loadK] <;> after_reads_at

set_option maxHeartbeats 4000000 in
/-- The fourth layer's weights, as the second pair of layers takes them. -/
theorem rw_vb2 : rw (vb2 (fun c => after hostOps2 (V c)) c) = loadK (V c) 3 := by
  refine RW_ext _ _ ?_ ?_ ?_ ?_ ?_ ?_ ?_ ?_ ?_ ?_ ?_ ?_ <;> intros <;> dsimp only [rw, vb2, loadK] <;> after_reads_at

end Cert.Quad
-- ==== Proof.KIn.lean ====
module

public import proofs.«01_k».proof.Proof.Run
public import proofs.«01_k».proof.Proof.KVal
public import proofs.«01_k».proof.Proof.SpecHead
public import Idealize.ShloMosaic.Lib.StableHlo.ReadAt

@[expose] public section

set_option maxRecDepth 16384

noncomputable section

namespace Cert.Quad

open Idealize.ShloMosaic Idealize.ShloMosaic.TcCoe
open Cert.KernelIdeal Cert.KernelIdeal.Gen Cert.Spec
open Idealize.ShloMosaic.StableHlo

section In
variable (V : Valuation τ sig (Elt Ideal)) (b : Fin 32)

/-- The transposed input, read by its row number. -/
theorem x_row {α : Type} (x : S32x2048x64.Idx → α) (t : Fin 2048) (n : Fin 65536) (hn : n.val = 32 * t.val + b.val) (k : Fin 64) :
    shapeCast S65536x64 (transpose S2048x32x64 [1, 0, 2] x transposes_S32x2048x64_S2048x32x64_1_0_2) shapeCasts_S2048x32x64_S65536x64 (ix2 n k) = x (ix3 b t k) := by
  pointwise
  have h1 : n.val / 32 = t.val := by omega
  have h2 : n.val % 32 = b.val := by omega
  exact congrArg x (congrArg₂ (fun p q => ix3 p q k) (Fin.ext h2) (Fin.ext h1))

/-- The projection's value, of one row. -/
theorem k0_pay1_at (x : Vec Ideal S4096x64 .f32) (w : Vec Ideal S64x512 .f32) (p : Vec Ideal S1x512 .f32) (n : Fin 4096) (j : Fin 512) :
    k0_pay1 x w p (ix2 n j) = inR (fun k j => w (ix2 k j)) (fun j => p (ix2 0 j)) (fun k => x (ix2 n k)) j := by
  pointwise [k0_pay1]
  rfl

/-- The bias as the projection takes it. -/
theorem host0_v2 (j : Fin 512) : after hostOps0 V (Proc.devRef .tc main_v2) (ix2 0 j) = V (Proc.devRef .tc main_arg2) (ix1 j) := by
  after_reads_at

/-- The last rows, as the head takes them. -/
theorem host3_v154 (k : Fin 512) : after hostOps3 V (Proc.devRef .tc main_v154) (ix2 b k) = V (Proc.devRef .tc main_v153) (ix2 ⟨65504 + b.val, by omega⟩ k) := by
  after_reads_at
/-- The head's scale. -/
theorem host3_v155 (k : Fin 512) : after hostOps3 V (Proc.devRef .tc main_v155) (ix2 0 k) = V (Proc.devRef .tc main_arg15) (ix1 k) := by
  after_reads_at
/-- The head's shift. -/
theorem host3_v156 (k : Fin 512) : after hostOps3 V (Proc.devRef .tc main_v156) (ix2 0 k) = V (Proc.devRef .tc main_arg16) (ix1 k) := by
  after_reads_at
/-- The head's first bias. -/
theorem host3_v157 (k : Fin 256) : after hostOps3 V (Proc.devRef .tc main_v157) (ix2 0 k) = V (Proc.devRef .tc main_arg18) (ix1 k) := by
  after_reads_at
/-- The head's second bias. -/
theorem host3_v158 : after hostOps3 V (Proc.devRef .tc main_v158) (ix2 0 0) = V (Proc.devRef .tc main_arg20) (ix1 0) := by
  after_reads_at

/-- The transposed input as the projection takes it. -/
theorem host0_v1 (t : Fin 2048) (n : Fin 65536) (hn : n.val = 32 * t.val + b.val) (k : Fin 64) :
    after hostOps0 V (Proc.devRef .tc main_v1) (ix2 n k) = V (Proc.devRef .tc main_arg0) (ix3 b t k) := by
  refine Eq.trans ?_ (x_row b (V (Proc.devRef .tc main_arg0)) t n hn k)
  after_reads_simp
  rfl
end In
end Cert.Quad
-- ==== Proof.KOut.lean ====
module

public import proofs.«01_k».proof.Proof.KFinal
public import proofs.«01_k».proof.Proof.KIn

@[expose] public section

set_option maxRecDepth 16384

noncomputable section

namespace Cert.Quad

open Idealize.ShloMosaic Idealize.ShloMosaic.TcCoe
open Cert.KernelIdeal Cert.KernelIdeal.Gen Cert.Spec
open Idealize.ShloMosaic.StableHlo

/-- The argument references. -/
abbrev argRefsK : List (Ref sig .tc) := [main_arg0, main_arg1, main_arg2, main_arg3, main_arg4, main_arg5, main_arg6, main_arg7, main_arg8, main_arg9, main_arg10,
  main_arg11, main_arg12, main_arg13, main_arg14, main_arg15, main_arg16, main_arg17, main_arg18, main_arg19, main_arg20]

section Keep
variable {F : FTy → Type} [FloatOps F] (m : (ℓ : Loc nD τ sig) → Buf (Elt F) ℓ) (c : Dev nD) (r : Ref sig .tc) (h : r ∈ argRefsK)
include h
/-- Nothing writes an argument, up to each stretch. -/
theorem U1_arg : U1 m c (Proc.devRef .tc r) = m (c, Proc.devRef .tc r) := after_of_writes_sub hostOps0 _ hostOps0_writes (by revert r; decide)
theorem U2_arg : U2 m c (Proc.devRef .tc r) = m (c, Proc.devRef .tc r) :=
  (Function.update_of_ne (devRef_ne_of_ne (show r ≠ main_v3 by revert r; decide)) _ _).trans (U1_arg m c r h)
theorem U3_arg : U3 m c (Proc.devRef .tc r) = m (c, Proc.devRef .tc r) := (after_of_writes_sub hostOps1 _ hostOps1_writes (by revert r; decide)).trans (U2_arg m c r h)
theorem U4_arg : U4 m c (Proc.devRef .tc r) = m (c, Proc.devRef .tc r) :=
  (Function.update_of_ne (devRef_ne_of_ne (show r ≠ main_v78 by revert r; decide)) _ _).trans (U3_arg m c r h)
theorem U5_arg : U5 m c (Proc.devRef .tc r) = m (c, Proc.devRef .tc r) := (after_of_writes_sub hostOps2 _ hostOps2_writes (by revert r; decide)).trans (U4_arg m c r h)
theorem U6_arg : U6 m c (Proc.devRef .tc r) = m (c, Proc.devRef .tc r) :=
  (Function.update_of_ne (devRef_ne_of_ne (show r ≠ main_v153 by revert r; decide)) _ _).trans (U5_arg m c r h)
theorem U7_arg : U7 m c (Proc.devRef .tc r) = m (c, Proc.devRef .tc r) := (after_of_writes_sub hostOps3 _ hostOps3_writes (by revert r; decide)).trans (U6_arg m c r h)
theorem U8_arg : U8 m c (Proc.devRef .tc r) = m (c, Proc.devRef .tc r) :=
  (Function.update_of_ne (devRef_ne_of_ne (show r ≠ main_v159 by revert r; decide)) _ _).trans (U7_arg m c r h)
end Keep

section Value
variable (m : (ℓ : Loc nD τ sig) → Buf (Elt Ideal) ℓ) (c : Dev nD) (b : Fin 32)

/-- Weights are the same where the arguments are. -/
theorem loadK_congr (V V' : Valuation τ sig (Elt Ideal)) (h : ∀ r ∈ argRefsK, V (Proc.devRef .tc r) = V' (Proc.devRef .tc r)) (l : Fin 4) : loadK V l = loadK V' l := by
  unfold loadK
  rw [h main_arg3 (by decide), h main_arg4 (by decide), h main_arg5 (by decide), h main_arg6 (by decide), h main_arg7 (by decide), h main_arg8 (by decide), h main_arg9 (by decide),
    h main_arg10 (by decide), h main_arg11 (by decide), h main_arg12 (by decide), h main_arg13 (by decide), h main_arg14 (by decide)]

/-- The input rows of batch `b`, projected. -/
def inSeqK : ℕ → Row := fun t =>
  inR (fun k j => V0 m c (Proc.devRef .tc main_arg1) (ix2 k j)) (fun j => V0 m c (Proc.devRef .tc main_arg2) (ix1 j)) (fun k => V0 m c (Proc.devRef .tc main_arg0) (ix3 b ⟨min t 2047, by omega⟩ k))

/-- The kernel's result for batch `b`. -/
def resK : EReal :=
  headR (fun j => V0 m c (Proc.devRef .tc main_arg15) (ix1 j)) (fun j => V0 m c (Proc.devRef .tc main_arg16) (ix1 j)) (fun k s => V0 m c (Proc.devRef .tc main_arg17) (ix2 k s))
    (fun s => V0 m c (Proc.devRef .tc main_arg18) (ix1 s)) (fun k => V0 m c (Proc.devRef .tc main_arg19) (ix2 k 0)) (V0 m c (Proc.devRef .tc main_arg20) (ix1 0))
    (lastR (loadK (V0 m c)) (inSeqK m c b))

/-- The projection's rows. -/
theorem seqK0 : seqOf (o0 (U1 m) c) b = inSeqK m c b := by
  funext t l
  have hb := b.isLt
  refine (k0_pay1_at _ _ _ _ l).trans ?_
  refine congrFun (congr (congr (congrArg inR (funext₂ fun k j => ?_)) (funext fun j => ?_)) (funext fun k => ?_)) l
  · exact congrFun (U1_arg m c main_arg1 (by decide)) (ix2 k j)
  · exact host0_v2 (V0 m c) j
  · refine host0_v1 (V0 m c) b ⟨min t 2047, by omega⟩ _ ?_ k
    show 4096 * min ((32 * min t 2047 + b.val) / 4096) 15 + (32 * min t 2047 + b.val) % 4096 = 32 * min t 2047 + b.val
    omega

/-- The rows after the first pair of layers. -/
theorem seqK2 (t : ℕ) (ht : t < 2048) : seqOf (o1 (U3 m) c) b t = layR (loadK (V0 m c) 1) (layR (loadK (V0 m c) 0) (inSeqK m c b)) t := by
  refine (unchunk_seq (U3 m c main_v3) (va1 (U3 m) c) (vb1 (U3 m) c) b t ht).trans ?_
  rw [show U3 m c main_v3 = o0 (U1 m) c from (after_of_writes_sub hostOps1 _ hostOps1_writes (by decide)).trans (Function.update_self ..), seqK0,
    show rw (va1 (U3 m) c) = loadK (V0 m c) 0 from (rw_va1 (U2 m) c).trans (loadK_congr _ _ (U2_arg m c) 0),
    show rw (vb1 (U3 m) c) = loadK (V0 m c) 1 from (rw_vb1 (U2 m) c).trans (loadK_congr _ _ (U2_arg m c) 1)]

/-- The last row after the second pair of layers. -/
theorem seqK4 : seqOf (o2 (U5 m) c) b 2047 = lastR (loadK (V0 m c)) (inSeqK m c b) := by
  refine (unchunk_seq (U5 m c main_v78) (va2 (U5 m) c) (vb2 (U5 m) c) b 2047 (by omega)).trans ?_
  rw [show U5 m c main_v78 = o1 (U3 m) c from (after_of_writes_sub hostOps2 _ hostOps2_writes (by decide)).trans (Function.update_self ..),
    show rw (va2 (U5 m) c) = loadK (V0 m c) 2 from (rw_va2 (U4 m) c).trans (loadK_congr _ _ (U4_arg m c) 2),
    show rw (vb2 (U5 m) c) = loadK (V0 m c) 3 from (rw_vb2 (U4 m) c).trans (loadK_congr _ _ (U4_arg m c) 3)]
  exact lastR_of (loadK (V0 m c)) (inSeqK m c b) _ _ _ (fun _ _ => rfl) (seqK2 m c b) (fun _ _ => rfl)

/-- The kernel's result. -/
theorem kernel_value : U8 m c (Proc.devRef .tc main_v159) (ix2 b 0) = resK m c b := by
  rw [show U8 m c (Proc.devRef .tc main_v159) = o3 (U7 m) c from Function.update_self ..]
  refine (headV_at _ _ _ _ _ _ _ b).trans ?_
  refine congr (congr (congr (congr (congr (congr (congrArg headR (funext fun j => ?_)) (funext fun j => ?_)) (funext₂ fun k s => ?_)) (funext fun s => ?_)) (funext fun k => ?_)) ?_) (funext fun j => ?_)
  · exact (host3_v155 (U6 m c) j).trans (congrFun (U6_arg m c main_arg15 (by decide)) (ix1 j))
  · exact (host3_v156 (U6 m c) j).trans (congrFun (U6_arg m c main_arg16 (by decide)) (ix1 j))
  · exact congrFun (U7_arg m c main_arg17 (by decide)) (ix2 k s)
  · exact (host3_v157 (U6 m c) s).trans (congrFun (U6_arg m c main_arg18 (by decide)) (ix1 s))
  · exact congrFun (U7_arg m c main_arg19 (by decide)) (ix2 k 0)
  · exact (host3_v158 (U6 m c)).trans (congrFun (U6_arg m c main_arg20 (by decide)) (ix1 0))
  · refine (host3_v154 (U6 m c) b j).trans ?_
    rw [show U6 m c (Proc.devRef .tc main_v153) = o2 (U5 m) c from Function.update_self ..]
    exact congrFun (seqK4 m c b) j
end Value

end Cert.Quad
-- ==== Proof.FrameK.lean ====
module

public import proofs.«01_k».proof.Proof.KOut
public import proofs.«01_k».proof.Proof.Gen.KernelIdeal

@[expose] public section

set_option maxRecDepth 16384

noncomputable section

namespace Cert.Quad

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (g : Dev nD → PrngReg)

/-- THE RUN of the kernel: the result is the head's, every argument is kept, and every semaphore is at zero. -/
theorem run_args :
    θ_run (defs (F := F)) (onTc (τ := τ) (main (F := F))) ⟨m, fun _ => 0, g⟩ (fun r =>
      (∀ c : Dev nD, r.2.mem (c, Proc.devRef .tc main_v159) = U8 m c (Proc.devRef .tc main_v159)
        ∧ ∀ a ∈ argRefsK, r.2.mem (c, Proc.devRef .tc a) = m (c, Proc.devRef .tc a)) ∧ r.2.sem = fun _ => 0) := by
  refine (θ_run (defs (F := F)) (onTc (τ := τ) (main (F := F))) ⟨m, fun _ => 0, g⟩).mono (fun r h => ?_) (run m g)
  exact ⟨fun c => ⟨h.1 c _ (mem_uc main_v159 rfl), fun a ha => (h.1 c _ (mem_uc a (by revert a; decide))).trans (U8_arg m c a ha)⟩, h.2⟩

end Cert.Quad
-- ==== Proof.RefOps0.lean ====
module

public import proofs.«01_k».proof.Proof.Gen.ReferenceIdeal
public import Idealize.ShloMosaic.Lib.Claim
public import Idealize.ShloMosaic.Lib.StableHlo.RunLoop

@[expose] public section

set_option maxRecDepth 16384

noncomputable section

namespace Cert.Ref

open Idealize.ShloMosaic Idealize.ShloMosaic.TcCoe
open Cert.ReferenceIdeal Cert.ReferenceIdeal.Gen

variable {F : FTy → Type} [FloatOps F]

/-- The contents of a float array of shape `s`. -/
abbrev Tn (F : FTy → Type) (s : Shape) := (⟨s, .f32⟩ : BufTy).Contents (Elt F)
/-- The contents of an integer array of shape `s`. -/
abbrev Ti (F : FTy → Type) (s : Shape) := (⟨s, .i32⟩ : BufTy).Contents (Elt F)
/-- The contents of a truth array of shape `s`. -/
abbrev Tb (F : FTy → Type) (s : Shape) := (⟨s, .i1⟩ : BufTy).Contents (Elt F)

/-- The input projection. -/
abbrev opsP : List (HloOp τ sig (Elt F)) := [
    StableHlo.binary main_arg0 main_arg1 main_v0 ((fun l r => Host.dotGeneral dot_S32x2048x64_S64x512_S32x2048x512_2_0_01_1_n_n none l r) : Tn F S32x2048x64 → Tn F S64x512 → Tn F S32x2048x512),
    StableHlo.unary main_arg2 main_v1 (broadcastInDim S1x1x512 ![2] bcast_S512_S1x1x512_2 : Tn F S512 → Tn F S1x1x512),
    StableHlo.unary main_v1 main_v2 (broadcastInDim S32x2048x512 ![0, 1, 2] bcast_S1x1x512_S32x2048x512_0_1_2 : Tn F S1x1x512 → Tn F S32x2048x512),
    StableHlo.binary main_v0 main_v2 main_v3 (addf : Tn F S32x2048x512 → Tn F S32x2048x512 → Tn F S32x2048x512) ]
/-- `opsP` touches TensorCore references only. -/
theorem opsP_sub : (opsP : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- The references `opsP` writes, in order. -/
abbrev opsP_W : List (Ref sig .tc) := [main_v0, main_v1, main_v2, main_v3]
/-- Every write of `opsP` is listed. -/
theorem opsP_writes : (opsP : List (HloOp τ sig (Elt F))).Forall fun op => op.writes ⊆ (opsP_W.map (Proc.devRef (τ := τ) .tc)).toFinset :=
  StableHlo.forall_writes_sub_of_map rfl

/-- Layer 0's parameters. -/
abbrev opsW0 : List (HloOp τ sig (Elt F)) := [
    StableHlo.unary main_arg3 main_v4 ((extractStridedSlice S1x512 ![0, 0] · slices_S4x512_S1x512_0_0) : Tn F S4x512 → Tn F S1x512),
    StableHlo.reshape main_v4 main_v5 (rfl : (.f32 : EltTy) = .f32) shapeCasts_S1x512_S512,
    StableHlo.unary main_arg4 main_v6 ((extractStridedSlice S1x512 ![0, 0] · slices_S4x512_S1x512_0_0) : Tn F S4x512 → Tn F S1x512),
    StableHlo.reshape main_v6 main_v7 (rfl : (.f32 : EltTy) = .f32) shapeCasts_S1x512_S512,
    StableHlo.unary main_arg5 main_v8 ((extractStridedSlice S1x512x64 ![0, 0, 0] · slices_S4x512x64_S1x512x64_0_0_0) : Tn F S4x512x64 → Tn F S1x512x64),
    StableHlo.reshape main_v8 main_v9 (rfl : (.f32 : EltTy) = .f32) shapeCasts_S1x512x64_S512x64,
    StableHlo.unary main_arg6 main_v10 ((extractStridedSlice S1x64 ![0, 0] · slices_S4x64_S1x64_0_0) : Tn F S4x64 → Tn F S1x64),
    StableHlo.reshape main_v10 main_v11 (rfl : (.f32 : EltTy) = .f32) shapeCasts_S1x64_S64,
    StableHlo.unary main_arg7 main_v12 ((extractStridedSlice S1x512x64 ![0, 0, 0] · slices_S4x512x64_S1x512x64_0_0_0) : Tn F S4x512x64 → Tn F S1x512x64),
    StableHlo.reshape main_v12 main_v13 (rfl : (.f32 : EltTy) = .f32) shapeCasts_S1x512x64_S512x64,
    StableHlo.unary main_arg8 main_v14 ((extractStridedSlice S1x64 ![0, 0] · slices_S4x64_S1x64_0_0) : Tn F S4x64 → Tn F S1x64),
    StableHlo.reshape main_v14 main_v15 (rfl : (.f32 : EltTy) = .f32) shapeCasts_S1x64_S64,
    StableHlo.unary main_arg9 main_v16 ((extractStridedSlice S1x64x64 ![0, 0, 0] · slices_S4x64x64_S1x64x64_0_0_0) : Tn F S4x64x64 → Tn F S1x64x64),
    StableHlo.reshape main_v16 main_v17 (rfl : (.f32 : EltTy) = .f32) shapeCasts_S1x64x64_S64x64,
    StableHlo.unary main_arg10 main_v18 ((extractStridedSlice S1x512x64 ![0, 0, 0] · slices_S4x512x64_S1x512x64_0_0_0) : Tn F S4x512x64 → Tn F S1x512x64),
    StableHlo.reshape main_v18 main_v19 (rfl : (.f32 : EltTy) = .f32) shapeCasts_S1x512x64_S512x64,
    StableHlo.unary main_arg11 main_v20 ((extractStridedSlice S1x512x512 ![0, 0, 0] · slices_S4x512x512_S1x512x512_0_0_0) : Tn F S4x512x512 → Tn F S1x512x512),
    StableHlo.reshape main_v20 main_v21 (rfl : (.f32 : EltTy) = .f32) shapeCasts_S1x512x512_S512x512,
    StableHlo.unary main_arg12 main_v22 ((extractStridedSlice S1x512 ![0, 0] · slices_S4x512_S1x512_0_0) : Tn F S4x512 → Tn F S1x512),
    StableHlo.reshape main_v22 main_v23 (rfl : (.f32 : EltTy) = .f32) shapeCasts_S1x512_S512,
    StableHlo.unary main_arg13 main_v24 ((extractStridedSlice S1x512x512 ![0, 0, 0] · slices_S4x512x512_S1x512x512_0_0_0) : Tn F S4x512x512 → Tn F S1x512x512),
    StableHlo.reshape main_v24 main_v25 (rfl : (.f32 : EltTy) = .f32) shapeCasts_S1x512x512_S512x512,
    StableHlo.unary main_arg14 main_v26 ((extractStridedSlice S1x512 ![0, 0] · slices_S4x512_S1x512_0_0) : Tn F S4x512 → Tn F S1x512),
    StableHlo.reshape main_v26 main_v27 (rfl : (.f32 : EltTy) = .f32) shapeCasts_S1x512_S512 ]
/-- `opsW0` touches TensorCore references only. -/
theorem opsW0_sub : (opsW0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- The references `opsW0` writes, in order. -/
abbrev opsW0_W : List (Ref sig .tc) := [main_v4, main_v5, main_v6, main_v7, main_v8, main_v9, main_v10, main_v11, main_v12, main_v13, main_v14, main_v15, main_v16, main_v17, main_v18, main_v19, main_v20, main_v21, main_v22, main_v23, main_v24, main_v25, main_v26, main_v27]
/-- Every write of `opsW0` is listed. -/
theorem opsW0_writes : (opsW0 : List (HloOp τ sig (Elt F))).Forall fun op => op.writes ⊆ (opsW0_W.map (Proc.devRef (τ := τ) .tc)).toFinset :=
  StableHlo.forall_writes_sub_of_map rfl

/-- Layer 0's normalisation. -/
abbrev opsN0 : List (HloOp τ sig (Elt F)) := [
    StableHlo.nullary main_cst (constant S_ .f32 0x00000000#32),
    StableHlo.binary main_v3 main_cst main_v28 ((fun x v => Host.reduceAdd x v reducesTo_S32x2048x512_S32x2048_d2 h_S_) : Tn F S32x2048x512 → Tn F S_ → Tn F S32x2048),
    StableHlo.unary main_v28 main_v29 (broadcastInDim S32x2048x1 ![0, 1] bcast_S32x2048_S32x2048x1_0_1 : Tn F S32x2048 → Tn F S32x2048x1),
    StableHlo.nullary main_cst_0 (constant S_ .f32 0x44000000#32),
    StableHlo.unary main_cst_0 main_v30 (broadcastInDim S32x2048x1 ![] bcast_S_S32x2048x1 : Tn F S_ → Tn F S32x2048x1),
    StableHlo.binary main_v29 main_v30 main_v31 (Host.divf : Tn F S32x2048x1 → Tn F S32x2048x1 → Tn F S32x2048x1),
    StableHlo.unary main_v31 main_v32 (broadcastInDim S32x2048x512 ![0, 1, 2] bcast_S32x2048x1_S32x2048x512_0_1_2 : Tn F S32x2048x1 → Tn F S32x2048x512),
    StableHlo.binary main_v3 main_v32 main_v33 (subf : Tn F S32x2048x512 → Tn F S32x2048x512 → Tn F S32x2048x512),
    StableHlo.binary main_v33 main_v33 main_v34 (mulf : Tn F S32x2048x512 → Tn F S32x2048x512 → Tn F S32x2048x512),
    StableHlo.nullary main_cst_1 (constant S_ .f32 0x00000000#32),
    StableHlo.binary main_v34 main_cst_1 main_v35 ((fun x v => Host.reduceAdd x v reducesTo_S32x2048x512_S32x2048_d2 h_S_) : Tn F S32x2048x512 → Tn F S_ → Tn F S32x2048),
    StableHlo.unary main_v35 main_v36 (broadcastInDim S32x2048x1 ![0, 1] bcast_S32x2048_S32x2048x1_0_1 : Tn F S32x2048 → Tn F S32x2048x1),
    StableHlo.nullary main_cst_2 (constant S_ .f32 0x44000000#32),
    StableHlo.unary main_cst_2 main_v37 (broadcastInDim S32x2048x1 ![] bcast_S_S32x2048x1 : Tn F S_ → Tn F S32x2048x1),
    StableHlo.binary main_v36 main_v37 main_v38 (Host.divf : Tn F S32x2048x1 → Tn F S32x2048x1 → Tn F S32x2048x1),
    StableHlo.unary main_v31 main_v39 (broadcastInDim S32x2048x512 ![0, 1, 2] bcast_S32x2048x1_S32x2048x512_0_1_2 : Tn F S32x2048x1 → Tn F S32x2048x512),
    StableHlo.binary main_v3 main_v39 main_v40 (subf : Tn F S32x2048x512 → Tn F S32x2048x512 → Tn F S32x2048x512),
    StableHlo.nullary main_cst_3 (constant S_ .f32 0x3727C5AC#32),
    StableHlo.unary main_cst_3 main_v41 (broadcastInDim S32x2048x1 ![] bcast_S_S32x2048x1 : Tn F S_ → Tn F S32x2048x1),
    StableHlo.binary main_v38 main_v41 main_v42 (addf : Tn F S32x2048x1 → Tn F S32x2048x1 → Tn F S32x2048x1),
    StableHlo.unary main_v42 main_v43 (Host.sqrt : Tn F S32x2048x1 → Tn F S32x2048x1),
    StableHlo.unary main_v43 main_v44 (broadcastInDim S32x2048x512 ![0, 1, 2] bcast_S32x2048x1_S32x2048x512_0_1_2 : Tn F S32x2048x1 → Tn F S32x2048x512),
    StableHlo.binary main_v40 main_v44 main_v45 (Host.divf : Tn F S32x2048x512 → Tn F S32x2048x512 → Tn F S32x2048x512),
    StableHlo.unary main_v5 main_v46 (broadcastInDim S1x1x512 ![2] bcast_S512_S1x1x512_2 : Tn F S512 → Tn F S1x1x512),
    StableHlo.unary main_v46 main_v47 (broadcastInDim S32x2048x512 ![0, 1, 2] bcast_S1x1x512_S32x2048x512_0_1_2 : Tn F S1x1x512 → Tn F S32x2048x512),
    StableHlo.binary main_v45 main_v47 main_v48 (mulf : Tn F S32x2048x512 → Tn F S32x2048x512 → Tn F S32x2048x512),
    StableHlo.unary main_v7 main_v49 (broadcastInDim S1x1x512 ![2] bcast_S512_S1x1x512_2 : Tn F S512 → Tn F S1x1x512),
    StableHlo.unary main_v49 main_v50 (broadcastInDim S32x2048x512 ![0, 1, 2] bcast_S1x1x512_S32x2048x512_0_1_2 : Tn F S1x1x512 → Tn F S32x2048x512),
    StableHlo.binary main_v48 main_v50 main_v51 (addf : Tn F S32x2048x512 → Tn F S32x2048x512 → Tn F S32x2048x512) ]
/-- `opsN0` touches TensorCore references only. -/
theorem opsN0_sub : (opsN0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The references `opsN0` writes, in order. -/
abbrev opsN0_W : List (Ref sig .tc) := [main_cst, main_v28, main_v29, main_cst_0, main_v30, main_v31, main_v32, main_v33, main_v34, main_cst_1, main_v35, main_v36, main_cst_2, main_v37, main_v38, main_v39, main_v40, main_cst_3, main_v41, main_v42, main_v43, main_v44, main_v45, main_v46, main_v47, main_v48, main_v49, main_v50, main_v51]
/-- Every write of `opsN0` is listed. -/
theorem opsN0_writes : (opsN0 : List (HloOp τ sig (Elt F))).Forall fun op => op.writes ⊆ (opsN0_W.map (Proc.devRef (τ := τ) .tc)).toFinset :=
  StableHlo.forall_writes_sub_of_map rfl

/-- Layer 0's projections to the state. -/
abbrev opsX0 : List (HloOp τ sig (Elt F)) := [
    StableHlo.binary main_v51 main_v9 main_v52 ((fun l r => Host.dotGeneral dot_S32x2048x512_S512x64_S32x2048x64_2_0_01_1_n_n none l r) : Tn F S32x2048x512 → Tn F S512x64 → Tn F S32x2048x64),
    StableHlo.unary main_v11 main_v53 (broadcastInDim S1x1x64 ![2] bcast_S64_S1x1x64_2 : Tn F S64 → Tn F S1x1x64),
    StableHlo.unary main_v53 main_v54 (broadcastInDim S32x2048x64 ![0, 1, 2] bcast_S1x1x64_S32x2048x64_0_1_2 : Tn F S1x1x64 → Tn F S32x2048x64),
    StableHlo.binary main_v52 main_v54 main_v55 (addf : Tn F S32x2048x64 → Tn F S32x2048x64 → Tn F S32x2048x64),
    StableHlo.binary main_v51 main_v13 main_v56 ((fun l r => Host.dotGeneral dot_S32x2048x512_S512x64_S32x2048x64_2_0_01_1_n_n none l r) : Tn F S32x2048x512 → Tn F S512x64 → Tn F S32x2048x64),
    StableHlo.unary main_v15 main_v57 (broadcastInDim S1x1x64 ![2] bcast_S64_S1x1x64_2 : Tn F S64 → Tn F S1x1x64),
    StableHlo.unary main_v57 main_v58 (broadcastInDim S32x2048x64 ![0, 1, 2] bcast_S1x1x64_S32x2048x64_0_1_2 : Tn F S1x1x64 → Tn F S32x2048x64),
    StableHlo.binary main_v56 main_v58 main_v59 (addf : Tn F S32x2048x64 → Tn F S32x2048x64 → Tn F S32x2048x64),
    StableHlo.unary main_v59 main_v60 (Host.negf : Tn F S32x2048x64 → Tn F S32x2048x64),
    StableHlo.unary main_v60 main_v61 (Host.exp : Tn F S32x2048x64 → Tn F S32x2048x64),
    StableHlo.nullary main_cst_4 (constant S_ .f32 0x3F800000#32),
    StableHlo.unary main_cst_4 main_v62 (broadcastInDim S32x2048x64 ![] bcast_S_S32x2048x64 : Tn F S_ → Tn F S32x2048x64),
    StableHlo.binary main_v62 main_v61 main_v63 (addf : Tn F S32x2048x64 → Tn F S32x2048x64 → Tn F S32x2048x64),
    StableHlo.nullary main_cst_5 (constant S_ .f32 0x3F800000#32),
    StableHlo.unary main_cst_5 main_v64 (broadcastInDim S32x2048x64 ![] bcast_S_S32x2048x64 : Tn F S_ → Tn F S32x2048x64),
    StableHlo.binary main_v64 main_v63 main_v65 (Host.divf : Tn F S32x2048x64 → Tn F S32x2048x64 → Tn F S32x2048x64) ]
/-- `opsX0` touches TensorCore references only. -/
theorem opsX0_sub : (opsX0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The references `opsX0` writes, in order. -/
abbrev opsX0_W : List (Ref sig .tc) := [main_v52, main_v53, main_v54, main_v55, main_v56, main_v57, main_v58, main_v59, main_v60, main_v61, main_cst_4, main_v62, main_v63, main_cst_5, main_v64, main_v65]
/-- Every write of `opsX0` is listed. -/
theorem opsX0_writes : (opsX0 : List (HloOp τ sig (Elt F))).Forall fun op => op.writes ⊆ (opsX0_W.map (Proc.devRef (τ := τ) .tc)).toFinset :=
  StableHlo.forall_writes_sub_of_map rfl

/-- What layer 0's scan starts from. -/
abbrev opsE0 : List (HloOp τ sig (Elt F)) := [
    StableHlo.unary main_v55 main_v66 ((transpose S2048x32x64 [1, 0, 2] · transposes_S32x2048x64_S2048x32x64_1_0_2) : Tn F S32x2048x64 → Tn F S2048x32x64),
    StableHlo.unary main_v65 main_v67 ((transpose S2048x32x64 [1, 0, 2] · transposes_S32x2048x64_S2048x32x64_1_0_2) : Tn F S32x2048x64 → Tn F S2048x32x64),
    StableHlo.nullary main_cst_6 (constant S_ .f32 0x00000000#32),
    StableHlo.unary main_cst_6 main_v68 (broadcastInDim S32x64 ![] bcast_S_S32x64 : Tn F S_ → Tn F S32x64),
    StableHlo.nullary main_cst_7 (constant S_ .f32 0x00000000#32),
    StableHlo.unary main_cst_7 main_v69 (broadcastInDim S2048x32x512 ![] bcast_S_S2048x32x512 : Tn F S_ → Tn F S2048x32x512),
    StableHlo.nullary main_c (constantI S_ 32 0#32),
    StableHlo.unary main_v66 main_v70_0 id,
    StableHlo.unary main_v67 main_v70_1 id,
    StableHlo.unary main_v17 main_v70_2 id,
    StableHlo.unary main_v19 main_v70_3 id,
    StableHlo.unary main_c main_v70_4 id,
    StableHlo.unary main_v68 main_v70_5 id,
    StableHlo.unary main_v69 main_v70_6 id ]
/-- `opsE0` touches TensorCore references only. -/
theorem opsE0_sub : (opsE0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The references `opsE0` writes, in order. -/
abbrev opsE0_W : List (Ref sig .tc) := [main_v66, main_v67, main_cst_6, main_v68, main_cst_7, main_v69, main_c, main_v70_0, main_v70_1, main_v70_2, main_v70_3, main_v70_4, main_v70_5, main_v70_6]
/-- Every write of `opsE0` is listed. -/
theorem opsE0_writes : (opsE0 : List (HloOp τ sig (Elt F))).Forall fun op => op.writes ⊆ (opsE0_W.map (Proc.devRef (τ := τ) .tc)).toFinset :=
  StableHlo.forall_writes_sub_of_map rfl

/-- A step of layer 0's scan: the inputs. -/
abbrev opsB0a : List (HloOp τ sig (Elt F)) := [
    StableHlo.nullary main_while0b_call0_c (constantI S_ 32 0#32),
    StableHlo.nullary main_while0b_call0_c_0 (constantI S_ 32 0#32),
    StableHlo.TRef.unaryIndexed (.of main_v70_0 : StableHlo.TRef sig ⟨S2048x32x64, .f32⟩) ![(.of main_v70_4 : StableHlo.TRef sig ⟨S_, .i32⟩), .of main_while0b_call0_c, .of main_while0b_call0_c_0] (.of main_while0b_call0_v0 : StableHlo.TRef sig ⟨S1x32x64, .f32⟩) ((fun x i => Host.dynamicSlice S1x32x64 x (fun k => (i k (Shape.Idx.first h_S_)).toInt) sliceFits_S2048x32x64_S1x32x64)),
    StableHlo.reshape main_while0b_call0_v0 main_while0b_v412 (rfl : (.f32 : EltTy) = .f32) shapeCasts_S1x32x64_S32x64 ]
/-- `opsB0a` touches TensorCore references only. -/
theorem opsB0a_sub : (opsB0a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB0a` writes, in order. -/
abbrev opsB0a_W : List (Ref sig .tc) := [main_while0b_call0_c, main_while0b_call0_c_0, main_while0b_call0_v0, main_while0b_v412]
/-- Every write of `opsB0a` is listed. -/
theorem opsB0a_writes : (opsB0a : List (HloOp τ sig (Elt F))).Forall fun op => op.writes ⊆ (opsB0a_W.map (Proc.devRef (τ := τ) .tc)).toFinset :=
  StableHlo.forall_writes_sub_of_map rfl

/-- A step of layer 0's scan: the decay. -/
abbrev opsB0b : List (HloOp τ sig (Elt F)) := [
    StableHlo.nullary main_while0b_call1_c (constantI S_ 32 0#32),
    StableHlo.nullary main_while0b_call1_c_0 (constantI S_ 32 0#32),
    StableHlo.TRef.unaryIndexed (.of main_v70_1 : StableHlo.TRef sig ⟨S2048x32x64, .f32⟩) ![(.of main_v70_4 : StableHlo.TRef sig ⟨S_, .i32⟩), .of main_while0b_call1_c, .of main_while0b_call1_c_0] (.of main_while0b_call1_v0 : StableHlo.TRef sig ⟨S1x32x64, .f32⟩) ((fun x i => Host.dynamicSlice S1x32x64 x (fun k => (i k (Shape.Idx.first h_S_)).toInt) sliceFits_S2048x32x64_S1x32x64)),
    StableHlo.reshape main_while0b_call1_v0 main_while0b_v413 (rfl : (.f32 : EltTy) = .f32) shapeCasts_S1x32x64_S32x64 ]
/-- `opsB0b` touches TensorCore references only. -/
theorem opsB0b_sub : (opsB0b : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB0b` writes, in order. -/
abbrev opsB0b_W : List (Ref sig .tc) := [main_while0b_call1_c, main_while0b_call1_c_0, main_while0b_call1_v0, main_while0b_v413]
/-- Every write of `opsB0b` is listed. -/
theorem opsB0b_writes : (opsB0b : List (HloOp τ sig (Elt F))).Forall fun op => op.writes ⊆ (opsB0b_W.map (Proc.devRef (τ := τ) .tc)).toFinset :=
  StableHlo.forall_writes_sub_of_map rfl

/-- A step of layer 0's scan: the new state and the output. -/
abbrev opsB0c : List (HloOp τ sig (Elt F)) := [
    StableHlo.nullary main_while0b_cst_70 (constant S_ .f32 0x3F800000#32),
    StableHlo.unary main_while0b_cst_70 main_while0b_v414 (broadcastInDim S32x64 ![] bcast_S_S32x64 : Tn F S_ → Tn F S32x64),
    StableHlo.binary main_while0b_v414 main_while0b_v413 main_while0b_v415 (subf : Tn F S32x64 → Tn F S32x64 → Tn F S32x64),
    StableHlo.binary main_while0b_v415 main_v70_5 main_while0b_v416 (mulf : Tn F S32x64 → Tn F S32x64 → Tn F S32x64),
    StableHlo.unary main_v70_2 main_while0b_v417 ((transpose S64x64 [1, 0] · transposes_S64x64_S64x64_1_0) : Tn F S64x64 → Tn F S64x64),
    StableHlo.binary main_v70_5 main_while0b_v417 main_while0b_v418 ((fun l r => Host.dotGeneral dot_S32x64_S64x64_S32x64_1_0_0_1_n_n none l r) : Tn F S32x64 → Tn F S64x64 → Tn F S32x64),
    StableHlo.binary main_while0b_v418 main_while0b_v412 main_while0b_v419 (addf : Tn F S32x64 → Tn F S32x64 → Tn F S32x64),
    StableHlo.binary main_while0b_v413 main_while0b_v419 main_while0b_v420 (mulf : Tn F S32x64 → Tn F S32x64 → Tn F S32x64),
    StableHlo.binary main_while0b_v416 main_while0b_v420 main_while0b_v421 (addf : Tn F S32x64 → Tn F S32x64 → Tn F S32x64),
    StableHlo.unary main_v70_3 main_while0b_v422 ((transpose S64x512 [1, 0] · transposes_S512x64_S64x512_1_0) : Tn F S512x64 → Tn F S64x512),
    StableHlo.binary main_while0b_v421 main_while0b_v422 main_while0b_v423 ((fun l r => Host.dotGeneral dot_S32x64_S64x512_S32x512_1_0_0_1_n_n none l r) : Tn F S32x64 → Tn F S64x512 → Tn F S32x512) ]
/-- `opsB0c` touches TensorCore references only. -/
theorem opsB0c_sub : (opsB0c : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- The references `opsB0c` writes, in order. -/
abbrev opsB0c_W : List (Ref sig .tc) := [main_while0b_cst_70, main_while0b_v414, main_while0b_v415, main_while0b_v416, main_while0b_v417, main_while0b_v418, main_while0b_v419, main_while0b_v420, main_while0b_v421, main_while0b_v422, main_while0b_v423]
/-- Every write of `opsB0c` is listed. -/
theorem opsB0c_writes : (opsB0c : List (HloOp τ sig (Elt F))).Forall fun op => op.writes ⊆ (opsB0c_W.map (Proc.devRef (τ := τ) .tc)).toFinset :=
  StableHlo.forall_writes_sub_of_map rfl

/-- A step of layer 0's scan: the write of the output. -/
abbrev opsB0d : List (HloOp τ sig (Elt F)) := [
    StableHlo.unary main_while0b_v423 main_while0b_call2_v0 (broadcastInDim S1x32x512 ![1, 2] bcast_S32x512_S1x32x512_1_2 : Tn F S32x512 → Tn F S1x32x512),
    StableHlo.nullary main_while0b_call2_c (constantI S_ 32 0#32),
    StableHlo.nullary main_while0b_call2_c_0 (constantI S_ 32 0#32),
    StableHlo.TRef.binaryIndexed (.of main_v70_6 : StableHlo.TRef sig ⟨S2048x32x512, .f32⟩) (.of main_while0b_call2_v0 : StableHlo.TRef sig ⟨S1x32x512, .f32⟩) ![(.of main_v70_4 : StableHlo.TRef sig ⟨S_, .i32⟩), .of main_while0b_call2_c, .of main_while0b_call2_c_0] (.of main_while0b_v424 : StableHlo.TRef sig ⟨S2048x32x512, .f32⟩) ((fun x u i => Host.dynamicUpdateSlice x u (fun k => (i k (Shape.Idx.first h_S_)).toInt) updateFits_S2048x32x512_S1x32x512)) ]
/-- `opsB0d` touches TensorCore references only. -/
theorem opsB0d_sub : (opsB0d : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The references `opsB0d` writes, in order. -/
abbrev opsB0d_W : List (Ref sig .tc) := [main_while0b_call2_v0, main_while0b_call2_c, main_while0b_call2_c_0, main_while0b_v424]
/-- Every write of `opsB0d` is listed. -/
theorem opsB0d_writes : (opsB0d : List (HloOp τ sig (Elt F))).Forall fun op => op.writes ⊆ (opsB0d_W.map (Proc.devRef (τ := τ) .tc)).toFinset :=
  StableHlo.forall_writes_sub_of_map rfl

/-- A step of layer 0's scan: the carried values. -/
abbrev opsB0e : List (HloOp τ sig (Elt F)) := [
    StableHlo.nullary main_while0b_c_71 (constantI S_ 32 1#32),
    StableHlo.binary main_v70_4 main_while0b_c_71 main_while0b_v425 (addi : Ti F S_ → Ti F S_ → Ti F S_),
    StableHlo.unary main_while0b_v425 main_v70_4 id,
    StableHlo.unary main_while0b_v421 main_v70_5 id,
    StableHlo.unary main_while0b_v424 main_v70_6 id ]
/-- `opsB0e` touches TensorCore references only. -/
theorem opsB0e_sub : (opsB0e : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The references `opsB0e` writes, in order. -/
abbrev opsB0e_W : List (Ref sig .tc) := [main_while0b_c_71, main_while0b_v425, main_v70_4, main_v70_5, main_v70_6]
/-- Every write of `opsB0e` is listed. -/
theorem opsB0e_writes : (opsB0e : List (HloOp τ sig (Elt F))).Forall fun op => op.writes ⊆ (opsB0e_W.map (Proc.devRef (τ := τ) .tc)).toFinset :=
  StableHlo.forall_writes_sub_of_map rfl
/-- A step of layer 0's scan. -/
abbrev opsB0 : List (List (HloOp τ sig (Elt F))) := [opsB0a, opsB0b, opsB0c, opsB0d, opsB0e]

/-- The test of layer 0's scan. -/
abbrev opsC0 : List (HloOp τ sig (Elt F)) := [
    StableHlo.nullary main_while0c_c_70 (constantI S_ 32 2048#32),
    StableHlo.binary main_v70_4 main_while0c_c_70 main_while0c_v412 (cmpi .slt : Ti F S_ → Ti F S_ → Tb F S_) ]
/-- `opsC0` touches TensorCore references only. -/
theorem opsC0_sub : (opsC0 : List (HloOp τ sig (Elt F))).Forall fun op => op.bufs ⊆ StableHlo.tcRefs τ sig :=
  ⟨StableHlo.nullary_bufs_sub .., StableHlo.binary_bufs_sub ..⟩
/-- The references `opsC0` writes, in order. -/
abbrev opsC0_W : List (Ref sig .tc) := [main_while0c_c_70, main_while0c_v412]
/-- Every write of `opsC0` is listed. -/
theorem opsC0_writes : (opsC0 : List (HloOp τ sig (Elt F))).Forall fun op => op.writes ⊆ (opsC0_W.map (Proc.devRef (τ := τ) .tc)).toFinset :=
  StableHlo.forall_writes_sub_of_map rfl

/-- Layer 0's gate, output product and residual. -/
abbrev opsG0 : List (HloOp τ sig (Elt F)) := [
    StableHlo.unary main_v70_6 main_v71 ((transpose S32x2048x512 [1, 0, 2] · transposes_S2048x32x512_S32x2048x512_1_0_2) : Tn F S2048x32x512 → Tn F S32x2048x512),
    StableHlo.binary main_v51 main_v21 main_v72 ((fun l r => Host.dotGeneral dot_S32x2048x512_S512x512_S32x2048x512_2_0_01_1_n_n none l r) : Tn F S32x2048x512 → Tn F S512x512 → Tn F S32x2048x512),
    StableHlo.unary main_v23 main_v73 (broadcastInDim S1x1x512 ![2] bcast_S512_S1x1x512_2 : Tn F S512 → Tn F S1x1x512),
    StableHlo.unary main_v73 main_v74 (broadcastInDim S32x2048x512 ![0, 1, 2] bcast_S1x1x512_S32x2048x512_0_1_2 : Tn F S1x1x512 → Tn F S32x2048x512),
    StableHlo.binary main_v72 main_v74 main_v75 (addf : Tn F S32x2048x512 → Tn F S32x2048x512 → Tn F S32x2048x512),
    StableHlo.unary main_v75 main_v76 (Host.negf : Tn F S32x2048x512 → Tn F S32x2048x512),
    StableHlo.unary main_v76 main_v77 (Host.exp : Tn F S32x2048x512 → Tn F S32x2048x512),
    StableHlo.nullary main_cst_8 (constant S_ .f32 0x3F800000#32),
    StableHlo.unary main_cst_8 main_v78 (broadcastInDim S32x2048x512 ![] bcast_S_S32x2048x512 : Tn F S_ → Tn F S32x2048x512),
    StableHlo.binary main_v78 main_v77 main_v79 (addf : Tn F S32x2048x512 → Tn F S32x2048x512 → Tn F S32x2048x512),
    StableHlo.nullary main_cst_9 (constant S_ .f32 0x3F800000#32),
    StableHlo.unary main_cst_9 main_v80 (broadcastInDim S32x2048x512 ![] bcast_S_S32x2048x512 : Tn F S_ → Tn F S32x2048x512),
    StableHlo.binary main_v80 main_v79 main_v81 (Host.divf : Tn F S32x2048x512 → Tn F S32x2048x512 → Tn F S32x2048x512),
    StableHlo.binary main_v81 main_v71 main_v82 (mulf : Tn F S32x2048x512 → Tn F S32x2048x512 → Tn F S32x2048x512),
    StableHlo.binary main_v82 main_v25 main_v83 ((fun l r => Host.dotGeneral dot_S32x2048x512_S512x512_S32x2048x512_2_0_01_1_n_n none l r) : Tn F S32x2048x512 → Tn F S512x512 → Tn F S32x2048x512),
    StableHlo.unary main_v27 main_v84 (broadcastInDim S1x1x512 ![2] bcast_S512_S1x1x512_2 : Tn F S512 → Tn F S1x1x512),
    StableHlo.unary main_v84 main_v85 (broadcastInDim S32x2048x512 ![0, 1, 2] bcast_S1x1x512_S32x2048x512_0_1_2 : Tn F S1x1x512 → Tn F S32x2048x512),
    StableHlo.binary main_v83 main_v85 main_v86 (addf : Tn F S32x2048x512 → Tn F S32x2048x512 → Tn F S32x2048x512),
    StableHlo.binary main_v86 main_v3 main_v87 (addf : Tn F S32x2048x512 → Tn F S32x2048x512 → Tn F S32x2048x512) ]
/-- `opsG0` touches TensorCore references only. -/
theorem opsG0_sub : (opsG0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub ..⟩
/-- The references `opsG0` writes, in order. -/
abbrev opsG0_W : List (Ref sig .tc) := [main_v71, main_v72, main_v73, main_v74, main_v75, main_v76, main_v77, main_cst_8, main_v78, main_v79, main_cst_9, main_v80, main_v81, main_v82, main_v83, main_v84, main_v85, main_v86, main_v87]
/-- Every write of `opsG0` is listed. -/
theorem opsG0_writes : (opsG0 : List (HloOp τ sig (Elt F))).Forall fun op => op.writes ⊆ (opsG0_W.map (Proc.devRef (τ := τ) .tc)).toFinset :=
  StableHlo.forall_writes_sub_of_map rfl

end Cert.Ref
-- ==== Proof.RefOps1.lean ====
module

public import proofs.«01_k».proof.Proof.RefOps0

@[expose] public section

set_option maxRecDepth 16384

noncomputable section

namespace Cert.Ref

open Idealize.ShloMosaic Idealize.ShloMosaic.TcCoe
open Cert.ReferenceIdeal Cert.ReferenceIdeal.Gen

variable {F : FTy → Type} [FloatOps F]

/-- Layer 1's parameters. -/
abbrev opsW1 : List (HloOp τ sig (Elt F)) := [
    StableHlo.unary main_arg3 main_v88 ((extractStridedSlice S1x512 ![1, 0] · slices_S4x512_S1x512_1_0) : Tn F S4x512 → Tn F S1x512),
    StableHlo.reshape main_v88 main_v89 (rfl : (.f32 : EltTy) = .f32) shapeCasts_S1x512_S512,
    StableHlo.unary main_arg4 main_v90 ((extractStridedSlice S1x512 ![1, 0] · slices_S4x512_S1x512_1_0) : Tn F S4x512 → Tn F S1x512),
    StableHlo.reshape main_v90 main_v91 (rfl : (.f32 : EltTy) = .f32) shapeCasts_S1x512_S512,
    StableHlo.unary main_arg5 main_v92 ((extractStridedSlice S1x512x64 ![1, 0, 0] · slices_S4x512x64_S1x512x64_1_0_0) : Tn F S4x512x64 → Tn F S1x512x64),
    StableHlo.reshape main_v92 main_v93 (rfl : (.f32 : EltTy) = .f32) shapeCasts_S1x512x64_S512x64,
    StableHlo.unary main_arg6 main_v94 ((extractStridedSlice S1x64 ![1, 0] · slices_S4x64_S1x64_1_0) : Tn F S4x64 → Tn F S1x64),
    StableHlo.reshape main_v94 main_v95 (rfl : (.f32 : EltTy) = .f32) shapeCasts_S1x64_S64,
    StableHlo.unary main_arg7 main_v96 ((extractStridedSlice S1x512x64 ![1, 0, 0] · slices_S4x512x64_S1x512x64_1_0_0) : Tn F S4x512x64 → Tn F S1x512x64),
    StableHlo.reshape main_v96 main_v97 (rfl : (.f32 : EltTy) = .f32) shapeCasts_S1x512x64_S512x64,
    StableHlo.unary main_arg8 main_v98 ((extractStridedSlice S1x64 ![1, 0] · slices_S4x64_S1x64_1_0) : Tn F S4x64 → Tn F S1x64),
    StableHlo.reshape main_v98 main_v99 (rfl : (.f32 : EltTy) = .f32) shapeCasts_S1x64_S64,
    StableHlo.unary main_arg9 main_v100 ((extractStridedSlice S1x64x64 ![1, 0, 0] · slices_S4x64x64_S1x64x64_1_0_0) : Tn F S4x64x64 → Tn F S1x64x64),
    StableHlo.reshape main_v100 main_v101 (rfl : (.f32 : EltTy) = .f32) shapeCasts_S1x64x64_S64x64,
    StableHlo.unary main_arg10 main_v102 ((extractStridedSlice S1x512x64 ![1, 0, 0] · slices_S4x512x64_S1x512x64_1_0_0) : Tn F S4x512x64 → Tn F S1x512x64),
    StableHlo.reshape main_v102 main_v103 (rfl : (.f32 : EltTy) = .f32) shapeCasts_S1x512x64_S512x64,
    StableHlo.unary main_arg11 main_v104 ((extractStridedSlice S1x512x512 ![1, 0, 0] · slices_S4x512x512_S1x512x512_1_0_0) : Tn F S4x512x512 → Tn F S1x512x512),
    StableHlo.reshape main_v104 main_v105 (rfl : (.f32 : EltTy) = .f32) shapeCasts_S1x512x512_S512x512,
    StableHlo.unary main_arg12 main_v106 ((extractStridedSlice S1x512 ![1, 0] · slices_S4x512_S1x512_1_0) : Tn F S4x512 → Tn F S1x512),
    StableHlo.reshape main_v106 main_v107 (rfl : (.f32 : EltTy) = .f32) shapeCasts_S1x512_S512,
    StableHlo.unary main_arg13 main_v108 ((extractStridedSlice S1x512x512 ![1, 0, 0] · slices_S4x512x512_S1x512x512_1_0_0) : Tn F S4x512x512 → Tn F S1x512x512),
    StableHlo.reshape main_v108 main_v109 (rfl : (.f32 : EltTy) = .f32) shapeCasts_S1x512x512_S512x512,
    StableHlo.unary main_arg14 main_v110 ((extractStridedSlice S1x512 ![1, 0] · slices_S4x512_S1x512_1_0) : Tn F S4x512 → Tn F S1x512),
    StableHlo.reshape main_v110 main_v111 (rfl : (.f32 : EltTy) = .f32) shapeCasts_S1x512_S512 ]
/-- `opsW1` touches TensorCore references only. -/
theorem opsW1_sub : (opsW1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- The references `opsW1` writes, in order. -/
abbrev opsW1_W : List (Ref sig .tc) := [main_v88, main_v89, main_v90, main_v91, main_v92, main_v93, main_v94, main_v95, main_v96, main_v97, main_v98, main_v99, main_v100, main_v101, main_v102, main_v103, main_v104, main_v105, main_v106, main_v107, main_v108, main_v109, main_v110, main_v111]
/-- Every write of `opsW1` is listed. -/
theorem opsW1_writes : (opsW1 : List (HloOp τ sig (Elt F))).Forall fun op => op.writes ⊆ (opsW1_W.map (Proc.devRef (τ := τ) .tc)).toFinset :=
  StableHlo.forall_writes_sub_of_map rfl

/-- Layer 1's normalisation. -/
abbrev opsN1 : List (HloOp τ sig (Elt F)) := [
    StableHlo.nullary main_cst_10 (constant S_ .f32 0x00000000#32),
    StableHlo.binary main_v87 main_cst_10 main_v112 ((fun x v => Host.reduceAdd x v reducesTo_S32x2048x512_S32x2048_d2 h_S_) : Tn F S32x2048x512 → Tn F S_ → Tn F S32x2048),
    StableHlo.unary main_v112 main_v113 (broadcastInDim S32x2048x1 ![0, 1] bcast_S32x2048_S32x2048x1_0_1 : Tn F S32x2048 → Tn F S32x2048x1),
    StableHlo.nullary main_cst_11 (constant S_ .f32 0x44000000#32),
    StableHlo.unary main_cst_11 main_v114 (broadcastInDim S32x2048x1 ![] bcast_S_S32x2048x1 : Tn F S_ → Tn F S32x2048x1),
    StableHlo.binary main_v113 main_v114 main_v115 (Host.divf : Tn F S32x2048x1 → Tn F S32x2048x1 → Tn F S32x2048x1),
    StableHlo.unary main_v115 main_v116 (broadcastInDim S32x2048x512 ![0, 1, 2] bcast_S32x2048x1_S32x2048x512_0_1_2 : Tn F S32x2048x1 → Tn F S32x2048x512),
    StableHlo.binary main_v87 main_v116 main_v117 (subf : Tn F S32x2048x512 → Tn F S32x2048x512 → Tn F S32x2048x512),
    StableHlo.binary main_v117 main_v117 main_v118 (mulf : Tn F S32x2048x512 → Tn F S32x2048x512 → Tn F S32x2048x512),
    StableHlo.nullary main_cst_12 (constant S_ .f32 0x00000000#32),
    StableHlo.binary main_v118 main_cst_12 main_v119 ((fun x v => Host.reduceAdd x v reducesTo_S32x2048x512_S32x2048_d2 h_S_) : Tn F S32x2048x512 → Tn F S_ → Tn F S32x2048),
    StableHlo.unary main_v119 main_v120 (broadcastInDim S32x2048x1 ![0, 1] bcast_S32x2048_S32x2048x1_0_1 : Tn F S32x2048 → Tn F S32x2048x1),
    StableHlo.nullary main_cst_13 (constant S_ .f32 0x44000000#32),
    StableHlo.unary main_cst_13 main_v121 (broadcastInDim S32x2048x1 ![] bcast_S_S32x2048x1 : Tn F S_ → Tn F S32x2048x1),
    StableHlo.binary main_v120 main_v121 main_v122 (Host.divf : Tn F S32x2048x1 → Tn F S32x2048x1 → Tn F S32x2048x1),
    StableHlo.unary main_v115 main_v123 (broadcastInDim S32x2048x512 ![0, 1, 2] bcast_S32x2048x1_S32x2048x512_0_1_2 : Tn F S32x2048x1 → Tn F S32x2048x512),
    StableHlo.binary main_v87 main_v123 main_v124 (subf : Tn F S32x2048x512 → Tn F S32x2048x512 → Tn F S32x2048x512),
    StableHlo.nullary main_cst_14 (constant S_ .f32 0x3727C5AC#32),
    StableHlo.unary main_cst_14 main_v125 (broadcastInDim S32x2048x1 ![] bcast_S_S32x2048x1 : Tn F S_ → Tn F S32x2048x1),
    StableHlo.binary main_v122 main_v125 main_v126 (addf : Tn F S32x2048x1 → Tn F S32x2048x1 → Tn F S32x2048x1),
    StableHlo.unary main_v126 main_v127 (Host.sqrt : Tn F S32x2048x1 → Tn F S32x2048x1),
    StableHlo.unary main_v127 main_v128 (broadcastInDim S32x2048x512 ![0, 1, 2] bcast_S32x2048x1_S32x2048x512_0_1_2 : Tn F S32x2048x1 → Tn F S32x2048x512),
    StableHlo.binary main_v124 main_v128 main_v129 (Host.divf : Tn F S32x2048x512 → Tn F S32x2048x512 → Tn F S32x2048x512),
    StableHlo.unary main_v89 main_v130 (broadcastInDim S1x1x512 ![2] bcast_S512_S1x1x512_2 : Tn F S512 → Tn F S1x1x512),
    StableHlo.unary main_v130 main_v131 (broadcastInDim S32x2048x512 ![0, 1, 2] bcast_S1x1x512_S32x2048x512_0_1_2 : Tn F S1x1x512 → Tn F S32x2048x512),
    StableHlo.binary main_v129 main_v131 main_v132 (mulf : Tn F S32x2048x512 → Tn F S32x2048x512 → Tn F S32x2048x512),
    StableHlo.unary main_v91 main_v133 (broadcastInDim S1x1x512 ![2] bcast_S512_S1x1x512_2 : Tn F S512 → Tn F S1x1x512),
    StableHlo.unary main_v133 main_v134 (broadcastInDim S32x2048x512 ![0, 1, 2] bcast_S1x1x512_S32x2048x512_0_1_2 : Tn F S1x1x512 → Tn F S32x2048x512),
    StableHlo.binary main_v132 main_v134 main_v135 (addf : Tn F S32x2048x512 → Tn F S32x2048x512 → Tn F S32x2048x512) ]
/-- `opsN1` touches TensorCore references only. -/
theorem opsN1_sub : (opsN1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The references `opsN1` writes, in order. -/
abbrev opsN1_W : List (Ref sig .tc) := [main_cst_10, main_v112, main_v113, main_cst_11, main_v114, main_v115, main_v116, main_v117, main_v118, main_cst_12, main_v119, main_v120, main_cst_13, main_v121, main_v122, main_v123, main_v124, main_cst_14, main_v125, main_v126, main_v127, main_v128, main_v129, main_v130, main_v131, main_v132, main_v133, main_v134, main_v135]
/-- Every write of `opsN1` is listed. -/
theorem opsN1_writes : (opsN1 : List (HloOp τ sig (Elt F))).Forall fun op => op.writes ⊆ (opsN1_W.map (Proc.devRef (τ := τ) .tc)).toFinset :=
  StableHlo.forall_writes_sub_of_map rfl

/-- Layer 1's projections to the state. -/
abbrev opsX1 : List (HloOp τ sig (Elt F)) := [
    StableHlo.binary main_v135 main_v93 main_v136 ((fun l r => Host.dotGeneral dot_S32x2048x512_S512x64_S32x2048x64_2_0_01_1_n_n none l r) : Tn F S32x2048x512 → Tn F S512x64 → Tn F S32x2048x64),
    StableHlo.unary main_v95 main_v137 (broadcastInDim S1x1x64 ![2] bcast_S64_S1x1x64_2 : Tn F S64 → Tn F S1x1x64),
    StableHlo.unary main_v137 main_v138 (broadcastInDim S32x2048x64 ![0, 1, 2] bcast_S1x1x64_S32x2048x64_0_1_2 : Tn F S1x1x64 → Tn F S32x2048x64),
    StableHlo.binary main_v136 main_v138 main_v139 (addf : Tn F S32x2048x64 → Tn F S32x2048x64 → Tn F S32x2048x64),
    StableHlo.binary main_v135 main_v97 main_v140 ((fun l r => Host.dotGeneral dot_S32x2048x512_S512x64_S32x2048x64_2_0_01_1_n_n none l r) : Tn F S32x2048x512 → Tn F S512x64 → Tn F S32x2048x64),
    StableHlo.unary main_v99 main_v141 (broadcastInDim S1x1x64 ![2] bcast_S64_S1x1x64_2 : Tn F S64 → Tn F S1x1x64),
    StableHlo.unary main_v141 main_v142 (broadcastInDim S32x2048x64 ![0, 1, 2] bcast_S1x1x64_S32x2048x64_0_1_2 : Tn F S1x1x64 → Tn F S32x2048x64),
    StableHlo.binary main_v140 main_v142 main_v143 (addf : Tn F S32x2048x64 → Tn F S32x2048x64 → Tn F S32x2048x64),
    StableHlo.unary main_v143 main_v144 (Host.negf : Tn F S32x2048x64 → Tn F S32x2048x64),
    StableHlo.unary main_v144 main_v145 (Host.exp : Tn F S32x2048x64 → Tn F S32x2048x64),
    StableHlo.nullary main_cst_15 (constant S_ .f32 0x3F800000#32),
    StableHlo.unary main_cst_15 main_v146 (broadcastInDim S32x2048x64 ![] bcast_S_S32x2048x64 : Tn F S_ → Tn F S32x2048x64),
    StableHlo.binary main_v146 main_v145 main_v147 (addf : Tn F S32x2048x64 → Tn F S32x2048x64 → Tn F S32x2048x64),
    StableHlo.nullary main_cst_16 (constant S_ .f32 0x3F800000#32),
    StableHlo.unary main_cst_16 main_v148 (broadcastInDim S32x2048x64 ![] bcast_S_S32x2048x64 : Tn F S_ → Tn F S32x2048x64),
    StableHlo.binary main_v148 main_v147 main_v149 (Host.divf : Tn F S32x2048x64 → Tn F S32x2048x64 → Tn F S32x2048x64) ]
/-- `opsX1` touches TensorCore references only. -/
theorem opsX1_sub : (opsX1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The references `opsX1` writes, in order. -/
abbrev opsX1_W : List (Ref sig .tc) := [main_v136, main_v137, main_v138, main_v139, main_v140, main_v141, main_v142, main_v143, main_v144, main_v145, main_cst_15, main_v146, main_v147, main_cst_16, main_v148, main_v149]
/-- Every write of `opsX1` is listed. -/
theorem opsX1_writes : (opsX1 : List (HloOp τ sig (Elt F))).Forall fun op => op.writes ⊆ (opsX1_W.map (Proc.devRef (τ := τ) .tc)).toFinset :=
  StableHlo.forall_writes_sub_of_map rfl

/-- What layer 1's scan starts from. -/
abbrev opsE1 : List (HloOp τ sig (Elt F)) := [
    StableHlo.unary main_v139 main_v150 ((transpose S2048x32x64 [1, 0, 2] · transposes_S32x2048x64_S2048x32x64_1_0_2) : Tn F S32x2048x64 → Tn F S2048x32x64),
    StableHlo.unary main_v149 main_v151 ((transpose S2048x32x64 [1, 0, 2] · transposes_S32x2048x64_S2048x32x64_1_0_2) : Tn F S32x2048x64 → Tn F S2048x32x64),
    StableHlo.nullary main_cst_17 (constant S_ .f32 0x00000000#32),
    StableHlo.unary main_cst_17 main_v152 (broadcastInDim S32x64 ![] bcast_S_S32x64 : Tn F S_ → Tn F S32x64),
    StableHlo.nullary main_cst_18 (constant S_ .f32 0x00000000#32),
    StableHlo.unary main_cst_18 main_v153 (broadcastInDim S2048x32x512 ![] bcast_S_S2048x32x512 : Tn F S_ → Tn F S2048x32x512),
    StableHlo.nullary main_c_19 (constantI S_ 32 0#32),
    StableHlo.unary main_v150 main_v154_0 id,
    StableHlo.unary main_v151 main_v154_1 id,
    StableHlo.unary main_v101 main_v154_2 id,
    StableHlo.unary main_v103 main_v154_3 id,
    StableHlo.unary main_c_19 main_v154_4 id,
    StableHlo.unary main_v152 main_v154_5 id,
    StableHlo.unary main_v153 main_v154_6 id ]
/-- `opsE1` touches TensorCore references only. -/
theorem opsE1_sub : (opsE1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The references `opsE1` writes, in order. -/
abbrev opsE1_W : List (Ref sig .tc) := [main_v150, main_v151, main_cst_17, main_v152, main_cst_18, main_v153, main_c_19, main_v154_0, main_v154_1, main_v154_2, main_v154_3, main_v154_4, main_v154_5, main_v154_6]
/-- Every write of `opsE1` is listed. -/
theorem opsE1_writes : (opsE1 : List (HloOp τ sig (Elt F))).Forall fun op => op.writes ⊆ (opsE1_W.map (Proc.devRef (τ := τ) .tc)).toFinset :=
  StableHlo.forall_writes_sub_of_map rfl

/-- A step of layer 1's scan: the inputs. -/
abbrev opsB1a : List (HloOp τ sig (Elt F)) := [
    StableHlo.nullary main_while1b_call3_c (constantI S_ 32 0#32),
    StableHlo.nullary main_while1b_call3_c_0 (constantI S_ 32 0#32),
    StableHlo.TRef.unaryIndexed (.of main_v154_0 : StableHlo.TRef sig ⟨S2048x32x64, .f32⟩) ![(.of main_v154_4 : StableHlo.TRef sig ⟨S_, .i32⟩), .of main_while1b_call3_c, .of main_while1b_call3_c_0] (.of main_while1b_call3_v0 : StableHlo.TRef sig ⟨S1x32x64, .f32⟩) ((fun x i => Host.dynamicSlice S1x32x64 x (fun k => (i k (Shape.Idx.first h_S_)).toInt) sliceFits_S2048x32x64_S1x32x64)),
    StableHlo.reshape main_while1b_call3_v0 main_while1b_v412 (rfl : (.f32 : EltTy) = .f32) shapeCasts_S1x32x64_S32x64 ]
/-- `opsB1a` touches TensorCore references only. -/
theorem opsB1a_sub : (opsB1a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB1a` writes, in order. -/
abbrev opsB1a_W : List (Ref sig .tc) := [main_while1b_call3_c, main_while1b_call3_c_0, main_while1b_call3_v0, main_while1b_v412]
/-- Every write of `opsB1a` is listed. -/
theorem opsB1a_writes : (opsB1a : List (HloOp τ sig (Elt F))).Forall fun op => op.writes ⊆ (opsB1a_W.map (Proc.devRef (τ := τ) .tc)).toFinset :=
  StableHlo.forall_writes_sub_of_map rfl

/-- A step of layer 1's scan: the decay. -/
abbrev opsB1b : List (HloOp τ sig (Elt F)) := [
    StableHlo.nullary main_while1b_call4_c (constantI S_ 32 0#32),
    StableHlo.nullary main_while1b_call4_c_0 (constantI S_ 32 0#32),
    StableHlo.TRef.unaryIndexed (.of main_v154_1 : StableHlo.TRef sig ⟨S2048x32x64, .f32⟩) ![(.of main_v154_4 : StableHlo.TRef sig ⟨S_, .i32⟩), .of main_while1b_call4_c, .of main_while1b_call4_c_0] (.of main_while1b_call4_v0 : StableHlo.TRef sig ⟨S1x32x64, .f32⟩) ((fun x i => Host.dynamicSlice S1x32x64 x (fun k => (i k (Shape.Idx.first h_S_)).toInt) sliceFits_S2048x32x64_S1x32x64)),
    StableHlo.reshape main_while1b_call4_v0 main_while1b_v413 (rfl : (.f32 : EltTy) = .f32) shapeCasts_S1x32x64_S32x64 ]
/-- `opsB1b` touches TensorCore references only. -/
theorem opsB1b_sub : (opsB1b : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB1b` writes, in order. -/
abbrev opsB1b_W : List (Ref sig .tc) := [main_while1b_call4_c, main_while1b_call4_c_0, main_while1b_call4_v0, main_while1b_v413]
/-- Every write of `opsB1b` is listed. -/
theorem opsB1b_writes : (opsB1b : List (HloOp τ sig (Elt F))).Forall fun op => op.writes ⊆ (opsB1b_W.map (Proc.devRef (τ := τ) .tc)).toFinset :=
  StableHlo.forall_writes_sub_of_map rfl

/-- A step of layer 1's scan: the new state and the output. -/
abbrev opsB1c : List (HloOp τ sig (Elt F)) := [
    StableHlo.nullary main_while1b_cst_70 (constant S_ .f32 0x3F800000#32),
    StableHlo.unary main_while1b_cst_70 main_while1b_v414 (broadcastInDim S32x64 ![] bcast_S_S32x64 : Tn F S_ → Tn F S32x64),
    StableHlo.binary main_while1b_v414 main_while1b_v413 main_while1b_v415 (subf : Tn F S32x64 → Tn F S32x64 → Tn F S32x64),
    StableHlo.binary main_while1b_v415 main_v154_5 main_while1b_v416 (mulf : Tn F S32x64 → Tn F S32x64 → Tn F S32x64),
    StableHlo.unary main_v154_2 main_while1b_v417 ((transpose S64x64 [1, 0] · transposes_S64x64_S64x64_1_0) : Tn F S64x64 → Tn F S64x64),
    StableHlo.binary main_v154_5 main_while1b_v417 main_while1b_v418 ((fun l r => Host.dotGeneral dot_S32x64_S64x64_S32x64_1_0_0_1_n_n none l r) : Tn F S32x64 → Tn F S64x64 → Tn F S32x64),
    StableHlo.binary main_while1b_v418 main_while1b_v412 main_while1b_v419 (addf : Tn F S32x64 → Tn F S32x64 → Tn F S32x64),
    StableHlo.binary main_while1b_v413 main_while1b_v419 main_while1b_v420 (mulf : Tn F S32x64 → Tn F S32x64 → Tn F S32x64),
    StableHlo.binary main_while1b_v416 main_while1b_v420 main_while1b_v421 (addf : Tn F S32x64 → Tn F S32x64 → Tn F S32x64),
    StableHlo.unary main_v154_3 main_while1b_v422 ((transpose S64x512 [1, 0] · transposes_S512x64_S64x512_1_0) : Tn F S512x64 → Tn F S64x512),
    StableHlo.binary main_while1b_v421 main_while1b_v422 main_while1b_v423 ((fun l r => Host.dotGeneral dot_S32x64_S64x512_S32x512_1_0_0_1_n_n none l r) : Tn F S32x64 → Tn F S64x512 → Tn F S32x512) ]
/-- `opsB1c` touches TensorCore references only. -/
theorem opsB1c_sub : (opsB1c : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- The references `opsB1c` writes, in order. -/
abbrev opsB1c_W : List (Ref sig .tc) := [main_while1b_cst_70, main_while1b_v414, main_while1b_v415, main_while1b_v416, main_while1b_v417, main_while1b_v418, main_while1b_v419, main_while1b_v420, main_while1b_v421, main_while1b_v422, main_while1b_v423]
/-- Every write of `opsB1c` is listed. -/
theorem opsB1c_writes : (opsB1c : List (HloOp τ sig (Elt F))).Forall fun op => op.writes ⊆ (opsB1c_W.map (Proc.devRef (τ := τ) .tc)).toFinset :=
  StableHlo.forall_writes_sub_of_map rfl

/-- A step of layer 1's scan: the write of the output. -/
abbrev opsB1d : List (HloOp τ sig (Elt F)) := [
    StableHlo.unary main_while1b_v423 main_while1b_call5_v0 (broadcastInDim S1x32x512 ![1, 2] bcast_S32x512_S1x32x512_1_2 : Tn F S32x512 → Tn F S1x32x512),
    StableHlo.nullary main_while1b_call5_c (constantI S_ 32 0#32),
    StableHlo.nullary main_while1b_call5_c_0 (constantI S_ 32 0#32),
    StableHlo.TRef.binaryIndexed (.of main_v154_6 : StableHlo.TRef sig ⟨S2048x32x512, .f32⟩) (.of main_while1b_call5_v0 : StableHlo.TRef sig ⟨S1x32x512, .f32⟩) ![(.of main_v154_4 : StableHlo.TRef sig ⟨S_, .i32⟩), .of main_while1b_call5_c, .of main_while1b_call5_c_0] (.of main_while1b_v424 : StableHlo.TRef sig ⟨S2048x32x512, .f32⟩) ((fun x u i => Host.dynamicUpdateSlice x u (fun k => (i k (Shape.Idx.first h_S_)).toInt) updateFits_S2048x32x512_S1x32x512)) ]
/-- `opsB1d` touches TensorCore references only. -/
theorem opsB1d_sub : (opsB1d : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The references `opsB1d` writes, in order. -/
abbrev opsB1d_W : List (Ref sig .tc) := [main_while1b_call5_v0, main_while1b_call5_c, main_while1b_call5_c_0, main_while1b_v424]
/-- Every write of `opsB1d` is listed. -/
theorem opsB1d_writes : (opsB1d : List (HloOp τ sig (Elt F))).Forall fun op => op.writes ⊆ (opsB1d_W.map (Proc.devRef (τ := τ) .tc)).toFinset :=
  StableHlo.forall_writes_sub_of_map rfl

/-- A step of layer 1's scan: the carried values. -/
abbrev opsB1e : List (HloOp τ sig (Elt F)) := [
    StableHlo.nullary main_while1b_c_71 (constantI S_ 32 1#32),
    StableHlo.binary main_v154_4 main_while1b_c_71 main_while1b_v425 (addi : Ti F S_ → Ti F S_ → Ti F S_),
    StableHlo.unary main_while1b_v425 main_v154_4 id,
    StableHlo.unary main_while1b_v421 main_v154_5 id,
    StableHlo.unary main_while1b_v424 main_v154_6 id ]
/-- `opsB1e` touches TensorCore references only. -/
theorem opsB1e_sub : (opsB1e : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The references `opsB1e` writes, in order. -/
abbrev opsB1e_W : List (Ref sig .tc) := [main_while1b_c_71, main_while1b_v425, main_v154_4, main_v154_5, main_v154_6]
/-- Every write of `opsB1e` is listed. -/
theorem opsB1e_writes : (opsB1e : List (HloOp τ sig (Elt F))).Forall fun op => op.writes ⊆ (opsB1e_W.map (Proc.devRef (τ := τ) .tc)).toFinset :=
  StableHlo.forall_writes_sub_of_map rfl
/-- A step of layer 1's scan. -/
abbrev opsB1 : List (List (HloOp τ sig (Elt F))) := [opsB1a, opsB1b, opsB1c, opsB1d, opsB1e]

/-- The test of layer 1's scan. -/
abbrev opsC1 : List (HloOp τ sig (Elt F)) := [
    StableHlo.nullary main_while1c_c_70 (constantI S_ 32 2048#32),
    StableHlo.binary main_v154_4 main_while1c_c_70 main_while1c_v412 (cmpi .slt : Ti F S_ → Ti F S_ → Tb F S_) ]
/-- `opsC1` touches TensorCore references only. -/
theorem opsC1_sub : (opsC1 : List (HloOp τ sig (Elt F))).Forall fun op => op.bufs ⊆ StableHlo.tcRefs τ sig :=
  ⟨StableHlo.nullary_bufs_sub .., StableHlo.binary_bufs_sub ..⟩
/-- The references `opsC1` writes, in order. -/
abbrev opsC1_W : List (Ref sig .tc) := [main_while1c_c_70, main_while1c_v412]
/-- Every write of `opsC1` is listed. -/
theorem opsC1_writes : (opsC1 : List (HloOp τ sig (Elt F))).Forall fun op => op.writes ⊆ (opsC1_W.map (Proc.devRef (τ := τ) .tc)).toFinset :=
  StableHlo.forall_writes_sub_of_map rfl

/-- Layer 1's gate, output product and residual. -/
abbrev opsG1 : List (HloOp τ sig (Elt F)) := [
    StableHlo.unary main_v154_6 main_v155 ((transpose S32x2048x512 [1, 0, 2] · transposes_S2048x32x512_S32x2048x512_1_0_2) : Tn F S2048x32x512 → Tn F S32x2048x512),
    StableHlo.binary main_v135 main_v105 main_v156 ((fun l r => Host.dotGeneral dot_S32x2048x512_S512x512_S32x2048x512_2_0_01_1_n_n none l r) : Tn F S32x2048x512 → Tn F S512x512 → Tn F S32x2048x512),
    StableHlo.unary main_v107 main_v157 (broadcastInDim S1x1x512 ![2] bcast_S512_S1x1x512_2 : Tn F S512 → Tn F S1x1x512),
    StableHlo.unary main_v157 main_v158 (broadcastInDim S32x2048x512 ![0, 1, 2] bcast_S1x1x512_S32x2048x512_0_1_2 : Tn F S1x1x512 → Tn F S32x2048x512),
    StableHlo.binary main_v156 main_v158 main_v159 (addf : Tn F S32x2048x512 → Tn F S32x2048x512 → Tn F S32x2048x512),
    StableHlo.unary main_v159 main_v160 (Host.negf : Tn F S32x2048x512 → Tn F S32x2048x512),
    StableHlo.unary main_v160 main_v161 (Host.exp : Tn F S32x2048x512 → Tn F S32x2048x512),
    StableHlo.nullary main_cst_20 (constant S_ .f32 0x3F800000#32),
    StableHlo.unary main_cst_20 main_v162 (broadcastInDim S32x2048x512 ![] bcast_S_S32x2048x512 : Tn F S_ → Tn F S32x2048x512),
    StableHlo.binary main_v162 main_v161 main_v163 (addf : Tn F S32x2048x512 → Tn F S32x2048x512 → Tn F S32x2048x512),
    StableHlo.nullary main_cst_21 (constant S_ .f32 0x3F800000#32),
    StableHlo.unary main_cst_21 main_v164 (broadcastInDim S32x2048x512 ![] bcast_S_S32x2048x512 : Tn F S_ → Tn F S32x2048x512),
    StableHlo.binary main_v164 main_v163 main_v165 (Host.divf : Tn F S32x2048x512 → Tn F S32x2048x512 → Tn F S32x2048x512),
    StableHlo.binary main_v165 main_v155 main_v166 (mulf : Tn F S32x2048x512 → Tn F S32x2048x512 → Tn F S32x2048x512),
    StableHlo.binary main_v166 main_v109 main_v167 ((fun l r => Host.dotGeneral dot_S32x2048x512_S512x512_S32x2048x512_2_0_01_1_n_n none l r) : Tn F S32x2048x512 → Tn F S512x512 → Tn F S32x2048x512),
    StableHlo.unary main_v111 main_v168 (broadcastInDim S1x1x512 ![2] bcast_S512_S1x1x512_2 : Tn F S512 → Tn F S1x1x512),
    StableHlo.unary main_v168 main_v169 (broadcastInDim S32x2048x512 ![0, 1, 2] bcast_S1x1x512_S32x2048x512_0_1_2 : Tn F S1x1x512 → Tn F S32x2048x512),
    StableHlo.binary main_v167 main_v169 main_v170 (addf : Tn F S32x2048x512 → Tn F S32x2048x512 → Tn F S32x2048x512),
    StableHlo.binary main_v170 main_v87 main_v171 (addf : Tn F S32x2048x512 → Tn F S32x2048x512 → Tn F S32x2048x512) ]
/-- `opsG1` touches TensorCore references only. -/
theorem opsG1_sub : (opsG1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub ..⟩
/-- The references `opsG1` writes, in order. -/
abbrev opsG1_W : List (Ref sig .tc) := [main_v155, main_v156, main_v157, main_v158, main_v159, main_v160, main_v161, main_cst_20, main_v162, main_v163, main_cst_21, main_v164, main_v165, main_v166, main_v167, main_v168, main_v169, main_v170, main_v171]
/-- Every write of `opsG1` is listed. -/
theorem opsG1_writes : (opsG1 : List (HloOp τ sig (Elt F))).Forall fun op => op.writes ⊆ (opsG1_W.map (Proc.devRef (τ := τ) .tc)).toFinset :=
  StableHlo.forall_writes_sub_of_map rfl

end Cert.Ref
-- ==== Proof.RefOps2.lean ====
module

public import proofs.«01_k».proof.Proof.RefOps0

@[expose] public section

set_option maxRecDepth 16384

noncomputable section

namespace Cert.Ref

open Idealize.ShloMosaic Idealize.ShloMosaic.TcCoe
open Cert.ReferenceIdeal Cert.ReferenceIdeal.Gen

variable {F : FTy → Type} [FloatOps F]

/-- Layer 2's parameters. -/
abbrev opsW2 : List (HloOp τ sig (Elt F)) := [
    StableHlo.unary main_arg3 main_v172 ((extractStridedSlice S1x512 ![2, 0] · slices_S4x512_S1x512_2_0) : Tn F S4x512 → Tn F S1x512),
    StableHlo.reshape main_v172 main_v173 (rfl : (.f32 : EltTy) = .f32) shapeCasts_S1x512_S512,
    StableHlo.unary main_arg4 main_v174 ((extractStridedSlice S1x512 ![2, 0] · slices_S4x512_S1x512_2_0) : Tn F S4x512 → Tn F S1x512),
    StableHlo.reshape main_v174 main_v175 (rfl : (.f32 : EltTy) = .f32) shapeCasts_S1x512_S512,
    StableHlo.unary main_arg5 main_v176 ((extractStridedSlice S1x512x64 ![2, 0, 0] · slices_S4x512x64_S1x512x64_2_0_0) : Tn F S4x512x64 → Tn F S1x512x64),
    StableHlo.reshape main_v176 main_v177 (rfl : (.f32 : EltTy) = .f32) shapeCasts_S1x512x64_S512x64,
    StableHlo.unary main_arg6 main_v178 ((extractStridedSlice S1x64 ![2, 0] · slices_S4x64_S1x64_2_0) : Tn F S4x64 → Tn F S1x64),
    StableHlo.reshape main_v178 main_v179 (rfl : (.f32 : EltTy) = .f32) shapeCasts_S1x64_S64,
    StableHlo.unary main_arg7 main_v180 ((extractStridedSlice S1x512x64 ![2, 0, 0] · slices_S4x512x64_S1x512x64_2_0_0) : Tn F S4x512x64 → Tn F S1x512x64),
    StableHlo.reshape main_v180 main_v181 (rfl : (.f32 : EltTy) = .f32) shapeCasts_S1x512x64_S512x64,
    StableHlo.unary main_arg8 main_v182 ((extractStridedSlice S1x64 ![2, 0] · slices_S4x64_S1x64_2_0) : Tn F S4x64 → Tn F S1x64),
    StableHlo.reshape main_v182 main_v183 (rfl : (.f32 : EltTy) = .f32) shapeCasts_S1x64_S64,
    StableHlo.unary main_arg9 main_v184 ((extractStridedSlice S1x64x64 ![2, 0, 0] · slices_S4x64x64_S1x64x64_2_0_0) : Tn F S4x64x64 → Tn F S1x64x64),
    StableHlo.reshape main_v184 main_v185 (rfl : (.f32 : EltTy) = .f32) shapeCasts_S1x64x64_S64x64,
    StableHlo.unary main_arg10 main_v186 ((extractStridedSlice S1x512x64 ![2, 0, 0] · slices_S4x512x64_S1x512x64_2_0_0) : Tn F S4x512x64 → Tn F S1x512x64),
    StableHlo.reshape main_v186 main_v187 (rfl : (.f32 : EltTy) = .f32) shapeCasts_S1x512x64_S512x64,
    StableHlo.unary main_arg11 main_v188 ((extractStridedSlice S1x512x512 ![2, 0, 0] · slices_S4x512x512_S1x512x512_2_0_0) : Tn F S4x512x512 → Tn F S1x512x512),
    StableHlo.reshape main_v188 main_v189 (rfl : (.f32 : EltTy) = .f32) shapeCasts_S1x512x512_S512x512,
    StableHlo.unary main_arg12 main_v190 ((extractStridedSlice S1x512 ![2, 0] · slices_S4x512_S1x512_2_0) : Tn F S4x512 → Tn F S1x512),
    StableHlo.reshape main_v190 main_v191 (rfl : (.f32 : EltTy) = .f32) shapeCasts_S1x512_S512,
    StableHlo.unary main_arg13 main_v192 ((extractStridedSlice S1x512x512 ![2, 0, 0] · slices_S4x512x512_S1x512x512_2_0_0) : Tn F S4x512x512 → Tn F S1x512x512),
    StableHlo.reshape main_v192 main_v193 (rfl : (.f32 : EltTy) = .f32) shapeCasts_S1x512x512_S512x512,
    StableHlo.unary main_arg14 main_v194 ((extractStridedSlice S1x512 ![2, 0] · slices_S4x512_S1x512_2_0) : Tn F S4x512 → Tn F S1x512),
    StableHlo.reshape main_v194 main_v195 (rfl : (.f32 : EltTy) = .f32) shapeCasts_S1x512_S512 ]
/-- `opsW2` touches TensorCore references only. -/
theorem opsW2_sub : (opsW2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- The references `opsW2` writes, in order. -/
abbrev opsW2_W : List (Ref sig .tc) := [main_v172, main_v173, main_v174, main_v175, main_v176, main_v177, main_v178, main_v179, main_v180, main_v181, main_v182, main_v183, main_v184, main_v185, main_v186, main_v187, main_v188, main_v189, main_v190, main_v191, main_v192, main_v193, main_v194, main_v195]
/-- Every write of `opsW2` is listed. -/
theorem opsW2_writes : (opsW2 : List (HloOp τ sig (Elt F))).Forall fun op => op.writes ⊆ (opsW2_W.map (Proc.devRef (τ := τ) .tc)).toFinset :=
  StableHlo.forall_writes_sub_of_map rfl

/-- Layer 2's normalisation. -/
abbrev opsN2 : List (HloOp τ sig (Elt F)) := [
    StableHlo.nullary main_cst_22 (constant S_ .f32 0x00000000#32),
    StableHlo.binary main_v171 main_cst_22 main_v196 ((fun x v => Host.reduceAdd x v reducesTo_S32x2048x512_S32x2048_d2 h_S_) : Tn F S32x2048x512 → Tn F S_ → Tn F S32x2048),
    StableHlo.unary main_v196 main_v197 (broadcastInDim S32x2048x1 ![0, 1] bcast_S32x2048_S32x2048x1_0_1 : Tn F S32x2048 → Tn F S32x2048x1),
    StableHlo.nullary main_cst_23 (constant S_ .f32 0x44000000#32),
    StableHlo.unary main_cst_23 main_v198 (broadcastInDim S32x2048x1 ![] bcast_S_S32x2048x1 : Tn F S_ → Tn F S32x2048x1),
    StableHlo.binary main_v197 main_v198 main_v199 (Host.divf : Tn F S32x2048x1 → Tn F S32x2048x1 → Tn F S32x2048x1),
    StableHlo.unary main_v199 main_v200 (broadcastInDim S32x2048x512 ![0, 1, 2] bcast_S32x2048x1_S32x2048x512_0_1_2 : Tn F S32x2048x1 → Tn F S32x2048x512),
    StableHlo.binary main_v171 main_v200 main_v201 (subf : Tn F S32x2048x512 → Tn F S32x2048x512 → Tn F S32x2048x512),
    StableHlo.binary main_v201 main_v201 main_v202 (mulf : Tn F S32x2048x512 → Tn F S32x2048x512 → Tn F S32x2048x512),
    StableHlo.nullary main_cst_24 (constant S_ .f32 0x00000000#32),
    StableHlo.binary main_v202 main_cst_24 main_v203 ((fun x v => Host.reduceAdd x v reducesTo_S32x2048x512_S32x2048_d2 h_S_) : Tn F S32x2048x512 → Tn F S_ → Tn F S32x2048),
    StableHlo.unary main_v203 main_v204 (broadcastInDim S32x2048x1 ![0, 1] bcast_S32x2048_S32x2048x1_0_1 : Tn F S32x2048 → Tn F S32x2048x1),
    StableHlo.nullary main_cst_25 (constant S_ .f32 0x44000000#32),
    StableHlo.unary main_cst_25 main_v205 (broadcastInDim S32x2048x1 ![] bcast_S_S32x2048x1 : Tn F S_ → Tn F S32x2048x1),
    StableHlo.binary main_v204 main_v205 main_v206 (Host.divf : Tn F S32x2048x1 → Tn F S32x2048x1 → Tn F S32x2048x1),
    StableHlo.unary main_v199 main_v207 (broadcastInDim S32x2048x512 ![0, 1, 2] bcast_S32x2048x1_S32x2048x512_0_1_2 : Tn F S32x2048x1 → Tn F S32x2048x512),
    StableHlo.binary main_v171 main_v207 main_v208 (subf : Tn F S32x2048x512 → Tn F S32x2048x512 → Tn F S32x2048x512),
    StableHlo.nullary main_cst_26 (constant S_ .f32 0x3727C5AC#32),
    StableHlo.unary main_cst_26 main_v209 (broadcastInDim S32x2048x1 ![] bcast_S_S32x2048x1 : Tn F S_ → Tn F S32x2048x1),
    StableHlo.binary main_v206 main_v209 main_v210 (addf : Tn F S32x2048x1 → Tn F S32x2048x1 → Tn F S32x2048x1),
    StableHlo.unary main_v210 main_v211 (Host.sqrt : Tn F S32x2048x1 → Tn F S32x2048x1),
    StableHlo.unary main_v211 main_v212 (broadcastInDim S32x2048x512 ![0, 1, 2] bcast_S32x2048x1_S32x2048x512_0_1_2 : Tn F S32x2048x1 → Tn F S32x2048x512),
    StableHlo.binary main_v208 main_v212 main_v213 (Host.divf : Tn F S32x2048x512 → Tn F S32x2048x512 → Tn F S32x2048x512),
    StableHlo.unary main_v173 main_v214 (broadcastInDim S1x1x512 ![2] bcast_S512_S1x1x512_2 : Tn F S512 → Tn F S1x1x512),
    StableHlo.unary main_v214 main_v215 (broadcastInDim S32x2048x512 ![0, 1, 2] bcast_S1x1x512_S32x2048x512_0_1_2 : Tn F S1x1x512 → Tn F S32x2048x512),
    StableHlo.binary main_v213 main_v215 main_v216 (mulf : Tn F S32x2048x512 → Tn F S32x2048x512 → Tn F S32x2048x512),
    StableHlo.unary main_v175 main_v217 (broadcastInDim S1x1x512 ![2] bcast_S512_S1x1x512_2 : Tn F S512 → Tn F S1x1x512),
    StableHlo.unary main_v217 main_v218 (broadcastInDim S32x2048x512 ![0, 1, 2] bcast_S1x1x512_S32x2048x512_0_1_2 : Tn F S1x1x512 → Tn F S32x2048x512),
    StableHlo.binary main_v216 main_v218 main_v219 (addf : Tn F S32x2048x512 → Tn F S32x2048x512 → Tn F S32x2048x512) ]
/-- `opsN2` touches TensorCore references only. -/
theorem opsN2_sub : (opsN2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The references `opsN2` writes, in order. -/
abbrev opsN2_W : List (Ref sig .tc) := [main_cst_22, main_v196, main_v197, main_cst_23, main_v198, main_v199, main_v200, main_v201, main_v202, main_cst_24, main_v203, main_v204, main_cst_25, main_v205, main_v206, main_v207, main_v208, main_cst_26, main_v209, main_v210, main_v211, main_v212, main_v213, main_v214, main_v215, main_v216, main_v217, main_v218, main_v219]
/-- Every write of `opsN2` is listed. -/
theorem opsN2_writes : (opsN2 : List (HloOp τ sig (Elt F))).Forall fun op => op.writes ⊆ (opsN2_W.map (Proc.devRef (τ := τ) .tc)).toFinset :=
  StableHlo.forall_writes_sub_of_map rfl

/-- Layer 2's projections to the state. -/
abbrev opsX2 : List (HloOp τ sig (Elt F)) := [
    StableHlo.binary main_v219 main_v177 main_v220 ((fun l r => Host.dotGeneral dot_S32x2048x512_S512x64_S32x2048x64_2_0_01_1_n_n none l r) : Tn F S32x2048x512 → Tn F S512x64 → Tn F S32x2048x64),
    StableHlo.unary main_v179 main_v221 (broadcastInDim S1x1x64 ![2] bcast_S64_S1x1x64_2 : Tn F S64 → Tn F S1x1x64),
    StableHlo.unary main_v221 main_v222 (broadcastInDim S32x2048x64 ![0, 1, 2] bcast_S1x1x64_S32x2048x64_0_1_2 : Tn F S1x1x64 → Tn F S32x2048x64),
    StableHlo.binary main_v220 main_v222 main_v223 (addf : Tn F S32x2048x64 → Tn F S32x2048x64 → Tn F S32x2048x64),
    StableHlo.binary main_v219 main_v181 main_v224 ((fun l r => Host.dotGeneral dot_S32x2048x512_S512x64_S32x2048x64_2_0_01_1_n_n none l r) : Tn F S32x2048x512 → Tn F S512x64 → Tn F S32x2048x64),
    StableHlo.unary main_v183 main_v225 (broadcastInDim S1x1x64 ![2] bcast_S64_S1x1x64_2 : Tn F S64 → Tn F S1x1x64),
    StableHlo.unary main_v225 main_v226 (broadcastInDim S32x2048x64 ![0, 1, 2] bcast_S1x1x64_S32x2048x64_0_1_2 : Tn F S1x1x64 → Tn F S32x2048x64),
    StableHlo.binary main_v224 main_v226 main_v227 (addf : Tn F S32x2048x64 → Tn F S32x2048x64 → Tn F S32x2048x64),
    StableHlo.unary main_v227 main_v228 (Host.negf : Tn F S32x2048x64 → Tn F S32x2048x64),
    StableHlo.unary main_v228 main_v229 (Host.exp : Tn F S32x2048x64 → Tn F S32x2048x64),
    StableHlo.nullary main_cst_27 (constant S_ .f32 0x3F800000#32),
    StableHlo.unary main_cst_27 main_v230 (broadcastInDim S32x2048x64 ![] bcast_S_S32x2048x64 : Tn F S_ → Tn F S32x2048x64),
    StableHlo.binary main_v230 main_v229 main_v231 (addf : Tn F S32x2048x64 → Tn F S32x2048x64 → Tn F S32x2048x64),
    StableHlo.nullary main_cst_28 (constant S_ .f32 0x3F800000#32),
    StableHlo.unary main_cst_28 main_v232 (broadcastInDim S32x2048x64 ![] bcast_S_S32x2048x64 : Tn F S_ → Tn F S32x2048x64),
    StableHlo.binary main_v232 main_v231 main_v233 (Host.divf : Tn F S32x2048x64 → Tn F S32x2048x64 → Tn F S32x2048x64) ]
/-- `opsX2` touches TensorCore references only. -/
theorem opsX2_sub : (opsX2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The references `opsX2` writes, in order. -/
abbrev opsX2_W : List (Ref sig .tc) := [main_v220, main_v221, main_v222, main_v223, main_v224, main_v225, main_v226, main_v227, main_v228, main_v229, main_cst_27, main_v230, main_v231, main_cst_28, main_v232, main_v233]
/-- Every write of `opsX2` is listed. -/
theorem opsX2_writes : (opsX2 : List (HloOp τ sig (Elt F))).Forall fun op => op.writes ⊆ (opsX2_W.map (Proc.devRef (τ := τ) .tc)).toFinset :=
  StableHlo.forall_writes_sub_of_map rfl

/-- What layer 2's scan starts from. -/
abbrev opsE2 : List (HloOp τ sig (Elt F)) := [
    StableHlo.unary main_v223 main_v234 ((transpose S2048x32x64 [1, 0, 2] · transposes_S32x2048x64_S2048x32x64_1_0_2) : Tn F S32x2048x64 → Tn F S2048x32x64),
    StableHlo.unary main_v233 main_v235 ((transpose S2048x32x64 [1, 0, 2] · transposes_S32x2048x64_S2048x32x64_1_0_2) : Tn F S32x2048x64 → Tn F S2048x32x64),
    StableHlo.nullary main_cst_29 (constant S_ .f32 0x00000000#32),
    StableHlo.unary main_cst_29 main_v236 (broadcastInDim S32x64 ![] bcast_S_S32x64 : Tn F S_ → Tn F S32x64),
    StableHlo.nullary main_cst_30 (constant S_ .f32 0x00000000#32),
    StableHlo.unary main_cst_30 main_v237 (broadcastInDim S2048x32x512 ![] bcast_S_S2048x32x512 : Tn F S_ → Tn F S2048x32x512),
    StableHlo.nullary main_c_31 (constantI S_ 32 0#32),
    StableHlo.unary main_v234 main_v238_0 id,
    StableHlo.unary main_v235 main_v238_1 id,
    StableHlo.unary main_v185 main_v238_2 id,
    StableHlo.unary main_v187 main_v238_3 id,
    StableHlo.unary main_c_31 main_v238_4 id,
    StableHlo.unary main_v236 main_v238_5 id,
    StableHlo.unary main_v237 main_v238_6 id ]
/-- `opsE2` touches TensorCore references only. -/
theorem opsE2_sub : (opsE2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The references `opsE2` writes, in order. -/
abbrev opsE2_W : List (Ref sig .tc) := [main_v234, main_v235, main_cst_29, main_v236, main_cst_30, main_v237, main_c_31, main_v238_0, main_v238_1, main_v238_2, main_v238_3, main_v238_4, main_v238_5, main_v238_6]
/-- Every write of `opsE2` is listed. -/
theorem opsE2_writes : (opsE2 : List (HloOp τ sig (Elt F))).Forall fun op => op.writes ⊆ (opsE2_W.map (Proc.devRef (τ := τ) .tc)).toFinset :=
  StableHlo.forall_writes_sub_of_map rfl

/-- A step of layer 2's scan: the inputs. -/
abbrev opsB2a : List (HloOp τ sig (Elt F)) := [
    StableHlo.nullary main_while2b_call6_c (constantI S_ 32 0#32),
    StableHlo.nullary main_while2b_call6_c_0 (constantI S_ 32 0#32),
    StableHlo.TRef.unaryIndexed (.of main_v238_0 : StableHlo.TRef sig ⟨S2048x32x64, .f32⟩) ![(.of main_v238_4 : StableHlo.TRef sig ⟨S_, .i32⟩), .of main_while2b_call6_c, .of main_while2b_call6_c_0] (.of main_while2b_call6_v0 : StableHlo.TRef sig ⟨S1x32x64, .f32⟩) ((fun x i => Host.dynamicSlice S1x32x64 x (fun k => (i k (Shape.Idx.first h_S_)).toInt) sliceFits_S2048x32x64_S1x32x64)),
    StableHlo.reshape main_while2b_call6_v0 main_while2b_v412 (rfl : (.f32 : EltTy) = .f32) shapeCasts_S1x32x64_S32x64 ]
/-- `opsB2a` touches TensorCore references only. -/
theorem opsB2a_sub : (opsB2a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB2a` writes, in order. -/
abbrev opsB2a_W : List (Ref sig .tc) := [main_while2b_call6_c, main_while2b_call6_c_0, main_while2b_call6_v0, main_while2b_v412]
/-- Every write of `opsB2a` is listed. -/
theorem opsB2a_writes : (opsB2a : List (HloOp τ sig (Elt F))).Forall fun op => op.writes ⊆ (opsB2a_W.map (Proc.devRef (τ := τ) .tc)).toFinset :=
  StableHlo.forall_writes_sub_of_map rfl

/-- A step of layer 2's scan: the decay. -/
abbrev opsB2b : List (HloOp τ sig (Elt F)) := [
    StableHlo.nullary main_while2b_call7_c (constantI S_ 32 0#32),
    StableHlo.nullary main_while2b_call7_c_0 (constantI S_ 32 0#32),
    StableHlo.TRef.unaryIndexed (.of main_v238_1 : StableHlo.TRef sig ⟨S2048x32x64, .f32⟩) ![(.of main_v238_4 : StableHlo.TRef sig ⟨S_, .i32⟩), .of main_while2b_call7_c, .of main_while2b_call7_c_0] (.of main_while2b_call7_v0 : StableHlo.TRef sig ⟨S1x32x64, .f32⟩) ((fun x i => Host.dynamicSlice S1x32x64 x (fun k => (i k (Shape.Idx.first h_S_)).toInt) sliceFits_S2048x32x64_S1x32x64)),
    StableHlo.reshape main_while2b_call7_v0 main_while2b_v413 (rfl : (.f32 : EltTy) = .f32) shapeCasts_S1x32x64_S32x64 ]
/-- `opsB2b` touches TensorCore references only. -/
theorem opsB2b_sub : (opsB2b : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB2b` writes, in order. -/
abbrev opsB2b_W : List (Ref sig .tc) := [main_while2b_call7_c, main_while2b_call7_c_0, main_while2b_call7_v0, main_while2b_v413]
/-- Every write of `opsB2b` is listed. -/
theorem opsB2b_writes : (opsB2b : List (HloOp τ sig (Elt F))).Forall fun op => op.writes ⊆ (opsB2b_W.map (Proc.devRef (τ := τ) .tc)).toFinset :=
  StableHlo.forall_writes_sub_of_map rfl

/-- A step of layer 2's scan: the new state and the output. -/
abbrev opsB2c : List (HloOp τ sig (Elt F)) := [
    StableHlo.nullary main_while2b_cst_70 (constant S_ .f32 0x3F800000#32),
    StableHlo.unary main_while2b_cst_70 main_while2b_v414 (broadcastInDim S32x64 ![] bcast_S_S32x64 : Tn F S_ → Tn F S32x64),
    StableHlo.binary main_while2b_v414 main_while2b_v413 main_while2b_v415 (subf : Tn F S32x64 → Tn F S32x64 → Tn F S32x64),
    StableHlo.binary main_while2b_v415 main_v238_5 main_while2b_v416 (mulf : Tn F S32x64 → Tn F S32x64 → Tn F S32x64),
    StableHlo.unary main_v238_2 main_while2b_v417 ((transpose S64x64 [1, 0] · transposes_S64x64_S64x64_1_0) : Tn F S64x64 → Tn F S64x64),
    StableHlo.binary main_v238_5 main_while2b_v417 main_while2b_v418 ((fun l r => Host.dotGeneral dot_S32x64_S64x64_S32x64_1_0_0_1_n_n none l r) : Tn F S32x64 → Tn F S64x64 → Tn F S32x64),
    StableHlo.binary main_while2b_v418 main_while2b_v412 main_while2b_v419 (addf : Tn F S32x64 → Tn F S32x64 → Tn F S32x64),
    StableHlo.binary main_while2b_v413 main_while2b_v419 main_while2b_v420 (mulf : Tn F S32x64 → Tn F S32x64 → Tn F S32x64),
    StableHlo.binary main_while2b_v416 main_while2b_v420 main_while2b_v421 (addf : Tn F S32x64 → Tn F S32x64 → Tn F S32x64),
    StableHlo.unary main_v238_3 main_while2b_v422 ((transpose S64x512 [1, 0] · transposes_S512x64_S64x512_1_0) : Tn F S512x64 → Tn F S64x512),
    StableHlo.binary main_while2b_v421 main_while2b_v422 main_while2b_v423 ((fun l r => Host.dotGeneral dot_S32x64_S64x512_S32x512_1_0_0_1_n_n none l r) : Tn F S32x64 → Tn F S64x512 → Tn F S32x512) ]
/-- `opsB2c` touches TensorCore references only. -/
theorem opsB2c_sub : (opsB2c : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- The references `opsB2c` writes, in order. -/
abbrev opsB2c_W : List (Ref sig .tc) := [main_while2b_cst_70, main_while2b_v414, main_while2b_v415, main_while2b_v416, main_while2b_v417, main_while2b_v418, main_while2b_v419, main_while2b_v420, main_while2b_v421, main_while2b_v422, main_while2b_v423]
/-- Every write of `opsB2c` is listed. -/
theorem opsB2c_writes : (opsB2c : List (HloOp τ sig (Elt F))).Forall fun op => op.writes ⊆ (opsB2c_W.map (Proc.devRef (τ := τ) .tc)).toFinset :=
  StableHlo.forall_writes_sub_of_map rfl

/-- A step of layer 2's scan: the write of the output. -/
abbrev opsB2d : List (HloOp τ sig (Elt F)) := [
    StableHlo.unary main_while2b_v423 main_while2b_call8_v0 (broadcastInDim S1x32x512 ![1, 2] bcast_S32x512_S1x32x512_1_2 : Tn F S32x512 → Tn F S1x32x512),
    StableHlo.nullary main_while2b_call8_c (constantI S_ 32 0#32),
    StableHlo.nullary main_while2b_call8_c_0 (constantI S_ 32 0#32),
    StableHlo.TRef.binaryIndexed (.of main_v238_6 : StableHlo.TRef sig ⟨S2048x32x512, .f32⟩) (.of main_while2b_call8_v0 : StableHlo.TRef sig ⟨S1x32x512, .f32⟩) ![(.of main_v238_4 : StableHlo.TRef sig ⟨S_, .i32⟩), .of main_while2b_call8_c, .of main_while2b_call8_c_0] (.of main_while2b_v424 : StableHlo.TRef sig ⟨S2048x32x512, .f32⟩) ((fun x u i => Host.dynamicUpdateSlice x u (fun k => (i k (Shape.Idx.first h_S_)).toInt) updateFits_S2048x32x512_S1x32x512)) ]
/-- `opsB2d` touches TensorCore references only. -/
theorem opsB2d_sub : (opsB2d : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The references `opsB2d` writes, in order. -/
abbrev opsB2d_W : List (Ref sig .tc) := [main_while2b_call8_v0, main_while2b_call8_c, main_while2b_call8_c_0, main_while2b_v424]
/-- Every write of `opsB2d` is listed. -/
theorem opsB2d_writes : (opsB2d : List (HloOp τ sig (Elt F))).Forall fun op => op.writes ⊆ (opsB2d_W.map (Proc.devRef (τ := τ) .tc)).toFinset :=
  StableHlo.forall_writes_sub_of_map rfl

/-- A step of layer 2's scan: the carried values. -/
abbrev opsB2e : List (HloOp τ sig (Elt F)) := [
    StableHlo.nullary main_while2b_c_71 (constantI S_ 32 1#32),
    StableHlo.binary main_v238_4 main_while2b_c_71 main_while2b_v425 (addi : Ti F S_ → Ti F S_ → Ti F S_),
    StableHlo.unary main_while2b_v425 main_v238_4 id,
    StableHlo.unary main_while2b_v421 main_v238_5 id,
    StableHlo.unary main_while2b_v424 main_v238_6 id ]
/-- `opsB2e` touches TensorCore references only. -/
theorem opsB2e_sub : (opsB2e : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The references `opsB2e` writes, in order. -/
abbrev opsB2e_W : List (Ref sig .tc) := [main_while2b_c_71, main_while2b_v425, main_v238_4, main_v238_5, main_v238_6]
/-- Every write of `opsB2e` is listed. -/
theorem opsB2e_writes : (opsB2e : List (HloOp τ sig (Elt F))).Forall fun op => op.writes ⊆ (opsB2e_W.map (Proc.devRef (τ := τ) .tc)).toFinset :=
  StableHlo.forall_writes_sub_of_map rfl
/-- A step of layer 2's scan. -/
abbrev opsB2 : List (List (HloOp τ sig (Elt F))) := [opsB2a, opsB2b, opsB2c, opsB2d, opsB2e]

/-- The test of layer 2's scan. -/
abbrev opsC2 : List (HloOp τ sig (Elt F)) := [
    StableHlo.nullary main_while2c_c_70 (constantI S_ 32 2048#32),
    StableHlo.binary main_v238_4 main_while2c_c_70 main_while2c_v412 (cmpi .slt : Ti F S_ → Ti F S_ → Tb F S_) ]
/-- `opsC2` touches TensorCore references only. -/
theorem opsC2_sub : (opsC2 : List (HloOp τ sig (Elt F))).Forall fun op => op.bufs ⊆ StableHlo.tcRefs τ sig :=
  ⟨StableHlo.nullary_bufs_sub .., StableHlo.binary_bufs_sub ..⟩
/-- The references `opsC2` writes, in order. -/
abbrev opsC2_W : List (Ref sig .tc) := [main_while2c_c_70, main_while2c_v412]
/-- Every write of `opsC2` is listed. -/
theorem opsC2_writes : (opsC2 : List (HloOp τ sig (Elt F))).Forall fun op => op.writes ⊆ (opsC2_W.map (Proc.devRef (τ := τ) .tc)).toFinset :=
  StableHlo.forall_writes_sub_of_map rfl

/-- Layer 2's gate, output product and residual. -/
abbrev opsG2 : List (HloOp τ sig (Elt F)) := [
    StableHlo.unary main_v238_6 main_v239 ((transpose S32x2048x512 [1, 0, 2] · transposes_S2048x32x512_S32x2048x512_1_0_2) : Tn F S2048x32x512 → Tn F S32x2048x512),
    StableHlo.binary main_v219 main_v189 main_v240 ((fun l r => Host.dotGeneral dot_S32x2048x512_S512x512_S32x2048x512_2_0_01_1_n_n none l r) : Tn F S32x2048x512 → Tn F S512x512 → Tn F S32x2048x512),
    StableHlo.unary main_v191 main_v241 (broadcastInDim S1x1x512 ![2] bcast_S512_S1x1x512_2 : Tn F S512 → Tn F S1x1x512),
    StableHlo.unary main_v241 main_v242 (broadcastInDim S32x2048x512 ![0, 1, 2] bcast_S1x1x512_S32x2048x512_0_1_2 : Tn F S1x1x512 → Tn F S32x2048x512),
    StableHlo.binary main_v240 main_v242 main_v243 (addf : Tn F S32x2048x512 → Tn F S32x2048x512 → Tn F S32x2048x512),
    StableHlo.unary main_v243 main_v244 (Host.negf : Tn F S32x2048x512 → Tn F S32x2048x512),
    StableHlo.unary main_v244 main_v245 (Host.exp : Tn F S32x2048x512 → Tn F S32x2048x512),
    StableHlo.nullary main_cst_32 (constant S_ .f32 0x3F800000#32),
    StableHlo.unary main_cst_32 main_v246 (broadcastInDim S32x2048x512 ![] bcast_S_S32x2048x512 : Tn F S_ → Tn F S32x2048x512),
    StableHlo.binary main_v246 main_v245 main_v247 (addf : Tn F S32x2048x512 → Tn F S32x2048x512 → Tn F S32x2048x512),
    StableHlo.nullary main_cst_33 (constant S_ .f32 0x3F800000#32),
    StableHlo.unary main_cst_33 main_v248 (broadcastInDim S32x2048x512 ![] bcast_S_S32x2048x512 : Tn F S_ → Tn F S32x2048x512),
    StableHlo.binary main_v248 main_v247 main_v249 (Host.divf : Tn F S32x2048x512 → Tn F S32x2048x512 → Tn F S32x2048x512),
    StableHlo.binary main_v249 main_v239 main_v250 (mulf : Tn F S32x2048x512 → Tn F S32x2048x512 → Tn F S32x2048x512),
    StableHlo.binary main_v250 main_v193 main_v251 ((fun l r => Host.dotGeneral dot_S32x2048x512_S512x512_S32x2048x512_2_0_01_1_n_n none l r) : Tn F S32x2048x512 → Tn F S512x512 → Tn F S32x2048x512),
    StableHlo.unary main_v195 main_v252 (broadcastInDim S1x1x512 ![2] bcast_S512_S1x1x512_2 : Tn F S512 → Tn F S1x1x512),
    StableHlo.unary main_v252 main_v253 (broadcastInDim S32x2048x512 ![0, 1, 2] bcast_S1x1x512_S32x2048x512_0_1_2 : Tn F S1x1x512 → Tn F S32x2048x512),
    StableHlo.binary main_v251 main_v253 main_v254 (addf : Tn F S32x2048x512 → Tn F S32x2048x512 → Tn F S32x2048x512),
    StableHlo.binary main_v254 main_v171 main_v255 (addf : Tn F S32x2048x512 → Tn F S32x2048x512 → Tn F S32x2048x512) ]
/-- `opsG2` touches TensorCore references only. -/
theorem opsG2_sub : (opsG2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub ..⟩
/-- The references `opsG2` writes, in order. -/
abbrev opsG2_W : List (Ref sig .tc) := [main_v239, main_v240, main_v241, main_v242, main_v243, main_v244, main_v245, main_cst_32, main_v246, main_v247, main_cst_33, main_v248, main_v249, main_v250, main_v251, main_v252, main_v253, main_v254, main_v255]
/-- Every write of `opsG2` is listed. -/
theorem opsG2_writes : (opsG2 : List (HloOp τ sig (Elt F))).Forall fun op => op.writes ⊆ (opsG2_W.map (Proc.devRef (τ := τ) .tc)).toFinset :=
  StableHlo.forall_writes_sub_of_map rfl

end Cert.Ref
-- ==== Proof.RefOps3.lean ====
module

public import proofs.«01_k».proof.Proof.RefOps0

@[expose] public section

set_option maxRecDepth 16384

noncomputable section

namespace Cert.Ref

open Idealize.ShloMosaic Idealize.ShloMosaic.TcCoe
open Cert.ReferenceIdeal Cert.ReferenceIdeal.Gen

variable {F : FTy → Type} [FloatOps F]

/-- Layer 3's parameters. -/
abbrev opsW3 : List (HloOp τ sig (Elt F)) := [
    StableHlo.unary main_arg3 main_v256 ((extractStridedSlice S1x512 ![3, 0] · slices_S4x512_S1x512_3_0) : Tn F S4x512 → Tn F S1x512),
    StableHlo.reshape main_v256 main_v257 (rfl : (.f32 : EltTy) = .f32) shapeCasts_S1x512_S512,
    StableHlo.unary main_arg4 main_v258 ((extractStridedSlice S1x512 ![3, 0] · slices_S4x512_S1x512_3_0) : Tn F S4x512 → Tn F S1x512),
    StableHlo.reshape main_v258 main_v259 (rfl : (.f32 : EltTy) = .f32) shapeCasts_S1x512_S512,
    StableHlo.unary main_arg5 main_v260 ((extractStridedSlice S1x512x64 ![3, 0, 0] · slices_S4x512x64_S1x512x64_3_0_0) : Tn F S4x512x64 → Tn F S1x512x64),
    StableHlo.reshape main_v260 main_v261 (rfl : (.f32 : EltTy) = .f32) shapeCasts_S1x512x64_S512x64,
    StableHlo.unary main_arg6 main_v262 ((extractStridedSlice S1x64 ![3, 0] · slices_S4x64_S1x64_3_0) : Tn F S4x64 → Tn F S1x64),
    StableHlo.reshape main_v262 main_v263 (rfl : (.f32 : EltTy) = .f32) shapeCasts_S1x64_S64,
    StableHlo.unary main_arg7 main_v264 ((extractStridedSlice S1x512x64 ![3, 0, 0] · slices_S4x512x64_S1x512x64_3_0_0) : Tn F S4x512x64 → Tn F S1x512x64),
    StableHlo.reshape main_v264 main_v265 (rfl : (.f32 : EltTy) = .f32) shapeCasts_S1x512x64_S512x64,
    StableHlo.unary main_arg8 main_v266 ((extractStridedSlice S1x64 ![3, 0] · slices_S4x64_S1x64_3_0) : Tn F S4x64 → Tn F S1x64),
    StableHlo.reshape main_v266 main_v267 (rfl : (.f32 : EltTy) = .f32) shapeCasts_S1x64_S64,
    StableHlo.unary main_arg9 main_v268 ((extractStridedSlice S1x64x64 ![3, 0, 0] · slices_S4x64x64_S1x64x64_3_0_0) : Tn F S4x64x64 → Tn F S1x64x64),
    StableHlo.reshape main_v268 main_v269 (rfl : (.f32 : EltTy) = .f32) shapeCasts_S1x64x64_S64x64,
    StableHlo.unary main_arg10 main_v270 ((extractStridedSlice S1x512x64 ![3, 0, 0] · slices_S4x512x64_S1x512x64_3_0_0) : Tn F S4x512x64 → Tn F S1x512x64),
    StableHlo.reshape main_v270 main_v271 (rfl : (.f32 : EltTy) = .f32) shapeCasts_S1x512x64_S512x64,
    StableHlo.unary main_arg11 main_v272 ((extractStridedSlice S1x512x512 ![3, 0, 0] · slices_S4x512x512_S1x512x512_3_0_0) : Tn F S4x512x512 → Tn F S1x512x512),
    StableHlo.reshape main_v272 main_v273 (rfl : (.f32 : EltTy) = .f32) shapeCasts_S1x512x512_S512x512,
    StableHlo.unary main_arg12 main_v274 ((extractStridedSlice S1x512 ![3, 0] · slices_S4x512_S1x512_3_0) : Tn F S4x512 → Tn F S1x512),
    StableHlo.reshape main_v274 main_v275 (rfl : (.f32 : EltTy) = .f32) shapeCasts_S1x512_S512,
    StableHlo.unary main_arg13 main_v276 ((extractStridedSlice S1x512x512 ![3, 0, 0] · slices_S4x512x512_S1x512x512_3_0_0) : Tn F S4x512x512 → Tn F S1x512x512),
    StableHlo.reshape main_v276 main_v277 (rfl : (.f32 : EltTy) = .f32) shapeCasts_S1x512x512_S512x512,
    StableHlo.unary main_arg14 main_v278 ((extractStridedSlice S1x512 ![3, 0] · slices_S4x512_S1x512_3_0) : Tn F S4x512 → Tn F S1x512),
    StableHlo.reshape main_v278 main_v279 (rfl : (.f32 : EltTy) = .f32) shapeCasts_S1x512_S512 ]
/-- `opsW3` touches TensorCore references only. -/
theorem opsW3_sub : (opsW3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- The references `opsW3` writes, in order. -/
abbrev opsW3_W : List (Ref sig .tc) := [main_v256, main_v257, main_v258, main_v259, main_v260, main_v261, main_v262, main_v263, main_v264, main_v265, main_v266, main_v267, main_v268, main_v269, main_v270, main_v271, main_v272, main_v273, main_v274, main_v275, main_v276, main_v277, main_v278, main_v279]
/-- Every write of `opsW3` is listed. -/
theorem opsW3_writes : (opsW3 : List (HloOp τ sig (Elt F))).Forall fun op => op.writes ⊆ (opsW3_W.map (Proc.devRef (τ := τ) .tc)).toFinset :=
  StableHlo.forall_writes_sub_of_map rfl

/-- Layer 3's normalisation. -/
abbrev opsN3 : List (HloOp τ sig (Elt F)) := [
    StableHlo.nullary main_cst_34 (constant S_ .f32 0x00000000#32),
    StableHlo.binary main_v255 main_cst_34 main_v280 ((fun x v => Host.reduceAdd x v reducesTo_S32x2048x512_S32x2048_d2 h_S_) : Tn F S32x2048x512 → Tn F S_ → Tn F S32x2048),
    StableHlo.unary main_v280 main_v281 (broadcastInDim S32x2048x1 ![0, 1] bcast_S32x2048_S32x2048x1_0_1 : Tn F S32x2048 → Tn F S32x2048x1),
    StableHlo.nullary main_cst_35 (constant S_ .f32 0x44000000#32),
    StableHlo.unary main_cst_35 main_v282 (broadcastInDim S32x2048x1 ![] bcast_S_S32x2048x1 : Tn F S_ → Tn F S32x2048x1),
    StableHlo.binary main_v281 main_v282 main_v283 (Host.divf : Tn F S32x2048x1 → Tn F S32x2048x1 → Tn F S32x2048x1),
    StableHlo.unary main_v283 main_v284 (broadcastInDim S32x2048x512 ![0, 1, 2] bcast_S32x2048x1_S32x2048x512_0_1_2 : Tn F S32x2048x1 → Tn F S32x2048x512),
    StableHlo.binary main_v255 main_v284 main_v285 (subf : Tn F S32x2048x512 → Tn F S32x2048x512 → Tn F S32x2048x512),
    StableHlo.binary main_v285 main_v285 main_v286 (mulf : Tn F S32x2048x512 → Tn F S32x2048x512 → Tn F S32x2048x512),
    StableHlo.nullary main_cst_36 (constant S_ .f32 0x00000000#32),
    StableHlo.binary main_v286 main_cst_36 main_v287 ((fun x v => Host.reduceAdd x v reducesTo_S32x2048x512_S32x2048_d2 h_S_) : Tn F S32x2048x512 → Tn F S_ → Tn F S32x2048),
    StableHlo.unary main_v287 main_v288 (broadcastInDim S32x2048x1 ![0, 1] bcast_S32x2048_S32x2048x1_0_1 : Tn F S32x2048 → Tn F S32x2048x1),
    StableHlo.nullary main_cst_37 (constant S_ .f32 0x44000000#32),
    StableHlo.unary main_cst_37 main_v289 (broadcastInDim S32x2048x1 ![] bcast_S_S32x2048x1 : Tn F S_ → Tn F S32x2048x1),
    StableHlo.binary main_v288 main_v289 main_v290 (Host.divf : Tn F S32x2048x1 → Tn F S32x2048x1 → Tn F S32x2048x1),
    StableHlo.unary main_v283 main_v291 (broadcastInDim S32x2048x512 ![0, 1, 2] bcast_S32x2048x1_S32x2048x512_0_1_2 : Tn F S32x2048x1 → Tn F S32x2048x512),
    StableHlo.binary main_v255 main_v291 main_v292 (subf : Tn F S32x2048x512 → Tn F S32x2048x512 → Tn F S32x2048x512),
    StableHlo.nullary main_cst_38 (constant S_ .f32 0x3727C5AC#32),
    StableHlo.unary main_cst_38 main_v293 (broadcastInDim S32x2048x1 ![] bcast_S_S32x2048x1 : Tn F S_ → Tn F S32x2048x1),
    StableHlo.binary main_v290 main_v293 main_v294 (addf : Tn F S32x2048x1 → Tn F S32x2048x1 → Tn F S32x2048x1),
    StableHlo.unary main_v294 main_v295 (Host.sqrt : Tn F S32x2048x1 → Tn F S32x2048x1),
    StableHlo.unary main_v295 main_v296 (broadcastInDim S32x2048x512 ![0, 1, 2] bcast_S32x2048x1_S32x2048x512_0_1_2 : Tn F S32x2048x1 → Tn F S32x2048x512),
    StableHlo.binary main_v292 main_v296 main_v297 (Host.divf : Tn F S32x2048x512 → Tn F S32x2048x512 → Tn F S32x2048x512),
    StableHlo.unary main_v257 main_v298 (broadcastInDim S1x1x512 ![2] bcast_S512_S1x1x512_2 : Tn F S512 → Tn F S1x1x512),
    StableHlo.unary main_v298 main_v299 (broadcastInDim S32x2048x512 ![0, 1, 2] bcast_S1x1x512_S32x2048x512_0_1_2 : Tn F S1x1x512 → Tn F S32x2048x512),
    StableHlo.binary main_v297 main_v299 main_v300 (mulf : Tn F S32x2048x512 → Tn F S32x2048x512 → Tn F S32x2048x512),
    StableHlo.unary main_v259 main_v301 (broadcastInDim S1x1x512 ![2] bcast_S512_S1x1x512_2 : Tn F S512 → Tn F S1x1x512),
    StableHlo.unary main_v301 main_v302 (broadcastInDim S32x2048x512 ![0, 1, 2] bcast_S1x1x512_S32x2048x512_0_1_2 : Tn F S1x1x512 → Tn F S32x2048x512),
    StableHlo.binary main_v300 main_v302 main_v303 (addf : Tn F S32x2048x512 → Tn F S32x2048x512 → Tn F S32x2048x512) ]
/-- `opsN3` touches TensorCore references only. -/
theorem opsN3_sub : (opsN3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The references `opsN3` writes, in order. -/
abbrev opsN3_W : List (Ref sig .tc) := [main_cst_34, main_v280, main_v281, main_cst_35, main_v282, main_v283, main_v284, main_v285, main_v286, main_cst_36, main_v287, main_v288, main_cst_37, main_v289, main_v290, main_v291, main_v292, main_cst_38, main_v293, main_v294, main_v295, main_v296, main_v297, main_v298, main_v299, main_v300, main_v301, main_v302, main_v303]
/-- Every write of `opsN3` is listed. -/
theorem opsN3_writes : (opsN3 : List (HloOp τ sig (Elt F))).Forall fun op => op.writes ⊆ (opsN3_W.map (Proc.devRef (τ := τ) .tc)).toFinset :=
  StableHlo.forall_writes_sub_of_map rfl

/-- Layer 3's projections to the state. -/
abbrev opsX3 : List (HloOp τ sig (Elt F)) := [
    StableHlo.binary main_v303 main_v261 main_v304 ((fun l r => Host.dotGeneral dot_S32x2048x512_S512x64_S32x2048x64_2_0_01_1_n_n none l r) : Tn F S32x2048x512 → Tn F S512x64 → Tn F S32x2048x64),
    StableHlo.unary main_v263 main_v305 (broadcastInDim S1x1x64 ![2] bcast_S64_S1x1x64_2 : Tn F S64 → Tn F S1x1x64),
    StableHlo.unary main_v305 main_v306 (broadcastInDim S32x2048x64 ![0, 1, 2] bcast_S1x1x64_S32x2048x64_0_1_2 : Tn F S1x1x64 → Tn F S32x2048x64),
    StableHlo.binary main_v304 main_v306 main_v307 (addf : Tn F S32x2048x64 → Tn F S32x2048x64 → Tn F S32x2048x64),
    StableHlo.binary main_v303 main_v265 main_v308 ((fun l r => Host.dotGeneral dot_S32x2048x512_S512x64_S32x2048x64_2_0_01_1_n_n none l r) : Tn F S32x2048x512 → Tn F S512x64 → Tn F S32x2048x64),
    StableHlo.unary main_v267 main_v309 (broadcastInDim S1x1x64 ![2] bcast_S64_S1x1x64_2 : Tn F S64 → Tn F S1x1x64),
    StableHlo.unary main_v309 main_v310 (broadcastInDim S32x2048x64 ![0, 1, 2] bcast_S1x1x64_S32x2048x64_0_1_2 : Tn F S1x1x64 → Tn F S32x2048x64),
    StableHlo.binary main_v308 main_v310 main_v311 (addf : Tn F S32x2048x64 → Tn F S32x2048x64 → Tn F S32x2048x64),
    StableHlo.unary main_v311 main_v312 (Host.negf : Tn F S32x2048x64 → Tn F S32x2048x64),
    StableHlo.unary main_v312 main_v313 (Host.exp : Tn F S32x2048x64 → Tn F S32x2048x64),
    StableHlo.nullary main_cst_39 (constant S_ .f32 0x3F800000#32),
    StableHlo.unary main_cst_39 main_v314 (broadcastInDim S32x2048x64 ![] bcast_S_S32x2048x64 : Tn F S_ → Tn F S32x2048x64),
    StableHlo.binary main_v314 main_v313 main_v315 (addf : Tn F S32x2048x64 → Tn F S32x2048x64 → Tn F S32x2048x64),
    StableHlo.nullary main_cst_40 (constant S_ .f32 0x3F800000#32),
    StableHlo.unary main_cst_40 main_v316 (broadcastInDim S32x2048x64 ![] bcast_S_S32x2048x64 : Tn F S_ → Tn F S32x2048x64),
    StableHlo.binary main_v316 main_v315 main_v317 (Host.divf : Tn F S32x2048x64 → Tn F S32x2048x64 → Tn F S32x2048x64) ]
/-- `opsX3` touches TensorCore references only. -/
theorem opsX3_sub : (opsX3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- The references `opsX3` writes, in order. -/
abbrev opsX3_W : List (Ref sig .tc) := [main_v304, main_v305, main_v306, main_v307, main_v308, main_v309, main_v310, main_v311, main_v312, main_v313, main_cst_39, main_v314, main_v315, main_cst_40, main_v316, main_v317]
/-- Every write of `opsX3` is listed. -/
theorem opsX3_writes : (opsX3 : List (HloOp τ sig (Elt F))).Forall fun op => op.writes ⊆ (opsX3_W.map (Proc.devRef (τ := τ) .tc)).toFinset :=
  StableHlo.forall_writes_sub_of_map rfl

/-- What layer 3's scan starts from. -/
abbrev opsE3 : List (HloOp τ sig (Elt F)) := [
    StableHlo.unary main_v307 main_v318 ((transpose S2048x32x64 [1, 0, 2] · transposes_S32x2048x64_S2048x32x64_1_0_2) : Tn F S32x2048x64 → Tn F S2048x32x64),
    StableHlo.unary main_v317 main_v319 ((transpose S2048x32x64 [1, 0, 2] · transposes_S32x2048x64_S2048x32x64_1_0_2) : Tn F S32x2048x64 → Tn F S2048x32x64),
    StableHlo.nullary main_cst_41 (constant S_ .f32 0x00000000#32),
    StableHlo.unary main_cst_41 main_v320 (broadcastInDim S32x64 ![] bcast_S_S32x64 : Tn F S_ → Tn F S32x64),
    StableHlo.nullary main_cst_42 (constant S_ .f32 0x00000000#32),
    StableHlo.unary main_cst_42 main_v321 (broadcastInDim S2048x32x512 ![] bcast_S_S2048x32x512 : Tn F S_ → Tn F S2048x32x512),
    StableHlo.nullary main_c_43 (constantI S_ 32 0#32),
    StableHlo.unary main_v318 main_v322_0 id,
    StableHlo.unary main_v319 main_v322_1 id,
    StableHlo.unary main_v269 main_v322_2 id,
    StableHlo.unary main_v271 main_v322_3 id,
    StableHlo.unary main_c_43 main_v322_4 id,
    StableHlo.unary main_v320 main_v322_5 id,
    StableHlo.unary main_v321 main_v322_6 id ]
/-- `opsE3` touches TensorCore references only. -/
theorem opsE3_sub : (opsE3 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The references `opsE3` writes, in order. -/
abbrev opsE3_W : List (Ref sig .tc) := [main_v318, main_v319, main_cst_41, main_v320, main_cst_42, main_v321, main_c_43, main_v322_0, main_v322_1, main_v322_2, main_v322_3, main_v322_4, main_v322_5, main_v322_6]
/-- Every write of `opsE3` is listed. -/
theorem opsE3_writes : (opsE3 : List (HloOp τ sig (Elt F))).Forall fun op => op.writes ⊆ (opsE3_W.map (Proc.devRef (τ := τ) .tc)).toFinset :=
  StableHlo.forall_writes_sub_of_map rfl

/-- A step of layer 3's scan: the inputs. -/
abbrev opsB3a : List (HloOp τ sig (Elt F)) := [
    StableHlo.nullary main_while3b_call9_c (constantI S_ 32 0#32),
    StableHlo.nullary main_while3b_call9_c_0 (constantI S_ 32 0#32),
    StableHlo.TRef.unaryIndexed (.of main_v322_0 : StableHlo.TRef sig ⟨S2048x32x64, .f32⟩) ![(.of main_v322_4 : StableHlo.TRef sig ⟨S_, .i32⟩), .of main_while3b_call9_c, .of main_while3b_call9_c_0] (.of main_while3b_call9_v0 : StableHlo.TRef sig ⟨S1x32x64, .f32⟩) ((fun x i => Host.dynamicSlice S1x32x64 x (fun k => (i k (Shape.Idx.first h_S_)).toInt) sliceFits_S2048x32x64_S1x32x64)),
    StableHlo.reshape main_while3b_call9_v0 main_while3b_v412 (rfl : (.f32 : EltTy) = .f32) shapeCasts_S1x32x64_S32x64 ]
/-- `opsB3a` touches TensorCore references only. -/
theorem opsB3a_sub : (opsB3a : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB3a` writes, in order. -/
abbrev opsB3a_W : List (Ref sig .tc) := [main_while3b_call9_c, main_while3b_call9_c_0, main_while3b_call9_v0, main_while3b_v412]
/-- Every write of `opsB3a` is listed. -/
theorem opsB3a_writes : (opsB3a : List (HloOp τ sig (Elt F))).Forall fun op => op.writes ⊆ (opsB3a_W.map (Proc.devRef (τ := τ) .tc)).toFinset :=
  StableHlo.forall_writes_sub_of_map rfl

/-- A step of layer 3's scan: the decay. -/
abbrev opsB3b : List (HloOp τ sig (Elt F)) := [
    StableHlo.nullary main_while3b_call10_c (constantI S_ 32 0#32),
    StableHlo.nullary main_while3b_call10_c_0 (constantI S_ 32 0#32),
    StableHlo.TRef.unaryIndexed (.of main_v322_1 : StableHlo.TRef sig ⟨S2048x32x64, .f32⟩) ![(.of main_v322_4 : StableHlo.TRef sig ⟨S_, .i32⟩), .of main_while3b_call10_c, .of main_while3b_call10_c_0] (.of main_while3b_call10_v0 : StableHlo.TRef sig ⟨S1x32x64, .f32⟩) ((fun x i => Host.dynamicSlice S1x32x64 x (fun k => (i k (Shape.Idx.first h_S_)).toInt) sliceFits_S2048x32x64_S1x32x64)),
    StableHlo.reshape main_while3b_call10_v0 main_while3b_v413 (rfl : (.f32 : EltTy) = .f32) shapeCasts_S1x32x64_S32x64 ]
/-- `opsB3b` touches TensorCore references only. -/
theorem opsB3b_sub : (opsB3b : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references `opsB3b` writes, in order. -/
abbrev opsB3b_W : List (Ref sig .tc) := [main_while3b_call10_c, main_while3b_call10_c_0, main_while3b_call10_v0, main_while3b_v413]
/-- Every write of `opsB3b` is listed. -/
theorem opsB3b_writes : (opsB3b : List (HloOp τ sig (Elt F))).Forall fun op => op.writes ⊆ (opsB3b_W.map (Proc.devRef (τ := τ) .tc)).toFinset :=
  StableHlo.forall_writes_sub_of_map rfl

/-- A step of layer 3's scan: the new state and the output. -/
abbrev opsB3c : List (HloOp τ sig (Elt F)) := [
    StableHlo.nullary main_while3b_cst_70 (constant S_ .f32 0x3F800000#32),
    StableHlo.unary main_while3b_cst_70 main_while3b_v414 (broadcastInDim S32x64 ![] bcast_S_S32x64 : Tn F S_ → Tn F S32x64),
    StableHlo.binary main_while3b_v414 main_while3b_v413 main_while3b_v415 (subf : Tn F S32x64 → Tn F S32x64 → Tn F S32x64),
    StableHlo.binary main_while3b_v415 main_v322_5 main_while3b_v416 (mulf : Tn F S32x64 → Tn F S32x64 → Tn F S32x64),
    StableHlo.unary main_v322_2 main_while3b_v417 ((transpose S64x64 [1, 0] · transposes_S64x64_S64x64_1_0) : Tn F S64x64 → Tn F S64x64),
    StableHlo.binary main_v322_5 main_while3b_v417 main_while3b_v418 ((fun l r => Host.dotGeneral dot_S32x64_S64x64_S32x64_1_0_0_1_n_n none l r) : Tn F S32x64 → Tn F S64x64 → Tn F S32x64),
    StableHlo.binary main_while3b_v418 main_while3b_v412 main_while3b_v419 (addf : Tn F S32x64 → Tn F S32x64 → Tn F S32x64),
    StableHlo.binary main_while3b_v413 main_while3b_v419 main_while3b_v420 (mulf : Tn F S32x64 → Tn F S32x64 → Tn F S32x64),
    StableHlo.binary main_while3b_v416 main_while3b_v420 main_while3b_v421 (addf : Tn F S32x64 → Tn F S32x64 → Tn F S32x64),
    StableHlo.unary main_v322_3 main_while3b_v422 ((transpose S64x512 [1, 0] · transposes_S512x64_S64x512_1_0) : Tn F S512x64 → Tn F S64x512),
    StableHlo.binary main_while3b_v421 main_while3b_v422 main_while3b_v423 ((fun l r => Host.dotGeneral dot_S32x64_S64x512_S32x512_1_0_0_1_n_n none l r) : Tn F S32x64 → Tn F S64x512 → Tn F S32x512) ]
/-- `opsB3c` touches TensorCore references only. -/
theorem opsB3c_sub : (opsB3c : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- The references `opsB3c` writes, in order. -/
abbrev opsB3c_W : List (Ref sig .tc) := [main_while3b_cst_70, main_while3b_v414, main_while3b_v415, main_while3b_v416, main_while3b_v417, main_while3b_v418, main_while3b_v419, main_while3b_v420, main_while3b_v421, main_while3b_v422, main_while3b_v423]
/-- Every write of `opsB3c` is listed. -/
theorem opsB3c_writes : (opsB3c : List (HloOp τ sig (Elt F))).Forall fun op => op.writes ⊆ (opsB3c_W.map (Proc.devRef (τ := τ) .tc)).toFinset :=
  StableHlo.forall_writes_sub_of_map rfl

/-- A step of layer 3's scan: the write of the output. -/
abbrev opsB3d : List (HloOp τ sig (Elt F)) := [
    StableHlo.unary main_while3b_v423 main_while3b_call11_v0 (broadcastInDim S1x32x512 ![1, 2] bcast_S32x512_S1x32x512_1_2 : Tn F S32x512 → Tn F S1x32x512),
    StableHlo.nullary main_while3b_call11_c (constantI S_ 32 0#32),
    StableHlo.nullary main_while3b_call11_c_0 (constantI S_ 32 0#32),
    StableHlo.TRef.binaryIndexed (.of main_v322_6 : StableHlo.TRef sig ⟨S2048x32x512, .f32⟩) (.of main_while3b_call11_v0 : StableHlo.TRef sig ⟨S1x32x512, .f32⟩) ![(.of main_v322_4 : StableHlo.TRef sig ⟨S_, .i32⟩), .of main_while3b_call11_c, .of main_while3b_call11_c_0] (.of main_while3b_v424 : StableHlo.TRef sig ⟨S2048x32x512, .f32⟩) ((fun x u i => Host.dynamicUpdateSlice x u (fun k => (i k (Shape.Idx.first h_S_)).toInt) updateFits_S2048x32x512_S1x32x512)) ]
/-- `opsB3d` touches TensorCore references only. -/
theorem opsB3d_sub : (opsB3d : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The references `opsB3d` writes, in order. -/
abbrev opsB3d_W : List (Ref sig .tc) := [main_while3b_call11_v0, main_while3b_call11_c, main_while3b_call11_c_0, main_while3b_v424]
/-- Every write of `opsB3d` is listed. -/
theorem opsB3d_writes : (opsB3d : List (HloOp τ sig (Elt F))).Forall fun op => op.writes ⊆ (opsB3d_W.map (Proc.devRef (τ := τ) .tc)).toFinset :=
  StableHlo.forall_writes_sub_of_map rfl

/-- A step of layer 3's scan: the carried values. -/
abbrev opsB3e : List (HloOp τ sig (Elt F)) := [
    StableHlo.nullary main_while3b_c_71 (constantI S_ 32 1#32),
    StableHlo.binary main_v322_4 main_while3b_c_71 main_while3b_v425 (addi : Ti F S_ → Ti F S_ → Ti F S_),
    StableHlo.unary main_while3b_v425 main_v322_4 id,
    StableHlo.unary main_while3b_v421 main_v322_5 id,
    StableHlo.unary main_while3b_v424 main_v322_6 id ]
/-- `opsB3e` touches TensorCore references only. -/
theorem opsB3e_sub : (opsB3e : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The references `opsB3e` writes, in order. -/
abbrev opsB3e_W : List (Ref sig .tc) := [main_while3b_c_71, main_while3b_v425, main_v322_4, main_v322_5, main_v322_6]
/-- Every write of `opsB3e` is listed. -/
theorem opsB3e_writes : (opsB3e : List (HloOp τ sig (Elt F))).Forall fun op => op.writes ⊆ (opsB3e_W.map (Proc.devRef (τ := τ) .tc)).toFinset :=
  StableHlo.forall_writes_sub_of_map rfl
/-- A step of layer 3's scan. -/
abbrev opsB3 : List (List (HloOp τ sig (Elt F))) := [opsB3a, opsB3b, opsB3c, opsB3d, opsB3e]

/-- The test of layer 3's scan. -/
abbrev opsC3 : List (HloOp τ sig (Elt F)) := [
    StableHlo.nullary main_while3c_c_70 (constantI S_ 32 2048#32),
    StableHlo.binary main_v322_4 main_while3c_c_70 main_while3c_v412 (cmpi .slt : Ti F S_ → Ti F S_ → Tb F S_) ]
/-- `opsC3` touches TensorCore references only. -/
theorem opsC3_sub : (opsC3 : List (HloOp τ sig (Elt F))).Forall fun op => op.bufs ⊆ StableHlo.tcRefs τ sig :=
  ⟨StableHlo.nullary_bufs_sub .., StableHlo.binary_bufs_sub ..⟩
/-- The references `opsC3` writes, in order. -/
abbrev opsC3_W : List (Ref sig .tc) := [main_while3c_c_70, main_while3c_v412]
/-- Every write of `opsC3` is listed. -/
theorem opsC3_writes : (opsC3 : List (HloOp τ sig (Elt F))).Forall fun op => op.writes ⊆ (opsC3_W.map (Proc.devRef (τ := τ) .tc)).toFinset :=
  StableHlo.forall_writes_sub_of_map rfl

/-- Layer 3's gate, output product and residual. -/
abbrev opsG3 : List (HloOp τ sig (Elt F)) := [
    StableHlo.unary main_v322_6 main_v323 ((transpose S32x2048x512 [1, 0, 2] · transposes_S2048x32x512_S32x2048x512_1_0_2) : Tn F S2048x32x512 → Tn F S32x2048x512),
    StableHlo.binary main_v303 main_v273 main_v324 ((fun l r => Host.dotGeneral dot_S32x2048x512_S512x512_S32x2048x512_2_0_01_1_n_n none l r) : Tn F S32x2048x512 → Tn F S512x512 → Tn F S32x2048x512),
    StableHlo.unary main_v275 main_v325 (broadcastInDim S1x1x512 ![2] bcast_S512_S1x1x512_2 : Tn F S512 → Tn F S1x1x512),
    StableHlo.unary main_v325 main_v326 (broadcastInDim S32x2048x512 ![0, 1, 2] bcast_S1x1x512_S32x2048x512_0_1_2 : Tn F S1x1x512 → Tn F S32x2048x512),
    StableHlo.binary main_v324 main_v326 main_v327 (addf : Tn F S32x2048x512 → Tn F S32x2048x512 → Tn F S32x2048x512),
    StableHlo.unary main_v327 main_v328 (Host.negf : Tn F S32x2048x512 → Tn F S32x2048x512),
    StableHlo.unary main_v328 main_v329 (Host.exp : Tn F S32x2048x512 → Tn F S32x2048x512),
    StableHlo.nullary main_cst_44 (constant S_ .f32 0x3F800000#32),
    StableHlo.unary main_cst_44 main_v330 (broadcastInDim S32x2048x512 ![] bcast_S_S32x2048x512 : Tn F S_ → Tn F S32x2048x512),
    StableHlo.binary main_v330 main_v329 main_v331 (addf : Tn F S32x2048x512 → Tn F S32x2048x512 → Tn F S32x2048x512),
    StableHlo.nullary main_cst_45 (constant S_ .f32 0x3F800000#32),
    StableHlo.unary main_cst_45 main_v332 (broadcastInDim S32x2048x512 ![] bcast_S_S32x2048x512 : Tn F S_ → Tn F S32x2048x512),
    StableHlo.binary main_v332 main_v331 main_v333 (Host.divf : Tn F S32x2048x512 → Tn F S32x2048x512 → Tn F S32x2048x512),
    StableHlo.binary main_v333 main_v323 main_v334 (mulf : Tn F S32x2048x512 → Tn F S32x2048x512 → Tn F S32x2048x512),
    StableHlo.binary main_v334 main_v277 main_v335 ((fun l r => Host.dotGeneral dot_S32x2048x512_S512x512_S32x2048x512_2_0_01_1_n_n none l r) : Tn F S32x2048x512 → Tn F S512x512 → Tn F S32x2048x512),
    StableHlo.unary main_v279 main_v336 (broadcastInDim S1x1x512 ![2] bcast_S512_S1x1x512_2 : Tn F S512 → Tn F S1x1x512),
    StableHlo.unary main_v336 main_v337 (broadcastInDim S32x2048x512 ![0, 1, 2] bcast_S1x1x512_S32x2048x512_0_1_2 : Tn F S1x1x512 → Tn F S32x2048x512),
    StableHlo.binary main_v335 main_v337 main_v338 (addf : Tn F S32x2048x512 → Tn F S32x2048x512 → Tn F S32x2048x512),
    StableHlo.binary main_v338 main_v255 main_v339 (addf : Tn F S32x2048x512 → Tn F S32x2048x512 → Tn F S32x2048x512) ]
/-- `opsG3` touches TensorCore references only. -/
theorem opsG3_sub : (opsG3 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub ..⟩
/-- The references `opsG3` writes, in order. -/
abbrev opsG3_W : List (Ref sig .tc) := [main_v323, main_v324, main_v325, main_v326, main_v327, main_v328, main_v329, main_cst_44, main_v330, main_v331, main_cst_45, main_v332, main_v333, main_v334, main_v335, main_v336, main_v337, main_v338, main_v339]
/-- Every write of `opsG3` is listed. -/
theorem opsG3_writes : (opsG3 : List (HloOp τ sig (Elt F))).Forall fun op => op.writes ⊆ (opsG3_W.map (Proc.devRef (τ := τ) .tc)).toFinset :=
  StableHlo.forall_writes_sub_of_map rfl

end Cert.Ref
-- ==== Proof.RefOpsH.lean ====
module

public import proofs.«01_k».proof.Proof.RefOps0

@[expose] public section

set_option maxRecDepth 16384

noncomputable section

namespace Cert.Ref

open Idealize.ShloMosaic Idealize.ShloMosaic.TcCoe
open Cert.ReferenceIdeal Cert.ReferenceIdeal.Gen

variable {F : FTy → Type} [FloatOps F]

/-- The last time step, and its normalisation. -/
abbrev opsHL : List (HloOp τ sig (Elt F)) := [
    StableHlo.unary main_v339 main_v340 ((extractStridedSlice S32x1x512 ![0, 2047, 0] · slices_S32x2048x512_S32x1x512_0_2047_0) : Tn F S32x2048x512 → Tn F S32x1x512),
    StableHlo.reshape main_v340 main_v341 (rfl : (.f32 : EltTy) = .f32) shapeCasts_S32x1x512_S32x512,
    StableHlo.nullary main_cst_46 (constant S_ .f32 0x00000000#32),
    StableHlo.binary main_v341 main_cst_46 main_v342 ((fun x v => Host.reduceAdd x v reducesTo_S32x512_S32_d1 h_S_) : Tn F S32x512 → Tn F S_ → Tn F S32),
    StableHlo.unary main_v342 main_v343 (broadcastInDim S32x1 ![0] bcast_S32_S32x1_0 : Tn F S32 → Tn F S32x1),
    StableHlo.nullary main_cst_47 (constant S_ .f32 0x44000000#32),
    StableHlo.unary main_cst_47 main_v344 (broadcastInDim S32x1 ![] bcast_S_S32x1 : Tn F S_ → Tn F S32x1),
    StableHlo.binary main_v343 main_v344 main_v345 (Host.divf : Tn F S32x1 → Tn F S32x1 → Tn F S32x1),
    StableHlo.unary main_v345 main_v346 (broadcastInDim S32x512 ![0, 1] bcast_S32x1_S32x512_0_1 : Tn F S32x1 → Tn F S32x512),
    StableHlo.binary main_v341 main_v346 main_v347 (subf : Tn F S32x512 → Tn F S32x512 → Tn F S32x512),
    StableHlo.binary main_v347 main_v347 main_v348 (mulf : Tn F S32x512 → Tn F S32x512 → Tn F S32x512),
    StableHlo.nullary main_cst_48 (constant S_ .f32 0x00000000#32),
    StableHlo.binary main_v348 main_cst_48 main_v349 ((fun x v => Host.reduceAdd x v reducesTo_S32x512_S32_d1 h_S_) : Tn F S32x512 → Tn F S_ → Tn F S32),
    StableHlo.unary main_v349 main_v350 (broadcastInDim S32x1 ![0] bcast_S32_S32x1_0 : Tn F S32 → Tn F S32x1),
    StableHlo.nullary main_cst_49 (constant S_ .f32 0x44000000#32),
    StableHlo.unary main_cst_49 main_v351 (broadcastInDim S32x1 ![] bcast_S_S32x1 : Tn F S_ → Tn F S32x1),
    StableHlo.binary main_v350 main_v351 main_v352 (Host.divf : Tn F S32x1 → Tn F S32x1 → Tn F S32x1),
    StableHlo.unary main_v345 main_v353 (broadcastInDim S32x512 ![0, 1] bcast_S32x1_S32x512_0_1 : Tn F S32x1 → Tn F S32x512),
    StableHlo.binary main_v341 main_v353 main_v354 (subf : Tn F S32x512 → Tn F S32x512 → Tn F S32x512),
    StableHlo.nullary main_cst_50 (constant S_ .f32 0x3727C5AC#32),
    StableHlo.unary main_cst_50 main_v355 (broadcastInDim S32x1 ![] bcast_S_S32x1 : Tn F S_ → Tn F S32x1),
    StableHlo.binary main_v352 main_v355 main_v356 (addf : Tn F S32x1 → Tn F S32x1 → Tn F S32x1),
    StableHlo.unary main_v356 main_v357 (Host.sqrt : Tn F S32x1 → Tn F S32x1),
    StableHlo.unary main_v357 main_v358 (broadcastInDim S32x512 ![0, 1] bcast_S32x1_S32x512_0_1 : Tn F S32x1 → Tn F S32x512),
    StableHlo.binary main_v354 main_v358 main_v359 (Host.divf : Tn F S32x512 → Tn F S32x512 → Tn F S32x512),
    StableHlo.unary main_arg15 main_v360 (broadcastInDim S1x512 ![1] bcast_S512_S1x512_1 : Tn F S512 → Tn F S1x512),
    StableHlo.unary main_v360 main_v361 (broadcastInDim S32x512 ![0, 1] bcast_S1x512_S32x512_0_1 : Tn F S1x512 → Tn F S32x512),
    StableHlo.binary main_v359 main_v361 main_v362 (mulf : Tn F S32x512 → Tn F S32x512 → Tn F S32x512),
    StableHlo.unary main_arg16 main_v363 (broadcastInDim S1x512 ![1] bcast_S512_S1x512_1 : Tn F S512 → Tn F S1x512),
    StableHlo.unary main_v363 main_v364 (broadcastInDim S32x512 ![0, 1] bcast_S1x512_S32x512_0_1 : Tn F S1x512 → Tn F S32x512),
    StableHlo.binary main_v362 main_v364 main_v365 (addf : Tn F S32x512 → Tn F S32x512 → Tn F S32x512) ]
/-- `opsHL` touches TensorCore references only. -/
theorem opsHL_sub : (opsHL : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The references `opsHL` writes, in order. -/
abbrev opsHL_W : List (Ref sig .tc) := [main_v340, main_v341, main_cst_46, main_v342, main_v343, main_cst_47, main_v344, main_v345, main_v346, main_v347, main_v348, main_cst_48, main_v349, main_v350, main_cst_49, main_v351, main_v352, main_v353, main_v354, main_cst_50, main_v355, main_v356, main_v357, main_v358, main_v359, main_v360, main_v361, main_v362, main_v363, main_v364, main_v365]
/-- Every write of `opsHL` is listed. -/
theorem opsHL_writes : (opsHL : List (HloOp τ sig (Elt F))).Forall fun op => op.writes ⊆ (opsHL_W.map (Proc.devRef (τ := τ) .tc)).toFinset :=
  StableHlo.forall_writes_sub_of_map rfl

/-- The first product of the head. -/
abbrev opsHD : List (HloOp τ sig (Elt F)) := [
    StableHlo.binary main_v365 main_arg17 main_v366 ((fun l r => Host.dotGeneral dot_S32x512_S512x256_S32x256_1_0_0_1_n_n none l r) : Tn F S32x512 → Tn F S512x256 → Tn F S32x256),
    StableHlo.unary main_arg18 main_v367 (broadcastInDim S1x256 ![1] bcast_S256_S1x256_1 : Tn F S256 → Tn F S1x256),
    StableHlo.unary main_v367 main_v368 (broadcastInDim S32x256 ![0, 1] bcast_S1x256_S32x256_0_1 : Tn F S1x256 → Tn F S32x256),
    StableHlo.binary main_v366 main_v368 main_v369 (addf : Tn F S32x256 → Tn F S32x256 → Tn F S32x256) ]
/-- `opsHD` touches TensorCore references only. -/
theorem opsHD_sub : (opsHD : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- The references `opsHD` writes, in order. -/
abbrev opsHD_W : List (Ref sig .tc) := [main_v366, main_v367, main_v368, main_v369]
/-- Every write of `opsHD` is listed. -/
theorem opsHD_writes : (opsHD : List (HloOp τ sig (Elt F))).Forall fun op => op.writes ⊆ (opsHD_W.map (Proc.devRef (τ := τ) .tc)).toFinset :=
  StableHlo.forall_writes_sub_of_map rfl

/-- The gelu of the head, up to the sign. -/
abbrev opsHE : List (HloOp τ sig (Elt F)) := [
    StableHlo.nullary main_cst_51 (constant S_ .f32 0x3F000000#32),
    StableHlo.unary main_cst_51 main_v370 (broadcastInDim S32x256 ![] bcast_S_S32x256 : Tn F S_ → Tn F S32x256),
    StableHlo.binary main_v370 main_v369 main_v371 (mulf : Tn F S32x256 → Tn F S32x256 → Tn F S32x256),
    StableHlo.nullary main_cst_52 (constant S_ .f32 0x3F3504F3#32),
    StableHlo.unary main_cst_52 main_v372 (broadcastInDim S32x256 ![] bcast_S_S32x256 : Tn F S_ → Tn F S32x256),
    StableHlo.binary main_v369 main_v372 main_v373 (mulf : Tn F S32x256 → Tn F S32x256 → Tn F S32x256),
    StableHlo.unary main_v373 main_v374 (Host.absf : Tn F S32x256 → Tn F S32x256),
    StableHlo.nullary main_cst_53 (constant S_ .f32 0x3EA7BA05#32),
    StableHlo.unary main_cst_53 main_v375 (broadcastInDim S32x256 ![] bcast_S_S32x256 : Tn F S_ → Tn F S32x256),
    StableHlo.binary main_v375 main_v374 main_v376 (mulf : Tn F S32x256 → Tn F S32x256 → Tn F S32x256),
    StableHlo.nullary main_cst_54 (constant S_ .f32 0x3F800000#32),
    StableHlo.unary main_cst_54 main_v377 (broadcastInDim S32x256 ![] bcast_S_S32x256 : Tn F S_ → Tn F S32x256),
    StableHlo.binary main_v377 main_v376 main_v378 (addf : Tn F S32x256 → Tn F S32x256 → Tn F S32x256),
    StableHlo.nullary main_cst_55 (constant S_ .f32 0x3F800000#32),
    StableHlo.unary main_cst_55 main_v379 (broadcastInDim S32x256 ![] bcast_S_S32x256 : Tn F S_ → Tn F S32x256),
    StableHlo.binary main_v379 main_v378 main_v380 (Host.divf : Tn F S32x256 → Tn F S32x256 → Tn F S32x256),
    StableHlo.nullary main_cst_56 (constant S_ .f32 0x3F87DC22#32),
    StableHlo.unary main_cst_56 main_v381 (broadcastInDim S32x256 ![] bcast_S_S32x256 : Tn F S_ → Tn F S32x256),
    StableHlo.binary main_v380 main_v381 main_v382 (mulf : Tn F S32x256 → Tn F S32x256 → Tn F S32x256),
    StableHlo.nullary main_cst_57 (constant S_ .f32 0xBFBA00E3#32),
    StableHlo.unary main_cst_57 main_v383 (broadcastInDim S32x256 ![] bcast_S_S32x256 : Tn F S_ → Tn F S32x256),
    StableHlo.binary main_v383 main_v382 main_v384 (addf : Tn F S32x256 → Tn F S32x256 → Tn F S32x256),
    StableHlo.binary main_v380 main_v384 main_v385 (mulf : Tn F S32x256 → Tn F S32x256 → Tn F S32x256),
    StableHlo.nullary main_cst_58 (constant S_ .f32 0x3FB5F0E3#32),
    StableHlo.unary main_cst_58 main_v386 (broadcastInDim S32x256 ![] bcast_S_S32x256 : Tn F S_ → Tn F S32x256),
    StableHlo.binary main_v386 main_v385 main_v387 (addf : Tn F S32x256 → Tn F S32x256 → Tn F S32x256),
    StableHlo.binary main_v380 main_v387 main_v388 (mulf : Tn F S32x256 → Tn F S32x256 → Tn F S32x256),
    StableHlo.nullary main_cst_59 (constant S_ .f32 0xBE91A98E#32),
    StableHlo.unary main_cst_59 main_v389 (broadcastInDim S32x256 ![] bcast_S_S32x256 : Tn F S_ → Tn F S32x256),
    StableHlo.binary main_v389 main_v388 main_v390 (addf : Tn F S32x256 → Tn F S32x256 → Tn F S32x256),
    StableHlo.binary main_v380 main_v390 main_v391 (mulf : Tn F S32x256 → Tn F S32x256 → Tn F S32x256),
    StableHlo.nullary main_cst_60 (constant S_ .f32 0x3E827906#32),
    StableHlo.unary main_cst_60 main_v392 (broadcastInDim S32x256 ![] bcast_S_S32x256 : Tn F S_ → Tn F S32x256),
    StableHlo.binary main_v392 main_v391 main_v393 (addf : Tn F S32x256 → Tn F S32x256 → Tn F S32x256),
    StableHlo.binary main_v380 main_v393 main_v394 (mulf : Tn F S32x256 → Tn F S32x256 → Tn F S32x256),
    StableHlo.unary main_v374 main_v395 (Host.negf : Tn F S32x256 → Tn F S32x256),
    StableHlo.binary main_v395 main_v374 main_v396 (mulf : Tn F S32x256 → Tn F S32x256 → Tn F S32x256),
    StableHlo.unary main_v396 main_v397 (Host.exp : Tn F S32x256 → Tn F S32x256),
    StableHlo.binary main_v394 main_v397 main_v398 (mulf : Tn F S32x256 → Tn F S32x256 → Tn F S32x256),
    StableHlo.nullary main_cst_61 (constant S_ .f32 0x3F800000#32),
    StableHlo.unary main_cst_61 main_v399 (broadcastInDim S32x256 ![] bcast_S_S32x256 : Tn F S_ → Tn F S32x256),
    StableHlo.binary main_v399 main_v398 main_v400 (subf : Tn F S32x256 → Tn F S32x256 → Tn F S32x256),
    StableHlo.nullary main_cst_62 (constant S_ .f32 0x00000000#32),
    StableHlo.unary main_cst_62 main_v401 (broadcastInDim S32x256 ![] bcast_S_S32x256 : Tn F S_ → Tn F S32x256),
    StableHlo.binary main_v373 main_v401 main_v402 (cmpf .olt : Tn F S32x256 → Tn F S32x256 → Tb F S32x256),
    StableHlo.unary main_v400 main_v403 (Host.negf : Tn F S32x256 → Tn F S32x256) ]
/-- `opsHE` touches TensorCore references only. -/
theorem opsHE_sub : (opsHE : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub ..⟩
/-- The references `opsHE` writes, in order. -/
abbrev opsHE_W : List (Ref sig .tc) := [main_cst_51, main_v370, main_v371, main_cst_52, main_v372, main_v373, main_v374, main_cst_53, main_v375, main_v376, main_cst_54, main_v377, main_v378, main_cst_55, main_v379, main_v380, main_cst_56, main_v381, main_v382, main_cst_57, main_v383, main_v384, main_v385, main_cst_58, main_v386, main_v387, main_v388, main_cst_59, main_v389, main_v390, main_v391, main_cst_60, main_v392, main_v393, main_v394, main_v395, main_v396, main_v397, main_v398, main_cst_61, main_v399, main_v400, main_cst_62, main_v401, main_v402, main_v403]
/-- Every write of `opsHE` is listed. -/
theorem opsHE_writes : (opsHE : List (HloOp τ sig (Elt F))).Forall fun op => op.writes ⊆ (opsHE_W.map (Proc.devRef (τ := τ) .tc)).toFinset :=
  StableHlo.forall_writes_sub_of_map rfl

/-- The sign of the head. -/
abbrev opsHS : List (HloOp τ sig (Elt F)) := [
    StableHlo.ternary main_v402 main_v403 main_v400 main_v404 (select : Tb F S32x256 → Tn F S32x256 → Tn F S32x256 → Tn F S32x256) ]
/-- `opsHS` touches TensorCore references only. -/
theorem opsHS_sub : (opsHS : List (HloOp τ sig (Elt F))).Forall fun op => op.bufs ⊆ StableHlo.tcRefs τ sig :=
  StableHlo.ternary_bufs_sub ..
/-- The references `opsHS` writes, in order. -/
abbrev opsHS_W : List (Ref sig .tc) := [main_v404]
/-- Every write of `opsHS` is listed. -/
theorem opsHS_writes : (opsHS : List (HloOp τ sig (Elt F))).Forall fun op => op.writes ⊆ (opsHS_W.map (Proc.devRef (τ := τ) .tc)).toFinset :=
  StableHlo.forall_writes_sub_of_map rfl

/-- The gelu of the head, after the sign. -/
abbrev opsHG : List (HloOp τ sig (Elt F)) := [
    StableHlo.nullary main_cst_63 (constant S_ .f32 0x3F800000#32),
    StableHlo.unary main_cst_63 main_v405 (broadcastInDim S32x256 ![] bcast_S_S32x256 : Tn F S_ → Tn F S32x256),
    StableHlo.binary main_v405 main_v404 main_v406 (addf : Tn F S32x256 → Tn F S32x256 → Tn F S32x256),
    StableHlo.binary main_v371 main_v406 main_v407 (mulf : Tn F S32x256 → Tn F S32x256 → Tn F S32x256) ]
/-- `opsHG` touches TensorCore references only. -/
theorem opsHG_sub : (opsHG : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- The references `opsHG` writes, in order. -/
abbrev opsHG_W : List (Ref sig .tc) := [main_cst_63, main_v405, main_v406, main_v407]
/-- Every write of `opsHG` is listed. -/
theorem opsHG_writes : (opsHG : List (HloOp τ sig (Elt F))).Forall fun op => op.writes ⊆ (opsHG_W.map (Proc.devRef (τ := τ) .tc)).toFinset :=
  StableHlo.forall_writes_sub_of_map rfl

/-- The second product of the head. -/
abbrev opsHF : List (HloOp τ sig (Elt F)) := [
    StableHlo.binary main_v407 main_arg19 main_v408 ((fun l r => Host.dotGeneral dot_S32x256_S256x1_S32x1_1_0_0_1_n_n none l r) : Tn F S32x256 → Tn F S256x1 → Tn F S32x1),
    StableHlo.unary main_arg20 main_v409 (broadcastInDim S1x1 ![1] bcast_S1_S1x1_1 : Tn F S1 → Tn F S1x1),
    StableHlo.unary main_v409 main_v410 (broadcastInDim S32x1 ![0, 1] bcast_S1x1_S32x1_0_1 : Tn F S1x1 → Tn F S32x1),
    StableHlo.binary main_v408 main_v410 main_v411 (addf : Tn F S32x1 → Tn F S32x1 → Tn F S32x1) ]
/-- `opsHF` touches TensorCore references only. -/
theorem opsHF_sub : (opsHF : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- The references `opsHF` writes, in order. -/
abbrev opsHF_W : List (Ref sig .tc) := [main_v408, main_v409, main_v410, main_v411]
/-- Every write of `opsHF` is listed. -/
theorem opsHF_writes : (opsHF : List (HloOp τ sig (Elt F))).Forall fun op => op.writes ⊆ (opsHF_W.map (Proc.devRef (τ := τ) .tc)).toFinset :=
  StableHlo.forall_writes_sub_of_map rfl

end Cert.Ref
-- ==== Proof.RefLoop.lean ====
module

public import proofs.«01_k».proof.Proof.RefOps0
public import proofs.«01_k».proof.Proof.RefOps1
public import proofs.«01_k».proof.Proof.RefOps2
public import proofs.«01_k».proof.Proof.RefOps3
public import proofs.«01_k».proof.Proof.RefOpsH
public import Idealize.ShloMosaic.Lib.Pipeline.RegionsLoop
public import Idealize.ShloMosaic.Lib.Pipeline.RegionsOwned
public import Idealize.ShloMosaic.Lib.StableHlo.RunLoop
public import Idealize.ShloMosaic.Lib.Scf.ExitTest
public import Idealize.ShloMosaic.Lib.Scf.Counter

@[expose] public section

set_option maxRecDepth 16384

noncomputable section

namespace Cert.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.StableHlo
open Idealize.ShloMosaic.Pipeline (ucRefs sub_ucRefs)

variable {F : FTy → Type} [FloatOps F]

/-- The ghost state: no call of this program is a kernel's, so nothing in it is used. -/
abbrev MR (F : FTy → Type) := MT nD τ sig Unit (Elt F) ℕ (Option PUnit) ℕ
/-- No call, so nothing is admitted. -/
abbrev admR : (p : Fin 0) → (pcfgs (F := F) p).Adm := fun p => p.elim0
/-- No call, so no ticket. -/
abbrev tkR : Fin 0 → Pipeline.Ticket (Ix := Unit) (Name := ℕ) (U := Option PUnit) (Lvl := ℕ) (nD := nD) (τ := τ) (pcfgs (F := F)) admR := fun j => j.elim0
/-- No level. -/
abbrev LR : GSem nD τ sig → Finset Unit := fun _ => ∅
/-- No level. -/
abbrev lvR : GSem nD τ sig → Unit → ℕ := fun _ _ => 0
/-- What rides beside the buffers: the core owes nothing. -/
abbrev RwR (c : Dev nD) : sProp (MR F) := iprop(∃ W, owes (c : Thread nD τ) (0 : CellTallies nD τ sig Unit) W)

/-- The type of a loop's test. -/
abbrev CondProg (F : FTy → Type) [FloatOps F] := Prog (TpuEff nD τ sig (Elt F) (HostLoop.Sig (Pipeline.Sig Λ₀ (Fin 0) fun p => (pcfgs (F := F) p).Adm) 4) .tc) (Elt F .i1)

set_option backward.isDefEq.respectTransparency.types false in
/-- A test of two operations, the second's result read as a truth value, which at the `k`-th trip is true exactly below
    `n`: the specification that the loop's rule asks for. -/
theorem condOf (op1 op2 : HloOp τ sig (Elt F)) (h1 : op1.bufs ⊆ tcRefs τ sig) (h2 : op2.bufs ⊆ tcRefs τ sig)
    (f1 : op1.fresh = ∅) (f2 : op2.fresh = ∅)
    (kk : ((b : op2.writes) → b.1.ty.Contents (Elt F)) → CondProg F)
    (val : ((b : op2.writes) → b.1.ty.Contents (Elt F)) → Elt F .i1) (hkk : ∀ w, kk w = .ret (val w))
    (bodyI : List (List (HloOp τ sig (Elt F)))) (W₀ : Dev nD → Valuation τ sig (Elt F)) (n : ℕ)
    (hv : ∀ k ≤ n, ∀ c, (val (op2.fn fun b => op1.result (atTrip [op1, op2] bodyI W₀ k c) b.1) = 1#1 ↔ k < n)) :
    LoopCond (Ix := Unit) (Name := ℕ) (U := Option PUnit) (Lvl := ℕ) (pcfgs (F := F)) defs₀ Variants.none loops RwR
      ((hlo rfl op1 (fun _ => .ret ⟨⟩) : Prog _ PUnit) >>= fun _ => hlo rfl op2 kk) [op1, op2] bodyI W₀ n := by
  intro k hk c bd
  have hvk := hv k hk c
  rw [wp_bind]
  iintro ⟨Hb, Hh, HR⟩
  iapply (wp_hlo_within (Variants.lift Variants.none) (c : Thread nD τ) bd Set.univ (sub_ucRefs _ h1) f1) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ h2) f2) $$ [Hb Hh]
  · isplitl [Hb]; · iexact Hb
    iexact Hh
  iintro ⟨Hb, Hh⟩
  rw [hkk, wp_ret]; imodintro
  isplitr
  · ipureintro
    exact hvk
  isplitl [Hb]; · iexact Hb
  isplitl [Hh]; · rw [after_cons, after_cons, after_nil]; iexact Hh
  iexact HR

/-- A counter which starts at zero, which the test leaves alone and which the body moves on by one, holds `k` before the
    `k`-th test. -/
theorem ctrOf (condOps : List (HloOp τ sig (Elt F))) (body : List (List (HloOp τ sig (Elt F)))) (rd : Valuation τ sig (Elt F) → IVec S_ 32)
    (hc : ∀ V, rd (after condOps V) = rd V) (hb : ∀ V, rd (afterL body V) = addi (rd V) (constantI S_ 32 1#32))
    (W₀ : Dev nD → Valuation τ sig (Elt F)) (h0 : ∀ c, rd (W₀ c) = fun _ => 0#32) (c : Dev nD) :
    ∀ k, rd (atTrip condOps body W₀ k c) = fun _ => Scf.iv 0#32 1#32 k
  | 0 => by rw [show atTrip condOps body W₀ 0 c = W₀ c from rfl, h0, Scf.iv_zero]
  | k + 1 => by
    rw [show atTrip condOps body W₀ (k + 1) c = afterL body (after condOps (atTrip condOps body W₀ k c)) from rfl]
    rw [hb, hc, ctrOf condOps body rd hc hb W₀ h0 c k, Scf.iv_succ]
    rfl

end Cert.Ref
-- ==== Proof.RefScan.lean ====
module

public import proofs.«01_k».proof.Proof.RefLoop

@[expose] public section

set_option maxRecDepth 16384

noncomputable section

namespace Cert.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.StableHlo
open Idealize.ShloMosaic.Pipeline (ucRefs sub_ucRefs)

variable {F : FTy → Type} [FloatOps F]

/-! ## Layer 0's scan -/

/-- The body is its stretch of operations. -/
theorem body0 : main_while0_body (F := F) = Pipeline.chain ((opsB0 : List (List (HloOp τ sig (Elt F)))).map fun ops => (seq ops : Prog _ PUnit)) := by
  unfold main_while0_body; chain_rfl
/-- The body moves the counter on by one. -/
theorem ctrStep0 (V : Valuation τ sig (Elt F)) : afterL opsB0 V (Proc.devRef .tc main_v70_4) = addi (V (Proc.devRef .tc main_v70_4)) (constantI S_ 32 1#32) := by
  simp only [afterL_cons, afterL_nil]; after_results; rfl
/-- The counter before the `k`-th test. -/
theorem ctrAt0 (W₀ : Dev nD → Valuation τ sig (Elt F)) (h0 : ∀ c, W₀ c (Proc.devRef .tc main_v70_4) = fun _ => 0#32) (c : Dev nD) (k : ℕ) :
    atTrip opsC0 opsB0 W₀ k c (Proc.devRef .tc main_v70_4) = fun _ => Scf.iv 0#32 1#32 k :=
  ctrOf opsC0 opsB0 (fun V => V (Proc.devRef .tc main_v70_4)) (fun V => after_of_writes_sub opsC0 V opsC0_writes (by decide)) ctrStep0 W₀ h0 c k
/-- The test passes exactly below 2048. -/
theorem cond0 (W₀ : Dev nD → Valuation τ sig (Elt F)) (h0 : ∀ c, W₀ c (Proc.devRef .tc main_v70_4) = fun _ => 0#32) :
    LoopCond (Ix := Unit) (Name := ℕ) (U := Option PUnit) (Lvl := ℕ) (pcfgs (F := F)) defs₀ Variants.none loops RwR (main_while0_cond (F := F)) opsC0 opsB0 W₀ 2048 :=
  condOf _ _ (nullary_bufs_sub ..) (binary_bufs_sub ..) rfl rfl (HostLoop.elt main_while0c_v412) (fun w => w ⟨_, Finset.mem_singleton_self _⟩ HostLoop.idx0) (fun _ => rfl) opsB0 W₀ 2048
    (fun k hk c => by
      have hctr := ctrAt0 W₀ h0 c k
      show Iff (IntOp.cmpi .slt (HloOp.result _ (atTrip opsC0 opsB0 W₀ k c) (Proc.devRef .tc main_v70_4) HostLoop.idx0)
        (HloOp.result _ (atTrip opsC0 opsB0 W₀ k c) (Proc.devRef .tc main_while0c_c_70) HostLoop.idx0) = 1#1) (k < 2048)
      rw [nullary_result_ne _ _ _ _ (by decide), nullary_result, hctr]
      exact Scf.cmpi_slt_iv_ub_iff (lb := 0#32) (ub := 2048#32) (st := 1#32) (by decide) (show k ≤ Scf.trips 0#32 2048#32 1#32 from hk))
/-- The scan starts with the counter at zero. -/
theorem ctrStart0 (V : Valuation τ sig (Elt F)) : after opsE0 V (Proc.devRef .tc main_v70_4) = fun _ => (0#32 : BitVec 32) := by
  after_results; rfl

/-! ## Layer 1's scan -/

/-- The body is its stretch of operations. -/
theorem body1 : main_while1_body (F := F) = Pipeline.chain ((opsB1 : List (List (HloOp τ sig (Elt F)))).map fun ops => (seq ops : Prog _ PUnit)) := by
  unfold main_while1_body; chain_rfl
/-- The body moves the counter on by one. -/
theorem ctrStep1 (V : Valuation τ sig (Elt F)) : afterL opsB1 V (Proc.devRef .tc main_v154_4) = addi (V (Proc.devRef .tc main_v154_4)) (constantI S_ 32 1#32) := by
  simp only [afterL_cons, afterL_nil]; after_results; rfl
/-- The counter before the `k`-th test. -/
theorem ctrAt1 (W₀ : Dev nD → Valuation τ sig (Elt F)) (h0 : ∀ c, W₀ c (Proc.devRef .tc main_v154_4) = fun _ => 0#32) (c : Dev nD) (k : ℕ) :
    atTrip opsC1 opsB1 W₀ k c (Proc.devRef .tc main_v154_4) = fun _ => Scf.iv 0#32 1#32 k :=
  ctrOf opsC1 opsB1 (fun V => V (Proc.devRef .tc main_v154_4)) (fun V => after_of_writes_sub opsC1 V opsC1_writes (by decide)) ctrStep1 W₀ h0 c k
/-- The test passes exactly below 2048. -/
theorem cond1 (W₀ : Dev nD → Valuation τ sig (Elt F)) (h0 : ∀ c, W₀ c (Proc.devRef .tc main_v154_4) = fun _ => 0#32) :
    LoopCond (Ix := Unit) (Name := ℕ) (U := Option PUnit) (Lvl := ℕ) (pcfgs (F := F)) defs₀ Variants.none loops RwR (main_while1_cond (F := F)) opsC1 opsB1 W₀ 2048 :=
  condOf _ _ (nullary_bufs_sub ..) (binary_bufs_sub ..) rfl rfl (HostLoop.elt main_while1c_v412) (fun w => w ⟨_, Finset.mem_singleton_self _⟩ HostLoop.idx0) (fun _ => rfl) opsB1 W₀ 2048
    (fun k hk c => by
      have hctr := ctrAt1 W₀ h0 c k
      show Iff (IntOp.cmpi .slt (HloOp.result _ (atTrip opsC1 opsB1 W₀ k c) (Proc.devRef .tc main_v154_4) HostLoop.idx0)
        (HloOp.result _ (atTrip opsC1 opsB1 W₀ k c) (Proc.devRef .tc main_while1c_c_70) HostLoop.idx0) = 1#1) (k < 2048)
      rw [nullary_result_ne _ _ _ _ (by decide), nullary_result, hctr]
      exact Scf.cmpi_slt_iv_ub_iff (lb := 0#32) (ub := 2048#32) (st := 1#32) (by decide) (show k ≤ Scf.trips 0#32 2048#32 1#32 from hk))
/-- The scan starts with the counter at zero. -/
theorem ctrStart1 (V : Valuation τ sig (Elt F)) : after opsE1 V (Proc.devRef .tc main_v154_4) = fun _ => (0#32 : BitVec 32) := by
  after_results; rfl

/-! ## Layer 2's scan -/

/-- The body is its stretch of operations. -/
theorem body2 : main_while2_body (F := F) = Pipeline.chain ((opsB2 : List (List (HloOp τ sig (Elt F)))).map fun ops => (seq ops : Prog _ PUnit)) := by
  unfold main_while2_body; chain_rfl
/-- The body moves the counter on by one. -/
theorem ctrStep2 (V : Valuation τ sig (Elt F)) : afterL opsB2 V (Proc.devRef .tc main_v238_4) = addi (V (Proc.devRef .tc main_v238_4)) (constantI S_ 32 1#32) := by
  simp only [afterL_cons, afterL_nil]; after_results; rfl
/-- The counter before the `k`-th test. -/
theorem ctrAt2 (W₀ : Dev nD → Valuation τ sig (Elt F)) (h0 : ∀ c, W₀ c (Proc.devRef .tc main_v238_4) = fun _ => 0#32) (c : Dev nD) (k : ℕ) :
    atTrip opsC2 opsB2 W₀ k c (Proc.devRef .tc main_v238_4) = fun _ => Scf.iv 0#32 1#32 k :=
  ctrOf opsC2 opsB2 (fun V => V (Proc.devRef .tc main_v238_4)) (fun V => after_of_writes_sub opsC2 V opsC2_writes (by decide)) ctrStep2 W₀ h0 c k
/-- The test passes exactly below 2048. -/
theorem cond2 (W₀ : Dev nD → Valuation τ sig (Elt F)) (h0 : ∀ c, W₀ c (Proc.devRef .tc main_v238_4) = fun _ => 0#32) :
    LoopCond (Ix := Unit) (Name := ℕ) (U := Option PUnit) (Lvl := ℕ) (pcfgs (F := F)) defs₀ Variants.none loops RwR (main_while2_cond (F := F)) opsC2 opsB2 W₀ 2048 :=
  condOf _ _ (nullary_bufs_sub ..) (binary_bufs_sub ..) rfl rfl (HostLoop.elt main_while2c_v412) (fun w => w ⟨_, Finset.mem_singleton_self _⟩ HostLoop.idx0) (fun _ => rfl) opsB2 W₀ 2048
    (fun k hk c => by
      have hctr := ctrAt2 W₀ h0 c k
      show Iff (IntOp.cmpi .slt (HloOp.result _ (atTrip opsC2 opsB2 W₀ k c) (Proc.devRef .tc main_v238_4) HostLoop.idx0)
        (HloOp.result _ (atTrip opsC2 opsB2 W₀ k c) (Proc.devRef .tc main_while2c_c_70) HostLoop.idx0) = 1#1) (k < 2048)
      rw [nullary_result_ne _ _ _ _ (by decide), nullary_result, hctr]
      exact Scf.cmpi_slt_iv_ub_iff (lb := 0#32) (ub := 2048#32) (st := 1#32) (by decide) (show k ≤ Scf.trips 0#32 2048#32 1#32 from hk))
/-- The scan starts with the counter at zero. -/
theorem ctrStart2 (V : Valuation τ sig (Elt F)) : after opsE2 V (Proc.devRef .tc main_v238_4) = fun _ => (0#32 : BitVec 32) := by
  after_results; rfl

/-! ## Layer 3's scan -/

/-- The body is its stretch of operations. -/
theorem body3 : main_while3_body (F := F) = Pipeline.chain ((opsB3 : List (List (HloOp τ sig (Elt F)))).map fun ops => (seq ops : Prog _ PUnit)) := by
  unfold main_while3_body; chain_rfl
/-- The body moves the counter on by one. -/
theorem ctrStep3 (V : Valuation τ sig (Elt F)) : afterL opsB3 V (Proc.devRef .tc main_v322_4) = addi (V (Proc.devRef .tc main_v322_4)) (constantI S_ 32 1#32) := by
  simp only [afterL_cons, afterL_nil]; after_results; rfl
/-- The counter before the `k`-th test. -/
theorem ctrAt3 (W₀ : Dev nD → Valuation τ sig (Elt F)) (h0 : ∀ c, W₀ c (Proc.devRef .tc main_v322_4) = fun _ => 0#32) (c : Dev nD) (k : ℕ) :
    atTrip opsC3 opsB3 W₀ k c (Proc.devRef .tc main_v322_4) = fun _ => Scf.iv 0#32 1#32 k :=
  ctrOf opsC3 opsB3 (fun V => V (Proc.devRef .tc main_v322_4)) (fun V => after_of_writes_sub opsC3 V opsC3_writes (by decide)) ctrStep3 W₀ h0 c k
/-- The test passes exactly below 2048. -/
theorem cond3 (W₀ : Dev nD → Valuation τ sig (Elt F)) (h0 : ∀ c, W₀ c (Proc.devRef .tc main_v322_4) = fun _ => 0#32) :
    LoopCond (Ix := Unit) (Name := ℕ) (U := Option PUnit) (Lvl := ℕ) (pcfgs (F := F)) defs₀ Variants.none loops RwR (main_while3_cond (F := F)) opsC3 opsB3 W₀ 2048 :=
  condOf _ _ (nullary_bufs_sub ..) (binary_bufs_sub ..) rfl rfl (HostLoop.elt main_while3c_v412) (fun w => w ⟨_, Finset.mem_singleton_self _⟩ HostLoop.idx0) (fun _ => rfl) opsB3 W₀ 2048
    (fun k hk c => by
      have hctr := ctrAt3 W₀ h0 c k
      show Iff (IntOp.cmpi .slt (HloOp.result _ (atTrip opsC3 opsB3 W₀ k c) (Proc.devRef .tc main_v322_4) HostLoop.idx0)
        (HloOp.result _ (atTrip opsC3 opsB3 W₀ k c) (Proc.devRef .tc main_while3c_c_70) HostLoop.idx0) = 1#1) (k < 2048)
      rw [nullary_result_ne _ _ _ _ (by decide), nullary_result, hctr]
      exact Scf.cmpi_slt_iv_ub_iff (lb := 0#32) (ub := 2048#32) (st := 1#32) (by decide) (show k ≤ Scf.trips 0#32 2048#32 1#32 from hk))
/-- The scan starts with the counter at zero. -/
theorem ctrStart3 (V : Valuation τ sig (Elt F)) : after opsE3 V (Proc.devRef .tc main_v322_4) = fun _ => (0#32 : BitVec 32) := by
  after_results; rfl

end Cert.Ref
-- ==== Proof.RefRun.lean ====
module

public import proofs.«01_k».proof.Proof.RefScan

@[expose] public section

set_option maxRecDepth 16384

noncomputable section

namespace Cert.Ref

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.StableHlo
open Idealize.ShloMosaic.Pipeline (ucRefs sub_ucRefs)

variable {F : FTy → Type} [FloatOps F]

variable (m : (ℓ : Loc nD τ sig) → Buf (Elt F) ℓ)

/-- The buffers at launch. -/
abbrev R0 (c : Dev nD) : Valuation τ sig (Elt F) := fun b => m (c, b)
/-- Everything up to the first scan. -/
abbrev pre0 : List (List (HloOp τ sig (Elt F))) := [opsP, opsW0, opsN0, opsX0, opsE0]
/-- Between scan 0 and scan 1. -/
abbrev pre1 : List (List (HloOp τ sig (Elt F))) := [opsG0, opsW1, opsN1, opsX1, opsE1]
/-- Between scan 1 and scan 2. -/
abbrev pre2 : List (List (HloOp τ sig (Elt F))) := [opsG1, opsW2, opsN2, opsX2, opsE2]
/-- Between scan 2 and scan 3. -/
abbrev pre3 : List (List (HloOp τ sig (Elt F))) := [opsG2, opsW3, opsN3, opsX3, opsE3]
/-- After the last scan. -/
abbrev pre4 : List (List (HloOp τ sig (Elt F))) := [opsG3, opsHL, opsHD, opsHE, opsHS, opsHG, opsHF]
theorem pre0_plain : Plain (pre0 (F := F)) := .cons opsP_sub (.cons opsW0_sub (.cons opsN0_sub (.cons opsX0_sub (.cons opsE0_sub .nil))))
theorem pre1_plain : Plain (pre1 (F := F)) := .cons opsG0_sub (.cons opsW1_sub (.cons opsN1_sub (.cons opsX1_sub (.cons opsE1_sub .nil))))
theorem pre2_plain : Plain (pre2 (F := F)) := .cons opsG1_sub (.cons opsW2_sub (.cons opsN2_sub (.cons opsX2_sub (.cons opsE2_sub .nil))))
theorem pre3_plain : Plain (pre3 (F := F)) := .cons opsG2_sub (.cons opsW3_sub (.cons opsN3_sub (.cons opsX3_sub (.cons opsE3_sub .nil))))
theorem pre4_plain : Plain (pre4 (F := F)) := .cons opsG3_sub (.cons opsHL_sub (.cons opsHD_sub (.cons opsHE_sub (.cons opsHS_sub (.cons opsHG_sub (.cons opsHF_sub .nil))))))
theorem body0_plain : Plain (opsB0 (F := F)) := .cons opsB0a_sub (.cons opsB0b_sub (.cons opsB0c_sub (.cons opsB0d_sub (.cons opsB0e_sub .nil))))
theorem body1_plain : Plain (opsB1 (F := F)) := .cons opsB1a_sub (.cons opsB1b_sub (.cons opsB1c_sub (.cons opsB1d_sub (.cons opsB1e_sub .nil))))
theorem body2_plain : Plain (opsB2 (F := F)) := .cons opsB2a_sub (.cons opsB2b_sub (.cons opsB2c_sub (.cons opsB2d_sub (.cons opsB2e_sub .nil))))
theorem body3_plain : Plain (opsB3 (F := F)) := .cons opsB3a_sub (.cons opsB3b_sub (.cons opsB3c_sub (.cons opsB3d_sub (.cons opsB3e_sub .nil))))

/-- The buffers when scan 0 is entered. -/
def E0 (c : Dev nD) : Valuation τ sig (Elt F) := afterL pre0 (R0 m c)
/-- The buffers when scan 0 is left. -/
def X0 (c : Dev nD) : Valuation τ sig (Elt F) := after opsC0 (atTrip opsC0 opsB0 (E0 m) 2048 c)
/-- Scan 0 is entered with its counter at zero. -/
theorem E0_ctr (c : Dev nD) : E0 m c (Proc.devRef .tc main_v70_4) = fun _ => 0#32 := by
  unfold E0; simp only [afterL_cons, afterL_nil]; exact ctrStart0 _

/-- The buffers when scan 1 is entered. -/
def E1 (c : Dev nD) : Valuation τ sig (Elt F) := afterL pre1 (X0 m c)
/-- The buffers when scan 1 is left. -/
def X1 (c : Dev nD) : Valuation τ sig (Elt F) := after opsC1 (atTrip opsC1 opsB1 (E1 m) 2048 c)
/-- Scan 1 is entered with its counter at zero. -/
theorem E1_ctr (c : Dev nD) : E1 m c (Proc.devRef .tc main_v154_4) = fun _ => 0#32 := by
  unfold E1; simp only [afterL_cons, afterL_nil]; exact ctrStart1 _

/-- The buffers when scan 2 is entered. -/
def E2 (c : Dev nD) : Valuation τ sig (Elt F) := afterL pre2 (X1 m c)
/-- The buffers when scan 2 is left. -/
def X2 (c : Dev nD) : Valuation τ sig (Elt F) := after opsC2 (atTrip opsC2 opsB2 (E2 m) 2048 c)
/-- Scan 2 is entered with its counter at zero. -/
theorem E2_ctr (c : Dev nD) : E2 m c (Proc.devRef .tc main_v238_4) = fun _ => 0#32 := by
  unfold E2; simp only [afterL_cons, afterL_nil]; exact ctrStart2 _

/-- The buffers when scan 3 is entered. -/
def E3 (c : Dev nD) : Valuation τ sig (Elt F) := afterL pre3 (X2 m c)
/-- The buffers when scan 3 is left. -/
def X3 (c : Dev nD) : Valuation τ sig (Elt F) := after opsC3 (atTrip opsC3 opsB3 (E3 m) 2048 c)
/-- Scan 3 is entered with its counter at zero. -/
theorem E3_ctr (c : Dev nD) : E3 m c (Proc.devRef .tc main_v322_4) = fun _ => 0#32 := by
  unfold E3; simp only [afterL_cons, afterL_nil]; exact ctrStart3 _

/-- The buffers at the end. -/
def Fin4 (c : Dev nD) : Valuation τ sig (Elt F) := afterL pre4 (X3 m c)

/-- The program's segments. -/
abbrev KSeg (F : FTy → Type) [FloatOps F] : Type 1 := Pipeline.CSeg (Ix := Unit) (Name := ℕ) (U := Option PUnit) (Lvl := ℕ) (pcfgs (F := F)) admR defs₀ Variants.none LR lvR loops tkR
/-- Scan 0. -/
abbrev loopS0 : KSeg F := loopSeg _ _ _ _ _ _ _ _ 0 (main_while0_cond (F := F)) (main_while0_body (F := F)) rfl opsC0 opsB0 body0_plain body0 2048 (E0 m) RwR (cond0 (E0 m) (E0_ctr m))
/-- Scan 1. -/
abbrev loopS1 : KSeg F := loopSeg _ _ _ _ _ _ _ _ 1 (main_while1_cond (F := F)) (main_while1_body (F := F)) rfl opsC1 opsB1 body1_plain body1 2048 (E1 m) RwR (cond1 (E1 m) (E1_ctr m))
/-- Scan 2. -/
abbrev loopS2 : KSeg F := loopSeg _ _ _ _ _ _ _ _ 2 (main_while2_cond (F := F)) (main_while2_body (F := F)) rfl opsC2 opsB2 body2_plain body2 2048 (E2 m) RwR (cond2 (E2 m) (E2_ctr m))
/-- Scan 3. -/
abbrev loopS3 : KSeg F := loopSeg _ _ _ _ _ _ _ _ 3 (main_while3_cond (F := F)) (main_while3_body (F := F)) rfl opsC3 opsB3 body3_plain body3 2048 (E3 m) RwR (cond3 (E3 m) (E3_ctr m))
/-- A list of stretches. -/
abbrev stS (items : List (List (HloOp τ sig (Elt F)))) (h : Plain items) (V : Dev nD → Valuation τ sig (Elt F)) : List (KSeg F) := segsOf _ _ _ _ _ _ _ _ RwR items h V
/-- The whole program's segments. -/
def segsR : List (KSeg F) :=
  stS pre0 pre0_plain (R0 m) ++ loopS0 m :: (stS pre1 pre1_plain (X0 m) ++ loopS1 m :: (stS pre2 pre2_plain (X1 m) ++ loopS2 m :: (stS pre3 pre3_plain (X2 m) ++ loopS3 m :: stS pre4 pre4_plain (X3 m))))

/-- The program is those stretches and scans, in order. -/
theorem main_chainR (c : Dev nD) : main (F := F) c = Pipeline.chain (
    (pre0.map fun ops => (seq ops : Prog _ PUnit)) ++ HostLoop.enter 0 :: ((pre1.map fun ops => (seq ops : Prog _ PUnit)) ++ HostLoop.enter 1 ::
    ((pre2.map fun ops => (seq ops : Prog _ PUnit)) ++ HostLoop.enter 2 :: ((pre3.map fun ops => (seq ops : Prog _ PUnit)) ++ HostLoop.enter 3 ::
    (pre4.map fun ops => (seq ops : Prog _ PUnit)))))) := by chain_rfl

/-- The segments run those programs. -/
theorem segsR_prog : (segsR m).map Pipeline.CSeg.prog =
    (pre0.map fun ops => (seq ops : Prog _ PUnit)) ++ HostLoop.enter 0 :: ((pre1.map fun ops => (seq ops : Prog _ PUnit)) ++ HostLoop.enter 1 ::
    ((pre2.map fun ops => (seq ops : Prog _ PUnit)) ++ HostLoop.enter 2 :: ((pre3.map fun ops => (seq ops : Prog _ PUnit)) ++ HostLoop.enter 3 ::
    (pre4.map fun ops => (seq ops : Prog _ PUnit))))) := by
  unfold segsR
  simp only [List.map_append, List.map_cons, segsOf_prog]
  rfl

/-- The segments fit together. -/
theorem segsR_chains : Pipeline.CSeg.Chains (fun c => iprop(held (c : Thread nD τ) (ucRefs τ sig) (R0 m c) ∗ RwR c)) (segsR m)
    (fun c => iprop(iprop(held (c : Thread nD τ) (ucRefs τ sig) (Fin4 m c)) ∗ ∃ W, owes (c : Thread nD τ) (0 : CellTallies nD τ sig Unit) W)) := by
  unfold segsR
  exact Pipeline.CSeg.Chains.append (segsOf_chains _ _ _ _ _ _ _ _ RwR pre0 pre0_plain _) ⟨fun _ => .rfl,
    Pipeline.CSeg.Chains.append (segsOf_chains _ _ _ _ _ _ _ _ RwR pre1 pre1_plain _) ⟨fun _ => .rfl,
    Pipeline.CSeg.Chains.append (segsOf_chains _ _ _ _ _ _ _ _ RwR pre2 pre2_plain _) ⟨fun _ => .rfl,
    Pipeline.CSeg.Chains.append (segsOf_chains _ _ _ _ _ _ _ _ RwR pre3 pre3_plain _) ⟨fun _ => .rfl,
    segsOf_chains _ _ _ _ _ _ _ _ RwR pre4 pre4_plain _⟩⟩⟩⟩

/-- No cell, so its map is injective. -/
theorem cellOf_injR : Function.Injective (Pipeline.cellOf (nD := nD) (τ := τ) (Pipeline.pin (pcfgs (F := F)) admR)) := fun k => k.1.elim0

/-- The program has no semaphore. -/
theorem no_sem : ∀ s : SemLoc sig, s.isScoped .tc = true := by decide

/-- THE RUN: the program ends, every buffer at `Fin4`, every semaphore at zero. -/
theorem runR (g : Dev nD → PrngReg) :
    θ_run (defs (F := F)) (onTc (τ := τ) (main (F := F))) ⟨m, fun _ => 0, g⟩ (fun r =>
      (∀ c : Dev nD, ∀ b ∈ ucRefs τ sig, r.2.mem (c, b) = Fin4 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) admR cellOf_injR defs₀ Variants.none LR lvR loops tkR m g main (segsR m)
    (fun c Q => by
      have h : Pipeline.CSeg.runL (segsR m) = main (F := F) c := (congrArg Pipeline.chain (segsR_prog m)).trans (main_chainR c).symm
      rewrite [h]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MR F)) ⊢ bigSep Finset.univ (fun _ : Dev nD => (BI.emp : sProp (MR F))) from by rw [BI.bigSep_emp_const])
        iempintro)
    (T₀ := fun c => iprop(held (c : Thread nD τ) (ucRefs τ sig) (R0 m c) ∗ RwR c))
    (Tₙ := fun c => iprop(held (c : Thread nD τ) (ucRefs τ sig) (Fin4 m c)))
    (hch := segsR_chains m)
    (hinit := by
      refine Pipeline.initEach LR lvR fun c => ?_
      rw [show unscopedBufs c (fun b => m ((c : Thread nD τ).loc b)) = held (c : Thread nD τ) (ucRefs τ sig) (R0 m c) from Pipeline.unscopedBufs_held c (R0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Fin4 m c b)
    (hfin := fun c s' => by
      unfold held
      iintro ⟨Hh, HSI⟩
      ihave Hr := (pointsTo_read_all (ucRefs τ sig) (fun b => ((c : Dev nD), b)) (fun b => Fin4 m c b) s') $$ [Hh HSI]
      · isplitl [Hh] <;> iassumption
      icases Hr with ⟨%h, HSI⟩
      imodintro
      isplitr; · ipureintro; exact h
      iexact HSI)
    (hQ := fun _ h hz => ⟨h, funext fun g' => hz g' (.inr (no_sem g'.2))⟩)

end Cert.Ref
-- ==== Proof.RefHost.lean ====
module

public import proofs.«01_k».proof.Proof.RefRun
public import proofs.«01_k».proof.Proof.Spec
public import Idealize.ShloMosaic.Lib.StableHlo.ReadAt

@[expose] public section

set_option maxRecDepth 16384

noncomputable section

namespace Cert.Ref

open Idealize.ShloMosaic Idealize.ShloMosaic.TcCoe
open Cert.ReferenceIdeal Cert.ReferenceIdeal.Gen Cert.Spec
open Idealize.ShloMosaic.StableHlo

/-- Layer `l`'s weights, element by element. -/
def loadR (V : Valuation τ sig (Elt Ideal)) (l : Fin 4) : RW where
  g j := V (Proc.devRef .tc main_arg3) (ix2 l j)
  b j := V (Proc.devRef .tc main_arg4) (ix2 l j)
  xpW k s := V (Proc.devRef .tc main_arg5) (ix3 l k s)
  xpb s := V (Proc.devRef .tc main_arg6) (ix2 l s)
  dpW k s := V (Proc.devRef .tc main_arg7) (ix3 l k s)
  dpb s := V (Proc.devRef .tc main_arg8) (ix2 l s)
  A s k := V (Proc.devRef .tc main_arg9) (ix3 l s k)
  C k s := V (Proc.devRef .tc main_arg10) (ix3 l k s)
  gW k s := V (Proc.devRef .tc main_arg11) (ix3 l k s)
  gb s := V (Proc.devRef .tc main_arg12) (ix2 l s)
  oW k s := V (Proc.devRef .tc main_arg13) (ix3 l k s)
  ob s := V (Proc.devRef .tc main_arg14) (ix2 l s)

/-- The dynamic slice at a step of the scan is that step's rows. -/
theorem take_at {α : Type} (x : S2048x32x64.Idx → α) (st : Fin S2048x32x64.rank → ℤ) (k : Fin 2048) (h0 : st 0 = k.val) (h1 : st 1 = 0) (h2 : st 2 = 0)
    (b : Fin 32) (s : Fin 64) :
    Host.dynamicSlice S1x32x64 x st sliceFits_S2048x32x64_S1x32x64 (ix3 0 b s) = x (ix3 k b s) := by
  rw [Host.dynamicSlice_apply]
  refine congrArg x (funext fun a => Fin.ext ?_)
  have hk := k.isLt
  match a with
  | 0 => exact (congrArg (· + 0) (Host.clampedStart_of_le (s := S2048x32x64) (t := S1x32x64) sliceFits_S2048x32x64_S1x32x64.1 st 0 k.val h0 (by show k.val + 1 ≤ 2048; omega)))
  | 1 => exact (congrArg (· + b.val) (Host.clampedStart_of_le (s := S2048x32x64) (t := S1x32x64) sliceFits_S2048x32x64_S1x32x64.1 st 1 0 h1 (by show 0 + 32 ≤ 32; omega))).trans (Nat.zero_add _)
  | 2 => exact (congrArg (· + s.val) (Host.clampedStart_of_le (s := S2048x32x64) (t := S1x32x64) sliceFits_S2048x32x64_S1x32x64.1 st 2 0 h2 (by show 0 + 64 ≤ 64; omega))).trans (Nat.zero_add _)

/-- The dynamic update at a step of the scan replaces that step's rows. -/
theorem put_at {α : Type} (x : S2048x32x512.Idx → α) (u : S1x32x512.Idx → α) (st : Fin S2048x32x512.rank → ℤ) (k : Fin 2048) (h0 : st 0 = k.val) (h1 : st 1 = 0) (h2 : st 2 = 0)
    (hf : S2048x32x512.Slices (fun _ => 0) S1x32x512) (t : Fin 2048) (b : Fin 32) (j : Fin 512) :
    Host.dynamicUpdateSlice x u st hf (ix3 t b j) = if t.val = k.val then u (ix3 0 b j) else x (ix3 t b j) := by
  have hk := k.isLt
  have hb := b.isLt
  have hj := j.isLt
  have c0 := Host.clampedStart_of_le (s := S2048x32x512) (t := S1x32x512) hf.1 st 0 k.val h0 (by show k.val + 1 ≤ 2048; omega)
  have c1 := Host.clampedStart_of_le (s := S2048x32x512) (t := S1x32x512) hf.1 st 1 0 h1 (by show 0 + 32 ≤ 32; omega)
  have c2 := Host.clampedStart_of_le (s := S2048x32x512) (t := S1x32x512) hf.1 st 2 0 h2 (by show 0 + 512 ≤ 512; omega)
  rw [Host.dynamicUpdateSlice_apply]
  by_cases e : t.val = k.val
  · rw [if_pos e, dif_pos (by
      intro a
      match a with
      | 0 => rw [c0]; show k.val ≤ t.val ∧ t.val < k.val + 1; omega
      | 1 => rw [c1]; show 0 ≤ b.val ∧ b.val < 0 + 32; omega
      | 2 => rw [c2]; show 0 ≤ j.val ∧ j.val < 0 + 512; omega)]
    refine congrArg u (funext fun a => Fin.ext ?_)
    match a with
    | 0 => exact (congrArg (t.val - ·) c0).trans (by show t.val - k.val = 0; omega)
    | 1 => exact (congrArg (b.val - ·) c1)
    | 2 => exact (congrArg (j.val - ·) c2)
  · rw [if_neg e, dif_neg (by
      intro h
      have h' := h 0
      rw [c0] at h'
      have h'' : k.val ≤ t.val ∧ t.val < k.val + 1 := h'
      omega)]

/-- The dynamic slice at a step of the scan, its unit axis dropped. -/
theorem take_cast_at (x : FVec Ideal S2048x32x64 .f32) (st : Fin S2048x32x64.rank → ℤ) (k : Fin 2048) (b : Fin 32) (s : Fin 64) (h0 : st 0 = k.val) (h1 : st 1 = 0) (h2 : st 2 = 0) :
    shapeCast S32x64 (Host.dynamicSlice S1x32x64 x st sliceFits_S2048x32x64_S1x32x64) shapeCasts_S1x32x64_S32x64 (ix2 b s) = x (ix3 k b s) := by
  refine Eq.trans ?_ (take_at x st k h0 h1 h2 b s)
  generalize Host.dynamicSlice S1x32x64 x st sliceFits_S2048x32x64_S1x32x64 = y
  pointwise

/-- The scan's counter as a number. -/
theorem iv_toInt (k : ℕ) (hk : k < 2048) : (Scf.iv 0#32 1#32 k).toInt = k := by
  have : Scf.iv 0#32 1#32 k = BitVec.ofNat 32 k := by unfold Scf.iv; rw [BitVec.zero_add, BitVec.mul_one]
  have hn : (BitVec.ofNat 32 k).toNat = k := by rw [BitVec.toNat_ofNat]; exact Nat.mod_eq_of_lt (by omega)
  rw [this, BitVec.toInt_eq_toNat_of_lt (by omega), hn]

/-- A buffer that no step writes is kept by the scan. -/
theorem atTrip_keep {F : FTy → Type} [FloatOps F] (condOps : List (HloOp τ sig (Elt F))) (body : List (List (HloOp τ sig (Elt F)))) (r : Ref sig .tc)
    (hc : ∀ V, after condOps V (Proc.devRef .tc r) = V (Proc.devRef .tc r)) (hb : ∀ V, afterL body V (Proc.devRef .tc r) = V (Proc.devRef .tc r))
    (W : Dev nD → Valuation τ sig (Elt F)) (c : Dev nD) : ∀ k, atTrip condOps body W k c (Proc.devRef .tc r) = W c (Proc.devRef .tc r)
  | 0 => rfl
  | k + 1 => (hb _).trans ((hc _).trans (atTrip_keep condOps body r hc hb W c k))

/-- The sequence of rows of batch `b` in a hidden array. -/
def seqRef (h : FVec Ideal S32x2048x512 .f32) (b : Fin 32) : ℕ → Row := fun n l => h (ix3 b ⟨min n 2047, by omega⟩ l)

/-- A row of the sequence. -/
theorem seqRef_lt (h : FVec Ideal S32x2048x512 .f32) (b : Fin 32) (t : Fin 2048) : seqRef h b t.val = fun l => h (ix3 b t l) := by
  funext l
  exact congrArg (fun r => h (ix3 b r l)) (Fin.ext (by show min t.val 2047 = t.val; have := t.isLt; omega))

/-- The argument references. -/
abbrev argRefs : List (Ref sig .tc) := [main_arg0, main_arg1, main_arg2, main_arg3, main_arg4, main_arg5, main_arg6, main_arg7, main_arg8, main_arg9, main_arg10,
  main_arg11, main_arg12, main_arg13, main_arg14, main_arg15, main_arg16, main_arg17, main_arg18, main_arg19, main_arg20]

end Cert.Ref
-- ==== Proof.RefHead.lean ====
module

public import proofs.«01_k».proof.Proof.RefHost
public import proofs.«01_k».proof.Proof.SpecHead

@[expose] public section

set_option maxRecDepth 16384

noncomputable section

namespace Cert.Ref

open Idealize.ShloMosaic Idealize.ShloMosaic.TcCoe
open Cert.ReferenceIdeal Cert.ReferenceIdeal.Gen Cert.Spec
open Idealize.ShloMosaic.StableHlo

section Keep
variable {F : FTy → Type} [FloatOps F] (V : Valuation τ sig (Elt F)) (r : Ref sig .tc)
/-- The head's operations. -/
abbrev headOps : List (List (HloOp τ sig (Elt F))) := [opsHL, opsHD, opsHE, opsHS, opsHG, opsHF]
/-- The input projection keeps what it does not write. -/
theorem keepP (h : r ∉ opsP_W) : after opsP V (Proc.devRef .tc r) = V (Proc.devRef .tc r) := after_of_writes_sub opsP V opsP_writes h
/-- The last row's normalisation keeps what it does not write. -/
theorem keepHL (h : r ∉ opsHL_W) : after opsHL V (Proc.devRef .tc r) = V (Proc.devRef .tc r) := after_of_writes_sub opsHL V opsHL_writes h
/-- The head's first product keeps what it does not write. -/
theorem keepHD (h : r ∉ opsHD_W) : after opsHD V (Proc.devRef .tc r) = V (Proc.devRef .tc r) := after_of_writes_sub opsHD V opsHD_writes h
/-- The gelu's first part keeps what it does not write. -/
theorem keepHE (h : r ∉ opsHE_W) : after opsHE V (Proc.devRef .tc r) = V (Proc.devRef .tc r) := after_of_writes_sub opsHE V opsHE_writes h
/-- The gelu's sign keeps what it does not write. -/
theorem keepHS (h : r ∉ opsHS_W) : after opsHS V (Proc.devRef .tc r) = V (Proc.devRef .tc r) := after_of_writes_sub opsHS V opsHS_writes h
/-- The gelu's last part keeps what it does not write. -/
theorem keepHG (h : r ∉ opsHG_W) : after opsHG V (Proc.devRef .tc r) = V (Proc.devRef .tc r) := after_of_writes_sub opsHG V opsHG_writes h
/-- The head's second product keeps what it does not write. -/
theorem keepHF (h : r ∉ opsHF_W) : after opsHF V (Proc.devRef .tc r) = V (Proc.devRef .tc r) := after_of_writes_sub opsHF V opsHF_writes h
/-- The head before its gelu keeps the arguments. -/
theorem keepH2 (h : r ∈ argRefs) : afterL [opsHL, opsHD] V (Proc.devRef .tc r) = V (Proc.devRef .tc r) := by
  simp only [afterL_cons, afterL_nil]
  exact (keepHD _ r (by revert r; decide)).trans (keepHL _ r (by revert r; decide))
/-- The gelu keeps the arguments. -/
theorem keepH3 (h : r ∈ argRefs) : afterL [opsHE, opsHS, opsHG] V (Proc.devRef .tc r) = V (Proc.devRef .tc r) := by
  simp only [afterL_cons, afterL_nil]
  exact (keepHG _ r (by revert r; decide)).trans ((keepHS _ r (by revert r; decide)).trans (keepHE _ r (by revert r; decide)))
/-- The head keeps the arguments. -/
theorem keepH (h : r ∈ argRefs) : afterL headOps V (Proc.devRef .tc r) = V (Proc.devRef .tc r) := by
  show after opsHF (afterL [opsHE, opsHS, opsHG] (afterL [opsHL, opsHD] V)) (Proc.devRef .tc r) = _
  exact (keepHF _ r (by revert r; decide)).trans ((keepH3 _ r h).trans (keepH2 _ r h))
end Keep

section Read
variable (V : Valuation τ sig (Elt Ideal)) (b : Fin 32)

/-- The input projection's rows. -/
theorem readP (t : Fin 2048) (j : Fin 512) : after opsP V (Proc.devRef .tc main_v3) (ix3 b t j)
    = inR (fun k j => V (Proc.devRef .tc main_arg1) (ix2 k j)) (fun j => V (Proc.devRef .tc main_arg2) (ix1 j)) (fun k => V (Proc.devRef .tc main_arg0) (ix3 b t k)) j := by
  after_reads_at
  rfl

/-- The last row, normalised. -/
theorem readHL (k : Fin 512) : after opsHL V (Proc.devRef .tc main_v365) (ix2 b k)
    = lnR (fun j => V (Proc.devRef .tc main_arg15) (ix1 j)) (fun j => V (Proc.devRef .tc main_arg16) (ix1 j)) (fun j => V (Proc.devRef .tc main_v339) (ix3 b 2047 j)) k := by
  after_reads_at
  exact lnR_div (fun j => V (Proc.devRef .tc main_arg15) (ix1 j)) (fun j => V (Proc.devRef .tc main_arg16) (ix1 j)) (fun j => V (Proc.devRef .tc main_v339) (ix3 b 2047 j)) k

/-- The head's first product, of the normalised row. -/
theorem readHD (s : Fin 256) : after opsHD V (Proc.devRef .tc main_v369) (ix2 b s)
    = linR (fun k s => V (Proc.devRef .tc main_arg17) (ix2 k s)) (fun s => V (Proc.devRef .tc main_arg18) (ix1 s)) (fun k => V (Proc.devRef .tc main_v365) (ix2 b k)) s := by
  after_reads_at
  rfl

/-- The gelu. -/
theorem readG (k : Fin 256) : afterL [opsHE, opsHS, opsHG] V (Proc.devRef .tc main_v407) (ix2 b k) = gel (V (Proc.devRef .tc main_v369) (ix2 b k)) := by
  simp only [afterL_cons, afterL_nil]
  after_reads_at
  unfold gel erfA tOf
  rfl

/-- The head's second product. -/
theorem readHF : after opsHF V (Proc.devRef .tc main_v411) (ix2 b 0)
    = (∑ k : Fin 256, @id EReal (V (Proc.devRef .tc main_v407) (ix2 b k)) * @id EReal (V (Proc.devRef .tc main_arg19) (ix2 k 0))) + @id EReal (V (Proc.devRef .tc main_arg20) (ix1 0)) := by
  after_reads_at
  rfl

/-- The head, of the last row. -/
theorem readH : afterL headOps V (Proc.devRef .tc main_v411) (ix2 b 0)
    = headR (fun j => V (Proc.devRef .tc main_arg15) (ix1 j)) (fun j => V (Proc.devRef .tc main_arg16) (ix1 j)) (fun k s => V (Proc.devRef .tc main_arg17) (ix2 k s))
      (fun s => V (Proc.devRef .tc main_arg18) (ix1 s)) (fun k => V (Proc.devRef .tc main_arg19) (ix2 k 0)) (V (Proc.devRef .tc main_arg20) (ix1 0))
      (fun j => V (Proc.devRef .tc main_v339) (ix3 b 2047 j)) := by
  show after opsHF (afterL [opsHE, opsHS, opsHG] (afterL [opsHL, opsHD] V)) (Proc.devRef .tc main_v411) (ix2 b 0) = _
  refine (readHF _ b).trans (congrArg₂ (· + ·) (Finset.sum_congr rfl fun k _ => congrArg₂ (· * ·) ?_ ?_) ?_)
  · refine (readG _ b k).trans (congrArg gel ?_)
    show after opsHD (after opsHL V) (Proc.devRef .tc main_v369) (ix2 b k) = _
    refine (readHD _ b k).trans (congrFun (congr (congr (congrArg linR (funext₂ fun k s => ?_)) (funext fun s => ?_)) (funext fun k => ?_)) k)
    · exact congrFun (keepHL V main_arg17 (by decide)) (ix2 k s)
    · exact congrFun (keepHL V main_arg18 (by decide)) (ix1 s)
    · exact readHL V b k
  · exact congrFun ((keepH3 _ main_arg19 (by decide)).trans (keepH2 V main_arg19 (by decide))) (ix2 k 0)
  · exact congrFun ((keepH3 _ main_arg20 (by decide)).trans (keepH2 V main_arg20 (by decide))) (ix1 0)
end Read

end Cert.Ref
-- ==== Proof.RefLayer0.lean ====
module

public import proofs.«01_k».proof.Proof.RefHost

@[expose] public section

set_option maxRecDepth 16384

noncomputable section

namespace Cert.Ref

open Idealize.ShloMosaic Idealize.ShloMosaic.TcCoe
open Cert.ReferenceIdeal Cert.ReferenceIdeal.Gen Cert.Spec
open Idealize.ShloMosaic.StableHlo

/-- Layer 0's operations before its scan. -/
abbrev lead0 {F : FTy → Type} [FloatOps F] : List (List (HloOp τ sig (Elt F))) := [opsW0, opsN0, opsX0, opsE0]

section Lead
variable (V : Valuation τ sig (Elt Ideal)) (b : Fin 32) (t : Fin 2048)

/-- The normalised rows before scan 0. -/
theorem lead0_ln (k : Fin 512) : afterL lead0 V (Proc.devRef .tc main_v51) (ix3 b t k) = lnR (loadR V 0).g (loadR V 0).b (fun k => V (Proc.devRef .tc main_v3) (ix3 b t k)) k := by
  simp only [afterL_cons, afterL_nil]
  after_reads_at
  exact lnR_div (loadR V 0).g (loadR V 0).b (fun k => V (Proc.devRef .tc main_v3) (ix3 b t k)) k
/-- What the rows put into scan 0. -/
theorem lead0_xs (s : Fin 64) : afterL lead0 V (Proc.devRef .tc main_v70_0) (ix3 t b s) = xpR (loadR V 0) (fun k => V (Proc.devRef .tc main_v3) (ix3 b t k)) s := by
  simp only [afterL_cons, afterL_nil]
  after_reads_at
  dsimp only [id]
  pointwise
  exact congrArg₂ (· + ·) (Finset.sum_congr rfl fun k _ => congrArg₂ (· * ·) (lnR_div (loadR V 0).g (loadR V 0).b (fun k => V (Proc.devRef .tc main_v3) (ix3 b t k)) k) rfl) rfl
/-- How far the rows move scan 0. -/
theorem lead0_ds (s : Fin 64) : afterL lead0 V (Proc.devRef .tc main_v70_1) (ix3 t b s) = dlR (loadR V 0) (fun k => V (Proc.devRef .tc main_v3) (ix3 b t k)) s := by
  simp only [afterL_cons, afterL_nil]
  after_reads_at
  dsimp only [id]
  pointwise
  refine congrArg Ideal.logistic ?_
  exact congrArg₂ (· + ·) (Finset.sum_congr rfl fun k _ => congrArg₂ (· * ·) (lnR_div (loadR V 0).g (loadR V 0).b (fun k => V (Proc.devRef .tc main_v3) (ix3 b t k)) k) rfl) rfl
/-- The matrix of the recurrence of scan 0. -/
theorem lead0_A (s k : Fin 64) : afterL lead0 V (Proc.devRef .tc main_v70_2) (ix2 s k) = (loadR V 0).A s k := by
  simp only [afterL_cons, afterL_nil]
  after_reads_at
  rfl
/-- The output matrix of scan 0. -/
theorem lead0_C (k : Fin 512) (s : Fin 64) : afterL lead0 V (Proc.devRef .tc main_v70_3) (ix2 k s) = (loadR V 0).C k s := by
  simp only [afterL_cons, afterL_nil]
  after_reads_at
  rfl
/-- Scan 0 starts from zero. -/
theorem lead0_st (s : Fin 64) : @Eq EReal (afterL lead0 V (Proc.devRef .tc main_v70_5) (ix2 b s)) 0 := by
  simp only [afterL_cons, afterL_nil]
  after_reads_at
  dsimp only [id]
  pointwise
/-- The gate's weights of layer 0. -/
theorem lead0_gW (k s : Fin 512) : afterL lead0 V (Proc.devRef .tc main_v21) (ix2 k s) = (loadR V 0).gW k s := by
  simp only [afterL_cons, afterL_nil]
  after_reads_at
  rfl
/-- The gate's bias of layer 0. -/
theorem lead0_gb (s : Fin 512) : afterL lead0 V (Proc.devRef .tc main_v23) (ix1 s) = (loadR V 0).gb s := by
  simp only [afterL_cons, afterL_nil]
  after_reads_at
  rfl
/-- The output weights of layer 0. -/
theorem lead0_oW (k s : Fin 512) : afterL lead0 V (Proc.devRef .tc main_v25) (ix2 k s) = (loadR V 0).oW k s := by
  simp only [afterL_cons, afterL_nil]
  after_reads_at
  rfl
/-- The output bias of layer 0. -/
theorem lead0_ob (s : Fin 512) : afterL lead0 V (Proc.devRef .tc main_v27) (ix1 s) = (loadR V 0).ob s := by
  simp only [afterL_cons, afterL_nil]
  after_reads_at
  rfl
/-- The hidden rows are kept up to scan 0. -/
theorem lead0_h (k : Fin 512) : afterL lead0 V (Proc.devRef .tc main_v3) (ix3 b t k) = V (Proc.devRef .tc main_v3) (ix3 b t k) := by
  simp only [afterL_cons, afterL_nil]
  after_reads_at

/-- What layer 0 makes of its scan's outputs. -/
theorem tail0 (j : Fin 512) : after opsG0 V (Proc.devRef .tc main_v87) (ix3 b t j) =
    outX (fun x k => V (Proc.devRef .tc main_v21) (ix2 x k)) (fun k => V (Proc.devRef .tc main_v23) (ix1 k)) (fun k j => V (Proc.devRef .tc main_v25) (ix2 k j)) (fun j => V (Proc.devRef .tc main_v27) (ix1 j))
      (fun x => V (Proc.devRef .tc main_v51) (ix3 b t x)) (fun k => V (Proc.devRef .tc main_v70_6) (ix3 t b k)) (fun j => V (Proc.devRef .tc main_v3) (ix3 b t j)) j := by
  after_reads_at
  rfl

end Lead

section Step
variable (V : Valuation τ sig (Elt Ideal)) (k : Fin 2048) (hc : V (Proc.devRef .tc main_v70_4) = fun _ => Scf.iv 0#32 1#32 k.val)
include hc

/-- The step's rows taken out. -/
theorem take0_xs (b : Fin 32) (s : Fin 64) : after opsB0a V (Proc.devRef .tc main_while0b_v412) (ix2 b s) = V (Proc.devRef .tc main_v70_0) (ix3 k b s) := by
  after_reads_simp
  simp -implicitDefEqProofs only [TRef.toBuf, TRef.ofBuf, cast_cast, cast_eq]
  refine take_cast_at _ _ k b s ?_ rfl rfl
  show BitVec.toInt (upto opsB0a V 2 (Proc.devRef .tc main_v70_4) (Shape.Idx.first h_S_)) = _
  rw [show upto opsB0a V 2 (Proc.devRef .tc main_v70_4) = V (Proc.devRef .tc main_v70_4) from by after_reads_simp, hc]
  exact iv_toInt k.val k.isLt
/-- The step's decays taken out. -/
theorem take0_ds (b : Fin 32) (s : Fin 64) : after opsB0b V (Proc.devRef .tc main_while0b_v413) (ix2 b s) = V (Proc.devRef .tc main_v70_1) (ix3 k b s) := by
  after_reads_simp
  simp -implicitDefEqProofs only [TRef.toBuf, TRef.ofBuf, cast_cast, cast_eq]
  refine take_cast_at _ _ k b s ?_ rfl rfl
  show BitVec.toInt (upto opsB0b V 2 (Proc.devRef .tc main_v70_4) (Shape.Idx.first h_S_)) = _
  rw [show upto opsB0b V 2 (Proc.devRef .tc main_v70_4) = V (Proc.devRef .tc main_v70_4) from by after_reads_simp, hc]
  exact iv_toInt k.val k.isLt
omit hc in
/-- The step's new state. -/
theorem step0_st (b : Fin 32) (s : Fin 64) : after opsB0c V (Proc.devRef .tc main_while0b_v421) (ix2 b s) =
    stepR (fun s k => V (Proc.devRef .tc main_v70_2) (ix2 s k)) (fun s => V (Proc.devRef .tc main_while0b_v412) (ix2 b s)) (fun s => V (Proc.devRef .tc main_while0b_v413) (ix2 b s)) (fun s => V (Proc.devRef .tc main_v70_5) (ix2 b s)) s := by
  after_reads_at
  rfl
omit hc in
/-- The step's output. -/
theorem step0_out (b : Fin 32) (j : Fin 512) : @Eq EReal (after opsB0c V (Proc.devRef .tc main_while0b_v423) (ix2 b j))
    (∑ s : Fin 64, stepR (fun s k => V (Proc.devRef .tc main_v70_2) (ix2 s k)) (fun s => V (Proc.devRef .tc main_while0b_v412) (ix2 b s)) (fun s => V (Proc.devRef .tc main_while0b_v413) (ix2 b s)) (fun s => V (Proc.devRef .tc main_v70_5) (ix2 b s)) s * @id EReal (V (Proc.devRef .tc main_v70_3) (ix2 j s))) := by
  after_reads_at
  rfl
/-- The step's output put in its row. -/
theorem put0 (t : Fin 2048) (b : Fin 32) (j : Fin 512) : after opsB0d V (Proc.devRef .tc main_while0b_v424) (ix3 t b j) =
    if t.val = k.val then V (Proc.devRef .tc main_while0b_v423) (ix2 b j) else V (Proc.devRef .tc main_v70_6) (ix3 t b j) := by
  after_reads_simp
  simp -implicitDefEqProofs only [TRef.toBuf, TRef.ofBuf, cast_cast, cast_eq]
  refine (put_at _ _ _ k ?_ rfl rfl _ t b j).trans ?_
  · show BitVec.toInt (upto opsB0d V 3 (Proc.devRef .tc main_v70_4) (Shape.Idx.first h_S_)) = _
    rw [show upto opsB0d V 3 (Proc.devRef .tc main_v70_4) = V (Proc.devRef .tc main_v70_4) from by after_reads_simp, hc]
    exact iv_toInt k.val k.isLt
  · pointwise

end Step

section Keep
variable {F : FTy → Type} [FloatOps F] (V : Valuation τ sig (Elt F)) (r : Ref sig .tc)

/-- The test of scan 0 keeps what it does not write. -/
theorem keepC0 (h : r ∉ opsC0_W) : after opsC0 V (Proc.devRef .tc r) = V (Proc.devRef .tc r) := after_of_writes_sub opsC0 V opsC0_writes h
/-- The first slice keeps what it does not write. -/
theorem keepA0 (h : r ∉ opsB0a_W) : after opsB0a V (Proc.devRef .tc r) = V (Proc.devRef .tc r) := after_of_writes_sub opsB0a V opsB0a_writes h
/-- The second slice keeps what it does not write. -/
theorem keepB0 (h : r ∉ opsB0b_W) : after opsB0b V (Proc.devRef .tc r) = V (Proc.devRef .tc r) := after_of_writes_sub opsB0b V opsB0b_writes h
/-- The step keeps what it does not write. -/
theorem keepS0 (h : r ∉ opsB0c_W) : after opsB0c V (Proc.devRef .tc r) = V (Proc.devRef .tc r) := after_of_writes_sub opsB0c V opsB0c_writes h
/-- The update keeps what it does not write. -/
theorem keepD0 (h : r ∉ opsB0d_W) : after opsB0d V (Proc.devRef .tc r) = V (Proc.devRef .tc r) := after_of_writes_sub opsB0d V opsB0d_writes h
/-- The carrying keeps what it does not write. -/
theorem keepE0 (h : r ∉ opsB0e_W) : after opsB0e V (Proc.devRef .tc r) = V (Proc.devRef .tc r) := after_of_writes_sub opsB0e V opsB0e_writes h
/-- A trip of scan 0 keeps what none of its pieces writes. -/
theorem keepT0 (h : r ∉ opsB0a_W ∧ r ∉ opsB0b_W ∧ r ∉ opsB0c_W ∧ r ∉ opsB0d_W ∧ r ∉ opsB0e_W) :
    afterL opsB0 V (Proc.devRef .tc r) = V (Proc.devRef .tc r) := by
  simp only [afterL_cons, afterL_nil]
  exact (keepE0 _ r h.2.2.2.2).trans ((keepD0 _ r h.2.2.2.1).trans ((keepS0 _ r h.2.2.1).trans ((keepB0 _ r h.2.1).trans (keepA0 _ r h.1))))
/-- Scan 0 keeps what it does not write. -/
theorem keepX0 (W : Dev nD → Valuation τ sig (Elt F)) (c : Dev nD) (k : ℕ) (h : r ∉ opsC0_W ∧ r ∉ opsB0a_W ∧ r ∉ opsB0b_W ∧ r ∉ opsB0c_W ∧ r ∉ opsB0d_W ∧ r ∉ opsB0e_W) :
    atTrip opsC0 opsB0 W k c (Proc.devRef .tc r) = W c (Proc.devRef .tc r) :=
  atTrip_keep opsC0 opsB0 r (fun V => keepC0 V r h.1) (fun V => keepT0 V r h.2) W c k

/-- The buffers after layer 0, from those before it. -/
def M0 (W : Dev nD → Valuation τ sig (Elt F)) (c : Dev nD) : Valuation τ sig (Elt F) :=
  after opsG0 (after opsC0 (atTrip opsC0 opsB0 (fun c => afterL lead0 (W c)) 2048 c))

/-- Layer 0 keeps the arguments. -/
theorem keepM0 (W : Dev nD → Valuation τ sig (Elt F)) (c : Dev nD) (h : r ∈ argRefs) : M0 W c (Proc.devRef .tc r) = W c (Proc.devRef .tc r) := by
  have hW : ∀ r ∈ argRefs, r ∉ opsW0_W ∧ r ∉ opsN0_W ∧ r ∉ opsX0_W ∧ r ∉ opsE0_W ∧ r ∉ opsG0_W := by decide
  have hB : ∀ r ∈ argRefs, r ∉ opsC0_W ∧ r ∉ opsB0a_W ∧ r ∉ opsB0b_W ∧ r ∉ opsB0c_W ∧ r ∉ opsB0d_W ∧ r ∉ opsB0e_W := by decide
  have e : afterL lead0 (W c) (Proc.devRef .tc r) = W c (Proc.devRef .tc r) := by
    simp only [afterL_cons, afterL_nil]
    exact (after_of_writes_sub opsE0 _ opsE0_writes (hW r h).2.2.2.1).trans ((after_of_writes_sub opsX0 _ opsX0_writes (hW r h).2.2.1).trans
      ((after_of_writes_sub opsN0 _ opsN0_writes (hW r h).2.1).trans (after_of_writes_sub opsW0 _ opsW0_writes (hW r h).1)))
  exact (after_of_writes_sub opsG0 _ opsG0_writes (hW r h).2.2.2.2).trans ((keepC0 _ r (hB r h).1).trans ((keepX0 r (fun c => afterL lead0 (W c)) c 2048 (hB r h)).trans e))

end Keep

section Scan
variable (V : Valuation τ sig (Elt Ideal)) (k : Fin 2048) (hc : V (Proc.devRef .tc main_v70_4) = fun _ => Scf.iv 0#32 1#32 k.val)
include hc

/-- The rows taken by a trip. -/
theorem row0_xs (b : Fin 32) (s : Fin 64) : after opsB0b (after opsB0a (after opsC0 V)) (Proc.devRef .tc main_while0b_v412) (ix2 b s) = V (Proc.devRef .tc main_v70_0) (ix3 k b s) :=
  (congrFun (keepB0 _ main_while0b_v412 (by decide)) (ix2 b s)).trans
    ((take0_xs (after opsC0 V) k ((keepC0 V main_v70_4 (by decide)).trans hc) b s).trans (congrFun (keepC0 V main_v70_0 (by decide)) (ix3 k b s)))
/-- The decays taken by a trip. -/
theorem row0_ds (b : Fin 32) (s : Fin 64) : after opsB0b (after opsB0a (after opsC0 V)) (Proc.devRef .tc main_while0b_v413) (ix2 b s) = V (Proc.devRef .tc main_v70_1) (ix3 k b s) :=
  (take0_ds (after opsB0a (after opsC0 V)) k ((keepA0 _ main_v70_4 (by decide)).trans ((keepC0 V main_v70_4 (by decide)).trans hc)) b s).trans
    ((congrFun (keepA0 _ main_v70_1 (by decide)) (ix3 k b s)).trans (congrFun (keepC0 V main_v70_1 (by decide)) (ix3 k b s)))

/-- The state a trip leaves, before it is carried. -/
theorem new0_st (b : Fin 32) (s : Fin 64) : after opsB0c (after opsB0b (after opsB0a (after opsC0 V))) (Proc.devRef .tc main_while0b_v421) (ix2 b s) =
    stepR (fun s k => V (Proc.devRef .tc main_v70_2) (ix2 s k)) (fun s => V (Proc.devRef .tc main_v70_0) (ix3 k b s)) (fun s => V (Proc.devRef .tc main_v70_1) (ix3 k b s)) (fun s => V (Proc.devRef .tc main_v70_5) (ix2 b s)) s := by
  refine (step0_st _ b s).trans ?_
  refine congrFun (congr (congr (congr (congrArg stepR (funext₂ fun s k => ?_)) (funext fun s => row0_xs V k hc b s)) (funext fun s => row0_ds V k hc b s)) (funext fun s => ?_)) s
  · exact congrFun ((keepB0 _ main_v70_2 (by decide)).trans ((keepA0 _ main_v70_2 (by decide)).trans (keepC0 V main_v70_2 (by decide)))) (ix2 s k)
  · exact congrFun ((keepB0 _ main_v70_5 (by decide)).trans ((keepA0 _ main_v70_5 (by decide)).trans (keepC0 V main_v70_5 (by decide)))) (ix2 b s)

/-- The state after a trip. -/
theorem trip0_st (b : Fin 32) (s : Fin 64) : afterL opsB0 (after opsC0 V) (Proc.devRef .tc main_v70_5) (ix2 b s) =
    stepR (fun s k => V (Proc.devRef .tc main_v70_2) (ix2 s k)) (fun s => V (Proc.devRef .tc main_v70_0) (ix3 k b s)) (fun s => V (Proc.devRef .tc main_v70_1) (ix3 k b s)) (fun s => V (Proc.devRef .tc main_v70_5) (ix2 b s)) s := by
  simp only [afterL_cons, afterL_nil]
  refine Eq.trans ?_ (new0_st V k hc b s)
  refine Eq.trans ?_ (congrFun (keepD0 _ main_while0b_v421 (by decide)) (ix2 b s))
  after_reads_simp
  rfl

/-- The outputs after a trip. -/
theorem trip0_out (t : Fin 2048) (b : Fin 32) (j : Fin 512) : @Eq EReal (afterL opsB0 (after opsC0 V) (Proc.devRef .tc main_v70_6) (ix3 t b j))
    (if t.val = k.val then ∑ s : Fin 64, @id EReal (afterL opsB0 (after opsC0 V) (Proc.devRef .tc main_v70_5) (ix2 b s)) * @id EReal (V (Proc.devRef .tc main_v70_3) (ix2 j s)) else V (Proc.devRef .tc main_v70_6) (ix3 t b j)) := by
  have e1 : ∀ s, afterL opsB0 (after opsC0 V) (Proc.devRef .tc main_v70_5) (ix2 b s) = after opsB0c (after opsB0b (after opsB0a (after opsC0 V))) (Proc.devRef .tc main_while0b_v421) (ix2 b s) :=
    fun s => (trip0_st V k hc b s).trans (new0_st V k hc b s).symm
  have hd : ∀ r, r ∉ opsC0_W → r ∉ opsB0a_W → r ∉ opsB0b_W → after opsB0b (after opsB0a (after opsC0 V)) (Proc.devRef .tc r) = V (Proc.devRef .tc r) :=
    fun r h1 h2 h3 => (keepB0 _ r h3).trans ((keepA0 _ r h2).trans (keepC0 V r h1))
  have main := put0 (after opsB0c (after opsB0b (after opsB0a (after opsC0 V)))) k
    ((keepS0 _ main_v70_4 (by decide)).trans ((hd main_v70_4 (by decide) (by decide) (by decide)).trans hc)) t b j
  have last : afterL opsB0 (after opsC0 V) (Proc.devRef .tc main_v70_6) = after opsB0d (after opsB0c (after opsB0b (after opsB0a (after opsC0 V)))) (Proc.devRef .tc main_while0b_v424) := by
    simp only [afterL_cons, afterL_nil]
    generalize after opsB0d (after opsB0c (after opsB0b (after opsB0a (after opsC0 V)))) = V'
    after_reads_simp
    rfl
  refine (congrFun last (ix3 t b j)).trans (main.trans ?_)
  by_cases h : t.val = k.val
  · rw [if_pos h, if_pos h]
    refine (step0_out _ b j).trans (Finset.sum_congr rfl fun s _ => congrArg₂ (· * ·) ?_ (congrFun (hd main_v70_3 (by decide) (by decide) (by decide)) (ix2 j s)))
    exact (step0_st _ b s).symm.trans (e1 s).symm
  · rw [if_neg h, if_neg h]
    exact (congrFun (keepS0 _ main_v70_6 (by decide)) (ix3 t b j)).trans (congrFun (hd main_v70_6 (by decide) (by decide) (by decide)) (ix3 t b j))

end Scan

section Layer
variable (W : Dev nD → Valuation τ sig (Elt Ideal)) (c : Dev nD)

/-- The scan's outputs, row by row. -/
theorem scan0 (t : Fin 2048) (b : Fin 32) : (fun j => (atTrip opsC0 opsB0 (fun c => afterL lead0 (W c)) 2048 c (Proc.devRef .tc main_v70_6) (ix3 t b j) : EReal)) =
    fun j => ∑ s, stR (loadR (W c) 0) (seqRef (W c (Proc.devRef .tc main_v3)) b) (fun _ => 0) (t.val + 1) s * (loadR (W c) 0).C j s := by
  have h0 : ∀ c, (fun c => afterL lead0 (W c)) c (Proc.devRef .tc main_v70_4) = fun _ => (0#32 : BitVec 32) := fun c => by
    simp only [afterL_cons, afterL_nil]; exact ctrStart0 _
  have ctr := ctrAt0 (fun c => afterL lead0 (W c)) h0 c
  refine scan_rows (loadR (W c) 0) (fun b => seqRef (W c (Proc.devRef .tc main_v3)) b)
    (fun k b s => atTrip opsC0 opsB0 (fun c => afterL lead0 (W c)) k c (Proc.devRef .tc main_v70_5) (ix2 b s))
    (fun k t b j => atTrip opsC0 opsB0 (fun c => afterL lead0 (W c)) k c (Proc.devRef .tc main_v70_6) (ix3 t b j)) ?_ ?_ ?_ t b
  · intro b; funext s; exact lead0_st (W c) b s
  · intro k hk b; funext s
    refine (trip0_st _ ⟨k, hk⟩ (ctr k) b s).trans ?_
    refine congrFun (congr (congr (congr (congrArg stepR (funext₂ fun s k' => ?_)) (funext fun s => ?_)) (funext fun s => ?_)) rfl) s
    · exact (congrFun (keepX0 main_v70_2 (fun c => afterL lead0 (W c)) c k (by decide)) (ix2 s k')).trans (lead0_A (W c) s k')
    · rw [show seqRef (W c (Proc.devRef .tc main_v3)) b k = fun l => W c (Proc.devRef .tc main_v3) (ix3 b ⟨k, hk⟩ l) from seqRef_lt _ b ⟨k, hk⟩]
      exact (congrFun (keepX0 main_v70_0 (fun c => afterL lead0 (W c)) c k (by decide)) (ix3 ⟨k, hk⟩ b s)).trans (lead0_xs (W c) b ⟨k, hk⟩ s)
    · rw [show seqRef (W c (Proc.devRef .tc main_v3)) b k = fun l => W c (Proc.devRef .tc main_v3) (ix3 b ⟨k, hk⟩ l) from seqRef_lt _ b ⟨k, hk⟩]
      exact (congrFun (keepX0 main_v70_1 (fun c => afterL lead0 (W c)) c k (by decide)) (ix3 ⟨k, hk⟩ b s)).trans (lead0_ds (W c) b ⟨k, hk⟩ s)
  · intro k hk t b
    have hC : ∀ j s, atTrip opsC0 opsB0 (fun c => afterL lead0 (W c)) k c (Proc.devRef .tc main_v70_3) (ix2 j s) = (loadR (W c) 0).C j s :=
      fun j s => (congrFun (keepX0 main_v70_3 (fun c => afterL lead0 (W c)) c k (by decide)) (ix2 j s)).trans (lead0_C (W c) j s)
    by_cases h : t.val = k
    · rw [if_pos h]; funext j
      refine (trip0_out _ ⟨k, hk⟩ (ctr k) t b j).trans ?_
      rw [if_pos h]
      exact Finset.sum_congr rfl fun s _ => congrArg₂ (· * ·) rfl (hC j s)
    · rw [if_neg h]; funext j
      refine (trip0_out _ ⟨k, hk⟩ (ctr k) t b j).trans ?_
      rw [if_neg h]

/-- Layer 0's hidden rows, from those before it. -/
theorem lay0 (b : Fin 32) (t : Fin 2048) (j : Fin 512) : M0 W c (Proc.devRef .tc main_v87) (ix3 b t j) = layR (loadR (W c) 0) (seqRef (W c (Proc.devRef .tc main_v3)) b) t.val j := by
  have kp : ∀ r, (r ∉ opsC0_W ∧ r ∉ opsB0a_W ∧ r ∉ opsB0b_W ∧ r ∉ opsB0c_W ∧ r ∉ opsB0d_W ∧ r ∉ opsB0e_W) →
      after opsC0 (atTrip opsC0 opsB0 (fun c => afterL lead0 (W c)) 2048 c) (Proc.devRef .tc r) = afterL lead0 (W c) (Proc.devRef .tc r) :=
    fun r h => (keepC0 _ r h.1).trans (keepX0 r (fun c => afterL lead0 (W c)) c 2048 h)
  refine (tail0 _ b t j).trans ?_
  show _ = outX (loadR (W c) 0).gW (loadR (W c) 0).gb (loadR (W c) 0).oW (loadR (W c) 0).ob (lnR (loadR (W c) 0).g (loadR (W c) 0).b (seqRef (W c (Proc.devRef .tc main_v3)) b t.val))
    (fun k => ∑ s, stR (loadR (W c) 0) (seqRef (W c (Proc.devRef .tc main_v3)) b) (fun _ => 0) (t.val + 1) s * (loadR (W c) 0).C k s) (seqRef (W c (Proc.devRef .tc main_v3)) b t.val) j
  rw [seqRef_lt _ b t]
  refine congrFun (congr (congr (congr (congr (congr (congr (congrArg outX (funext₂ fun k s => ?_)) (funext fun s => ?_)) (funext₂ fun k s => ?_)) (funext fun s => ?_)) (funext fun s => ?_)) ?_) (funext fun s => ?_)) j
  · exact (congrFun (kp main_v21 (by decide)) (ix2 k s)).trans (lead0_gW (W c) k s)
  · exact (congrFun (kp main_v23 (by decide)) (ix1 s)).trans (lead0_gb (W c) s)
  · exact (congrFun (kp main_v25 (by decide)) (ix2 k s)).trans (lead0_oW (W c) k s)
  · exact (congrFun (kp main_v27 (by decide)) (ix1 s)).trans (lead0_ob (W c) s)
  · exact (congrFun (kp main_v51 (by decide)) (ix3 b t s)).trans (lead0_ln (W c) b t s)
  · exact (funext fun s => congrFun (keepC0 _ main_v70_6 (by decide)) (ix3 t b s)).trans (scan0 W c t b)
  · exact (congrFun (kp main_v3 (by decide)) (ix3 b t s)).trans (lead0_h (W c) b t s)

end Layer
end Cert.Ref
-- ==== Proof.RefLayer1.lean ====
module

public import proofs.«01_k».proof.Proof.RefHost

@[expose] public section

set_option maxRecDepth 16384

noncomputable section

namespace Cert.Ref

open Idealize.ShloMosaic Idealize.ShloMosaic.TcCoe
open Cert.ReferenceIdeal Cert.ReferenceIdeal.Gen Cert.Spec
open Idealize.ShloMosaic.StableHlo

/-- Layer 1's operations before its scan. -/
abbrev lead1 {F : FTy → Type} [FloatOps F] : List (List (HloOp τ sig (Elt F))) := [opsW1, opsN1, opsX1, opsE1]

section Lead
variable (V : Valuation τ sig (Elt Ideal)) (b : Fin 32) (t : Fin 2048)

/-- The normalised rows before scan 1. -/
theorem lead1_ln (k : Fin 512) : afterL lead1 V (Proc.devRef .tc main_v135) (ix3 b t k) = lnR (loadR V 1).g (loadR V 1).b (fun k => V (Proc.devRef .tc main_v87) (ix3 b t k)) k := by
  simp only [afterL_cons, afterL_nil]
  after_reads_at
  exact lnR_div (loadR V 1).g (loadR V 1).b (fun k => V (Proc.devRef .tc main_v87) (ix3 b t k)) k
/-- What the rows put into scan 1. -/
theorem lead1_xs (s : Fin 64) : afterL lead1 V (Proc.devRef .tc main_v154_0) (ix3 t b s) = xpR (loadR V 1) (fun k => V (Proc.devRef .tc main_v87) (ix3 b t k)) s := by
  simp only [afterL_cons, afterL_nil]
  after_reads_at
  dsimp only [id]
  pointwise
  exact congrArg₂ (· + ·) (Finset.sum_congr rfl fun k _ => congrArg₂ (· * ·) (lnR_div (loadR V 1).g (loadR V 1).b (fun k => V (Proc.devRef .tc main_v87) (ix3 b t k)) k) rfl) rfl
/-- How far the rows move scan 1. -/
theorem lead1_ds (s : Fin 64) : afterL lead1 V (Proc.devRef .tc main_v154_1) (ix3 t b s) = dlR (loadR V 1) (fun k => V (Proc.devRef .tc main_v87) (ix3 b t k)) s := by
  simp only [afterL_cons, afterL_nil]
  after_reads_at
  dsimp only [id]
  pointwise
  refine congrArg Ideal.logistic ?_
  exact congrArg₂ (· + ·) (Finset.sum_congr rfl fun k _ => congrArg₂ (· * ·) (lnR_div (loadR V 1).g (loadR V 1).b (fun k => V (Proc.devRef .tc main_v87) (ix3 b t k)) k) rfl) rfl
/-- The matrix of the recurrence of scan 1. -/
theorem lead1_A (s k : Fin 64) : afterL lead1 V (Proc.devRef .tc main_v154_2) (ix2 s k) = (loadR V 1).A s k := by
  simp only [afterL_cons, afterL_nil]
  after_reads_at
  rfl
/-- The output matrix of scan 1. -/
theorem lead1_C (k : Fin 512) (s : Fin 64) : afterL lead1 V (Proc.devRef .tc main_v154_3) (ix2 k s) = (loadR V 1).C k s := by
  simp only [afterL_cons, afterL_nil]
  after_reads_at
  rfl
/-- Scan 1 starts from zero. -/
theorem lead1_st (s : Fin 64) : @Eq EReal (afterL lead1 V (Proc.devRef .tc main_v154_5) (ix2 b s)) 0 := by
  simp only [afterL_cons, afterL_nil]
  after_reads_at
  dsimp only [id]
  pointwise
/-- The gate's weights of layer 1. -/
theorem lead1_gW (k s : Fin 512) : afterL lead1 V (Proc.devRef .tc main_v105) (ix2 k s) = (loadR V 1).gW k s := by
  simp only [afterL_cons, afterL_nil]
  after_reads_at
  rfl
/-- The gate's bias of layer 1. -/
theorem lead1_gb (s : Fin 512) : afterL lead1 V (Proc.devRef .tc main_v107) (ix1 s) = (loadR V 1).gb s := by
  simp only [afterL_cons, afterL_nil]
  after_reads_at
  rfl
/-- The output weights of layer 1. -/
theorem lead1_oW (k s : Fin 512) : afterL lead1 V (Proc.devRef .tc main_v109) (ix2 k s) = (loadR V 1).oW k s := by
  simp only [afterL_cons, afterL_nil]
  after_reads_at
  rfl
/-- The output bias of layer 1. -/
theorem lead1_ob (s : Fin 512) : afterL lead1 V (Proc.devRef .tc main_v111) (ix1 s) = (loadR V 1).ob s := by
  simp only [afterL_cons, afterL_nil]
  after_reads_at
  rfl
/-- The hidden rows are kept up to scan 1. -/
theorem lead1_h (k : Fin 512) : afterL lead1 V (Proc.devRef .tc main_v87) (ix3 b t k) = V (Proc.devRef .tc main_v87) (ix3 b t k) := by
  simp only [afterL_cons, afterL_nil]
  after_reads_at

/-- What layer 1 makes of its scan's outputs. -/
theorem tail1 (j : Fin 512) : after opsG1 V (Proc.devRef .tc main_v171) (ix3 b t j) =
    outX (fun x k => V (Proc.devRef .tc main_v105) (ix2 x k)) (fun k => V (Proc.devRef .tc main_v107) (ix1 k)) (fun k j => V (Proc.devRef .tc main_v109) (ix2 k j)) (fun j => V (Proc.devRef .tc main_v111) (ix1 j))
      (fun x => V (Proc.devRef .tc main_v135) (ix3 b t x)) (fun k => V (Proc.devRef .tc main_v154_6) (ix3 t b k)) (fun j => V (Proc.devRef .tc main_v87) (ix3 b t j)) j := by
  after_reads_at
  rfl

end Lead

section Step
variable (V : Valuation τ sig (Elt Ideal)) (k : Fin 2048) (hc : V (Proc.devRef .tc main_v154_4) = fun _ => Scf.iv 0#32 1#32 k.val)
include hc

/-- The step's rows taken out. -/
theorem take1_xs (b : Fin 32) (s : Fin 64) : after opsB1a V (Proc.devRef .tc main_while1b_v412) (ix2 b s) = V (Proc.devRef .tc main_v154_0) (ix3 k b s) := by
  after_reads_simp
  simp -implicitDefEqProofs only [TRef.toBuf, TRef.ofBuf, cast_cast, cast_eq]
  refine take_cast_at _ _ k b s ?_ rfl rfl
  show BitVec.toInt (upto opsB1a V 2 (Proc.devRef .tc main_v154_4) (Shape.Idx.first h_S_)) = _
  rw [show upto opsB1a V 2 (Proc.devRef .tc main_v154_4) = V (Proc.devRef .tc main_v154_4) from by after_reads_simp, hc]
  exact iv_toInt k.val k.isLt
/-- The step's decays taken out. -/
theorem take1_ds (b : Fin 32) (s : Fin 64) : after opsB1b V (Proc.devRef .tc main_while1b_v413) (ix2 b s) = V (Proc.devRef .tc main_v154_1) (ix3 k b s) := by
  after_reads_simp
  simp -implicitDefEqProofs only [TRef.toBuf, TRef.ofBuf, cast_cast, cast_eq]
  refine take_cast_at _ _ k b s ?_ rfl rfl
  show BitVec.toInt (upto opsB1b V 2 (Proc.devRef .tc main_v154_4) (Shape.Idx.first h_S_)) = _
  rw [show upto opsB1b V 2 (Proc.devRef .tc main_v154_4) = V (Proc.devRef .tc main_v154_4) from by after_reads_simp, hc]
  exact iv_toInt k.val k.isLt
omit hc in
/-- The step's new state. -/
theorem step1_st (b : Fin 32) (s : Fin 64) : after opsB1c V (Proc.devRef .tc main_while1b_v421) (ix2 b s) =
    stepR (fun s k => V (Proc.devRef .tc main_v154_2) (ix2 s k)) (fun s => V (Proc.devRef .tc main_while1b_v412) (ix2 b s)) (fun s => V (Proc.devRef .tc main_while1b_v413) (ix2 b s)) (fun s => V (Proc.devRef .tc main_v154_5) (ix2 b s)) s := by
  after_reads_at
  rfl
omit hc in
/-- The step's output. -/
theorem step1_out (b : Fin 32) (j : Fin 512) : @Eq EReal (after opsB1c V (Proc.devRef .tc main_while1b_v423) (ix2 b j))
    (∑ s : Fin 64, stepR (fun s k => V (Proc.devRef .tc main_v154_2) (ix2 s k)) (fun s => V (Proc.devRef .tc main_while1b_v412) (ix2 b s)) (fun s => V (Proc.devRef .tc main_while1b_v413) (ix2 b s)) (fun s => V (Proc.devRef .tc main_v154_5) (ix2 b s)) s * @id EReal (V (Proc.devRef .tc main_v154_3) (ix2 j s))) := by
  after_reads_at
  rfl
/-- The step's output put in its row. -/
theorem put1 (t : Fin 2048) (b : Fin 32) (j : Fin 512) : after opsB1d V (Proc.devRef .tc main_while1b_v424) (ix3 t b j) =
    if t.val = k.val then V (Proc.devRef .tc main_while1b_v423) (ix2 b j) else V (Proc.devRef .tc main_v154_6) (ix3 t b j) := by
  after_reads_simp
  simp -implicitDefEqProofs only [TRef.toBuf, TRef.ofBuf, cast_cast, cast_eq]
  refine (put_at _ _ _ k ?_ rfl rfl _ t b j).trans ?_
  · show BitVec.toInt (upto opsB1d V 3 (Proc.devRef .tc main_v154_4) (Shape.Idx.first h_S_)) = _
    rw [show upto opsB1d V 3 (Proc.devRef .tc main_v154_4) = V (Proc.devRef .tc main_v154_4) from by after_reads_simp, hc]
    exact iv_toInt k.val k.isLt
  · pointwise

end Step

section Keep
variable {F : FTy → Type} [FloatOps F] (V : Valuation τ sig (Elt F)) (r : Ref sig .tc)

/-- The test of scan 1 keeps what it does not write. -/
theorem keepC1 (h : r ∉ opsC1_W) : after opsC1 V (Proc.devRef .tc r) = V (Proc.devRef .tc r) := after_of_writes_sub opsC1 V opsC1_writes h
/-- The first slice keeps what it does not write. -/
theorem keepA1 (h : r ∉ opsB1a_W) : after opsB1a V (Proc.devRef .tc r) = V (Proc.devRef .tc r) := after_of_writes_sub opsB1a V opsB1a_writes h
/-- The second slice keeps what it does not write. -/
theorem keepB1 (h : r ∉ opsB1b_W) : after opsB1b V (Proc.devRef .tc r) = V (Proc.devRef .tc r) := after_of_writes_sub opsB1b V opsB1b_writes h
/-- The step keeps what it does not write. -/
theorem keepS1 (h : r ∉ opsB1c_W) : after opsB1c V (Proc.devRef .tc r) = V (Proc.devRef .tc r) := after_of_writes_sub opsB1c V opsB1c_writes h
/-- The update keeps what it does not write. -/
theorem keepD1 (h : r ∉ opsB1d_W) : after opsB1d V (Proc.devRef .tc r) = V (Proc.devRef .tc r) := after_of_writes_sub opsB1d V opsB1d_writes h
/-- The carrying keeps what it does not write. -/
theorem keepE1 (h : r ∉ opsB1e_W) : after opsB1e V (Proc.devRef .tc r) = V (Proc.devRef .tc r) := after_of_writes_sub opsB1e V opsB1e_writes h
/-- A trip of scan 1 keeps what none of its pieces writes. -/
theorem keepT1 (h : r ∉ opsB1a_W ∧ r ∉ opsB1b_W ∧ r ∉ opsB1c_W ∧ r ∉ opsB1d_W ∧ r ∉ opsB1e_W) :
    afterL opsB1 V (Proc.devRef .tc r) = V (Proc.devRef .tc r) := by
  simp only [afterL_cons, afterL_nil]
  exact (keepE1 _ r h.2.2.2.2).trans ((keepD1 _ r h.2.2.2.1).trans ((keepS1 _ r h.2.2.1).trans ((keepB1 _ r h.2.1).trans (keepA1 _ r h.1))))
/-- Scan 1 keeps what it does not write. -/
theorem keepX1 (W : Dev nD → Valuation τ sig (Elt F)) (c : Dev nD) (k : ℕ) (h : r ∉ opsC1_W ∧ r ∉ opsB1a_W ∧ r ∉ opsB1b_W ∧ r ∉ opsB1c_W ∧ r ∉ opsB1d_W ∧ r ∉ opsB1e_W) :
    atTrip opsC1 opsB1 W k c (Proc.devRef .tc r) = W c (Proc.devRef .tc r) :=
  atTrip_keep opsC1 opsB1 r (fun V => keepC1 V r h.1) (fun V => keepT1 V r h.2) W c k

/-- The buffers after layer 1, from those before it. -/
def M1 (W : Dev nD → Valuation τ sig (Elt F)) (c : Dev nD) : Valuation τ sig (Elt F) :=
  after opsG1 (after opsC1 (atTrip opsC1 opsB1 (fun c => afterL lead1 (W c)) 2048 c))

/-- Layer 1 keeps the arguments. -/
theorem keepM1 (W : Dev nD → Valuation τ sig (Elt F)) (c : Dev nD) (h : r ∈ argRefs) : M1 W c (Proc.devRef .tc r) = W c (Proc.devRef .tc r) := by
  have hW : ∀ r ∈ argRefs, r ∉ opsW1_W ∧ r ∉ opsN1_W ∧ r ∉ opsX1_W ∧ r ∉ opsE1_W ∧ r ∉ opsG1_W := by decide
  have hB : ∀ r ∈ argRefs, r ∉ opsC1_W ∧ r ∉ opsB1a_W ∧ r ∉ opsB1b_W ∧ r ∉ opsB1c_W ∧ r ∉ opsB1d_W ∧ r ∉ opsB1e_W := by decide
  have e : afterL lead1 (W c) (Proc.devRef .tc r) = W c (Proc.devRef .tc r) := by
    simp only [afterL_cons, afterL_nil]
    exact (after_of_writes_sub opsE1 _ opsE1_writes (hW r h).2.2.2.1).trans ((after_of_writes_sub opsX1 _ opsX1_writes (hW r h).2.2.1).trans
      ((after_of_writes_sub opsN1 _ opsN1_writes (hW r h).2.1).trans (after_of_writes_sub opsW1 _ opsW1_writes (hW r h).1)))
  exact (after_of_writes_sub opsG1 _ opsG1_writes (hW r h).2.2.2.2).trans ((keepC1 _ r (hB r h).1).trans ((keepX1 r (fun c => afterL lead1 (W c)) c 2048 (hB r h)).trans e))

end Keep

section Scan
variable (V : Valuation τ sig (Elt Ideal)) (k : Fin 2048) (hc : V (Proc.devRef .tc main_v154_4) = fun _ => Scf.iv 0#32 1#32 k.val)
include hc

/-- The rows taken by a trip. -/
theorem row1_xs (b : Fin 32) (s : Fin 64) : after opsB1b (after opsB1a (after opsC1 V)) (Proc.devRef .tc main_while1b_v412) (ix2 b s) = V (Proc.devRef .tc main_v154_0) (ix3 k b s) :=
  (congrFun (keepB1 _ main_while1b_v412 (by decide)) (ix2 b s)).trans
    ((take1_xs (after opsC1 V) k ((keepC1 V main_v154_4 (by decide)).trans hc) b s).trans (congrFun (keepC1 V main_v154_0 (by decide)) (ix3 k b s)))
/-- The decays taken by a trip. -/
theorem row1_ds (b : Fin 32) (s : Fin 64) : after opsB1b (after opsB1a (after opsC1 V)) (Proc.devRef .tc main_while1b_v413) (ix2 b s) = V (Proc.devRef .tc main_v154_1) (ix3 k b s) :=
  (take1_ds (after opsB1a (after opsC1 V)) k ((keepA1 _ main_v154_4 (by decide)).trans ((keepC1 V main_v154_4 (by decide)).trans hc)) b s).trans
    ((congrFun (keepA1 _ main_v154_1 (by decide)) (ix3 k b s)).trans (congrFun (keepC1 V main_v154_1 (by decide)) (ix3 k b s)))

/-- The state a trip leaves, before it is carried. -/
theorem new1_st (b : Fin 32) (s : Fin 64) : after opsB1c (after opsB1b (after opsB1a (after opsC1 V))) (Proc.devRef .tc main_while1b_v421) (ix2 b s) =
    stepR (fun s k => V (Proc.devRef .tc main_v154_2) (ix2 s k)) (fun s => V (Proc.devRef .tc main_v154_0) (ix3 k b s)) (fun s => V (Proc.devRef .tc main_v154_1) (ix3 k b s)) (fun s => V (Proc.devRef .tc main_v154_5) (ix2 b s)) s := by
  refine (step1_st _ b s).trans ?_
  refine congrFun (congr (congr (congr (congrArg stepR (funext₂ fun s k => ?_)) (funext fun s => row1_xs V k hc b s)) (funext fun s => row1_ds V k hc b s)) (funext fun s => ?_)) s
  · exact congrFun ((keepB1 _ main_v154_2 (by decide)).trans ((keepA1 _ main_v154_2 (by decide)).trans (keepC1 V main_v154_2 (by decide)))) (ix2 s k)
  · exact congrFun ((keepB1 _ main_v154_5 (by decide)).trans ((keepA1 _ main_v154_5 (by decide)).trans (keepC1 V main_v154_5 (by decide)))) (ix2 b s)

/-- The state after a trip. -/
theorem trip1_st (b : Fin 32) (s : Fin 64) : afterL opsB1 (after opsC1 V) (Proc.devRef .tc main_v154_5) (ix2 b s) =
    stepR (fun s k => V (Proc.devRef .tc main_v154_2) (ix2 s k)) (fun s => V (Proc.devRef .tc main_v154_0) (ix3 k b s)) (fun s => V (Proc.devRef .tc main_v154_1) (ix3 k b s)) (fun s => V (Proc.devRef .tc main_v154_5) (ix2 b s)) s := by
  simp only [afterL_cons, afterL_nil]
  refine Eq.trans ?_ (new1_st V k hc b s)
  refine Eq.trans ?_ (congrFun (keepD1 _ main_while1b_v421 (by decide)) (ix2 b s))
  after_reads_simp
  rfl

/-- The outputs after a trip. -/
theorem trip1_out (t : Fin 2048) (b : Fin 32) (j : Fin 512) : @Eq EReal (afterL opsB1 (after opsC1 V) (Proc.devRef .tc main_v154_6) (ix3 t b j))
    (if t.val = k.val then ∑ s : Fin 64, @id EReal (afterL opsB1 (after opsC1 V) (Proc.devRef .tc main_v154_5) (ix2 b s)) * @id EReal (V (Proc.devRef .tc main_v154_3) (ix2 j s)) else V (Proc.devRef .tc main_v154_6) (ix3 t b j)) := by
  have e1 : ∀ s, afterL opsB1 (after opsC1 V) (Proc.devRef .tc main_v154_5) (ix2 b s) = after opsB1c (after opsB1b (after opsB1a (after opsC1 V))) (Proc.devRef .tc main_while1b_v421) (ix2 b s) :=
    fun s => (trip1_st V k hc b s).trans (new1_st V k hc b s).symm
  have hd : ∀ r, r ∉ opsC1_W → r ∉ opsB1a_W → r ∉ opsB1b_W → after opsB1b (after opsB1a (after opsC1 V)) (Proc.devRef .tc r) = V (Proc.devRef .tc r) :=
    fun r h1 h2 h3 => (keepB1 _ r h3).trans ((keepA1 _ r h2).trans (keepC1 V r h1))
  have main := put1 (after opsB1c (after opsB1b (after opsB1a (after opsC1 V)))) k
    ((keepS1 _ main_v154_4 (by decide)).trans ((hd main_v154_4 (by decide) (by decide) (by decide)).trans hc)) t b j
  have last : afterL opsB1 (after opsC1 V) (Proc.devRef .tc main_v154_6) = after opsB1d (after opsB1c (after opsB1b (after opsB1a (after opsC1 V)))) (Proc.devRef .tc main_while1b_v424) := by
    simp only [afterL_cons, afterL_nil]
    generalize after opsB1d (after opsB1c (after opsB1b (after opsB1a (after opsC1 V)))) = V'
    after_reads_simp
    rfl
  refine (congrFun last (ix3 t b j)).trans (main.trans ?_)
  by_cases h : t.val = k.val
  · rw [if_pos h, if_pos h]
    refine (step1_out _ b j).trans (Finset.sum_congr rfl fun s _ => congrArg₂ (· * ·) ?_ (congrFun (hd main_v154_3 (by decide) (by decide) (by decide)) (ix2 j s)))
    exact (step1_st _ b s).symm.trans (e1 s).symm
  · rw [if_neg h, if_neg h]
    exact (congrFun (keepS1 _ main_v154_6 (by decide)) (ix3 t b j)).trans (congrFun (hd main_v154_6 (by decide) (by decide) (by decide)) (ix3 t b j))

end Scan

section Layer
variable (W : Dev nD → Valuation τ sig (Elt Ideal)) (c : Dev nD)

/-- The scan's outputs, row by row. -/
theorem scan1 (t : Fin 2048) (b : Fin 32) : (fun j => (atTrip opsC1 opsB1 (fun c => afterL lead1 (W c)) 2048 c (Proc.devRef .tc main_v154_6) (ix3 t b j) : EReal)) =
    fun j => ∑ s, stR (loadR (W c) 1) (seqRef (W c (Proc.devRef .tc main_v87)) b) (fun _ => 0) (t.val + 1) s * (loadR (W c) 1).C j s := by
  have h0 : ∀ c, (fun c => afterL lead1 (W c)) c (Proc.devRef .tc main_v154_4) = fun _ => (0#32 : BitVec 32) := fun c => by
    simp only [afterL_cons, afterL_nil]; exact ctrStart1 _
  have ctr := ctrAt1 (fun c => afterL lead1 (W c)) h0 c
  refine scan_rows (loadR (W c) 1) (fun b => seqRef (W c (Proc.devRef .tc main_v87)) b)
    (fun k b s => atTrip opsC1 opsB1 (fun c => afterL lead1 (W c)) k c (Proc.devRef .tc main_v154_5) (ix2 b s))
    (fun k t b j => atTrip opsC1 opsB1 (fun c => afterL lead1 (W c)) k c (Proc.devRef .tc main_v154_6) (ix3 t b j)) ?_ ?_ ?_ t b
  · intro b; funext s; exact lead1_st (W c) b s
  · intro k hk b; funext s
    refine (trip1_st _ ⟨k, hk⟩ (ctr k) b s).trans ?_
    refine congrFun (congr (congr (congr (congrArg stepR (funext₂ fun s k' => ?_)) (funext fun s => ?_)) (funext fun s => ?_)) rfl) s
    · exact (congrFun (keepX1 main_v154_2 (fun c => afterL lead1 (W c)) c k (by decide)) (ix2 s k')).trans (lead1_A (W c) s k')
    · rw [show seqRef (W c (Proc.devRef .tc main_v87)) b k = fun l => W c (Proc.devRef .tc main_v87) (ix3 b ⟨k, hk⟩ l) from seqRef_lt _ b ⟨k, hk⟩]
      exact (congrFun (keepX1 main_v154_0 (fun c => afterL lead1 (W c)) c k (by decide)) (ix3 ⟨k, hk⟩ b s)).trans (lead1_xs (W c) b ⟨k, hk⟩ s)
    · rw [show seqRef (W c (Proc.devRef .tc main_v87)) b k = fun l => W c (Proc.devRef .tc main_v87) (ix3 b ⟨k, hk⟩ l) from seqRef_lt _ b ⟨k, hk⟩]
      exact (congrFun (keepX1 main_v154_1 (fun c => afterL lead1 (W c)) c k (by decide)) (ix3 ⟨k, hk⟩ b s)).trans (lead1_ds (W c) b ⟨k, hk⟩ s)
  · intro k hk t b
    have hC : ∀ j s, atTrip opsC1 opsB1 (fun c => afterL lead1 (W c)) k c (Proc.devRef .tc main_v154_3) (ix2 j s) = (loadR (W c) 1).C j s :=
      fun j s => (congrFun (keepX1 main_v154_3 (fun c => afterL lead1 (W c)) c k (by decide)) (ix2 j s)).trans (lead1_C (W c) j s)
    by_cases h : t.val = k
    · rw [if_pos h]; funext j
      refine (trip1_out _ ⟨k, hk⟩ (ctr k) t b j).trans ?_
      rw [if_pos h]
      exact Finset.sum_congr rfl fun s _ => congrArg₂ (· * ·) rfl (hC j s)
    · rw [if_neg h]; funext j
      refine (trip1_out _ ⟨k, hk⟩ (ctr k) t b j).trans ?_
      rw [if_neg h]

/-- Layer 1's hidden rows, from those before it. -/
theorem lay1 (b : Fin 32) (t : Fin 2048) (j : Fin 512) : M1 W c (Proc.devRef .tc main_v171) (ix3 b t j) = layR (loadR (W c) 1) (seqRef (W c (Proc.devRef .tc main_v87)) b) t.val j := by
  have kp : ∀ r, (r ∉ opsC1_W ∧ r ∉ opsB1a_W ∧ r ∉ opsB1b_W ∧ r ∉ opsB1c_W ∧ r ∉ opsB1d_W ∧ r ∉ opsB1e_W) →
      after opsC1 (atTrip opsC1 opsB1 (fun c => afterL lead1 (W c)) 2048 c) (Proc.devRef .tc r) = afterL lead1 (W c) (Proc.devRef .tc r) :=
    fun r h => (keepC1 _ r h.1).trans (keepX1 r (fun c => afterL lead1 (W c)) c 2048 h)
  refine (tail1 _ b t j).trans ?_
  show _ = outX (loadR (W c) 1).gW (loadR (W c) 1).gb (loadR (W c) 1).oW (loadR (W c) 1).ob (lnR (loadR (W c) 1).g (loadR (W c) 1).b (seqRef (W c (Proc.devRef .tc main_v87)) b t.val))
    (fun k => ∑ s, stR (loadR (W c) 1) (seqRef (W c (Proc.devRef .tc main_v87)) b) (fun _ => 0) (t.val + 1) s * (loadR (W c) 1).C k s) (seqRef (W c (Proc.devRef .tc main_v87)) b t.val) j
  rw [seqRef_lt _ b t]
  refine congrFun (congr (congr (congr (congr (congr (congr (congrArg outX (funext₂ fun k s => ?_)) (funext fun s => ?_)) (funext₂ fun k s => ?_)) (funext fun s => ?_)) (funext fun s => ?_)) ?_) (funext fun s => ?_)) j
  · exact (congrFun (kp main_v105 (by decide)) (ix2 k s)).trans (lead1_gW (W c) k s)
  · exact (congrFun (kp main_v107 (by decide)) (ix1 s)).trans (lead1_gb (W c) s)
  · exact (congrFun (kp main_v109 (by decide)) (ix2 k s)).trans (lead1_oW (W c) k s)
  · exact (congrFun (kp main_v111 (by decide)) (ix1 s)).trans (lead1_ob (W c) s)
  · exact (congrFun (kp main_v135 (by decide)) (ix3 b t s)).trans (lead1_ln (W c) b t s)
  · exact (funext fun s => congrFun (keepC1 _ main_v154_6 (by decide)) (ix3 t b s)).trans (scan1 W c t b)
  · exact (congrFun (kp main_v87 (by decide)) (ix3 b t s)).trans (lead1_h (W c) b t s)

end Layer
end Cert.Ref
-- ==== Proof.RefLayer2.lean ====
module

public import proofs.«01_k».proof.Proof.RefHost

@[expose] public section

set_option maxRecDepth 16384

noncomputable section

namespace Cert.Ref

open Idealize.ShloMosaic Idealize.ShloMosaic.TcCoe
open Cert.ReferenceIdeal Cert.ReferenceIdeal.Gen Cert.Spec
open Idealize.ShloMosaic.StableHlo

/-- Layer 2's operations before its scan. -/
abbrev lead2 {F : FTy → Type} [FloatOps F] : List (List (HloOp τ sig (Elt F))) := [opsW2, opsN2, opsX2, opsE2]

section Lead
variable (V : Valuation τ sig (Elt Ideal)) (b : Fin 32) (t : Fin 2048)

/-- The normalised rows before scan 2. -/
theorem lead2_ln (k : Fin 512) : afterL lead2 V (Proc.devRef .tc main_v219) (ix3 b t k) = lnR (loadR V 2).g (loadR V 2).b (fun k => V (Proc.devRef .tc main_v171) (ix3 b t k)) k := by
  simp only [afterL_cons, afterL_nil]
  after_reads_at
  exact lnR_div (loadR V 2).g (loadR V 2).b (fun k => V (Proc.devRef .tc main_v171) (ix3 b t k)) k
/-- What the rows put into scan 2. -/
theorem lead2_xs (s : Fin 64) : afterL lead2 V (Proc.devRef .tc main_v238_0) (ix3 t b s) = xpR (loadR V 2) (fun k => V (Proc.devRef .tc main_v171) (ix3 b t k)) s := by
  simp only [afterL_cons, afterL_nil]
  after_reads_at
  dsimp only [id]
  pointwise
  exact congrArg₂ (· + ·) (Finset.sum_congr rfl fun k _ => congrArg₂ (· * ·) (lnR_div (loadR V 2).g (loadR V 2).b (fun k => V (Proc.devRef .tc main_v171) (ix3 b t k)) k) rfl) rfl
/-- How far the rows move scan 2. -/
theorem lead2_ds (s : Fin 64) : afterL lead2 V (Proc.devRef .tc main_v238_1) (ix3 t b s) = dlR (loadR V 2) (fun k => V (Proc.devRef .tc main_v171) (ix3 b t k)) s := by
  simp only [afterL_cons, afterL_nil]
  after_reads_at
  dsimp only [id]
  pointwise
  refine congrArg Ideal.logistic ?_
  exact congrArg₂ (· + ·) (Finset.sum_congr rfl fun k _ => congrArg₂ (· * ·) (lnR_div (loadR V 2).g (loadR V 2).b (fun k => V (Proc.devRef .tc main_v171) (ix3 b t k)) k) rfl) rfl
/-- The matrix of the recurrence of scan 2. -/
theorem lead2_A (s k : Fin 64) : afterL lead2 V (Proc.devRef .tc main_v238_2) (ix2 s k) = (loadR V 2).A s k := by
  simp only [afterL_cons, afterL_nil]
  after_reads_at
  rfl
/-- The output matrix of scan 2. -/
theorem lead2_C (k : Fin 512) (s : Fin 64) : afterL lead2 V (Proc.devRef .tc main_v238_3) (ix2 k s) = (loadR V 2).C k s := by
  simp only [afterL_cons, afterL_nil]
  after_reads_at
  rfl
/-- Scan 2 starts from zero. -/
theorem lead2_st (s : Fin 64) : @Eq EReal (afterL lead2 V (Proc.devRef .tc main_v238_5) (ix2 b s)) 0 := by
  simp only [afterL_cons, afterL_nil]
  after_reads_at
  dsimp only [id]
  pointwise
/-- The gate's weights of layer 2. -/
theorem lead2_gW (k s : Fin 512) : afterL lead2 V (Proc.devRef .tc main_v189) (ix2 k s) = (loadR V 2).gW k s := by
  simp only [afterL_cons, afterL_nil]
  after_reads_at
  rfl
/-- The gate's bias of layer 2. -/
theorem lead2_gb (s : Fin 512) : afterL lead2 V (Proc.devRef .tc main_v191) (ix1 s) = (loadR V 2).gb s := by
  simp only [afterL_cons, afterL_nil]
  after_reads_at
  rfl
/-- The output weights of layer 2. -/
theorem lead2_oW (k s : Fin 512) : afterL lead2 V (Proc.devRef .tc main_v193) (ix2 k s) = (loadR V 2).oW k s := by
  simp only [afterL_cons, afterL_nil]
  after_reads_at
  rfl
/-- The output bias of layer 2. -/
theorem lead2_ob (s : Fin 512) : afterL lead2 V (Proc.devRef .tc main_v195) (ix1 s) = (loadR V 2).ob s := by
  simp only [afterL_cons, afterL_nil]
  after_reads_at
  rfl
/-- The hidden rows are kept up to scan 2. -/
theorem lead2_h (k : Fin 512) : afterL lead2 V (Proc.devRef .tc main_v171) (ix3 b t k) = V (Proc.devRef .tc main_v171) (ix3 b t k) := by
  simp only [afterL_cons, afterL_nil]
  after_reads_at

/-- What layer 2 makes of its scan's outputs. -/
theorem tail2 (j : Fin 512) : after opsG2 V (Proc.devRef .tc main_v255) (ix3 b t j) =
    outX (fun x k => V (Proc.devRef .tc main_v189) (ix2 x k)) (fun k => V (Proc.devRef .tc main_v191) (ix1 k)) (fun k j => V (Proc.devRef .tc main_v193) (ix2 k j)) (fun j => V (Proc.devRef .tc main_v195) (ix1 j))
      (fun x => V (Proc.devRef .tc main_v219) (ix3 b t x)) (fun k => V (Proc.devRef .tc main_v238_6) (ix3 t b k)) (fun j => V (Proc.devRef .tc main_v171) (ix3 b t j)) j := by
  after_reads_at
  rfl

end Lead

section Step
variable (V : Valuation τ sig (Elt Ideal)) (k : Fin 2048) (hc : V (Proc.devRef .tc main_v238_4) = fun _ => Scf.iv 0#32 1#32 k.val)
include hc

/-- The step's rows taken out. -/
theorem take2_xs (b : Fin 32) (s : Fin 64) : after opsB2a V (Proc.devRef .tc main_while2b_v412) (ix2 b s) = V (Proc.devRef .tc main_v238_0) (ix3 k b s) := by
  after_reads_simp
  simp -implicitDefEqProofs only [TRef.toBuf, TRef.ofBuf, cast_cast, cast_eq]
  refine take_cast_at _ _ k b s ?_ rfl rfl
  show BitVec.toInt (upto opsB2a V 2 (Proc.devRef .tc main_v238_4) (Shape.Idx.first h_S_)) = _
  rw [show upto opsB2a V 2 (Proc.devRef .tc main_v238_4) = V (Proc.devRef .tc main_v238_4) from by after_reads_simp, hc]
  exact iv_toInt k.val k.isLt
/-- The step's decays taken out. -/
theorem take2_ds (b : Fin 32) (s : Fin 64) : after opsB2b V (Proc.devRef .tc main_while2b_v413) (ix2 b s) = V (Proc.devRef .tc main_v238_1) (ix3 k b s) := by
  after_reads_simp
  simp -implicitDefEqProofs only [TRef.toBuf, TRef.ofBuf, cast_cast, cast_eq]
  refine take_cast_at _ _ k b s ?_ rfl rfl
  show BitVec.toInt (upto opsB2b V 2 (Proc.devRef .tc main_v238_4) (Shape.Idx.first h_S_)) = _
  rw [show upto opsB2b V 2 (Proc.devRef .tc main_v238_4) = V (Proc.devRef .tc main_v238_4) from by after_reads_simp, hc]
  exact iv_toInt k.val k.isLt
omit hc in
/-- The step's new state. -/
theorem step2_st (b : Fin 32) (s : Fin 64) : after opsB2c V (Proc.devRef .tc main_while2b_v421) (ix2 b s) =
    stepR (fun s k => V (Proc.devRef .tc main_v238_2) (ix2 s k)) (fun s => V (Proc.devRef .tc main_while2b_v412) (ix2 b s)) (fun s => V (Proc.devRef .tc main_while2b_v413) (ix2 b s)) (fun s => V (Proc.devRef .tc main_v238_5) (ix2 b s)) s := by
  after_reads_at
  rfl
omit hc in
/-- The step's output. -/
theorem step2_out (b : Fin 32) (j : Fin 512) : @Eq EReal (after opsB2c V (Proc.devRef .tc main_while2b_v423) (ix2 b j))
    (∑ s : Fin 64, stepR (fun s k => V (Proc.devRef .tc main_v238_2) (ix2 s k)) (fun s => V (Proc.devRef .tc main_while2b_v412) (ix2 b s)) (fun s => V (Proc.devRef .tc main_while2b_v413) (ix2 b s)) (fun s => V (Proc.devRef .tc main_v238_5) (ix2 b s)) s * @id EReal (V (Proc.devRef .tc main_v238_3) (ix2 j s))) := by
  after_reads_at
  rfl
/-- The step's output put in its row. -/
theorem put2 (t : Fin 2048) (b : Fin 32) (j : Fin 512) : after opsB2d V (Proc.devRef .tc main_while2b_v424) (ix3 t b j) =
    if t.val = k.val then V (Proc.devRef .tc main_while2b_v423) (ix2 b j) else V (Proc.devRef .tc main_v238_6) (ix3 t b j) := by
  after_reads_simp
  simp -implicitDefEqProofs only [TRef.toBuf, TRef.ofBuf, cast_cast, cast_eq]
  refine (put_at _ _ _ k ?_ rfl rfl _ t b j).trans ?_
  · show BitVec.toInt (upto opsB2d V 3 (Proc.devRef .tc main_v238_4) (Shape.Idx.first h_S_)) = _
    rw [show upto opsB2d V 3 (Proc.devRef .tc main_v238_4) = V (Proc.devRef .tc main_v238_4) from by after_reads_simp, hc]
    exact iv_toInt k.val k.isLt
  · pointwise

end Step

section Keep
variable {F : FTy → Type} [FloatOps F] (V : Valuation τ sig (Elt F)) (r : Ref sig .tc)

/-- The test of scan 2 keeps what it does not write. -/
theorem keepC2 (h : r ∉ opsC2_W) : after opsC2 V (Proc.devRef .tc r) = V (Proc.devRef .tc r) := after_of_writes_sub opsC2 V opsC2_writes h
/-- The first slice keeps what it does not write. -/
theorem keepA2 (h : r ∉ opsB2a_W) : after opsB2a V (Proc.devRef .tc r) = V (Proc.devRef .tc r) := after_of_writes_sub opsB2a V opsB2a_writes h
/-- The second slice keeps what it does not write. -/
theorem keepB2 (h : r ∉ opsB2b_W) : after opsB2b V (Proc.devRef .tc r) = V (Proc.devRef .tc r) := after_of_writes_sub opsB2b V opsB2b_writes h
/-- The step keeps what it does not write. -/
theorem keepS2 (h : r ∉ opsB2c_W) : after opsB2c V (Proc.devRef .tc r) = V (Proc.devRef .tc r) := after_of_writes_sub opsB2c V opsB2c_writes h
/-- The update keeps what it does not write. -/
theorem keepD2 (h : r ∉ opsB2d_W) : after opsB2d V (Proc.devRef .tc r) = V (Proc.devRef .tc r) := after_of_writes_sub opsB2d V opsB2d_writes h
/-- The carrying keeps what it does not write. -/
theorem keepE2 (h : r ∉ opsB2e_W) : after opsB2e V (Proc.devRef .tc r) = V (Proc.devRef .tc r) := after_of_writes_sub opsB2e V opsB2e_writes h
/-- A trip of scan 2 keeps what none of its pieces writes. -/
theorem keepT2 (h : r ∉ opsB2a_W ∧ r ∉ opsB2b_W ∧ r ∉ opsB2c_W ∧ r ∉ opsB2d_W ∧ r ∉ opsB2e_W) :
    afterL opsB2 V (Proc.devRef .tc r) = V (Proc.devRef .tc r) := by
  simp only [afterL_cons, afterL_nil]
  exact (keepE2 _ r h.2.2.2.2).trans ((keepD2 _ r h.2.2.2.1).trans ((keepS2 _ r h.2.2.1).trans ((keepB2 _ r h.2.1).trans (keepA2 _ r h.1))))
/-- Scan 2 keeps what it does not write. -/
theorem keepX2 (W : Dev nD → Valuation τ sig (Elt F)) (c : Dev nD) (k : ℕ) (h : r ∉ opsC2_W ∧ r ∉ opsB2a_W ∧ r ∉ opsB2b_W ∧ r ∉ opsB2c_W ∧ r ∉ opsB2d_W ∧ r ∉ opsB2e_W) :
    atTrip opsC2 opsB2 W k c (Proc.devRef .tc r) = W c (Proc.devRef .tc r) :=
  atTrip_keep opsC2 opsB2 r (fun V => keepC2 V r h.1) (fun V => keepT2 V r h.2) W c k

/-- The buffers after layer 2, from those before it. -/
def M2 (W : Dev nD → Valuation τ sig (Elt F)) (c : Dev nD) : Valuation τ sig (Elt F) :=
  after opsG2 (after opsC2 (atTrip opsC2 opsB2 (fun c => afterL lead2 (W c)) 2048 c))

/-- Layer 2 keeps the arguments. -/
theorem keepM2 (W : Dev nD → Valuation τ sig (Elt F)) (c : Dev nD) (h : r ∈ argRefs) : M2 W c (Proc.devRef .tc r) = W c (Proc.devRef .tc r) := by
  have hW : ∀ r ∈ argRefs, r ∉ opsW2_W ∧ r ∉ opsN2_W ∧ r ∉ opsX2_W ∧ r ∉ opsE2_W ∧ r ∉ opsG2_W := by decide
  have hB : ∀ r ∈ argRefs, r ∉ opsC2_W ∧ r ∉ opsB2a_W ∧ r ∉ opsB2b_W ∧ r ∉ opsB2c_W ∧ r ∉ opsB2d_W ∧ r ∉ opsB2e_W := by decide
  have e : afterL lead2 (W c) (Proc.devRef .tc r) = W c (Proc.devRef .tc r) := by
    simp only [afterL_cons, afterL_nil]
    exact (after_of_writes_sub opsE2 _ opsE2_writes (hW r h).2.2.2.1).trans ((after_of_writes_sub opsX2 _ opsX2_writes (hW r h).2.2.1).trans
      ((after_of_writes_sub opsN2 _ opsN2_writes (hW r h).2.1).trans (after_of_writes_sub opsW2 _ opsW2_writes (hW r h).1)))
  exact (after_of_writes_sub opsG2 _ opsG2_writes (hW r h).2.2.2.2).trans ((keepC2 _ r (hB r h).1).trans ((keepX2 r (fun c => afterL lead2 (W c)) c 2048 (hB r h)).trans e))

end Keep

section Scan
variable (V : Valuation τ sig (Elt Ideal)) (k : Fin 2048) (hc : V (Proc.devRef .tc main_v238_4) = fun _ => Scf.iv 0#32 1#32 k.val)
include hc

/-- The rows taken by a trip. -/
theorem row2_xs (b : Fin 32) (s : Fin 64) : after opsB2b (after opsB2a (after opsC2 V)) (Proc.devRef .tc main_while2b_v412) (ix2 b s) = V (Proc.devRef .tc main_v238_0) (ix3 k b s) :=
  (congrFun (keepB2 _ main_while2b_v412 (by decide)) (ix2 b s)).trans
    ((take2_xs (after opsC2 V) k ((keepC2 V main_v238_4 (by decide)).trans hc) b s).trans (congrFun (keepC2 V main_v238_0 (by decide)) (ix3 k b s)))
/-- The decays taken by a trip. -/
theorem row2_ds (b : Fin 32) (s : Fin 64) : after opsB2b (after opsB2a (after opsC2 V)) (Proc.devRef .tc main_while2b_v413) (ix2 b s) = V (Proc.devRef .tc main_v238_1) (ix3 k b s) :=
  (take2_ds (after opsB2a (after opsC2 V)) k ((keepA2 _ main_v238_4 (by decide)).trans ((keepC2 V main_v238_4 (by decide)).trans hc)) b s).trans
    ((congrFun (keepA2 _ main_v238_1 (by decide)) (ix3 k b s)).trans (congrFun (keepC2 V main_v238_1 (by decide)) (ix3 k b s)))

/-- The state a trip leaves, before it is carried. -/
theorem new2_st (b : Fin 32) (s : Fin 64) : after opsB2c (after opsB2b (after opsB2a (after opsC2 V))) (Proc.devRef .tc main_while2b_v421) (ix2 b s) =
    stepR (fun s k => V (Proc.devRef .tc main_v238_2) (ix2 s k)) (fun s => V (Proc.devRef .tc main_v238_0) (ix3 k b s)) (fun s => V (Proc.devRef .tc main_v238_1) (ix3 k b s)) (fun s => V (Proc.devRef .tc main_v238_5) (ix2 b s)) s := by
  refine (step2_st _ b s).trans ?_
  refine congrFun (congr (congr (congr (congrArg stepR (funext₂ fun s k => ?_)) (funext fun s => row2_xs V k hc b s)) (funext fun s => row2_ds V k hc b s)) (funext fun s => ?_)) s
  · exact congrFun ((keepB2 _ main_v238_2 (by decide)).trans ((keepA2 _ main_v238_2 (by decide)).trans (keepC2 V main_v238_2 (by decide)))) (ix2 s k)
  · exact congrFun ((keepB2 _ main_v238_5 (by decide)).trans ((keepA2 _ main_v238_5 (by decide)).trans (keepC2 V main_v238_5 (by decide)))) (ix2 b s)

/-- The state after a trip. -/
theorem trip2_st (b : Fin 32) (s : Fin 64) : afterL opsB2 (after opsC2 V) (Proc.devRef .tc main_v238_5) (ix2 b s) =
    stepR (fun s k => V (Proc.devRef .tc main_v238_2) (ix2 s k)) (fun s => V (Proc.devRef .tc main_v238_0) (ix3 k b s)) (fun s => V (Proc.devRef .tc main_v238_1) (ix3 k b s)) (fun s => V (Proc.devRef .tc main_v238_5) (ix2 b s)) s := by
  simp only [afterL_cons, afterL_nil]
  refine Eq.trans ?_ (new2_st V k hc b s)
  refine Eq.trans ?_ (congrFun (keepD2 _ main_while2b_v421 (by decide)) (ix2 b s))
  after_reads_simp
  rfl

/-- The outputs after a trip. -/
theorem trip2_out (t : Fin 2048) (b : Fin 32) (j : Fin 512) : @Eq EReal (afterL opsB2 (after opsC2 V) (Proc.devRef .tc main_v238_6) (ix3 t b j))
    (if t.val = k.val then ∑ s : Fin 64, @id EReal (afterL opsB2 (after opsC2 V) (Proc.devRef .tc main_v238_5) (ix2 b s)) * @id EReal (V (Proc.devRef .tc main_v238_3) (ix2 j s)) else V (Proc.devRef .tc main_v238_6) (ix3 t b j)) := by
  have e1 : ∀ s, afterL opsB2 (after opsC2 V) (Proc.devRef .tc main_v238_5) (ix2 b s) = after opsB2c (after opsB2b (after opsB2a (after opsC2 V))) (Proc.devRef .tc main_while2b_v421) (ix2 b s) :=
    fun s => (trip2_st V k hc b s).trans (new2_st V k hc b s).symm
  have hd : ∀ r, r ∉ opsC2_W → r ∉ opsB2a_W → r ∉ opsB2b_W → after opsB2b (after opsB2a (after opsC2 V)) (Proc.devRef .tc r) = V (Proc.devRef .tc r) :=
    fun r h1 h2 h3 => (keepB2 _ r h3).trans ((keepA2 _ r h2).trans (keepC2 V r h1))
  have main := put2 (after opsB2c (after opsB2b (after opsB2a (after opsC2 V)))) k
    ((keepS2 _ main_v238_4 (by decide)).trans ((hd main_v238_4 (by decide) (by decide) (by decide)).trans hc)) t b j
  have last : afterL opsB2 (after opsC2 V) (Proc.devRef .tc main_v238_6) = after opsB2d (after opsB2c (after opsB2b (after opsB2a (after opsC2 V)))) (Proc.devRef .tc main_while2b_v424) := by
    simp only [afterL_cons, afterL_nil]
    generalize after opsB2d (after opsB2c (after opsB2b (after opsB2a (after opsC2 V)))) = V'
    after_reads_simp
    rfl
  refine (congrFun last (ix3 t b j)).trans (main.trans ?_)
  by_cases h : t.val = k.val
  · rw [if_pos h, if_pos h]
    refine (step2_out _ b j).trans (Finset.sum_congr rfl fun s _ => congrArg₂ (· * ·) ?_ (congrFun (hd main_v238_3 (by decide) (by decide) (by decide)) (ix2 j s)))
    exact (step2_st _ b s).symm.trans (e1 s).symm
  · rw [if_neg h, if_neg h]
    exact (congrFun (keepS2 _ main_v238_6 (by decide)) (ix3 t b j)).trans (congrFun (hd main_v238_6 (by decide) (by decide) (by decide)) (ix3 t b j))

end Scan

section Layer
variable (W : Dev nD → Valuation τ sig (Elt Ideal)) (c : Dev nD)

/-- The scan's outputs, row by row. -/
theorem scan2 (t : Fin 2048) (b : Fin 32) : (fun j => (atTrip opsC2 opsB2 (fun c => afterL lead2 (W c)) 2048 c (Proc.devRef .tc main_v238_6) (ix3 t b j) : EReal)) =
    fun j => ∑ s, stR (loadR (W c) 2) (seqRef (W c (Proc.devRef .tc main_v171)) b) (fun _ => 0) (t.val + 1) s * (loadR (W c) 2).C j s := by
  have h0 : ∀ c, (fun c => afterL lead2 (W c)) c (Proc.devRef .tc main_v238_4) = fun _ => (0#32 : BitVec 32) := fun c => by
    simp only [afterL_cons, afterL_nil]; exact ctrStart2 _
  have ctr := ctrAt2 (fun c => afterL lead2 (W c)) h0 c
  refine scan_rows (loadR (W c) 2) (fun b => seqRef (W c (Proc.devRef .tc main_v171)) b)
    (fun k b s => atTrip opsC2 opsB2 (fun c => afterL lead2 (W c)) k c (Proc.devRef .tc main_v238_5) (ix2 b s))
    (fun k t b j => atTrip opsC2 opsB2 (fun c => afterL lead2 (W c)) k c (Proc.devRef .tc main_v238_6) (ix3 t b j)) ?_ ?_ ?_ t b
  · intro b; funext s; exact lead2_st (W c) b s
  · intro k hk b; funext s
    refine (trip2_st _ ⟨k, hk⟩ (ctr k) b s).trans ?_
    refine congrFun (congr (congr (congr (congrArg stepR (funext₂ fun s k' => ?_)) (funext fun s => ?_)) (funext fun s => ?_)) rfl) s
    · exact (congrFun (keepX2 main_v238_2 (fun c => afterL lead2 (W c)) c k (by decide)) (ix2 s k')).trans (lead2_A (W c) s k')
    · rw [show seqRef (W c (Proc.devRef .tc main_v171)) b k = fun l => W c (Proc.devRef .tc main_v171) (ix3 b ⟨k, hk⟩ l) from seqRef_lt _ b ⟨k, hk⟩]
      exact (congrFun (keepX2 main_v238_0 (fun c => afterL lead2 (W c)) c k (by decide)) (ix3 ⟨k, hk⟩ b s)).trans (lead2_xs (W c) b ⟨k, hk⟩ s)
    · rw [show seqRef (W c (Proc.devRef .tc main_v171)) b k = fun l => W c (Proc.devRef .tc main_v171) (ix3 b ⟨k, hk⟩ l) from seqRef_lt _ b ⟨k, hk⟩]
      exact (congrFun (keepX2 main_v238_1 (fun c => afterL lead2 (W c)) c k (by decide)) (ix3 ⟨k, hk⟩ b s)).trans (lead2_ds (W c) b ⟨k, hk⟩ s)
  · intro k hk t b
    have hC : ∀ j s, atTrip opsC2 opsB2 (fun c => afterL lead2 (W c)) k c (Proc.devRef .tc main_v238_3) (ix2 j s) = (loadR (W c) 2).C j s :=
      fun j s => (congrFun (keepX2 main_v238_3 (fun c => afterL lead2 (W c)) c k (by decide)) (ix2 j s)).trans (lead2_C (W c) j s)
    by_cases h : t.val = k
    · rw [if_pos h]; funext j
      refine (trip2_out _ ⟨k, hk⟩ (ctr k) t b j).trans ?_
      rw [if_pos h]
      exact Finset.sum_congr rfl fun s _ => congrArg₂ (· * ·) rfl (hC j s)
    · rw [if_neg h]; funext j
      refine (trip2_out _ ⟨k, hk⟩ (ctr k) t b j).trans ?_
      rw [if_neg h]

/-- Layer 2's hidden rows, from those before it. -/
theorem lay2 (b : Fin 32) (t : Fin 2048) (j : Fin 512) : M2 W c (Proc.devRef .tc main_v255) (ix3 b t j) = layR (loadR (W c) 2) (seqRef (W c (Proc.devRef .tc main_v171)) b) t.val j := by
  have kp : ∀ r, (r ∉ opsC2_W ∧ r ∉ opsB2a_W ∧ r ∉ opsB2b_W ∧ r ∉ opsB2c_W ∧ r ∉ opsB2d_W ∧ r ∉ opsB2e_W) →
      after opsC2 (atTrip opsC2 opsB2 (fun c => afterL lead2 (W c)) 2048 c) (Proc.devRef .tc r) = afterL lead2 (W c) (Proc.devRef .tc r) :=
    fun r h => (keepC2 _ r h.1).trans (keepX2 r (fun c => afterL lead2 (W c)) c 2048 h)
  refine (tail2 _ b t j).trans ?_
  show _ = outX (loadR (W c) 2).gW (loadR (W c) 2).gb (loadR (W c) 2).oW (loadR (W c) 2).ob (lnR (loadR (W c) 2).g (loadR (W c) 2).b (seqRef (W c (Proc.devRef .tc main_v171)) b t.val))
    (fun k => ∑ s, stR (loadR (W c) 2) (seqRef (W c (Proc.devRef .tc main_v171)) b) (fun _ => 0) (t.val + 1) s * (loadR (W c) 2).C k s) (seqRef (W c (Proc.devRef .tc main_v171)) b t.val) j
  rw [seqRef_lt _ b t]
  refine congrFun (congr (congr (congr (congr (congr (congr (congrArg outX (funext₂ fun k s => ?_)) (funext fun s => ?_)) (funext₂ fun k s => ?_)) (funext fun s => ?_)) (funext fun s => ?_)) ?_) (funext fun s => ?_)) j
  · exact (congrFun (kp main_v189 (by decide)) (ix2 k s)).trans (lead2_gW (W c) k s)
  · exact (congrFun (kp main_v191 (by decide)) (ix1 s)).trans (lead2_gb (W c) s)
  · exact (congrFun (kp main_v193 (by decide)) (ix2 k s)).trans (lead2_oW (W c) k s)
  · exact (congrFun (kp main_v195 (by decide)) (ix1 s)).trans (lead2_ob (W c) s)
  · exact (congrFun (kp main_v219 (by decide)) (ix3 b t s)).trans (lead2_ln (W c) b t s)
  · exact (funext fun s => congrFun (keepC2 _ main_v238_6 (by decide)) (ix3 t b s)).trans (scan2 W c t b)
  · exact (congrFun (kp main_v171 (by decide)) (ix3 b t s)).trans (lead2_h (W c) b t s)

end Layer
end Cert.Ref
-- ==== Proof.RefLayer3.lean ====
module

public import proofs.«01_k».proof.Proof.RefHost

@[expose] public section

set_option maxRecDepth 16384

noncomputable section

namespace Cert.Ref

open Idealize.ShloMosaic Idealize.ShloMosaic.TcCoe
open Cert.ReferenceIdeal Cert.ReferenceIdeal.Gen Cert.Spec
open Idealize.ShloMosaic.StableHlo

/-- Layer 3's operations before its scan. -/
abbrev lead3 {F : FTy → Type} [FloatOps F] : List (List (HloOp τ sig (Elt F))) := [opsW3, opsN3, opsX3, opsE3]

section Lead
variable (V : Valuation τ sig (Elt Ideal)) (b : Fin 32) (t : Fin 2048)

/-- The normalised rows before scan 3. -/
theorem lead3_ln (k : Fin 512) : afterL lead3 V (Proc.devRef .tc main_v303) (ix3 b t k) = lnR (loadR V 3).g (loadR V 3).b (fun k => V (Proc.devRef .tc main_v255) (ix3 b t k)) k := by
  simp only [afterL_cons, afterL_nil]
  after_reads_at
  exact lnR_div (loadR V 3).g (loadR V 3).b (fun k => V (Proc.devRef .tc main_v255) (ix3 b t k)) k
/-- What the rows put into scan 3. -/
theorem lead3_xs (s : Fin 64) : afterL lead3 V (Proc.devRef .tc main_v322_0) (ix3 t b s) = xpR (loadR V 3) (fun k => V (Proc.devRef .tc main_v255) (ix3 b t k)) s := by
  simp only [afterL_cons, afterL_nil]
  after_reads_at
  dsimp only [id]
  pointwise
  exact congrArg₂ (· + ·) (Finset.sum_congr rfl fun k _ => congrArg₂ (· * ·) (lnR_div (loadR V 3).g (loadR V 3).b (fun k => V (Proc.devRef .tc main_v255) (ix3 b t k)) k) rfl) rfl
/-- How far the rows move scan 3. -/
theorem lead3_ds (s : Fin 64) : afterL lead3 V (Proc.devRef .tc main_v322_1) (ix3 t b s) = dlR (loadR V 3) (fun k => V (Proc.devRef .tc main_v255) (ix3 b t k)) s := by
  simp only [afterL_cons, afterL_nil]
  after_reads_at
  dsimp only [id]
  pointwise
  refine congrArg Ideal.logistic ?_
  exact congrArg₂ (· + ·) (Finset.sum_congr rfl fun k _ => congrArg₂ (· * ·) (lnR_div (loadR V 3).g (loadR V 3).b (fun k => V (Proc.devRef .tc main_v255) (ix3 b t k)) k) rfl) rfl
/-- The matrix of the recurrence of scan 3. -/
theorem lead3_A (s k : Fin 64) : afterL lead3 V (Proc.devRef .tc main_v322_2) (ix2 s k) = (loadR V 3).A s k := by
  simp only [afterL_cons, afterL_nil]
  after_reads_at
  rfl
/-- The output matrix of scan 3. -/
theorem lead3_C (k : Fin 512) (s : Fin 64) : afterL lead3 V (Proc.devRef .tc main_v322_3) (ix2 k s) = (loadR V 3).C k s := by
  simp only [afterL_cons, afterL_nil]
  after_reads_at
  rfl
/-- Scan 3 starts from zero. -/
theorem lead3_st (s : Fin 64) : @Eq EReal (afterL lead3 V (Proc.devRef .tc main_v322_5) (ix2 b s)) 0 := by
  simp only [afterL_cons, afterL_nil]
  after_reads_at
  dsimp only [id]
  pointwise
/-- The gate's weights of layer 3. -/
theorem lead3_gW (k s : Fin 512) : afterL lead3 V (Proc.devRef .tc main_v273) (ix2 k s) = (loadR V 3).gW k s := by
  simp only [afterL_cons, afterL_nil]
  after_reads_at
  rfl
/-- The gate's bias of layer 3. -/
theorem lead3_gb (s : Fin 512) : afterL lead3 V (Proc.devRef .tc main_v275) (ix1 s) = (loadR V 3).gb s := by
  simp only [afterL_cons, afterL_nil]
  after_reads_at
  rfl
/-- The output weights of layer 3. -/
theorem lead3_oW (k s : Fin 512) : afterL lead3 V (Proc.devRef .tc main_v277) (ix2 k s) = (loadR V 3).oW k s := by
  simp only [afterL_cons, afterL_nil]
  after_reads_at
  rfl
/-- The output bias of layer 3. -/
theorem lead3_ob (s : Fin 512) : afterL lead3 V (Proc.devRef .tc main_v279) (ix1 s) = (loadR V 3).ob s := by
  simp only [afterL_cons, afterL_nil]
  after_reads_at
  rfl
/-- The hidden rows are kept up to scan 3. -/
theorem lead3_h (k : Fin 512) : afterL lead3 V (Proc.devRef .tc main_v255) (ix3 b t k) = V (Proc.devRef .tc main_v255) (ix3 b t k) := by
  simp only [afterL_cons, afterL_nil]
  after_reads_at

/-- What layer 3 makes of its scan's outputs. -/
theorem tail3 (j : Fin 512) : after opsG3 V (Proc.devRef .tc main_v339) (ix3 b t j) =
    outX (fun x k => V (Proc.devRef .tc main_v273) (ix2 x k)) (fun k => V (Proc.devRef .tc main_v275) (ix1 k)) (fun k j => V (Proc.devRef .tc main_v277) (ix2 k j)) (fun j => V (Proc.devRef .tc main_v279) (ix1 j))
      (fun x => V (Proc.devRef .tc main_v303) (ix3 b t x)) (fun k => V (Proc.devRef .tc main_v322_6) (ix3 t b k)) (fun j => V (Proc.devRef .tc main_v255) (ix3 b t j)) j := by
  after_reads_at
  rfl

end Lead

section Step
variable (V : Valuation τ sig (Elt Ideal)) (k : Fin 2048) (hc : V (Proc.devRef .tc main_v322_4) = fun _ => Scf.iv 0#32 1#32 k.val)
include hc

/-- The step's rows taken out. -/
theorem take3_xs (b : Fin 32) (s : Fin 64) : after opsB3a V (Proc.devRef .tc main_while3b_v412) (ix2 b s) = V (Proc.devRef .tc main_v322_0) (ix3 k b s) := by
  after_reads_simp
  simp -implicitDefEqProofs only [TRef.toBuf, TRef.ofBuf, cast_cast, cast_eq]
  refine take_cast_at _ _ k b s ?_ rfl rfl
  show BitVec.toInt (upto opsB3a V 2 (Proc.devRef .tc main_v322_4) (Shape.Idx.first h_S_)) = _
  rw [show upto opsB3a V 2 (Proc.devRef .tc main_v322_4) = V (Proc.devRef .tc main_v322_4) from by after_reads_simp, hc]
  exact iv_toInt k.val k.isLt
/-- The step's decays taken out. -/
theorem take3_ds (b : Fin 32) (s : Fin 64) : after opsB3b V (Proc.devRef .tc main_while3b_v413) (ix2 b s) = V (Proc.devRef .tc main_v322_1) (ix3 k b s) := by
  after_reads_simp
  simp -implicitDefEqProofs only [TRef.toBuf, TRef.ofBuf, cast_cast, cast_eq]
  refine take_cast_at _ _ k b s ?_ rfl rfl
  show BitVec.toInt (upto opsB3b V 2 (Proc.devRef .tc main_v322_4) (Shape.Idx.first h_S_)) = _
  rw [show upto opsB3b V 2 (Proc.devRef .tc main_v322_4) = V (Proc.devRef .tc main_v322_4) from by after_reads_simp, hc]
  exact iv_toInt k.val k.isLt
omit hc in
/-- The step's new state. -/
theorem step3_st (b : Fin 32) (s : Fin 64) : after opsB3c V (Proc.devRef .tc main_while3b_v421) (ix2 b s) =
    stepR (fun s k => V (Proc.devRef .tc main_v322_2) (ix2 s k)) (fun s => V (Proc.devRef .tc main_while3b_v412) (ix2 b s)) (fun s => V (Proc.devRef .tc main_while3b_v413) (ix2 b s)) (fun s => V (Proc.devRef .tc main_v322_5) (ix2 b s)) s := by
  after_reads_at
  rfl
omit hc in
/-- The step's output. -/
theorem step3_out (b : Fin 32) (j : Fin 512) : @Eq EReal (after opsB3c V (Proc.devRef .tc main_while3b_v423) (ix2 b j))
    (∑ s : Fin 64, stepR (fun s k => V (Proc.devRef .tc main_v322_2) (ix2 s k)) (fun s => V (Proc.devRef .tc main_while3b_v412) (ix2 b s)) (fun s => V (Proc.devRef .tc main_while3b_v413) (ix2 b s)) (fun s => V (Proc.devRef .tc main_v322_5) (ix2 b s)) s * @id EReal (V (Proc.devRef .tc main_v322_3) (ix2 j s))) := by
  after_reads_at
  rfl
/-- The step's output put in its row. -/
theorem put3 (t : Fin 2048) (b : Fin 32) (j : Fin 512) : after opsB3d V (Proc.devRef .tc main_while3b_v424) (ix3 t b j) =
    if t.val = k.val then V (Proc.devRef .tc main_while3b_v423) (ix2 b j) else V (Proc.devRef .tc main_v322_6) (ix3 t b j) := by
  after_reads_simp
  simp -implicitDefEqProofs only [TRef.toBuf, TRef.ofBuf, cast_cast, cast_eq]
  refine (put_at _ _ _ k ?_ rfl rfl _ t b j).trans ?_
  · show BitVec.toInt (upto opsB3d V 3 (Proc.devRef .tc main_v322_4) (Shape.Idx.first h_S_)) = _
    rw [show upto opsB3d V 3 (Proc.devRef .tc main_v322_4) = V (Proc.devRef .tc main_v322_4) from by after_reads_simp, hc]
    exact iv_toInt k.val k.isLt
  · pointwise

end Step

section Keep
variable {F : FTy → Type} [FloatOps F] (V : Valuation τ sig (Elt F)) (r : Ref sig .tc)

/-- The test of scan 3 keeps what it does not write. -/
theorem keepC3 (h : r ∉ opsC3_W) : after opsC3 V (Proc.devRef .tc r) = V (Proc.devRef .tc r) := after_of_writes_sub opsC3 V opsC3_writes h
/-- The first slice keeps what it does not write. -/
theorem keepA3 (h : r ∉ opsB3a_W) : after opsB3a V (Proc.devRef .tc r) = V (Proc.devRef .tc r) := after_of_writes_sub opsB3a V opsB3a_writes h
/-- The second slice keeps what it does not write. -/
theorem keepB3 (h : r ∉ opsB3b_W) : after opsB3b V (Proc.devRef .tc r) = V (Proc.devRef .tc r) := after_of_writes_sub opsB3b V opsB3b_writes h
/-- The step keeps what it does not write. -/
theorem keepS3 (h : r ∉ opsB3c_W) : after opsB3c V (Proc.devRef .tc r) = V (Proc.devRef .tc r) := after_of_writes_sub opsB3c V opsB3c_writes h
/-- The update keeps what it does not write. -/
theorem keepD3 (h : r ∉ opsB3d_W) : after opsB3d V (Proc.devRef .tc r) = V (Proc.devRef .tc r) := after_of_writes_sub opsB3d V opsB3d_writes h
/-- The carrying keeps what it does not write. -/
theorem keepE3 (h : r ∉ opsB3e_W) : after opsB3e V (Proc.devRef .tc r) = V (Proc.devRef .tc r) := after_of_writes_sub opsB3e V opsB3e_writes h
/-- A trip of scan 3 keeps what none of its pieces writes. -/
theorem keepT3 (h : r ∉ opsB3a_W ∧ r ∉ opsB3b_W ∧ r ∉ opsB3c_W ∧ r ∉ opsB3d_W ∧ r ∉ opsB3e_W) :
    afterL opsB3 V (Proc.devRef .tc r) = V (Proc.devRef .tc r) := by
  simp only [afterL_cons, afterL_nil]
  exact (keepE3 _ r h.2.2.2.2).trans ((keepD3 _ r h.2.2.2.1).trans ((keepS3 _ r h.2.2.1).trans ((keepB3 _ r h.2.1).trans (keepA3 _ r h.1))))
/-- Scan 3 keeps what it does not write. -/
theorem keepX3 (W : Dev nD → Valuation τ sig (Elt F)) (c : Dev nD) (k : ℕ) (h : r ∉ opsC3_W ∧ r ∉ opsB3a_W ∧ r ∉ opsB3b_W ∧ r ∉ opsB3c_W ∧ r ∉ opsB3d_W ∧ r ∉ opsB3e_W) :
    atTrip opsC3 opsB3 W k c (Proc.devRef .tc r) = W c (Proc.devRef .tc r) :=
  atTrip_keep opsC3 opsB3 r (fun V => keepC3 V r h.1) (fun V => keepT3 V r h.2) W c k

/-- The buffers after layer 3, from those before it. -/
def M3 (W : Dev nD → Valuation τ sig (Elt F)) (c : Dev nD) : Valuation τ sig (Elt F) :=
  after opsG3 (after opsC3 (atTrip opsC3 opsB3 (fun c => afterL lead3 (W c)) 2048 c))

/-- Layer 3 keeps the arguments. -/
theorem keepM3 (W : Dev nD → Valuation τ sig (Elt F)) (c : Dev nD) (h : r ∈ argRefs) : M3 W c (Proc.devRef .tc r) = W c (Proc.devRef .tc r) := by
  have hW : ∀ r ∈ argRefs, r ∉ opsW3_W ∧ r ∉ opsN3_W ∧ r ∉ opsX3_W ∧ r ∉ opsE3_W ∧ r ∉ opsG3_W := by decide
  have hB : ∀ r ∈ argRefs, r ∉ opsC3_W ∧ r ∉ opsB3a_W ∧ r ∉ opsB3b_W ∧ r ∉ opsB3c_W ∧ r ∉ opsB3d_W ∧ r ∉ opsB3e_W := by decide
  have e : afterL lead3 (W c) (Proc.devRef .tc r) = W c (Proc.devRef .tc r) := by
    simp only [afterL_cons, afterL_nil]
    exact (after_of_writes_sub opsE3 _ opsE3_writes (hW r h).2.2.2.1).trans ((after_of_writes_sub opsX3 _ opsX3_writes (hW r h).2.2.1).trans
      ((after_of_writes_sub opsN3 _ opsN3_writes (hW r h).2.1).trans (after_of_writes_sub opsW3 _ opsW3_writes (hW r h).1)))
  exact (after_of_writes_sub opsG3 _ opsG3_writes (hW r h).2.2.2.2).trans ((keepC3 _ r (hB r h).1).trans ((keepX3 r (fun c => afterL lead3 (W c)) c 2048 (hB r h)).trans e))

end Keep

section Scan
variable (V : Valuation τ sig (Elt Ideal)) (k : Fin 2048) (hc : V (Proc.devRef .tc main_v322_4) = fun _ => Scf.iv 0#32 1#32 k.val)
include hc

/-- The rows taken by a trip. -/
theorem row3_xs (b : Fin 32) (s : Fin 64) : after opsB3b (after opsB3a (after opsC3 V)) (Proc.devRef .tc main_while3b_v412) (ix2 b s) = V (Proc.devRef .tc main_v322_0) (ix3 k b s) :=
  (congrFun (keepB3 _ main_while3b_v412 (by decide)) (ix2 b s)).trans
    ((take3_xs (after opsC3 V) k ((keepC3 V main_v322_4 (by decide)).trans hc) b s).trans (congrFun (keepC3 V main_v322_0 (by decide)) (ix3 k b s)))
/-- The decays taken by a trip. -/
theorem row3_ds (b : Fin 32) (s : Fin 64) : after opsB3b (after opsB3a (after opsC3 V)) (Proc.devRef .tc main_while3b_v413) (ix2 b s) = V (Proc.devRef .tc main_v322_1) (ix3 k b s) :=
  (take3_ds (after opsB3a (after opsC3 V)) k ((keepA3 _ main_v322_4 (by decide)).trans ((keepC3 V main_v322_4 (by decide)).trans hc)) b s).trans
    ((congrFun (keepA3 _ main_v322_1 (by decide)) (ix3 k b s)).trans (congrFun (keepC3 V main_v322_1 (by decide)) (ix3 k b s)))

/-- The state a trip leaves, before it is carried. -/
theorem new3_st (b : Fin 32) (s : Fin 64) : after opsB3c (after opsB3b (after opsB3a (after opsC3 V))) (Proc.devRef .tc main_while3b_v421) (ix2 b s) =
    stepR (fun s k => V (Proc.devRef .tc main_v322_2) (ix2 s k)) (fun s => V (Proc.devRef .tc main_v322_0) (ix3 k b s)) (fun s => V (Proc.devRef .tc main_v322_1) (ix3 k b s)) (fun s => V (Proc.devRef .tc main_v322_5) (ix2 b s)) s := by
  refine (step3_st _ b s).trans ?_
  refine congrFun (congr (congr (congr (congrArg stepR (funext₂ fun s k => ?_)) (funext fun s => row3_xs V k hc b s)) (funext fun s => row3_ds V k hc b s)) (funext fun s => ?_)) s
  · exact congrFun ((keepB3 _ main_v322_2 (by decide)).trans ((keepA3 _ main_v322_2 (by decide)).trans (keepC3 V main_v322_2 (by decide)))) (ix2 s k)
  · exact congrFun ((keepB3 _ main_v322_5 (by decide)).trans ((keepA3 _ main_v322_5 (by decide)).trans (keepC3 V main_v322_5 (by decide)))) (ix2 b s)

/-- The state after a trip. -/
theorem trip3_st (b : Fin 32) (s : Fin 64) : afterL opsB3 (after opsC3 V) (Proc.devRef .tc main_v322_5) (ix2 b s) =
    stepR (fun s k => V (Proc.devRef .tc main_v322_2) (ix2 s k)) (fun s => V (Proc.devRef .tc main_v322_0) (ix3 k b s)) (fun s => V (Proc.devRef .tc main_v322_1) (ix3 k b s)) (fun s => V (Proc.devRef .tc main_v322_5) (ix2 b s)) s := by
  simp only [afterL_cons, afterL_nil]
  refine Eq.trans ?_ (new3_st V k hc b s)
  refine Eq.trans ?_ (congrFun (keepD3 _ main_while3b_v421 (by decide)) (ix2 b s))
  after_reads_simp
  rfl

/-- The outputs after a trip. -/
theorem trip3_out (t : Fin 2048) (b : Fin 32) (j : Fin 512) : @Eq EReal (afterL opsB3 (after opsC3 V) (Proc.devRef .tc main_v322_6) (ix3 t b j))
    (if t.val = k.val then ∑ s : Fin 64, @id EReal (afterL opsB3 (after opsC3 V) (Proc.devRef .tc main_v322_5) (ix2 b s)) * @id EReal (V (Proc.devRef .tc main_v322_3) (ix2 j s)) else V (Proc.devRef .tc main_v322_6) (ix3 t b j)) := by
  have e1 : ∀ s, afterL opsB3 (after opsC3 V) (Proc.devRef .tc main_v322_5) (ix2 b s) = after opsB3c (after opsB3b (after opsB3a (after opsC3 V))) (Proc.devRef .tc main_while3b_v421) (ix2 b s) :=
    fun s => (trip3_st V k hc b s).trans (new3_st V k hc b s).symm
  have hd : ∀ r, r ∉ opsC3_W → r ∉ opsB3a_W → r ∉ opsB3b_W → after opsB3b (after opsB3a (after opsC3 V)) (Proc.devRef .tc r) = V (Proc.devRef .tc r) :=
    fun r h1 h2 h3 => (keepB3 _ r h3).trans ((keepA3 _ r h2).trans (keepC3 V r h1))
  have main := put3 (after opsB3c (after opsB3b (after opsB3a (after opsC3 V)))) k
    ((keepS3 _ main_v322_4 (by decide)).trans ((hd main_v322_4 (by decide) (by decide) (by decide)).trans hc)) t b j
  have last : afterL opsB3 (after opsC3 V) (Proc.devRef .tc main_v322_6) = after opsB3d (after opsB3c (after opsB3b (after opsB3a (after opsC3 V)))) (Proc.devRef .tc main_while3b_v424) := by
    simp only [afterL_cons, afterL_nil]
    generalize after opsB3d (after opsB3c (after opsB3b (after opsB3a (after opsC3 V)))) = V'
    after_reads_simp
    rfl
  refine (congrFun last (ix3 t b j)).trans (main.trans ?_)
  by_cases h : t.val = k.val
  · rw [if_pos h, if_pos h]
    refine (step3_out _ b j).trans (Finset.sum_congr rfl fun s _ => congrArg₂ (· * ·) ?_ (congrFun (hd main_v322_3 (by decide) (by decide) (by decide)) (ix2 j s)))
    exact (step3_st _ b s).symm.trans (e1 s).symm
  · rw [if_neg h, if_neg h]
    exact (congrFun (keepS3 _ main_v322_6 (by decide)) (ix3 t b j)).trans (congrFun (hd main_v322_6 (by decide) (by decide) (by decide)) (ix3 t b j))

end Scan

section Layer
variable (W : Dev nD → Valuation τ sig (Elt Ideal)) (c : Dev nD)

/-- The scan's outputs, row by row. -/
theorem scan3 (t : Fin 2048) (b : Fin 32) : (fun j => (atTrip opsC3 opsB3 (fun c => afterL lead3 (W c)) 2048 c (Proc.devRef .tc main_v322_6) (ix3 t b j) : EReal)) =
    fun j => ∑ s, stR (loadR (W c) 3) (seqRef (W c (Proc.devRef .tc main_v255)) b) (fun _ => 0) (t.val + 1) s * (loadR (W c) 3).C j s := by
  have h0 : ∀ c, (fun c => afterL lead3 (W c)) c (Proc.devRef .tc main_v322_4) = fun _ => (0#32 : BitVec 32) := fun c => by
    simp only [afterL_cons, afterL_nil]; exact ctrStart3 _
  have ctr := ctrAt3 (fun c => afterL lead3 (W c)) h0 c
  refine scan_rows (loadR (W c) 3) (fun b => seqRef (W c (Proc.devRef .tc main_v255)) b)
    (fun k b s => atTrip opsC3 opsB3 (fun c => afterL lead3 (W c)) k c (Proc.devRef .tc main_v322_5) (ix2 b s))
    (fun k t b j => atTrip opsC3 opsB3 (fun c => afterL lead3 (W c)) k c (Proc.devRef .tc main_v322_6) (ix3 t b j)) ?_ ?_ ?_ t b
  · intro b; funext s; exact lead3_st (W c) b s
  · intro k hk b; funext s
    refine (trip3_st _ ⟨k, hk⟩ (ctr k) b s).trans ?_
    refine congrFun (congr (congr (congr (congrArg stepR (funext₂ fun s k' => ?_)) (funext fun s => ?_)) (funext fun s => ?_)) rfl) s
    · exact (congrFun (keepX3 main_v322_2 (fun c => afterL lead3 (W c)) c k (by decide)) (ix2 s k')).trans (lead3_A (W c) s k')
    · rw [show seqRef (W c (Proc.devRef .tc main_v255)) b k = fun l => W c (Proc.devRef .tc main_v255) (ix3 b ⟨k, hk⟩ l) from seqRef_lt _ b ⟨k, hk⟩]
      exact (congrFun (keepX3 main_v322_0 (fun c => afterL lead3 (W c)) c k (by decide)) (ix3 ⟨k, hk⟩ b s)).trans (lead3_xs (W c) b ⟨k, hk⟩ s)
    · rw [show seqRef (W c (Proc.devRef .tc main_v255)) b k = fun l => W c (Proc.devRef .tc main_v255) (ix3 b ⟨k, hk⟩ l) from seqRef_lt _ b ⟨k, hk⟩]
      exact (congrFun (keepX3 main_v322_1 (fun c => afterL lead3 (W c)) c k (by decide)) (ix3 ⟨k, hk⟩ b s)).trans (lead3_ds (W c) b ⟨k, hk⟩ s)
  · intro k hk t b
    have hC : ∀ j s, atTrip opsC3 opsB3 (fun c => afterL lead3 (W c)) k c (Proc.devRef .tc main_v322_3) (ix2 j s) = (loadR (W c) 3).C j s :=
      fun j s => (congrFun (keepX3 main_v322_3 (fun c => afterL lead3 (W c)) c k (by decide)) (ix2 j s)).trans (lead3_C (W c) j s)
    by_cases h : t.val = k
    · rw [if_pos h]; funext j
      refine (trip3_out _ ⟨k, hk⟩ (ctr k) t b j).trans ?_
      rw [if_pos h]
      exact Finset.sum_congr rfl fun s _ => congrArg₂ (· * ·) rfl (hC j s)
    · rw [if_neg h]; funext j
      refine (trip3_out _ ⟨k, hk⟩ (ctr k) t b j).trans ?_
      rw [if_neg h]

/-- Layer 3's hidden rows, from those before it. -/
theorem lay3 (b : Fin 32) (t : Fin 2048) (j : Fin 512) : M3 W c (Proc.devRef .tc main_v339) (ix3 b t j) = layR (loadR (W c) 3) (seqRef (W c (Proc.devRef .tc main_v255)) b) t.val j := by
  have kp : ∀ r, (r ∉ opsC3_W ∧ r ∉ opsB3a_W ∧ r ∉ opsB3b_W ∧ r ∉ opsB3c_W ∧ r ∉ opsB3d_W ∧ r ∉ opsB3e_W) →
      after opsC3 (atTrip opsC3 opsB3 (fun c => afterL lead3 (W c)) 2048 c) (Proc.devRef .tc r) = afterL lead3 (W c) (Proc.devRef .tc r) :=
    fun r h => (keepC3 _ r h.1).trans (keepX3 r (fun c => afterL lead3 (W c)) c 2048 h)
  refine (tail3 _ b t j).trans ?_
  show _ = outX (loadR (W c) 3).gW (loadR (W c) 3).gb (loadR (W c) 3).oW (loadR (W c) 3).ob (lnR (loadR (W c) 3).g (loadR (W c) 3).b (seqRef (W c (Proc.devRef .tc main_v255)) b t.val))
    (fun k => ∑ s, stR (loadR (W c) 3) (seqRef (W c (Proc.devRef .tc main_v255)) b) (fun _ => 0) (t.val + 1) s * (loadR (W c) 3).C k s) (seqRef (W c (Proc.devRef .tc main_v255)) b t.val) j
  rw [seqRef_lt _ b t]
  refine congrFun (congr (congr (congr (congr (congr (congr (congrArg outX (funext₂ fun k s => ?_)) (funext fun s => ?_)) (funext₂ fun k s => ?_)) (funext fun s => ?_)) (funext fun s => ?_)) ?_) (funext fun s => ?_)) j
  · exact (congrFun (kp main_v273 (by decide)) (ix2 k s)).trans (lead3_gW (W c) k s)
  · exact (congrFun (kp main_v275 (by decide)) (ix1 s)).trans (lead3_gb (W c) s)
  · exact (congrFun (kp main_v277 (by decide)) (ix2 k s)).trans (lead3_oW (W c) k s)
  · exact (congrFun (kp main_v279 (by decide)) (ix1 s)).trans (lead3_ob (W c) s)
  · exact (congrFun (kp main_v303 (by decide)) (ix3 b t s)).trans (lead3_ln (W c) b t s)
  · exact (funext fun s => congrFun (keepC3 _ main_v322_6 (by decide)) (ix3 t b s)).trans (scan3 W c t b)
  · exact (congrFun (kp main_v255 (by decide)) (ix3 b t s)).trans (lead3_h (W c) b t s)

end Layer
end Cert.Ref
-- ==== Proof.RefVal.lean ====
module

public import proofs.«01_k».proof.Proof.RefHead
public import proofs.«01_k».proof.Proof.RefLayer0
public import proofs.«01_k».proof.Proof.RefLayer1
public import proofs.«01_k».proof.Proof.RefLayer2
public import proofs.«01_k».proof.Proof.RefLayer3

@[expose] public section

set_option maxRecDepth 16384

noncomputable section

namespace Cert.Ref

open Idealize.ShloMosaic Idealize.ShloMosaic.TcCoe
open Cert.ReferenceIdeal Cert.ReferenceIdeal.Gen Cert.Spec
open Idealize.ShloMosaic.StableHlo

section Chain
variable {F : FTy → Type} [FloatOps F] (m : (ℓ : Loc nD τ sig) → Buf (Elt F) ℓ)

/-- The buffers before layer 0. -/
def W0 (c : Dev nD) : Valuation τ sig (Elt F) := after opsP (R0 m c)
/-- The buffers before layer 1. -/
def W1 (c : Dev nD) : Valuation τ sig (Elt F) := M0 (W0 m) c
/-- The buffers before layer 2. -/
def W2 (c : Dev nD) : Valuation τ sig (Elt F) := M1 (W1 m) c
/-- The buffers before layer 3. -/
def W3 (c : Dev nD) : Valuation τ sig (Elt F) := M2 (W2 m) c
/-- The buffers before the head. -/
def W4 (c : Dev nD) : Valuation τ sig (Elt F) := M3 (W3 m) c

/-- The input projection and the layers keep the arguments. -/
theorem W0_arg (c : Dev nD) (r : Ref sig .tc) (h : r ∈ argRefs) : W0 m c (Proc.devRef .tc r) = m (c, Proc.devRef .tc r) := keepP (R0 m c) r (by revert r; decide)
theorem W1_arg (c : Dev nD) (r : Ref sig .tc) (h : r ∈ argRefs) : W1 m c (Proc.devRef .tc r) = m (c, Proc.devRef .tc r) := (keepM0 r (W0 m) c h).trans (W0_arg m c r h)
theorem W2_arg (c : Dev nD) (r : Ref sig .tc) (h : r ∈ argRefs) : W2 m c (Proc.devRef .tc r) = m (c, Proc.devRef .tc r) := (keepM1 r (W1 m) c h).trans (W1_arg m c r h)
theorem W3_arg (c : Dev nD) (r : Ref sig .tc) (h : r ∈ argRefs) : W3 m c (Proc.devRef .tc r) = m (c, Proc.devRef .tc r) := (keepM2 r (W2 m) c h).trans (W2_arg m c r h)
theorem W4_arg (c : Dev nD) (r : Ref sig .tc) (h : r ∈ argRefs) : W4 m c (Proc.devRef .tc r) = m (c, Proc.devRef .tc r) := (keepM3 r (W3 m) c h).trans (W3_arg m c r h)

/-- Scan 0 is entered after its layer's first operations. -/
theorem E0_eq : E0 m = fun c => afterL lead0 (W0 m c) := funext fun c => by unfold E0 W0; exact afterL_cons ..
/-- What follows scan 0 starts from the buffers before layer 1. -/
theorem G0_eq (c : Dev nD) : after opsG0 (X0 m c) = W1 m c := by unfold X0 W1 M0; rw [E0_eq]
/-- Scan 1 is entered after its layer's first operations. -/
theorem E1_eq : E1 m = fun c => afterL lead1 (W1 m c) := funext fun c => by unfold E1; rw [afterL_cons, G0_eq]
/-- What follows scan 1 starts from the buffers before layer 2. -/
theorem G1_eq (c : Dev nD) : after opsG1 (X1 m c) = W2 m c := by unfold X1 W2 M1; rw [E1_eq]
/-- Scan 2 is entered after its layer's first operations. -/
theorem E2_eq : E2 m = fun c => afterL lead2 (W2 m c) := funext fun c => by unfold E2; rw [afterL_cons, G1_eq]
/-- What follows scan 2 starts from the buffers before layer 3. -/
theorem G2_eq (c : Dev nD) : after opsG2 (X2 m c) = W3 m c := by unfold X2 W3 M2; rw [E2_eq]
/-- Scan 3 is entered after its layer's first operations. -/
theorem E3_eq : E3 m = fun c => afterL lead3 (W3 m c) := funext fun c => by unfold E3; rw [afterL_cons, G2_eq]
/-- What follows scan 3 starts from the buffers before the head. -/
theorem G3_eq (c : Dev nD) : after opsG3 (X3 m c) = W4 m c := by unfold X3 W4 M3; rw [E3_eq]
/-- The final buffers are the head's, after the layers. -/
theorem Fin4_eq (c : Dev nD) : Fin4 m c = afterL headOps (W4 m c) := by unfold Fin4; rw [afterL_cons, G3_eq]

/-- The program keeps the arguments. -/
theorem Fin4_arg (c : Dev nD) (r : Ref sig .tc) (h : r ∈ argRefs) : Fin4 m c (Proc.devRef .tc r) = m (c, Proc.devRef .tc r) :=
  (congrFun (Fin4_eq m c) _).trans ((keepH (W4 m c) r h).trans (W4_arg m c r h))
end Chain

section Value
variable (m : (ℓ : Loc nD τ sig) → Buf (Elt Ideal) ℓ)

/-- Weights are the same where the arguments are. -/
theorem loadR_congr (V V' : Valuation τ sig (Elt Ideal)) (h : ∀ r ∈ argRefs, V (Proc.devRef .tc r) = V' (Proc.devRef .tc r)) (l : Fin 4) : loadR V l = loadR V' l := by
  unfold loadR
  rw [h main_arg3 (by decide), h main_arg4 (by decide), h main_arg5 (by decide), h main_arg6 (by decide), h main_arg7 (by decide), h main_arg8 (by decide), h main_arg9 (by decide),
    h main_arg10 (by decide), h main_arg11 (by decide), h main_arg12 (by decide), h main_arg13 (by decide), h main_arg14 (by decide)]

/-- The input rows of batch `b`, projected. -/
def inSeq (c : Dev nD) (b : Fin 32) : ℕ → Row := fun t =>
  inR (fun k j => R0 m c (Proc.devRef .tc main_arg1) (ix2 k j)) (fun j => R0 m c (Proc.devRef .tc main_arg2) (ix1 j)) (fun k => R0 m c (Proc.devRef .tc main_arg0) (ix3 b ⟨min t 2047, by omega⟩ k))

/-- The reference's result for batch `b`. -/
def resR (c : Dev nD) (b : Fin 32) : EReal :=
  headR (fun j => R0 m c (Proc.devRef .tc main_arg15) (ix1 j)) (fun j => R0 m c (Proc.devRef .tc main_arg16) (ix1 j)) (fun k s => R0 m c (Proc.devRef .tc main_arg17) (ix2 k s))
    (fun s => R0 m c (Proc.devRef .tc main_arg18) (ix1 s)) (fun k => R0 m c (Proc.devRef .tc main_arg19) (ix2 k 0)) (R0 m c (Proc.devRef .tc main_arg20) (ix1 0))
    (lastR (loadR (R0 m c)) (inSeq m c b))

/-- The rows of the reference before layer 0. -/
theorem seq0 (c : Dev nD) (b : Fin 32) : seqRef (W0 m c (Proc.devRef .tc main_v3)) b = inSeq m c b :=
  funext fun t => funext fun l => readP (R0 m c) b ⟨min t 2047, by omega⟩ l
/-- The rows before layer 1. -/
theorem seq1 (c : Dev nD) (b : Fin 32) (t : ℕ) (ht : t < 2048) : seqRef (W1 m c (Proc.devRef .tc main_v87)) b t = layR (loadR (R0 m c) 0) (seqRef (W0 m c (Proc.devRef .tc main_v3)) b) t := by
  rw [← loadR_congr _ _ (W0_arg m c) 0]
  exact (seqRef_lt _ b ⟨t, ht⟩).trans (funext fun l => lay0 (W0 m) c b ⟨t, ht⟩ l)
/-- The rows before layer 2. -/
theorem seq2 (c : Dev nD) (b : Fin 32) (t : ℕ) (ht : t < 2048) : seqRef (W2 m c (Proc.devRef .tc main_v171)) b t = layR (loadR (R0 m c) 1) (seqRef (W1 m c (Proc.devRef .tc main_v87)) b) t := by
  rw [← loadR_congr _ _ (W1_arg m c) 1]
  exact (seqRef_lt _ b ⟨t, ht⟩).trans (funext fun l => lay1 (W1 m) c b ⟨t, ht⟩ l)
/-- The rows before layer 3. -/
theorem seq3 (c : Dev nD) (b : Fin 32) (t : ℕ) (ht : t < 2048) : seqRef (W3 m c (Proc.devRef .tc main_v255)) b t = layR (loadR (R0 m c) 2) (seqRef (W2 m c (Proc.devRef .tc main_v171)) b) t := by
  rw [← loadR_congr _ _ (W2_arg m c) 2]
  exact (seqRef_lt _ b ⟨t, ht⟩).trans (funext fun l => lay2 (W2 m) c b ⟨t, ht⟩ l)
/-- The last row after layer 3. -/
theorem seq4 (c : Dev nD) (b : Fin 32) : (fun j => W4 m c (Proc.devRef .tc main_v339) (ix3 b 2047 j)) = lastR (loadR (R0 m c)) (inSeq m c b) := by
  refine Eq.trans ?_ (lastR_of (loadR (R0 m c)) _ _ _ _ (fun t ht => (seq1 m c b t ht).trans ?_) (seq2 m c b) (seq3 m c b))
  · rw [← loadR_congr _ _ (W3_arg m c) 3]
    exact funext fun l => lay3 (W3 m) c b 2047 l
  · rw [seq0]

/-- The reference's result. -/
theorem ref_value (c : Dev nD) (b : Fin 32) : Fin4 m c (Proc.devRef .tc main_v411) (ix2 b 0) = resR m c b := by
  rw [Fin4_eq m c, readH, seq4, W4_arg m c main_arg15 (by decide), W4_arg m c main_arg16 (by decide), W4_arg m c main_arg17 (by decide), W4_arg m c main_arg18 (by decide),
    W4_arg m c main_arg19 (by decide), W4_arg m c main_arg20 (by decide)]
  rfl
end Value

end Cert.Ref
-- ==== Proof.FrameR.lean ====
module

public import proofs.«01_k».proof.Proof.RefVal
public import proofs.«01_k».proof.Proof.Gen.ReferenceIdeal

@[expose] public section

set_option maxRecDepth 16384

noncomputable section

namespace Cert.Ref

open Idealize.ShloMosaic Idealize.ShloMosaic.TcCoe Idealize.SL.Sem
open Cert.ReferenceIdeal Cert.ReferenceIdeal.Gen

variable {F : FTy → Type} [FloatOps F] (m : (ℓ : Loc nD τ sig) → Buf (Elt F) ℓ) (g : Dev nD → PrngReg)

/-- A buffer the program holds to its end. -/
theorem mem_ucR (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; exact Bool.false_ne_true⟩

/-- THE RUN of the reference: the result is the last stretch's, every argument is kept, and every semaphore is at zero. -/
theorem runR_args :
    θ_run (defs (F := F)) (onTc (τ := τ) (main (F := F))) ⟨m, fun _ => 0, g⟩ (fun r =>
      (∀ c : Dev nD, r.2.mem (c, Proc.devRef .tc main_v411) = Fin4 m c (Proc.devRef .tc main_v411)
        ∧ ∀ a ∈ argRefs, r.2.mem (c, Proc.devRef .tc a) = m (c, Proc.devRef .tc a)) ∧ r.2.sem = fun _ => 0) := by
  refine (θ_run (defs (F := F)) (onTc (τ := τ) (main (F := F))) ⟨m, fun _ => 0, g⟩).mono (fun r h => ?_) (runR m g)
  exact ⟨fun c => ⟨h.1 c _ (mem_ucR main_v411 rfl), fun a ha => (h.1 c _ (mem_ucR a (by revert a; decide))).trans (Fin4_arg m c a ha)⟩, h.2⟩

end Cert.Ref
-- ==== Proof.Claims.lean ====
module

public import proofs.«01_k».proof.Defs
public import proofs.«01_k».proof.Proof.FrameK
public import proofs.«01_k».proof.Proof.FrameR

@[expose] public section

set_option maxRecDepth 16384

noncomputable section

namespace Cert.Proof

open Idealize.ShloMosaic Idealize.ShloMosaic.TcCoe Idealize.SL.Sem Cert.Spec

/-- The idealized kernel ends with its arguments as they were, and every semaphore at zero. -/
theorem frameI : Cert.quiescent_KernelIdeal := fun m g _ => by
  refine (θ_run (Cert.KernelIdeal.defs (F := Ideal)) (onTc (τ := Cert.KernelIdeal.τ) (Cert.KernelIdeal.main (F := Ideal))) ⟨m, fun _ => 0, g⟩).mono (fun r h => ⟨fun c => ?_, h.2⟩) (Cert.Quad.run_args m g)
  and_intros <;> exact (h.1 c).2 _ (by decide)

/-- The reference ends with its arguments as they were, and every semaphore at zero. -/
theorem frameR : Cert.quiescent_ReferenceIdeal := fun m g _ => by
  refine (θ_run (Cert.ReferenceIdeal.defs (F := Ideal)) (onTc (τ := Cert.ReferenceIdeal.τ) (Cert.ReferenceIdeal.main (F := Ideal))) ⟨m, fun _ => 0, g⟩).mono (fun r h => ⟨fun c => ?_, h.2⟩) (Cert.Ref.runR_args m g)
  and_intros <;> exact (h.1 c).2 _ (by decide)

section Equal
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From the same arguments the kernel's result and the reference's are equal. -/
theorem same_value (c : Dev Cert.KernelIdeal.nD) (b : Fin 32)
    (h0 : ∀ i, Cert.Ref.R0 m' c (Proc.devRef .tc Cert.ReferenceIdeal.main_arg0) i = Cert.KernelIdeal.Gen.V0 m c (Proc.devRef .tc Cert.KernelIdeal.main_arg0) i)
    (h1 : ∀ i, Cert.Ref.R0 m' c (Proc.devRef .tc Cert.ReferenceIdeal.main_arg1) i = Cert.KernelIdeal.Gen.V0 m c (Proc.devRef .tc Cert.KernelIdeal.main_arg1) i)
    (h2 : ∀ i, Cert.Ref.R0 m' c (Proc.devRef .tc Cert.ReferenceIdeal.main_arg2) i = Cert.KernelIdeal.Gen.V0 m c (Proc.devRef .tc Cert.KernelIdeal.main_arg2) i)
    (hw : ∀ l, Cert.Ref.loadR (Cert.Ref.R0 m' c) l = Cert.Quad.loadK (Cert.KernelIdeal.Gen.V0 m c) l)
    (h15 : ∀ i, Cert.Ref.R0 m' c (Proc.devRef .tc Cert.ReferenceIdeal.main_arg15) i = Cert.KernelIdeal.Gen.V0 m c (Proc.devRef .tc Cert.KernelIdeal.main_arg15) i)
    (h16 : ∀ i, Cert.Ref.R0 m' c (Proc.devRef .tc Cert.ReferenceIdeal.main_arg16) i = Cert.KernelIdeal.Gen.V0 m c (Proc.devRef .tc Cert.KernelIdeal.main_arg16) i)
    (h17 : ∀ i, Cert.Ref.R0 m' c (Proc.devRef .tc Cert.ReferenceIdeal.main_arg17) i = Cert.KernelIdeal.Gen.V0 m c (Proc.devRef .tc Cert.KernelIdeal.main_arg17) i)
    (h18 : ∀ i, Cert.Ref.R0 m' c (Proc.devRef .tc Cert.ReferenceIdeal.main_arg18) i = Cert.KernelIdeal.Gen.V0 m c (Proc.devRef .tc Cert.KernelIdeal.main_arg18) i)
    (h19 : ∀ i, Cert.Ref.R0 m' c (Proc.devRef .tc Cert.ReferenceIdeal.main_arg19) i = Cert.KernelIdeal.Gen.V0 m c (Proc.devRef .tc Cert.KernelIdeal.main_arg19) i)
    (h20 : ∀ i, Cert.Ref.R0 m' c (Proc.devRef .tc Cert.ReferenceIdeal.main_arg20) i = Cert.KernelIdeal.Gen.V0 m c (Proc.devRef .tc Cert.KernelIdeal.main_arg20) i) :
    Cert.Ref.resR m' c b = Cert.Quad.resK m c b := by
  have hs : Cert.Ref.inSeq m' c b = Cert.Quad.inSeqK m c b :=
    funext fun t => by
      show inR _ _ _ = inR _ _ _
      exact congr (congr (congrArg inR (funext₂ fun k j => h1 (ix2 k j))) (funext fun j => h2 (ix1 j))) (funext fun k => h0 (ix3 b ⟨min t 2047, by omega⟩ k))
  have hl : Cert.Ref.loadR (Cert.Ref.R0 m' c) = Cert.Quad.loadK (Cert.KernelIdeal.Gen.V0 m c) := funext hw
  unfold Cert.Ref.resR Cert.Quad.resK
  rw [hs, hl]
  exact congrFun (congr (congr (congr (congr (congr (congrArg headR (funext fun j => h15 (ix1 j))) (funext fun j => h16 (ix1 j))) (funext₂ fun k s => h17 (ix2 k s))) (funext fun s => h18 (ix1 s)))
    (funext fun k => h19 (ix2 k 0))) (h20 (ix1 0))) _

end Equal

/-- The reference's and the kernel's results, as extended reals, are equal from the same arguments. -/
theorem algebra : Cert.algebraic_KernelIdeal_ReferenceIdeal := fun m g m' g' _ hm => by
  refine ⟨fun c => Cert.Quad.U8 m c (Proc.devRef .tc Cert.KernelIdeal.main_v159), ?_, ?_⟩
  · refine (θ_run (Cert.KernelIdeal.defs (F := Ideal)) (onTc (τ := Cert.KernelIdeal.τ) (Cert.KernelIdeal.main (F := Ideal))) ⟨m, fun _ => 0, g⟩).mono (fun r h c => ⟨(h.1 c).1, ?_⟩) (Cert.Quad.run_args m g)
    and_intros <;> exact (h.1 c).2 _ (by decide)
  · refine (θ_run (Cert.ReferenceIdeal.defs (F := Ideal)) (onTc (τ := Cert.ReferenceIdeal.τ) (Cert.ReferenceIdeal.main (F := Ideal))) ⟨m', fun _ => 0, g'⟩).mono (fun r h c => ⟨(h.1 c).1.trans ?value, ?kept⟩) (Cert.Ref.runR_args m' g')
    case value =>
      obtain ⟨a0, a1, a2, a3, a4, a5, a6, a7, a8, a9, a10, a11, a12, a13, a14, a15, a16, a17, a18, a19, a20⟩ := hm c
      funext i
      have hi : i = ix2 (i 0) 0 := funext fun a => match a with
        | 0 => rfl
        | 1 => Fin.ext (by have := (i 1).isLt; show (i 1).val = 0; change (i 1).val < 1 at this; omega)
      rw [hi]
      refine (Cert.Ref.ref_value m' c (i 0)).trans (Eq.trans ?_ (Cert.Quad.kernel_value m c (i 0)).symm)
      exact same_value m m' c (i 0) (congrFun a0) (congrFun a1) (congrFun a2)
        (fun l => Cert.Quad.RW_ext _ _ (fun j => congrFun a3 (ix2 l j)) (fun j => congrFun a4 (ix2 l j)) (fun k s => congrFun a5 (ix3 l k s)) (fun s => congrFun a6 (ix2 l s))
          (fun k s => congrFun a7 (ix3 l k s)) (fun s => congrFun a8 (ix2 l s)) (fun s k => congrFun a9 (ix3 l s k)) (fun k s => congrFun a10 (ix3 l k s))
          (fun k s => congrFun a11 (ix3 l k s)) (fun s => congrFun a12 (ix2 l s)) (fun k s => congrFun a13 (ix3 l k s)) (fun s => congrFun a14 (ix2 l s)))
        (congrFun a15) (congrFun a16) (congrFun a17) (congrFun a18) (congrFun a19) (congrFun a20)
    case kept =>
      and_intros <;> exact (h.1 c).2 _ (by decide)

end Cert.Proof
-- ==== Proof.SameMain.lean ====
module

public import proofs.«01_k».proof.Proof.Gen.Kernel
public import proofs.«01_k».proof.Proof.Gen.KernelIdeal

@[expose] public section

set_option maxRecDepth 16384

namespace Cert.Quad

open Idealize.ShloMosaic

variable {F : FTy → Type} [FloatOps F]

set_option maxHeartbeats 8000000 in
/-- The kernel and its idealized reading are the same program text. -/
theorem main_same : @Cert.Kernel.main F _ _ = @Cert.KernelIdeal.main F _ _ := rfl

end Cert.Quad
-- ==== Proof.SameE1.lean ====
module

public import proofs.«01_k».proof.Proof.QuadProg

public import proofs.«01_k».proof.Proof.Gen.Kernel.Skeleton

@[expose] public section

set_option maxRecDepth 16384

noncomputable section

namespace Cert.Quad

open Idealize.ShloMosaic Idealize.SL.Sem
open Cert.KernelIdeal Cert.KernelIdeal.Gen

variable {F : FTy → Type} [FloatOps F]

set_option maxRecDepth 65536 in
set_option maxHeartbeats 0 in
/-- The printed body of call 1 is the body over its buffers. -/
theorem cc1_eqK (i : grid1.Coords) (arg1 : Mr S2048x512 .f32) (h1 : arg1.IsWhole) (arg2 : Mr S1x512 .f32) (h2 : arg2.IsWhole) (arg3 : Mr S1x512 .f32) (h3 : arg3.IsWhole) (arg4 : Mr S512x64 .bf16) (h4 : arg4.IsWhole) (arg5 : Mr S1x64 .f32) (h5 : arg5.IsWhole) (arg6 : Mr S512x64 .bf16) (h6 : arg6.IsWhole) (arg7 : Mr S1x64 .f32) (h7 : arg7.IsWhole) (arg8 : Mr S64x64 .f32) (h8 : arg8.IsWhole) (arg9 : Mr S64x512 .bf16) (h9 : arg9.IsWhole) (arg10 : Mr S512x512 .bf16) (h10 : arg10.IsWhole) (arg11 : Mr S1x512 .f32) (h11 : arg11.IsWhole) (arg12 : Mr S512x512 .bf16) (h12 : arg12.IsWhole) (arg13 : Mr S1x512 .f32) (h13 : arg13.IsWhole) (arg14 : Mr S1x512 .f32) (h14 : arg14.IsWhole) (arg15 : Mr S1x512 .f32) (h15 : arg15.IsWhole) (arg16 : Mr S512x64 .bf16) (h16 : arg16.IsWhole) (arg17 : Mr S1x64 .f32) (h17 : arg17.IsWhole) (arg18 : Mr S512x64 .bf16) (h18 : arg18.IsWhole) (arg19 : Mr S1x64 .f32) (h19 : arg19.IsWhole) (arg20 : Mr S64x64 .f32) (h20 : arg20.IsWhole) (arg21 : Mr S64x512 .bf16) (h21 : arg21.IsWhole) (arg22 : Mr S512x512 .bf16) (h22 : arg22.IsWhole) (arg23 : Mr S1x512 .f32) (h23 : arg23.IsWhole) (arg24 : Mr S512x512 .bf16) (h24 : arg24.IsWhole) (arg25 : Mr S1x512 .f32) (h25 : arg25.IsWhole) (arg26 : Mr S2048x512 .f32) (h26 : arg26.IsWhole) (arg27 : Mr S2x2048x512 .f32) (h27 : arg27.IsWhole) (arg28 : Mr S32x64 .f32) (h28 : arg28.IsWhole) (arg29 : Mr S32x64 .f32) (h29 : arg29.IsWhole) (arg30 : Mr S256x512 .bf16) (h30 : arg30.IsWhole) (arg31 : Mr S256x512 .bf16) (h31 : arg31.IsWhole) (arg32 : Mr S256x512 .bf16) (h32 : arg32.IsWhole) (arg33 : Mr S256x512 .bf16) (h33 : arg33.IsWhole) :
    Cert.Kernel.cc1_mamba_quad (F := F) i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 arg27 h27 arg28 h28 arg29 h29 arg30 h30 arg31 h31 arg32 h32 arg33 h33 =
      quad (i 0).val (i 0).isLt arg1 ⟨arg2, arg3, arg4, arg5, arg6, arg7, arg8, arg9, arg10, arg11, arg12, arg13⟩ ⟨arg14, arg15, arg16, arg17, arg18, arg19, arg20, arg21, arg22, arg23, arg24, arg25⟩
        arg26 arg27 arg28 arg29 arg30 arg31 arg32 arg33 h30 h31 h32 h33 := by
  rw [Cert.Kernel.Gen.cc1_mamba_quad_eq_skeleton]
  rfl

end Cert.Quad
-- ==== Proof.SameE2.lean ====
module

public import proofs.«01_k».proof.Proof.QuadProg

public import proofs.«01_k».proof.Proof.Gen.Kernel.Skeleton

@[expose] public section

set_option maxRecDepth 16384

noncomputable section

namespace Cert.Quad

open Idealize.ShloMosaic Idealize.SL.Sem
open Cert.KernelIdeal Cert.KernelIdeal.Gen

variable {F : FTy → Type} [FloatOps F]

set_option maxRecDepth 65536 in
set_option maxHeartbeats 0 in
/-- The printed body of call 2 is the body over its buffers. -/
theorem cc2_eqK (i : grid2.Coords) (arg1 : Mr S2048x512 .f32) (h1 : arg1.IsWhole) (arg2 : Mr S1x512 .f32) (h2 : arg2.IsWhole) (arg3 : Mr S1x512 .f32) (h3 : arg3.IsWhole) (arg4 : Mr S512x64 .bf16) (h4 : arg4.IsWhole) (arg5 : Mr S1x64 .f32) (h5 : arg5.IsWhole) (arg6 : Mr S512x64 .bf16) (h6 : arg6.IsWhole) (arg7 : Mr S1x64 .f32) (h7 : arg7.IsWhole) (arg8 : Mr S64x64 .f32) (h8 : arg8.IsWhole) (arg9 : Mr S64x512 .bf16) (h9 : arg9.IsWhole) (arg10 : Mr S512x512 .bf16) (h10 : arg10.IsWhole) (arg11 : Mr S1x512 .f32) (h11 : arg11.IsWhole) (arg12 : Mr S512x512 .bf16) (h12 : arg12.IsWhole) (arg13 : Mr S1x512 .f32) (h13 : arg13.IsWhole) (arg14 : Mr S1x512 .f32) (h14 : arg14.IsWhole) (arg15 : Mr S1x512 .f32) (h15 : arg15.IsWhole) (arg16 : Mr S512x64 .bf16) (h16 : arg16.IsWhole) (arg17 : Mr S1x64 .f32) (h17 : arg17.IsWhole) (arg18 : Mr S512x64 .bf16) (h18 : arg18.IsWhole) (arg19 : Mr S1x64 .f32) (h19 : arg19.IsWhole) (arg20 : Mr S64x64 .f32) (h20 : arg20.IsWhole) (arg21 : Mr S64x512 .bf16) (h21 : arg21.IsWhole) (arg22 : Mr S512x512 .bf16) (h22 : arg22.IsWhole) (arg23 : Mr S1x512 .f32) (h23 : arg23.IsWhole) (arg24 : Mr S512x512 .bf16) (h24 : arg24.IsWhole) (arg25 : Mr S1x512 .f32) (h25 : arg25.IsWhole) (arg26 : Mr S2048x512 .f32) (h26 : arg26.IsWhole) (arg27 : Mr S2x2048x512 .f32) (h27 : arg27.IsWhole) (arg28 : Mr S32x64 .f32) (h28 : arg28.IsWhole) (arg29 : Mr S32x64 .f32) (h29 : arg29.IsWhole) (arg30 : Mr S256x512 .bf16) (h30 : arg30.IsWhole) (arg31 : Mr S256x512 .bf16) (h31 : arg31.IsWhole) (arg32 : Mr S256x512 .bf16) (h32 : arg32.IsWhole) (arg33 : Mr S256x512 .bf16) (h33 : arg33.IsWhole) :
    Cert.Kernel.cc2_mamba_quad (F := F) i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 arg27 h27 arg28 h28 arg29 h29 arg30 h30 arg31 h31 arg32 h32 arg33 h33 =
      quad (i 0).val (i 0).isLt arg1 ⟨arg2, arg3, arg4, arg5, arg6, arg7, arg8, arg9, arg10, arg11, arg12, arg13⟩ ⟨arg14, arg15, arg16, arg17, arg18, arg19, arg20, arg21, arg22, arg23, arg24, arg25⟩
        arg26 arg27 arg28 arg29 arg30 arg31 arg32 arg33 h30 h31 h32 h33 := by
  rw [Cert.Kernel.Gen.cc2_mamba_quad_eq_skeleton]
  rfl

end Cert.Quad
-- ==== Proof.SameDefs.lean ====
module

public import proofs.«01_k».proof.Proof.QuadEq
public import proofs.«01_k».proof.Proof.SameE1
public import proofs.«01_k».proof.Proof.SameE2

@[expose] public section

set_option maxRecDepth 65536

noncomputable section

namespace Cert.Quad

open Idealize.ShloMosaic

variable {F : FTy → Type} [FloatOps F]

set_option maxHeartbeats 0 in
/-- The kernel and its idealized reading run the same bodies. -/
theorem defs0_same : @Cert.Kernel.defs₀ F _ _ = @Cert.KernelIdeal.defs₀ F _ _ := by
  unfold Cert.Kernel.defs₀ Cert.KernelIdeal.defs₀
  refine congrArg Defs.onTc (funext fun l => funext fun x => ?_)
  match l, x with
  | 0, (t, s) => rfl
  | 1, (t, s) => exact (cc1_eqK ..).trans (cc1_eq ..).symm
  | 2, (t, s) => exact (cc2_eqK ..).trans (cc2_eq ..).symm
  | 3, (t, s) => rfl

end Cert.Quad
-- ==== Proof.SameTab.lean ====
module

public import proofs.«01_k».proof.Proof.Gen.Kernel
public import proofs.«01_k».proof.Proof.Gen.KernelIdeal

@[expose] public section

set_option maxRecDepth 65536

noncomputable section

namespace Cert.Quad

open Idealize.ShloMosaic

variable {F : FTy → Type} [FloatOps F]

set_option maxHeartbeats 0 in
/-- The same bodies make the same table. -/
theorem defs_of (hb : @Cert.Kernel.defs₀ F _ _ = @Cert.KernelIdeal.defs₀ F _ _) :
    @Cert.Kernel.defs F _ _ = @Cert.KernelIdeal.defs F _ _ := by
  unfold Cert.Kernel.defs Cert.KernelIdeal.defs
  exact congrArg (fun d => Pipeline.defs (Cert.KernelIdeal.pcfgs (F := F)) d) hb

end Cert.Quad
-- ==== Proof.FrameP.lean ====
module

public import proofs.«01_k».proof.Defs
public import proofs.«01_k».proof.Proof.FrameK
public import proofs.«01_k».proof.Proof.SameMain
public import proofs.«01_k».proof.Proof.SameDefs
public import proofs.«01_k».proof.Proof.SameTab

@[expose] public section

set_option maxRecDepth 65536

noncomputable section

namespace Cert.Proof

open Idealize.ShloMosaic Idealize.ShloMosaic.TcCoe Idealize.SL.Sem

set_option maxHeartbeats 0 in
/-- The kernel ends with its arguments as they were, and every semaphore at zero. -/
theorem frameP : Cert.quiescent_Kernel := fun m g _ => by
  rw [Cert.Quad.defs_of Cert.Quad.defs0_same, Cert.Quad.main_same]
  refine (θ_run (Cert.KernelIdeal.defs (F := Bits)) (onTc (τ := Cert.KernelIdeal.τ) (Cert.KernelIdeal.main (F := Bits))) ⟨m, fun _ => 0, g⟩).mono (fun r h => ⟨fun c => ?_, h.2⟩) (Cert.Quad.run_args m g)
  and_intros <;> exact (h.1 c).2 _ (by decide)

end Cert.Proof
-- ==== Proof.lean ====
module

public import proofs.«01_k».proof.Defs
public import proofs.«01_k».proof.Proof.Claims
public import proofs.«01_k».proof.Proof.FrameP
public import proofs.«01_k».proof.Proof.Gen.Kernel
public import proofs.«01_k».proof.Proof.Gen.KernelIdeal
public import proofs.«01_k».proof.Proof.Gen.ReferenceIdeal

@[expose] public section

noncomputable section

namespace Cert.Proof

/-- Everything claimed of the kernel and its reference. -/
theorem claim : Cert.Claim := ⟨Cert.Kernel.Gen.facts, Cert.KernelIdeal.Gen.facts, Cert.ReferenceIdeal.Gen.facts, frameP, frameI, frameR, trivial, algebra⟩

end Cert.Proof

end
